-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v35) = v0 c
          ∧ r.2.mem ((c.tc : Thread Cert.Reference22Ideal.nD Cert.Reference22Ideal.τ).loc Cert.Reference22Ideal.main_v18) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v12) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v19) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v32) = v0 c
          ∧ r.2.mem ((c.tc : Thread Cert.Reference33Ideal.nD Cert.Reference33Ideal.τ).loc Cert.Reference33Ideal.main_v33) = v1 c
          ∧ r.2.mem ((c.tc : Thread Cert.Reference33Ideal.nD Cert.Reference33Ideal.τ).loc Cert.Reference33Ideal.main_v34) = v2 c
          ∧ r.2.mem ((c.tc : Thread Cert.Reference33Ideal.nD Cert.Reference33Ideal.τ).loc Cert.Reference33Ideal.main_v35) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_tame.lean ====
abbrev S4096x2048 : Shape := ⟨2, ![4096, 2048]⟩
abbrev S4096x4096 : Shape := ⟨2, ![4096, 4096]⟩
abbrev S16x64x1x64 : Shape := ⟨4, ![16, 64, 1, 64]⟩
abbrev S16x64x128x128 : Shape := ⟨4, ![16, 64, 128, 128]⟩
abbrev S16x64x64x64 : Shape := ⟨4, ![16, 64, 64, 64]⟩
abbrev S_ : Shape := ⟨0, ![]⟩
abbrev S16x64x1x63 : Shape := ⟨4, ![16, 64, 1, 63]⟩

class Facts : Prop where
  bitsLt_bf16_f32 : FTy.bits .bf16 < FTy.bits .f32
  bcast_S_S4096x2048 : S_.BroadcastsInDim S4096x2048 (![] : Fin 0 → Fin S4096x2048.rank)
  bcast_S_S4096x4096 : S_.BroadcastsInDim S4096x4096 (![] : Fin 0 → Fin S4096x4096.rank)
  bcast_S_S16x64x1x64 : S_.BroadcastsInDim S16x64x1x64 (![] : Fin 0 → Fin S16x64x1x64.rank)
  bcast_S_S16x64x128x128 : S_.BroadcastsInDim S16x64x128x128 (![] : Fin 0 → Fin S16x64x128x128.rank)
  bcast_S_S16x64x64x64 : S_.BroadcastsInDim S16x64x64x64 (![] : Fin 0 → Fin S16x64x64x64.rank)
  slices_S16x64x1x64_S16x64x1x63_0_0_0_1 : S16x64x1x64.Slices ![0, 0, 0, 1] S16x64x1x63
  slices_S16x64x1x64_S16x64x1x63_0_0_0_0 : S16x64x1x64.Slices ![0, 0, 0, 0] S16x64x1x63

variable [Facts]

def fn_part1 {F : FTy → Type} [FloatOps F] (main_arg3 : FVec F S16x64x1x64 .f32) (main_arg6 : FVec F S4096x2048 .f32) (main_v3 : IVec S4096x2048 1) (main_v6 : IVec S4096x4096 1) (main_v9 : IVec S16x64x1x64 1) (main_v12 : IVec S16x64x1x64 1) (main_v15 : IVec S16x64x128x128 1) (main_v16 : FVec F S16x64x64x64 .f32) (main_v17 : FVec F S16x64x64x64 .f32) : IVec S4096x2048 1 × IVec S4096x4096 1 × IVec S16x64x1x64 1 × IVec S16x64x1x64 1 × IVec S16x64x128x128 1 × IVec S16x64x64x64 1 × IVec S4096x2048 1 × IVec S16x64x1x63 1 :=
  let main_v18 : IVec S16x64x64x64 1 := cmpf .olt main_v16 main_v17
  let main_v19 : FVec F S4096x2048 .f32 := Host.absf main_arg6
  let main_cst_5 : FVec F S_ .f32 := constant S_ .f32 0x7F800000#32
  let main_v20 : FVec F S4096x2048 .f32 := broadcastInDim S4096x2048 ![] bcast_S_S4096x2048 main_cst_5
  let main_v21 : IVec S4096x2048 1 := cmpf .olt main_v19 main_v20
  let main_v22 : FVec F S16x64x1x63 .f32 := (extractStridedSlice S16x64x1x63 ![0, 0, 0, 1] · slices_S16x64x1x64_S16x64x1x63_0_0_0_1) main_arg3
  let main_v23 : FVec F S16x64x1x63 .f32 := (extractStridedSlice S16x64x1x63 ![0, 0, 0, 0] · slices_S16x64x1x64_S16x64x1x63_0_0_0_0) main_arg3
  let main_v24 : IVec S16x64x1x63 1 := cmpf .olt main_v22 main_v23
  (main_v3, main_v6, main_v9, main_v12, main_v15, main_v18, main_v21, main_v24)

def fn {F : FTy → Type} [FloatOps F] (main_arg0 : FVec F S4096x2048 .bf16) (main_arg1 : FVec F S4096x4096 .f32) (main_arg2 : FVec F S16x64x1x64 .f32) (main_arg3 : FVec F S16x64x1x64 .f32) (main_arg4 : FVec F S16x64x128x128 .f32) (main_arg5 : FVec F S16x64x64x64 .f32) (main_arg6 : FVec F S4096x2048 .f32) : IVec S4096x2048 1 × IVec S4096x4096 1 × IVec S16x64x1x64 1 × IVec S16x64x1x64 1 × IVec S16x64x128x128 1 × IVec S16x64x64x64 1 × IVec S4096x2048 1 × IVec S16x64x1x63 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_v7 : FVec F S16x64x1x64 .f32 := Host.absf main_arg2
  let main_cst_1 : FVec F S_ .f32 := constant S_ .f32 0x7F800000#32
  let main_v8 : FVec F S16x64x1x64 .f32 := broadcastInDim S16x64x1x64 ![] bcast_S_S16x64x1x64 main_cst_1
  let main_v9 : IVec S16x64x1x64 1 := cmpf .olt main_v7 main_v8
  let main_v10 : FVec F S16x64x1x64 .f32 := Host.absf main_arg3
  let main_cst_2 : FVec F S_ .f32 := constant S_ .f32 0x7F800000#32
  let main_v11 : FVec F S16x64x1x64 .f32 := broadcastInDim S16x64x1x64 ![] bcast_S_S16x64x1x64 main_cst_2
  let main_v12 : IVec S16x64x1x64 1 := cmpf .olt main_v10 main_v11
  let main_v13 : FVec F S16x64x128x128 .f32 := Host.absf main_arg4
  let main_cst_3 : FVec F S_ .f32 := constant S_ .f32 0x7F800000#32
  let main_v14 : FVec F S16x64x128x128 .f32 := broadcastInDim S16x64x128x128 ![] bcast_S_S16x64x128x128 main_cst_3
  let main_v15 : IVec S16x64x128x128 1 := cmpf .olt main_v13 main_v14
  let main_v16 : FVec F S16x64x64x64 .f32 := Host.absf main_arg5
  let main_cst_4 : FVec F S_ .f32 := constant S_ .f32 0x7F800000#32
  let main_v17 : FVec F S16x64x64x64 .f32 := broadcastInDim S16x64x64x64 ![] bcast_S_S16x64x64x64 main_cst_4
  fn_part1 (F := F) main_arg3 main_arg6 main_v3 main_v6 main_v9 main_v12 main_v15 main_v16 main_v17
-- ==== Kernel.lean ====
abbrev S4096x2048 : Shape := ⟨2, ![4096, 2048]⟩
abbrev S4096x4096 : Shape := ⟨2, ![4096, 4096]⟩
abbrev S16x64x1x64 : Shape := ⟨4, ![16, 64, 1, 64]⟩
abbrev S16x64x128x128 : Shape := ⟨4, ![16, 64, 128, 128]⟩
abbrev S16x64x64x64 : Shape := ⟨4, ![16, 64, 64, 64]⟩
abbrev S64x1024 : Shape := ⟨2, ![64, 1024]⟩
abbrev S64x2048 : Shape := ⟨2, ![64, 2048]⟩
abbrev S16x1x1x64 : Shape := ⟨4, ![16, 1, 1, 64]⟩
abbrev S16x1x128x128 : Shape := ⟨4, ![16, 1, 128, 128]⟩
abbrev S16x1x64x64 : Shape := ⟨4, ![16, 1, 64, 64]⟩
abbrev S16x128x128 : Shape := ⟨3, ![16, 128, 128]⟩
abbrev S64x128 : Shape := ⟨2, ![64, 128]⟩
abbrev S16x64 : Shape := ⟨2, ![16, 64]⟩
abbrev S1x1x128x128 : Shape := ⟨4, ![1, 1, 128, 128]⟩
abbrev S128x128 : Shape := ⟨2, ![128, 128]⟩
abbrev S1x1x64x64 : Shape := ⟨4, ![1, 1, 64, 64]⟩
abbrev S64x64 : Shape := ⟨2, ![64, 64]⟩
abbrev S64x16 : Shape := ⟨2, ![64, 16]⟩
abbrev S64x1 : Shape := ⟨2, ![64, 1]⟩
abbrev S1x64 : Shape := ⟨2, ![1, 64]⟩
abbrev S1x1 : Shape := ⟨2, ![1, 1]⟩
abbrev S1x128x128 : Shape := ⟨3, ![1, 128, 128]⟩
abbrev S64 : Shape := ⟨1, ![64]⟩
abbrev S1 : Shape := ⟨1, ![1]⟩
abbrev S1x1x1 : Shape := ⟨3, ![1, 1, 1]⟩
abbrev S63x1 : Shape := ⟨2, ![63, 1]⟩
abbrev S15x64 : Shape := ⟨2, ![15, 64]⟩
abbrev S14x64 : Shape := ⟨2, ![14, 64]⟩
abbrev S13x64 : Shape := ⟨2, ![13, 64]⟩
abbrev S2x64 : Shape := ⟨2, ![2, 64]⟩
abbrev S12x64 : Shape := ⟨2, ![12, 64]⟩
abbrev S3x64 : Shape := ⟨2, ![3, 64]⟩
abbrev S11x64 : Shape := ⟨2, ![11, 64]⟩
abbrev S4x64 : Shape := ⟨2, ![4, 64]⟩
abbrev S10x64 : Shape := ⟨2, ![10, 64]⟩
abbrev S5x64 : Shape := ⟨2, ![5, 64]⟩
abbrev S9x64 : Shape := ⟨2, ![9, 64]⟩
abbrev S6x64 : Shape := ⟨2, ![6, 64]⟩
abbrev S8x64 : Shape := ⟨2, ![8, 64]⟩
abbrev S7x64 : Shape := ⟨2, ![7, 64]⟩
abbrev S64x15 : Shape := ⟨2, ![64, 15]⟩
abbrev S64x14 : Shape := ⟨2, ![64, 14]⟩
abbrev S64x13 : Shape := ⟨2, ![64, 13]⟩
abbrev S64x2 : Shape := ⟨2, ![64, 2]⟩
abbrev S64x12 : Shape := ⟨2, ![64, 12]⟩
abbrev S64x3 : Shape := ⟨2, ![64, 3]⟩
abbrev S64x11 : Shape := ⟨2, ![64, 11]⟩
abbrev S64x4 : Shape := ⟨2, ![64, 4]⟩
abbrev S64x10 : Shape := ⟨2, ![64, 10]⟩
abbrev S64x5 : Shape := ⟨2, ![64, 5]⟩
abbrev S64x9 : Shape := ⟨2, ![64, 9]⟩
abbrev S64x6 : Shape := ⟨2, ![64, 6]⟩
abbrev S64x8 : Shape := ⟨2, ![64, 8]⟩
abbrev S64x7 : Shape := ⟨2, ![64, 7]⟩

abbrev nBuf : Space → Nat
  | .hbm => 12
  | .vmem => 27
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .f32⟩
  | .hbm, ⟨2, _⟩ => ⟨S16x64x1x64, .f32⟩
  | .hbm, ⟨3, _⟩ => ⟨S16x64x1x64, .f32⟩
  | .hbm, ⟨4, _⟩ => ⟨S16x64x128x128, .f32⟩
  | .hbm, ⟨5, _⟩ => ⟨S16x64x64x64, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S16x64x1x64, .f32⟩
  | .hbm, ⟨11, _⟩ => ⟨S16x64x1x64, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x2048, .f32⟩
  | .local _ .vmem, ⟨5, _⟩ => ⟨S64x2048, .f32⟩
  | .local _ .vmem, ⟨6, _⟩ => ⟨S16x1x1x64, .f32⟩
  | .local _ .vmem, ⟨7, _⟩ => ⟨S16x1x1x64, .f32⟩
  | .local _ .vmem, ⟨8, _⟩ => ⟨S16x1x1x64, .f32⟩
  | .local _ .vmem, ⟨9, _⟩ => ⟨S16x1x1x64, .f32⟩
  | .local _ .vmem, ⟨10, _⟩ => ⟨S16x1x128x128, .f32⟩
  | .local _ .vmem, ⟨11, _⟩ => ⟨S16x1x128x128, .f32⟩
  | .local _ .vmem, ⟨12, _⟩ => ⟨S16x1x64x64, .f32⟩
  | .local _ .vmem, ⟨13, _⟩ => ⟨S16x1x64x64, .f32⟩
  | .local _ .vmem, ⟨14, _⟩ => ⟨S64x2048, .f32⟩
  | .local _ .vmem, ⟨15, _⟩ => ⟨S64x2048, .f32⟩
  | .local _ .vmem, ⟨16, _⟩ => ⟨S64x2048, .bf16⟩
  | .local _ .vmem, ⟨17, _⟩ => ⟨S64x2048, .bf16⟩
  | .local _ .vmem, ⟨18, _⟩ => ⟨S64x2048, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S16x1x1x64, .f32⟩
  | .local _ .vmem, ⟨23, _⟩ => ⟨S16x1x1x64, .f32⟩
  | .local _ .vmem, ⟨24, _⟩ => ⟨S16x1x1x64, .f32⟩
  | .local _ .vmem, ⟨25, _⟩ => ⟨S16x1x1x64, .f32⟩
  | .local _ .vmem, ⟨26, _⟩ => ⟨S16x128x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi c1_i32 arg0
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_11 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1x1x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4096x2048 : Shape := ⟨2, ![4096, 2048]⟩
abbrev S4096x4096 : Shape := ⟨2, ![4096, 4096]⟩
abbrev S16x64x1x64 : Shape := ⟨4, ![16, 64, 1, 64]⟩
abbrev S16x64x128x128 : Shape := ⟨4, ![16, 64, 128, 128]⟩
abbrev S16x64x64x64 : Shape := ⟨4, ![16, 64, 64, 64]⟩
abbrev S4096x1024 : Shape := ⟨2, ![4096, 1024]⟩
abbrev S64x64x8x128 : Shape := ⟨4, ![64, 64, 8, 128]⟩
abbrev S64x8x64x128 : Shape := ⟨4, ![64, 8, 64, 128]⟩
abbrev S64x8x2x64x128 : Shape := ⟨5, ![64, 8, 2, 64, 128]⟩
abbrev S64x16x64x128 : Shape := ⟨4, ![64, 16, 64, 128]⟩
abbrev S64x64x16x128 : Shape := ⟨4, ![64, 64, 16, 128]⟩
abbrev S64x16x128x128 : Shape := ⟨4, ![64, 16, 128, 128]⟩
abbrev S64x16x1x64 : Shape := ⟨4, ![64, 16, 1, 64]⟩
abbrev S64x16x64x64 : Shape := ⟨4, ![64, 16, 64, 64]⟩
abbrev S_ : Shape := ⟨0, ![]⟩
abbrev S16x128x128 : Shape := ⟨3, ![16, 128, 128]⟩
abbrev S1x16x128x128 : Shape := ⟨4, ![1, 16, 128, 128]⟩
abbrev S1x16x64x128 : Shape := ⟨4, ![1, 16, 64, 128]⟩
abbrev S16x64x128 : Shape := ⟨3, ![16, 64, 128]⟩
abbrev S1x16x1x64 : Shape := ⟨4, ![1, 16, 1, 64]⟩
abbrev S16x1x64 : Shape := ⟨3, ![16, 1, 64]⟩
abbrev S1x16x64x64 : Shape := ⟨4, ![1, 16, 64, 64]⟩
abbrev S16x64x64 : Shape := ⟨3, ![16, 64, 64]⟩
abbrev S16x64 : Shape := ⟨2, ![16, 64]⟩
abbrev S64x64 : Shape := ⟨2, ![64, 64]⟩
abbrev S16x64x1 : Shape := ⟨3, ![16, 64, 1]⟩
abbrev S16x1 : Shape := ⟨2, ![16, 1]⟩
abbrev S16 : Shape := ⟨1, ![16]⟩
abbrev S16x1x1 : Shape := ⟨3, ![16, 1, 1]⟩
abbrev S16x128x64 : Shape := ⟨3, ![16, 128, 64]⟩

abbrev nBuf : Space → Nat
  | .hbm => 350
  | .vmem => 0
  | .smem => 0
  | _ => 0

abbrev hbmTy0_0 (i : Nat) : BufTy := match i % 128 with
  | 0 => ⟨S4096x2048, .bf16⟩
  | 1 => ⟨S4096x4096, .f32⟩
  | 2 => ⟨S16x64x1x64, .f32⟩
  | 3 => ⟨S16x64x1x64, .f32⟩
  | 4 => ⟨S16x64x128x128, .f32⟩
  | 5 => ⟨S16x64x64x64, .f32⟩
  | 6 => ⟨S4096x2048, .f32⟩
  | 7 => ⟨S4096x1024, .bf16⟩
  | 8 => ⟨S4096x1024, .f32⟩
  | 9 => ⟨S64x64x8x128, .f32⟩
  | 10 => ⟨S64x8x64x128, .f32⟩
  | 11 => ⟨S64x8x2x64x128, .f32⟩
  | 12 => ⟨S64x16x64x128, .f32⟩
  | 13 => ⟨S4096x1024, .bf16⟩
  | 14 => ⟨S4096x1024, .f32⟩
  | 15 => ⟨S64x64x8x128, .f32⟩
  | 16 => ⟨S64x8x64x128, .f32⟩
  | 17 => ⟨S64x8x2x64x128, .f32⟩
  | 18 => ⟨S64x16x64x128, .f32⟩
  | 19 => ⟨S4096x2048, .f32⟩
  | 20 => ⟨S64x64x16x128, .f32⟩
  | 21 => ⟨S64x16x64x128, .f32⟩
  | 22 => ⟨S64x16x128x128, .f32⟩
  | 23 => ⟨S64x16x1x64, .f32⟩
  | 24 => ⟨S64x16x1x64, .f32⟩
  | 25 => ⟨S64x16x64x64, .f32⟩
  | 26 => ⟨S64x64x16x128, .f32⟩
  | 27 => ⟨S64x16x64x128, .f32⟩
  | 28 => ⟨S_, .f32⟩
  | 29 => ⟨S16x128x128, .f32⟩
  | 30 => ⟨S_, .f32⟩
  | 31 => ⟨S64x16x64x128, .f32⟩
  | 32 => ⟨S_, .f32⟩
  | 33 => ⟨S64x16x64x128, .f32⟩
  | 34 => ⟨S_, .f32⟩
  | 35 => ⟨S64x16x64x128, .f32⟩
  | 36 => ⟨S_, .f32⟩
  | 37 => ⟨S64x16x1x64, .f32⟩
  | 38 => ⟨S_, .f32⟩
  | 39 => ⟨S64x16x1x64, .f32⟩
  | 40 => ⟨S_, .i32⟩
  | 41 => ⟨S64x16x128x128, .f32⟩
  | 42 => ⟨S64x16x64x128, .f32⟩
  | 43 => ⟨S64x16x64x128, .f32⟩
  | 44 => ⟨S64x16x64x128, .f32⟩
  | 45 => ⟨S64x16x1x64, .f32⟩
  | 46 => ⟨S64x16x1x64, .f32⟩
  | 47 => ⟨S64x16x64x64, .f32⟩
  | 48 => ⟨S64x16x64x128, .f32⟩
  | 49 => ⟨S_, .i32⟩
  | 50 => ⟨S16x128x128, .f32⟩
  | 51 => ⟨S64x16x64x128, .f32⟩
  | 52 => ⟨S64x16x64x128, .f32⟩
  | 53 => ⟨S64x16x64x128, .f32⟩
  | 54 => ⟨S64x16x1x64, .f32⟩
  | 55 => ⟨S64x16x1x64, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S1x16x128x128, .f32⟩
  | 66 => ⟨S16x128x128, .f32⟩
  | 67 => ⟨S_, .i32⟩
  | 68 => ⟨S_, .i32⟩
  | 69 => ⟨S_, .i32⟩
  | 70 => ⟨S1x16x64x128, .f32⟩
  | 71 => ⟨S16x64x128, .f32⟩
  | 72 => ⟨S_, .i32⟩
  | 73 => ⟨S_, .i32⟩
  | 74 => ⟨S_, .i32⟩
  | 75 => ⟨S1x16x64x128, .f32⟩
  | 76 => ⟨S16x64x128, .f32⟩
  | 77 => ⟨S_, .i32⟩
  | 78 => ⟨S_, .i32⟩
  | 79 => ⟨S_, .i32⟩
  | 80 => ⟨S1x16x64x128, .f32⟩
  | 81 => ⟨S16x64x128, .f32⟩
  | 82 => ⟨S_, .i32⟩
  | 83 => ⟨S_, .i32⟩
  | 84 => ⟨S_, .i32⟩
  | 85 => ⟨S1x16x1x64, .f32⟩
  | 86 => ⟨S16x1x64, .f32⟩
  | 87 => ⟨S_, .i32⟩
  | 88 => ⟨S_, .i32⟩
  | 89 => ⟨S_, .i32⟩
  | 90 => ⟨S1x16x1x64, .f32⟩
  | 91 => ⟨S16x1x64, .f32⟩
  | 92 => ⟨S_, .i32⟩
  | 93 => ⟨S_, .i32⟩
  | 94 => ⟨S_, .i32⟩
  | 95 => ⟨S1x16x64x64, .f32⟩
  | 96 => ⟨S16x64x64, .f32⟩
  | 97 => ⟨S_, .i32⟩
  | 98 => ⟨S_, .i32⟩
  | 99 => ⟨S_, .i32⟩
  | 100 => ⟨S1x16x64x128, .f32⟩
  | 101 => ⟨S16x64x128, .f32⟩
  | 102 => ⟨S16x64, .f32⟩
  | 103 => ⟨S16x64, .f32⟩
  | 104 => ⟨S_, .i1⟩
  | 105 => ⟨S64x64, .i1⟩
  | 106 => ⟨S64x64, .i32⟩
  | 107 => ⟨S_, .i32⟩
  | 108 => ⟨S64x64, .i32⟩
  | 109 => ⟨S64x64, .i32⟩
  | 110 => ⟨S64x64, .i32⟩
  | 111 => ⟨S64x64, .i1⟩
  | 112 => ⟨S_, .i1⟩
  | 113 => ⟨S64x64, .i1⟩
  | 114 => ⟨S64x64, .i1⟩
  | 115 => ⟨S_, .i1⟩
  | 116 => ⟨S64x64, .i1⟩
  | 117 => ⟨S64x64, .i32⟩
  | 118 => ⟨S_, .i32⟩
  | 119 => ⟨S64x64, .i32⟩
  | 120 => ⟨S64x64, .i32⟩
  | 121 => ⟨S64x64, .i32⟩
  | 122 => ⟨S64x64, .i1⟩
  | 123 => ⟨S_, .i1⟩
  | 124 => ⟨S64x64, .i1⟩
  | 125 => ⟨S64x64, .i1⟩
  | 126 => ⟨S16x64, .f32⟩
  | 127 => ⟨S16x64x1, .f32⟩
  | _ => ⟨S4096x2048, .bf16⟩

abbrev hbmTy0_1 (i : Nat) : BufTy := match i % 128 with
  | 0 => ⟨S16x64x1, .f32⟩
  | 1 => ⟨S16x1x64, .f32⟩
  | 2 => ⟨S16x64x64, .f32⟩
  | 3 => ⟨S16x64x64, .f32⟩
  | 4 => ⟨S16x64x64, .f32⟩
  | 5 => ⟨S_, .f32⟩
  | 6 => ⟨S_, .f32⟩
  | 7 => ⟨S16x64x64, .i1⟩
  | 8 => ⟨S16x64x64, .f32⟩
  | 9 => ⟨S16x64x64, .f32⟩
  | 10 => ⟨S_, .f32⟩
  | 11 => ⟨S16x64x64, .f32⟩
  | 12 => ⟨S16x64x64, .f32⟩
  | 13 => ⟨S16x64x1, .f32⟩
  | 14 => ⟨S16x64x128, .f32⟩
  | 15 => ⟨S16x64x128, .f32⟩
  | 16 => ⟨S16x64x64, .f32⟩
  | 17 => ⟨S16x64x64, .f32⟩
  | 18 => ⟨S_, .f32⟩
  | 19 => ⟨S_, .f32⟩
  | 20 => ⟨S16x64x64, .i1⟩
  | 21 => ⟨S16x64x64, .f32⟩
  | 22 => ⟨S16x64x64, .f32⟩
  | 23 => ⟨S_, .f32⟩
  | 24 => ⟨S16x64x64, .f32⟩
  | 25 => ⟨S16x64x1, .f32⟩
  | 26 => ⟨S16x64x128, .f32⟩
  | 27 => ⟨S16x64x128, .f32⟩
  | 28 => ⟨S16x64x128, .f32⟩
  | 29 => ⟨S16x64x128, .f32⟩
  | 30 => ⟨S16x64x128, .f32⟩
  | 31 => ⟨S16x64x128, .f32⟩
  | 32 => ⟨S16x64x64, .f32⟩
  | 33 => ⟨S16x64x64, .f32⟩
  | 34 => ⟨S16x64x128, .f32⟩
  | 35 => ⟨S16x64x128, .f32⟩
  | 36 => ⟨S16x64x128, .f32⟩
  | 37 => ⟨S16x64x128, .f32⟩
  | 38 => ⟨S16x64x128, .f32⟩
  | 39 => ⟨S16x64x128, .f32⟩
  | 40 => ⟨S16x64x128, .f32⟩
  | 41 => ⟨S16x1, .f32⟩
  | 42 => ⟨S16, .f32⟩
  | 43 => ⟨S16x1, .f32⟩
  | 44 => ⟨S16x64, .f32⟩
  | 45 => ⟨S16x64, .f32⟩
  | 46 => ⟨S16x64, .f32⟩
  | 47 => ⟨S16x64x1, .f32⟩
  | 48 => ⟨S16x64x128, .f32⟩
  | 49 => ⟨S16x64x128, .f32⟩
  | 50 => ⟨S16, .f32⟩
  | 51 => ⟨S16x1x1, .f32⟩
  | 52 => ⟨S16x128x128, .f32⟩
  | 53 => ⟨S16x128x128, .f32⟩
  | 54 => ⟨S16x128x128, .f32⟩
  | 55 => ⟨S16x128x128, .f32⟩
  | 56 => ⟨S16x128x64, .f32⟩
  | 57 => ⟨S16x64x128, .f32⟩
  | 58 => ⟨S16x128x64, .f32⟩
  | 59 => ⟨S16x64x128, .f32⟩
  | 60 => ⟨S16x128x128, .f32⟩
  | 61 => ⟨S_, .f32⟩
  | 62 => ⟨S16, .f32⟩
  | 63 => ⟨S16x1x1, .f32⟩
  | 64 => ⟨S16x128x128, .f32⟩
  | 65 => ⟨S16x128x128, .f32⟩
  | 66 => ⟨S_, .f32⟩
  | 67 => ⟨S16, .f32⟩
  | 68 => ⟨S16, .f32⟩
  | 69 => ⟨S16x64x128, .f32⟩
  | 70 => ⟨S_, .f32⟩
  | 71 => ⟨S16x64, .f32⟩
  | 72 => ⟨S16x64x1, .f32⟩
  | 73 => ⟨S16x64x128, .f32⟩
  | 74 => ⟨S16x64x128, .f32⟩
  | 75 => ⟨S_, .f32⟩
  | 76 => ⟨S16x64, .f32⟩
  | 77 => ⟨S16x64, .f32⟩
  | 78 => ⟨S_, .f32⟩
  | 79 => ⟨S16, .f32⟩
  | 80 => ⟨S16x1, .f32⟩
  | 81 => ⟨S16x64, .f32⟩
  | 82 => ⟨S_, .f32⟩
  | 83 => ⟨S16, .f32⟩
  | 84 => ⟨S16, .f32⟩
  | 85 => ⟨S16x1, .f32⟩
  | 86 => ⟨S_, .f32⟩
  | 87 => ⟨S16x64, .f32⟩
  | 88 => ⟨S16x64, .f32⟩
  | 89 => ⟨S16x128x64, .f32⟩
  | 90 => ⟨S16x64x128, .f32⟩
  | 91 => ⟨S16x64x128, .f32⟩
  | 92 => ⟨S16x64x64, .f32⟩
  | 93 => ⟨S16x128x128, .f32⟩
  | 94 => ⟨S16x128x128, .f32⟩
  | 95 => ⟨S16x128x128, .f32⟩
  | 96 => ⟨S16x64x128, .f32⟩
  | 97 => ⟨S16x64x128, .f32⟩
  | 98 => ⟨S_, .f32⟩
  | 99 => ⟨S16x64, .f32⟩
  | 100 => ⟨S16x64x1, .f32⟩
  | 101 => ⟨S16x64x128, .f32⟩
  | 102 => ⟨S16x64x128, .f32⟩
  | 103 => ⟨S16x64x128, .f32⟩
  | 104 => ⟨S16x128x128, .f32⟩
  | 105 => ⟨S16x128x128, .f32⟩
  | 106 => ⟨S16x128x128, .f32⟩
  | 107 => ⟨S16x64x128, .f32⟩
  | 108 => ⟨S16x64x64, .f32⟩
  | 109 => ⟨S16x64x64, .f32⟩
  | 110 => ⟨S16x64x128, .f32⟩
  | 111 => ⟨S16x64x128, .f32⟩
  | 112 => ⟨S16x64x128, .f32⟩
  | 113 => ⟨S16x64x128, .f32⟩
  | 114 => ⟨S16x128x64, .f32⟩
  | 115 => ⟨S16x64x128, .f32⟩
  | 116 => ⟨S16x64x64, .f32⟩
  | 117 => ⟨S16x64x128, .f32⟩
  | 118 => ⟨S_, .f32⟩
  | 119 => ⟨S16x64, .f32⟩
  | 120 => ⟨S16x64x1, .f32⟩
  | 121 => ⟨S16x64x1, .f32⟩
  | 122 => ⟨S16x64x128, .f32⟩
  | 123 => ⟨S16x64x128, .f32⟩
  | 124 => ⟨S16x128x64, .f32⟩
  | 125 => ⟨S16x64x128, .f32⟩
  | 126 => ⟨S16x64x64, .f32⟩
  | 127 => ⟨S16x64x64, .f32⟩
  | _ => ⟨S4096x2048, .bf16⟩

abbrev hbmTy0_2 (i : Nat) : BufTy := match i % 128 with
  | 0 => ⟨S16x64x128, .f32⟩
  | 1 => ⟨S_, .f32⟩
  | 2 => ⟨S16x64, .f32⟩
  | 3 => ⟨S16x64x1, .f32⟩
  | 4 => ⟨S16x64x128, .f32⟩
  | 5 => ⟨S16x64x128, .f32⟩
  | 6 => ⟨S_, .f32⟩
  | 7 => ⟨S16x64, .f32⟩
  | 8 => ⟨S16x64x64, .f32⟩
  | 9 => ⟨S16x64x64, .f32⟩
  | 10 => ⟨S16x64x64, .f32⟩
  | 11 => ⟨S_, .f32⟩
  | 12 => ⟨S16x64x64, .f32⟩
  | 13 => ⟨S_, .f32⟩
  | 14 => ⟨S16x64x64, .f32⟩
  | 15 => ⟨S16x64x64, .f32⟩
  | 16 => ⟨S16x64x64, .f32⟩
  | 17 => ⟨S16x64x64, .f32⟩
  | 18 => ⟨S16x64x64, .f32⟩
  | 19 => ⟨S16x64x128, .f32⟩
  | 20 => ⟨S16x64x128, .f32⟩
  | 21 => ⟨S16x64x128, .f32⟩
  | 22 => ⟨S16x64x128, .f32⟩
  | 23 => ⟨S16x64x128, .f32⟩
  | 24 => ⟨S_, .f32⟩
  | 25 => ⟨S16x64, .f32⟩
  | 26 => ⟨S16x64x1, .f32⟩
  | 27 => ⟨S16x64x128, .f32⟩
  | 28 => ⟨S16x64x128, .f32⟩
  | 29 => ⟨S16x64x128, .f32⟩
  | 30 => ⟨S_, .f32⟩
  | 31 => ⟨S16x64, .f32⟩
  | 32 => ⟨S16x64, .f32⟩
  | 33 => ⟨S16x64x64, .f32⟩
  | 34 => ⟨S_, .f32⟩
  | 35 => ⟨S16x64x64, .f32⟩
  | 36 => ⟨S16x64x64, .f32⟩
  | 37 => ⟨S_, .f32⟩
  | 38 => ⟨S16x64, .f32⟩
  | 39 => ⟨S16x64x1, .f32⟩
  | 40 => ⟨S16x64x64, .f32⟩
  | 41 => ⟨S_, .f32⟩
  | 42 => ⟨S16x64, .f32⟩
  | 43 => ⟨S16x1x64, .f32⟩
  | 44 => ⟨S_, .f32⟩
  | 45 => ⟨S16x64, .f32⟩
  | 46 => ⟨S16x64, .f32⟩
  | 47 => ⟨S_, .f32⟩
  | 48 => ⟨S16x64, .f32⟩
  | 49 => ⟨S16x64, .f32⟩
  | 50 => ⟨S_, .f32⟩
  | 51 => ⟨S16x64, .f32⟩
  | 52 => ⟨S16x64, .f32⟩
  | 53 => ⟨S16x64, .f32⟩
  | 54 => ⟨S16x1x64, .f32⟩
  | 55 => ⟨S16x1x64, .f32⟩
  | 56 => ⟨S1x16x64x128, .f32⟩
  | 57 => ⟨S_, .i32⟩
  | 58 => ⟨S_, .i32⟩
  | 59 => ⟨S_, .i32⟩
  | 60 => ⟨S64x16x64x128, .f32⟩
  | 61 => ⟨S1x16x64x128, .f32⟩
  | 62 => ⟨S_, .i32⟩
  | 63 => ⟨S_, .i32⟩
  | 64 => ⟨S_, .i32⟩
  | 65 => ⟨S64x16x64x128, .f32⟩
  | 66 => ⟨S1x16x64x128, .f32⟩
  | 67 => ⟨S_, .i32⟩
  | 68 => ⟨S_, .i32⟩
  | 69 => ⟨S_, .i32⟩
  | 70 => ⟨S64x16x64x128, .f32⟩
  | 71 => ⟨S1x16x1x64, .f32⟩
  | 72 => ⟨S_, .i32⟩
  | 73 => ⟨S_, .i32⟩
  | 74 => ⟨S_, .i32⟩
  | 75 => ⟨S64x16x1x64, .f32⟩
  | 76 => ⟨S1x16x1x64, .f32⟩
  | 77 => ⟨S_, .i32⟩
  | 78 => ⟨S_, .i32⟩
  | 79 => ⟨S_, .i32⟩
  | 80 => ⟨S64x16x1x64, .f32⟩
  | 81 => ⟨S_, .i32⟩
  | 82 => ⟨S_, .i32⟩
  | 83 => ⟨S64x64x16x128, .f32⟩
  | 84 => ⟨S4096x2048, .f32⟩
  | 85 => ⟨S4096x2048, .bf16⟩
  | 86 => ⟨S64x64x16x128, .f32⟩
  | 87 => ⟨S4096x2048, .f32⟩
  | 88 => ⟨S4096x2048, .bf16⟩
  | 89 => ⟨S64x64x16x128, .f32⟩
  | 90 => ⟨S4096x2048, .f32⟩
  | 91 => ⟨S4096x2048, .bf16⟩
  | 92 => ⟨S16x64x1x64, .f32⟩
  | 93 => ⟨S16x64x1x64, .f32⟩
  | _ => ⟨S4096x2048, .bf16⟩

abbrev hbmTy (i : Nat) : BufTy := match i / 128 with
  | 0 => hbmTy0_0 i
  | 1 => hbmTy0_1 i
  | 2 => hbmTy0_2 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_c : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev main_v27_5 : Ref sig .tc := ⟨.hbm, 46, rfl⟩
abbrev main_v27_6 : Ref sig .tc := ⟨.hbm, 47, rfl⟩
abbrev main_v27_7 : Ref sig .tc := ⟨.hbm, 48, rfl⟩
abbrev main_v27_8 : Ref sig .tc := ⟨.hbm, 49, rfl⟩
abbrev main_v27_9 : Ref sig .tc := ⟨.hbm, 50, rfl⟩
abbrev main_v27_10 : Ref sig .tc := ⟨.hbm, 51, rfl⟩
abbrev main_v27_11 : Ref sig .tc := ⟨.hbm, 52, rfl⟩
abbrev main_v27_12 : Ref sig .tc := ⟨.hbm, 53, rfl⟩
abbrev main_v27_13 : Ref sig .tc := ⟨.hbm, 54, rfl⟩
abbrev main_v27_14 : Ref sig .tc := ⟨.hbm, 55, rfl⟩
abbrev main_while0c_c_19 : Ref sig .tc := ⟨.hbm, 56, rfl⟩
abbrev main_while0c_v39 : Ref sig .tc := ⟨.hbm, 57, rfl⟩
abbrev main_while0b_c_19 : Ref sig .tc := ⟨.hbm, 58, rfl⟩
abbrev main_while0b_v39 : Ref sig .tc := ⟨.hbm, 59, rfl⟩
abbrev main_while0b_c_20 : Ref sig .tc := ⟨.hbm, 60, rfl⟩
abbrev main_while0b_v40 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_v0 : Ref sig .tc := ⟨.hbm, 65, rfl⟩
abbrev main_while0b_v41 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_v0 : Ref sig .tc := ⟨.hbm, 70, rfl⟩
abbrev main_while0b_v42 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_v0 : Ref sig .tc := ⟨.hbm, 75, rfl⟩
abbrev main_while0b_v43 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_v0 : Ref sig .tc := ⟨.hbm, 80, rfl⟩
abbrev main_while0b_v44 : Ref sig .tc := ⟨.hbm, 81, rfl⟩
abbrev main_while0b_call4_c : Ref sig .tc := ⟨.hbm, 82, rfl⟩
abbrev main_while0b_call4_c_0 : Ref sig .tc := ⟨.hbm, 83, rfl⟩
abbrev main_while0b_call4_c_1 : Ref sig .tc := ⟨.hbm, 84, rfl⟩
abbrev main_while0b_call4_v0 : Ref sig .tc := ⟨.hbm, 85, rfl⟩
abbrev main_while0b_v45 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_v0 : Ref sig .tc := ⟨.hbm, 90, rfl⟩
abbrev main_while0b_v46 : Ref sig .tc := ⟨.hbm, 91, rfl⟩
abbrev main_while0b_call6_c : Ref sig .tc := ⟨.hbm, 92, rfl⟩
abbrev main_while0b_call6_c_0 : Ref sig .tc := ⟨.hbm, 93, rfl⟩
abbrev main_while0b_call6_c_1 : Ref sig .tc := ⟨.hbm, 94, rfl⟩
abbrev main_while0b_call6_v0 : Ref sig .tc := ⟨.hbm, 95, rfl⟩
abbrev main_while0b_v47 : Ref sig .tc := ⟨.hbm, 96, rfl⟩
abbrev main_while0b_call7_c : Ref sig .tc := ⟨.hbm, 97, rfl⟩
abbrev main_while0b_call7_c_0 : Ref sig .tc := ⟨.hbm, 98, rfl⟩
abbrev main_while0b_call7_c_1 : Ref sig .tc := ⟨.hbm, 99, rfl⟩
abbrev main_while0b_call7_v0 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_c_21 : Ref sig .tc := ⟨.hbm, 104, rfl⟩
abbrev main_while0b_v51 : Ref sig .tc := ⟨.hbm, 105, rfl⟩
abbrev main_while0b_call8_v0 : Ref sig .tc := ⟨.hbm, 106, rfl⟩
abbrev main_while0b_call8_c : Ref sig .tc := ⟨.hbm, 107, rfl⟩
abbrev main_while0b_call8_v1 : Ref sig .tc := ⟨.hbm, 108, rfl⟩
abbrev main_while0b_call8_v2 : Ref sig .tc := ⟨.hbm, 109, rfl⟩
abbrev main_while0b_call8_v3 : Ref sig .tc := ⟨.hbm, 110, rfl⟩
abbrev main_while0b_call8_v4 : Ref sig .tc := ⟨.hbm, 111, rfl⟩
abbrev main_while0b_call8_c_0 : Ref sig .tc := ⟨.hbm, 112, rfl⟩
abbrev main_while0b_call8_v5 : Ref sig .tc := ⟨.hbm, 113, rfl⟩
abbrev main_while0b_v52 : Ref sig .tc := ⟨.hbm, 114, rfl⟩
abbrev main_while0b_c_22 : Ref sig .tc := ⟨.hbm, 115, rfl⟩
abbrev main_while0b_v53 : Ref sig .tc := ⟨.hbm, 116, rfl⟩
abbrev main_while0b_call9_v0 : Ref sig .tc := ⟨.hbm, 117, rfl⟩
abbrev main_while0b_call9_c : Ref sig .tc := ⟨.hbm, 118, rfl⟩
abbrev main_while0b_call9_v1 : Ref sig .tc := ⟨.hbm, 119, rfl⟩
abbrev main_while0b_call9_v2 : Ref sig .tc := ⟨.hbm, 120, rfl⟩
abbrev main_while0b_call9_v3 : Ref sig .tc := ⟨.hbm, 121, rfl⟩
abbrev main_while0b_call9_v4 : Ref sig .tc := ⟨.hbm, 122, rfl⟩
abbrev main_while0b_call9_c_0 : Ref sig .tc := ⟨.hbm, 123, rfl⟩
abbrev main_while0b_call9_v5 : Ref sig .tc := ⟨.hbm, 124, rfl⟩
abbrev main_while0b_v54 : Ref sig .tc := ⟨.hbm, 125, rfl⟩
abbrev main_while0b_v55 : Ref sig .tc := ⟨.hbm, 126, rfl⟩
abbrev main_while0b_v56 : Ref sig .tc := ⟨.hbm, 127, rfl⟩
abbrev main_while0b_v57 : Ref sig .tc := ⟨.hbm, 128, rfl⟩
abbrev main_while0b_v58 : Ref sig .tc := ⟨.hbm, 129, rfl⟩
abbrev main_while0b_v59 : Ref sig .tc := ⟨.hbm, 130, rfl⟩
abbrev main_while0b_v60 : Ref sig .tc := ⟨.hbm, 131, rfl⟩
abbrev main_while0b_v61 : Ref sig .tc := ⟨.hbm, 132, rfl⟩
abbrev main_while0b_cst_23 : Ref sig .tc := ⟨.hbm, 133, rfl⟩
abbrev main_while0b_call10_v0 : Ref sig .tc := ⟨.hbm, 134, rfl⟩
abbrev main_while0b_v62_1 : Ref sig .tc := ⟨.hbm, 135, rfl⟩
abbrev main_while0b_call10_v2 : Ref sig .tc := ⟨.hbm, 136, rfl⟩
abbrev main_while0b_v62_0 : Ref sig .tc := ⟨.hbm, 137, rfl⟩
abbrev main_while0b_call10_cst : Ref sig .tc := ⟨.hbm, 138, rfl⟩
abbrev main_while0b_v62_2 : Ref sig .tc := ⟨.hbm, 139, rfl⟩
abbrev main_while0b_v63 : Ref sig .tc := ⟨.hbm, 140, rfl⟩
abbrev main_while0b_v64 : Ref sig .tc := ⟨.hbm, 141, rfl⟩
abbrev main_while0b_v65 : Ref sig .tc := ⟨.hbm, 142, rfl⟩
abbrev main_while0b_v66 : Ref sig .tc := ⟨.hbm, 143, rfl⟩
abbrev main_while0b_v67 : Ref sig .tc := ⟨.hbm, 144, rfl⟩
abbrev main_while0b_v68 : Ref sig .tc := ⟨.hbm, 145, rfl⟩
abbrev main_while0b_cst_24 : Ref sig .tc := ⟨.hbm, 146, rfl⟩
abbrev main_while0b_call11_v0 : Ref sig .tc := ⟨.hbm, 147, rfl⟩
abbrev main_while0b_v69_1 : Ref sig .tc := ⟨.hbm, 148, rfl⟩
abbrev main_while0b_call11_v2 : Ref sig .tc := ⟨.hbm, 149, rfl⟩
abbrev main_while0b_v69_0 : Ref sig .tc := ⟨.hbm, 150, rfl⟩
abbrev main_while0b_call11_cst : Ref sig .tc := ⟨.hbm, 151, rfl⟩
abbrev main_while0b_v69_2 : Ref sig .tc := ⟨.hbm, 152, rfl⟩
abbrev main_while0b_v70 : Ref sig .tc := ⟨.hbm, 153, rfl⟩
abbrev main_while0b_v71 : Ref sig .tc := ⟨.hbm, 154, rfl⟩
abbrev main_while0b_v72 : Ref sig .tc := ⟨.hbm, 155, rfl⟩
abbrev main_while0b_v73 : Ref sig .tc := ⟨.hbm, 156, rfl⟩
abbrev main_while0b_v74 : Ref sig .tc := ⟨.hbm, 157, rfl⟩
abbrev main_while0b_v75 : Ref sig .tc := ⟨.hbm, 158, rfl⟩
abbrev main_while0b_v76 : Ref sig .tc := ⟨.hbm, 159, rfl⟩
abbrev main_while0b_v77 : Ref sig .tc := ⟨.hbm, 160, rfl⟩
abbrev main_while0b_v78 : Ref sig .tc := ⟨.hbm, 161, rfl⟩
abbrev main_while0b_v79 : Ref sig .tc := ⟨.hbm, 162, rfl⟩
abbrev main_while0b_v80 : Ref sig .tc := ⟨.hbm, 163, rfl⟩
abbrev main_while0b_v81 : Ref sig .tc := ⟨.hbm, 164, rfl⟩
abbrev main_while0b_v82 : Ref sig .tc := ⟨.hbm, 165, rfl⟩
abbrev main_while0b_v83 : Ref sig .tc := ⟨.hbm, 166, rfl⟩
abbrev main_while0b_v84 : Ref sig .tc := ⟨.hbm, 167, rfl⟩
abbrev main_while0b_v85 : Ref sig .tc := ⟨.hbm, 168, rfl⟩
abbrev main_while0b_v86 : Ref sig .tc := ⟨.hbm, 169, rfl⟩
abbrev main_while0b_v87 : Ref sig .tc := ⟨.hbm, 170, rfl⟩
abbrev main_while0b_v88 : Ref sig .tc := ⟨.hbm, 171, rfl⟩
abbrev main_while0b_v89 : Ref sig .tc := ⟨.hbm, 172, rfl⟩
abbrev main_while0b_v90 : Ref sig .tc := ⟨.hbm, 173, rfl⟩
abbrev main_while0b_v91 : Ref sig .tc := ⟨.hbm, 174, rfl⟩
abbrev main_while0b_v92 : Ref sig .tc := ⟨.hbm, 175, rfl⟩
abbrev main_while0b_v93 : Ref sig .tc := ⟨.hbm, 176, rfl⟩
abbrev main_while0b_v94 : Ref sig .tc := ⟨.hbm, 177, rfl⟩
abbrev main_while0b_v95 : Ref sig .tc := ⟨.hbm, 178, rfl⟩
abbrev main_while0b_v96 : Ref sig .tc := ⟨.hbm, 179, rfl⟩
abbrev main_while0b_v97 : Ref sig .tc := ⟨.hbm, 180, rfl⟩
abbrev main_while0b_v98 : Ref sig .tc := ⟨.hbm, 181, rfl⟩
abbrev main_while0b_v99 : Ref sig .tc := ⟨.hbm, 182, rfl⟩
abbrev main_while0b_v100 : Ref sig .tc := ⟨.hbm, 183, rfl⟩
abbrev main_while0b_v101 : Ref sig .tc := ⟨.hbm, 184, rfl⟩
abbrev main_while0b_v102 : Ref sig .tc := ⟨.hbm, 185, rfl⟩
abbrev main_while0b_v103 : Ref sig .tc := ⟨.hbm, 186, rfl⟩
abbrev main_while0b_v104 : Ref sig .tc := ⟨.hbm, 187, rfl⟩
abbrev main_while0b_v105 : Ref sig .tc := ⟨.hbm, 188, rfl⟩
abbrev main_while0b_cst_25 : Ref sig .tc := ⟨.hbm, 189, rfl⟩
abbrev main_while0b_v106 : Ref sig .tc := ⟨.hbm, 190, rfl⟩
abbrev main_while0b_v107 : Ref sig .tc := ⟨.hbm, 191, rfl⟩
abbrev main_while0b_v108 : Ref sig .tc := ⟨.hbm, 192, rfl⟩
abbrev main_while0b_v109 : Ref sig .tc := ⟨.hbm, 193, rfl⟩
abbrev main_while0b_cst_26 : Ref sig .tc := ⟨.hbm, 194, rfl⟩
abbrev main_while0b_v110 : Ref sig .tc := ⟨.hbm, 195, rfl⟩
abbrev main_while0b_v111 : Ref sig .tc := ⟨.hbm, 196, rfl⟩
abbrev main_while0b_v112 : Ref sig .tc := ⟨.hbm, 197, rfl⟩
abbrev main_while0b_cst_27 : Ref sig .tc := ⟨.hbm, 198, rfl⟩
abbrev main_while0b_v113 : Ref sig .tc := ⟨.hbm, 199, rfl⟩
abbrev main_while0b_v114 : Ref sig .tc := ⟨.hbm, 200, rfl⟩
abbrev main_while0b_v115 : Ref sig .tc := ⟨.hbm, 201, rfl⟩
abbrev main_while0b_v116 : Ref sig .tc := ⟨.hbm, 202, rfl⟩
abbrev main_while0b_cst_28 : Ref sig .tc := ⟨.hbm, 203, rfl⟩
abbrev main_while0b_v117 : Ref sig .tc := ⟨.hbm, 204, rfl⟩
abbrev main_while0b_v118 : Ref sig .tc := ⟨.hbm, 205, rfl⟩
abbrev main_while0b_cst_29 : Ref sig .tc := ⟨.hbm, 206, rfl⟩
abbrev main_while0b_v119 : Ref sig .tc := ⟨.hbm, 207, rfl⟩
abbrev main_while0b_v120 : Ref sig .tc := ⟨.hbm, 208, rfl⟩
abbrev main_while0b_v121 : Ref sig .tc := ⟨.hbm, 209, rfl⟩
abbrev main_while0b_cst_30 : Ref sig .tc := ⟨.hbm, 210, rfl⟩
abbrev main_while0b_v122 : Ref sig .tc := ⟨.hbm, 211, rfl⟩
abbrev main_while0b_v123 : Ref sig .tc := ⟨.hbm, 212, rfl⟩
abbrev main_while0b_v124 : Ref sig .tc := ⟨.hbm, 213, rfl⟩
abbrev main_while0b_cst_31 : Ref sig .tc := ⟨.hbm, 214, rfl⟩
abbrev main_while0b_v125 : Ref sig .tc := ⟨.hbm, 215, rfl⟩
abbrev main_while0b_v126 : Ref sig .tc := ⟨.hbm, 216, rfl⟩
abbrev main_while0b_v127 : Ref sig .tc := ⟨.hbm, 217, rfl⟩
abbrev main_while0b_v128 : Ref sig .tc := ⟨.hbm, 218, rfl⟩
abbrev main_while0b_v129 : Ref sig .tc := ⟨.hbm, 219, rfl⟩
abbrev main_while0b_v130 : Ref sig .tc := ⟨.hbm, 220, rfl⟩
abbrev main_while0b_v131 : Ref sig .tc := ⟨.hbm, 221, rfl⟩
abbrev main_while0b_v132 : Ref sig .tc := ⟨.hbm, 222, rfl⟩
abbrev main_while0b_v133 : Ref sig .tc := ⟨.hbm, 223, rfl⟩
abbrev main_while0b_v134 : Ref sig .tc := ⟨.hbm, 224, rfl⟩
abbrev main_while0b_v135 : Ref sig .tc := ⟨.hbm, 225, rfl⟩
abbrev main_while0b_cst_32 : Ref sig .tc := ⟨.hbm, 226, rfl⟩
abbrev main_while0b_v136 : Ref sig .tc := ⟨.hbm, 227, rfl⟩
abbrev main_while0b_v137 : Ref sig .tc := ⟨.hbm, 228, rfl⟩
abbrev main_while0b_v138 : Ref sig .tc := ⟨.hbm, 229, rfl⟩
abbrev main_while0b_v139 : Ref sig .tc := ⟨.hbm, 230, rfl⟩
abbrev main_while0b_v140 : Ref sig .tc := ⟨.hbm, 231, rfl⟩
abbrev main_while0b_v141 : Ref sig .tc := ⟨.hbm, 232, rfl⟩
abbrev main_while0b_v142 : Ref sig .tc := ⟨.hbm, 233, rfl⟩
abbrev main_while0b_v143 : Ref sig .tc := ⟨.hbm, 234, rfl⟩
abbrev main_while0b_v144 : Ref sig .tc := ⟨.hbm, 235, rfl⟩
abbrev main_while0b_v145 : Ref sig .tc := ⟨.hbm, 236, rfl⟩
abbrev main_while0b_v146 : Ref sig .tc := ⟨.hbm, 237, rfl⟩
abbrev main_while0b_v147 : Ref sig .tc := ⟨.hbm, 238, rfl⟩
abbrev main_while0b_v148 : Ref sig .tc := ⟨.hbm, 239, rfl⟩
abbrev main_while0b_v149 : Ref sig .tc := ⟨.hbm, 240, rfl⟩
abbrev main_while0b_v150 : Ref sig .tc := ⟨.hbm, 241, rfl⟩
abbrev main_while0b_v151 : Ref sig .tc := ⟨.hbm, 242, rfl⟩
abbrev main_while0b_v152 : Ref sig .tc := ⟨.hbm, 243, rfl⟩
abbrev main_while0b_v153 : Ref sig .tc := ⟨.hbm, 244, rfl⟩
abbrev main_while0b_v154 : Ref sig .tc := ⟨.hbm, 245, rfl⟩
abbrev main_while0b_cst_33 : Ref sig .tc := ⟨.hbm, 246, rfl⟩
abbrev main_while0b_v155 : Ref sig .tc := ⟨.hbm, 247, rfl⟩
abbrev main_while0b_v156 : Ref sig .tc := ⟨.hbm, 248, rfl⟩
abbrev main_while0b_v157 : Ref sig .tc := ⟨.hbm, 249, rfl⟩
abbrev main_while0b_v158 : Ref sig .tc := ⟨.hbm, 250, rfl⟩
abbrev main_while0b_v159 : Ref sig .tc := ⟨.hbm, 251, rfl⟩
abbrev main_while0b_v160 : Ref sig .tc := ⟨.hbm, 252, rfl⟩
abbrev main_while0b_v161 : Ref sig .tc := ⟨.hbm, 253, rfl⟩
abbrev main_while0b_v162 : Ref sig .tc := ⟨.hbm, 254, rfl⟩
abbrev main_while0b_v163 : Ref sig .tc := ⟨.hbm, 255, rfl⟩
abbrev main_while0b_v164 : Ref sig .tc := ⟨.hbm, 256, rfl⟩
abbrev main_while0b_cst_34 : Ref sig .tc := ⟨.hbm, 257, rfl⟩
abbrev main_while0b_v165 : Ref sig .tc := ⟨.hbm, 258, rfl⟩
abbrev main_while0b_v166 : Ref sig .tc := ⟨.hbm, 259, rfl⟩
abbrev main_while0b_v167 : Ref sig .tc := ⟨.hbm, 260, rfl⟩
abbrev main_while0b_v168 : Ref sig .tc := ⟨.hbm, 261, rfl⟩
abbrev main_while0b_cst_35 : Ref sig .tc := ⟨.hbm, 262, rfl⟩
abbrev main_while0b_v169 : Ref sig .tc := ⟨.hbm, 263, rfl⟩
abbrev main_while0b_v170 : Ref sig .tc := ⟨.hbm, 264, rfl⟩
abbrev main_while0b_v171 : Ref sig .tc := ⟨.hbm, 265, rfl⟩
abbrev main_while0b_v172 : Ref sig .tc := ⟨.hbm, 266, rfl⟩
abbrev main_while0b_cst_36 : Ref sig .tc := ⟨.hbm, 267, rfl⟩
abbrev main_while0b_v173 : Ref sig .tc := ⟨.hbm, 268, rfl⟩
abbrev main_while0b_call12_cst : Ref sig .tc := ⟨.hbm, 269, rfl⟩
abbrev main_while0b_call12_v0 : Ref sig .tc := ⟨.hbm, 270, rfl⟩
abbrev main_while0b_v174 : Ref sig .tc := ⟨.hbm, 271, rfl⟩
abbrev main_while0b_v175 : Ref sig .tc := ⟨.hbm, 272, rfl⟩
abbrev main_while0b_v176 : Ref sig .tc := ⟨.hbm, 273, rfl⟩
abbrev main_while0b_v177 : Ref sig .tc := ⟨.hbm, 274, rfl⟩
abbrev main_while0b_v178 : Ref sig .tc := ⟨.hbm, 275, rfl⟩
abbrev main_while0b_v179 : Ref sig .tc := ⟨.hbm, 276, rfl⟩
abbrev main_while0b_v180 : Ref sig .tc := ⟨.hbm, 277, rfl⟩
abbrev main_while0b_v181 : Ref sig .tc := ⟨.hbm, 278, rfl⟩
abbrev main_while0b_v182 : Ref sig .tc := ⟨.hbm, 279, rfl⟩
abbrev main_while0b_cst_37 : Ref sig .tc := ⟨.hbm, 280, rfl⟩
abbrev main_while0b_v183 : Ref sig .tc := ⟨.hbm, 281, rfl⟩
abbrev main_while0b_v184 : Ref sig .tc := ⟨.hbm, 282, rfl⟩
abbrev main_while0b_v185 : Ref sig .tc := ⟨.hbm, 283, rfl⟩
abbrev main_while0b_v186 : Ref sig .tc := ⟨.hbm, 284, rfl⟩
abbrev main_while0b_v187 : Ref sig .tc := ⟨.hbm, 285, rfl⟩
abbrev main_while0b_cst_38 : Ref sig .tc := ⟨.hbm, 286, rfl⟩
abbrev main_while0b_v188 : Ref sig .tc := ⟨.hbm, 287, rfl⟩
abbrev main_while0b_v189 : Ref sig .tc := ⟨.hbm, 288, rfl⟩
abbrev main_while0b_v190 : Ref sig .tc := ⟨.hbm, 289, rfl⟩
abbrev main_while0b_call13_cst : Ref sig .tc := ⟨.hbm, 290, rfl⟩
abbrev main_while0b_call13_v0 : Ref sig .tc := ⟨.hbm, 291, rfl⟩
abbrev main_while0b_v191 : Ref sig .tc := ⟨.hbm, 292, rfl⟩
abbrev main_while0b_cst_39 : Ref sig .tc := ⟨.hbm, 293, rfl⟩
abbrev main_while0b_v192 : Ref sig .tc := ⟨.hbm, 294, rfl⟩
abbrev main_while0b_v193 : Ref sig .tc := ⟨.hbm, 295, rfl⟩
abbrev main_while0b_v194 : Ref sig .tc := ⟨.hbm, 296, rfl⟩
abbrev main_while0b_cst_40 : Ref sig .tc := ⟨.hbm, 297, rfl⟩
abbrev main_while0b_v195 : Ref sig .tc := ⟨.hbm, 298, rfl⟩
abbrev main_while0b_v196 : Ref sig .tc := ⟨.hbm, 299, rfl⟩
abbrev main_while0b_cst_41 : Ref sig .tc := ⟨.hbm, 300, rfl⟩
abbrev main_while0b_v197 : Ref sig .tc := ⟨.hbm, 301, rfl⟩
abbrev main_while0b_v198 : Ref sig .tc := ⟨.hbm, 302, rfl⟩
abbrev main_while0b_cst_42 : Ref sig .tc := ⟨.hbm, 303, rfl⟩
abbrev main_while0b_v199 : Ref sig .tc := ⟨.hbm, 304, rfl⟩
abbrev main_while0b_v200 : Ref sig .tc := ⟨.hbm, 305, rfl⟩
abbrev main_while0b_cst_43 : Ref sig .tc := ⟨.hbm, 306, rfl⟩
abbrev main_while0b_v201 : Ref sig .tc := ⟨.hbm, 307, rfl⟩
abbrev main_while0b_v202 : Ref sig .tc := ⟨.hbm, 308, rfl⟩
abbrev main_while0b_v203 : Ref sig .tc := ⟨.hbm, 309, rfl⟩
abbrev main_while0b_v204 : Ref sig .tc := ⟨.hbm, 310, rfl⟩
abbrev main_while0b_v205 : Ref sig .tc := ⟨.hbm, 311, rfl⟩
abbrev main_while0b_call14_v0 : Ref sig .tc := ⟨.hbm, 312, rfl⟩
abbrev main_while0b_call14_c : Ref sig .tc := ⟨.hbm, 313, rfl⟩
abbrev main_while0b_call14_c_0 : Ref sig .tc := ⟨.hbm, 314, rfl⟩
abbrev main_while0b_call14_c_1 : Ref sig .tc := ⟨.hbm, 315, rfl⟩
abbrev main_while0b_v206 : Ref sig .tc := ⟨.hbm, 316, rfl⟩
abbrev main_while0b_call15_v0 : Ref sig .tc := ⟨.hbm, 317, rfl⟩
abbrev main_while0b_call15_c : Ref sig .tc := ⟨.hbm, 318, rfl⟩
abbrev main_while0b_call15_c_0 : Ref sig .tc := ⟨.hbm, 319, rfl⟩
abbrev main_while0b_call15_c_1 : Ref sig .tc := ⟨.hbm, 320, rfl⟩
abbrev main_while0b_v207 : Ref sig .tc := ⟨.hbm, 321, rfl⟩
abbrev main_while0b_call16_v0 : Ref sig .tc := ⟨.hbm, 322, rfl⟩
abbrev main_while0b_call16_c : Ref sig .tc := ⟨.hbm, 323, rfl⟩
abbrev main_while0b_call16_c_0 : Ref sig .tc := ⟨.hbm, 324, rfl⟩
abbrev main_while0b_call16_c_1 : Ref sig .tc := ⟨.hbm, 325, rfl⟩
abbrev main_while0b_v208 : Ref sig .tc := ⟨.hbm, 326, rfl⟩
abbrev main_while0b_call17_v0 : Ref sig .tc := ⟨.hbm, 327, rfl⟩
abbrev main_while0b_call17_c : Ref sig .tc := ⟨.hbm, 328, rfl⟩
abbrev main_while0b_call17_c_0 : Ref sig .tc := ⟨.hbm, 329, rfl⟩
abbrev main_while0b_call17_c_1 : Ref sig .tc := ⟨.hbm, 330, rfl⟩
abbrev main_while0b_v209 : Ref sig .tc := ⟨.hbm, 331, rfl⟩
abbrev main_while0b_call18_v0 : Ref sig .tc := ⟨.hbm, 332, rfl⟩
abbrev main_while0b_call18_c : Ref sig .tc := ⟨.hbm, 333, rfl⟩
abbrev main_while0b_call18_c_0 : Ref sig .tc := ⟨.hbm, 334, rfl⟩
abbrev main_while0b_call18_c_1 : Ref sig .tc := ⟨.hbm, 335, rfl⟩
abbrev main_while0b_v210 : Ref sig .tc := ⟨.hbm, 336, rfl⟩
abbrev main_while0b_c_44 : Ref sig .tc := ⟨.hbm, 337, rfl⟩
abbrev main_while0b_v211 : Ref sig .tc := ⟨.hbm, 338, rfl⟩
abbrev main_v28 : Ref sig .tc := ⟨.hbm, 339, rfl⟩
abbrev main_v29 : Ref sig .tc := ⟨.hbm, 340, rfl⟩
abbrev main_v30 : Ref sig .tc := ⟨.hbm, 341, rfl⟩
abbrev main_v31 : Ref sig .tc := ⟨.hbm, 342, rfl⟩
abbrev main_v32 : Ref sig .tc := ⟨.hbm, 343, rfl⟩
abbrev main_v33 : Ref sig .tc := ⟨.hbm, 344, rfl⟩
abbrev main_v34 : Ref sig .tc := ⟨.hbm, 345, rfl⟩
abbrev main_v35 : Ref sig .tc := ⟨.hbm, 346, rfl⟩
abbrev main_v36 : Ref sig .tc := ⟨.hbm, 347, rfl⟩
abbrev main_v37 : Ref sig .tc := ⟨.hbm, 348, rfl⟩
abbrev main_v38 : Ref sig .tc := ⟨.hbm, 349, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x5632 : Shape := ⟨2, ![4096, 5632]⟩
abbrev S4096x1024 : Shape := ⟨2, ![4096, 1024]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S5632x1024, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x5632 : Shape := ⟨2, ![4096, 5632]⟩
abbrev S5632x1024 : Shape := ⟨2, ![5632, 1024]⟩
abbrev S8x128 : Shape := ⟨2, ![8, 128]⟩
abbrev S4096x1024 : Shape := ⟨2, ![4096, 1024]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S8x128, .f32⟩
  | .hbm, ⟨3, _⟩ => ⟨S4096x1024, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S8x128, .f32⟩
  | .local _ .vmem, ⟨5, _⟩ => ⟨S1024x512, .bf16⟩
  | .local _ .vmem, ⟨6, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x5632 : Shape := ⟨2, ![4096, 5632]⟩
abbrev S5632x1024 : Shape := ⟨2, ![5632, 1024]⟩
abbrev S8x128 : Shape := ⟨2, ![8, 128]⟩
abbrev S_ : Shape := ⟨0, ![]⟩
abbrev S4096x1024 : Shape := ⟨2, ![4096, 1024]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S4096x1024, .f32⟩
  | .hbm, ⟨10, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S8x128 : Shape := ⟨2, ![8, 128]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S8x128, .f32⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S8x128, .f32⟩
  | .local _ .vmem, ⟨5, _⟩ => ⟨S1024x1408, .bf16⟩
  | .local _ .vmem, ⟨6, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S2816x1024 : Shape := ⟨2, ![2816, 1024]⟩
abbrev S8x128 : Shape := ⟨2, ![8, 128]⟩
abbrev S_ : Shape := ⟨0, ![]⟩
abbrev S4096x2816 : Shape := ⟨2, ![4096, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S8x128, .f32⟩
  | .hbm, ⟨3, _⟩ => ⟨S_, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x2816, .f32⟩
  | .hbm, ⟨14, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S5632x1024 : Shape := ⟨2, ![5632, 1024]⟩
abbrev S8x128 : Shape := ⟨2, ![8, 128]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S8x128, .f32⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S8x128, .f32⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4096x1024 : Shape := ⟨2, ![4096, 1024]⟩
abbrev S5632x1024 : Shape := ⟨2, ![5632, 1024]⟩
abbrev S8x128 : Shape := ⟨2, ![8, 128]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S8x128, .f32⟩
  | .hbm, ⟨3, _⟩ => ⟨S4096x1024, .f32⟩
  | .hbm, ⟨4, _⟩ => ⟨S5632x1024, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .bf16⟩
  | .hbm, ⟨10, _⟩ => ⟨S4096x2816, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel11.lean ====
abbrev S4096x1024 : Shape := ⟨2, ![4096, 1024]⟩
abbrev S12320x1024 : Shape := ⟨2, ![12320, 1024]⟩
abbrev S8x128 : Shape := ⟨2, ![8, 128]⟩
abbrev S4096x8192 : Shape := ⟨2, ![4096, 8192]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S8x128, .f32⟩
  | .hbm, ⟨3, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S12320x1024 : Shape := ⟨2, ![12320, 1024]⟩
abbrev S8x128 : Shape := ⟨2, ![8, 128]⟩
abbrev S1024x12320 : Shape := ⟨2, ![1024, 12320]⟩
abbrev S4096x12320 : Shape := ⟨2, ![4096, 12320]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S8x128, .f32⟩
  | .hbm, ⟨3, _⟩ => ⟨S4096x1024, .f32⟩
  | .hbm, ⟨4, _⟩ => ⟨S12320x1024, .f32⟩
  | .hbm, ⟨5, _⟩ => ⟨S1024x12320, .f32⟩
  | .hbm, ⟨6, _⟩ => ⟨S4096x12320, .f32⟩
  | .hbm, ⟨7, _⟩ => ⟨S4096x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S4096x4096 : Shape := ⟨2, ![4096, 4096]⟩
abbrev S12320x1024 : Shape := ⟨2, ![12320, 1024]⟩
abbrev S8x128 : Shape := ⟨2, ![8, 128]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S12320x1024, .bf16⟩
  | .hbm, ⟨6, _⟩ => ⟨S8x128, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 1, 8], ![false, false, false]⟩

def k0_cond7 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference13Ideal.lean ====
abbrev S4096x1024 : Shape := ⟨2, ![4096, 1024]⟩
abbrev S4096x4096 : Shape := ⟨2, ![4096, 4096]⟩
abbrev S12320x1024 : Shape := ⟨2, ![12320, 1024]⟩
abbrev S8x128 : Shape := ⟨2, ![8, 128]⟩
abbrev S_ : Shape := ⟨0, ![]⟩
abbrev S1024x12320 : Shape := ⟨2, ![1024, 12320]⟩
abbrev S4096x12320 : Shape := ⟨2, ![4096, 12320]⟩
abbrev S4096x8192 : Shape := ⟨2, ![4096, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S12320x1024, .bf16⟩
  | .hbm, ⟨6, _⟩ => ⟨S8x128, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x4096, .f32⟩
  | .hbm, ⟨12, _⟩ => ⟨S_, .f32⟩
  | .hbm, ⟨13, _⟩ => ⟨S4096x1024, .f32⟩
  | .hbm, ⟨14, _⟩ => ⟨S12320x1024, .f32⟩
  | .hbm, ⟨15, _⟩ => ⟨S1024x12320, .f32⟩
  | .hbm, ⟨16, _⟩ => ⟨S4096x12320, .f32⟩
  | .hbm, ⟨17, _⟩ => ⟨S4096x8192, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x8192, .f32⟩
  | .hbm, ⟨24, _⟩ => ⟨S_, .f32⟩
  | .hbm, ⟨25, _⟩ => ⟨S4096x12320, .f32⟩
  | .hbm, ⟨26, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel14.lean ====
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def k0_cond5 (i : grid0.Coords) : BitVec 1 :=
  let arg2 : BitVec 32 := BitVec.ofNat 32 (i 2).val
  let c3_i32_7 : BitVec 32 := 3#32
  let v18 : BitVec 1 := Scalar.cmpi .eq arg2 c3_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x2048 : Shape := ⟨2, ![4096, 2048]⟩
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x4096, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x4096, .f32⟩
  | .hbm, ⟨17, _⟩ => ⟨S4096x1024, .f32⟩
  | .hbm, ⟨18, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel15.lean ====
abbrev S8x704x1024 : Shape := ⟨3, ![8, 704, 1024]⟩
abbrev S704x1024 : Shape := ⟨2, ![704, 1024]⟩
abbrev S8x704x512 : Shape := ⟨3, ![8, 704, 512]⟩
abbrev S704x512 : Shape := ⟨2, ![704, 512]⟩
abbrev S1x704x512 : Shape := ⟨3, ![1, 704, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x704x512, .bf16⟩
  | .local _ .vmem, ⟨1, _⟩ => ⟨S8x704x512, .bf16⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x352x1024 : Shape := ⟨3, ![8, 352, 1024]⟩
abbrev S352x1024 : Shape := ⟨2, ![352, 1024]⟩
abbrev S8x352x512 : Shape := ⟨3, ![8, 352, 512]⟩
abbrev S352x512 : Shape := ⟨2, ![352, 512]⟩
abbrev S1x352x512 : Shape := ⟨3, ![1, 352, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x512, .bf16⟩
  | .local _ .vmem, ⟨1, _⟩ => ⟨S8x352x512, .bf16⟩
  | .local _ .vmem, ⟨2, _⟩ => ⟨S352x512, .f32⟩
  | .local _ .vmem, ⟨3, _⟩ => ⟨S352x512, .f32⟩
  | .local _ .vmem, ⟨4, _⟩ => ⟨S352x512, .f32⟩
  | .local _ .vmem, ⟨5, _⟩ => ⟨S352x512, .f32⟩
  | .local _ .vmem, ⟨6, _⟩ => ⟨S352x512, .f32⟩
  | .local _ .vmem, ⟨7, _⟩ => ⟨S352x512, .f32⟩
  | .local _ .vmem, ⟨8, _⟩ => ⟨S352x512, .f32⟩
  | .local _ .vmem, ⟨9, _⟩ => ⟨S352x512, .f32⟩
  | .local _ .vmem, ⟨10, _⟩ => ⟨S352x512, .f32⟩
  | .local _ .vmem, ⟨11, _⟩ => ⟨S352x512, .f32⟩
  | .local _ .vmem, ⟨12, _⟩ => ⟨S352x512, .f32⟩
  | .local _ .vmem, ⟨13, _⟩ => ⟨S352x512, .f32⟩
  | .local _ .vmem, ⟨14, _⟩ => ⟨S352x512, .f32⟩
  | .local _ .vmem, ⟨15, _⟩ => ⟨S352x512, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x1540x1024 : Shape := ⟨3, ![8, 1540, 1024]⟩
abbrev S1540x1024 : Shape := ⟨2, ![1540, 1024]⟩
abbrev S8x1540x256 : Shape := ⟨3, ![8, 1540, 256]⟩
abbrev S1540x256 : Shape := ⟨2, ![1540, 256]⟩
abbrev S1x1540x256 : Shape := ⟨3, ![1, 1540, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1540x1024, .bf16⟩
  | .hbm, ⟨1, _⟩ => ⟨S1540x1024, .f32⟩
  | .hbm, ⟨2, _⟩ => ⟨S1540x1024, .f32⟩
  | .hbm, ⟨3, _⟩ => ⟨S1540x1024, .f32⟩
  | .hbm, ⟨4, _⟩ => ⟨S1540x1024, .f32⟩
  | .hbm, ⟨5, _⟩ => ⟨S1540x1024, .f32⟩
  | .hbm, ⟨6, _⟩ => ⟨S1540x1024, .f32⟩
  | .hbm, ⟨7, _⟩ => ⟨S1540x1024, .f32⟩
  | .local _ .vmem, ⟨0, _⟩ => ⟨S8x1540x256, .bf16⟩
  | .local _ .vmem, ⟨1, _⟩ => ⟨S8x1540x256, .bf16⟩
  | .local _ .vmem, ⟨2, _⟩ => ⟨S1540x256, .f32⟩
  | .local _ .vmem, ⟨3, _⟩ => ⟨S1540x256, .f32⟩
  | .local _ .vmem, ⟨4, _⟩ => ⟨S1540x256, .f32⟩
  | .local _ .vmem, ⟨5, _⟩ => ⟨S1540x256, .f32⟩
  | .local _ .vmem, ⟨6, _⟩ => ⟨S1540x256, .f32⟩
  | .local _ .vmem, ⟨7, _⟩ => ⟨S1540x256, .f32⟩
  | .local _ .vmem, ⟨8, _⟩ => ⟨S1540x256, .f32⟩
  | .local _ .vmem, ⟨9, _⟩ => ⟨S1540x256, .f32⟩
  | .local _ .vmem, ⟨10, _⟩ => ⟨S1540x256, .f32⟩
  | .local _ .vmem, ⟨11, _⟩ => ⟨S1540x256, .f32⟩
  | .local _ .vmem, ⟨12, _⟩ => ⟨S1540x256, .f32⟩
  | .local _ .vmem, ⟨13, _⟩ => ⟨S1540x256, .f32⟩
  | .local _ .vmem, ⟨14, _⟩ => ⟨S1540x256, .f32⟩
  | .local _ .vmem, ⟨15, _⟩ => ⟨S1540x256, .f32⟩
  | _, _ => ⟨S8x1540x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1540x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1540x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1540x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1540x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1540x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1540x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1540x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1540x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x1540x1024 : Shape := ⟨3, ![8, 1540, 1024]⟩
abbrev S1540x1024 : Shape := ⟨2, ![1540, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1540x1024, .bf16⟩
  | .hbm, ⟨1, _⟩ => ⟨S1540x1024, .f32⟩
  | .hbm, ⟨2, _⟩ => ⟨S1540x1024, .f32⟩
  | .hbm, ⟨3, _⟩ => ⟨S1540x1024, .f32⟩
  | .hbm, ⟨4, _⟩ => ⟨S8x1540x1024, .f32⟩
  | .hbm, ⟨5, _⟩ => ⟨S_, .f32⟩
  | .hbm, ⟨6, _⟩ => ⟨S1540x1024, .f32⟩
  | .hbm, ⟨7, _⟩ => ⟨S_, .f32⟩
  | .hbm, ⟨8, _⟩ => ⟨S1540x1024, .f32⟩
  | .hbm, ⟨9, _⟩ => ⟨S1540x1024, .f32⟩
  | .hbm, ⟨10, _⟩ => ⟨S_, .f32⟩
  | .hbm, ⟨11, _⟩ => ⟨S1540x1024, .f32⟩
  | .hbm, ⟨12, _⟩ => ⟨S1540x1024, .f32⟩
  | .hbm, ⟨13, _⟩ => ⟨S1540x1024, .f32⟩
  | .hbm, ⟨14, _⟩ => ⟨S_, .f32⟩
  | .hbm, ⟨15, _⟩ => ⟨S1540x1024, .f32⟩
  | .hbm, ⟨16, _⟩ => ⟨S1540x1024, .f32⟩
  | .hbm, ⟨17, _⟩ => ⟨S1540x1024, .f32⟩
  | .hbm, ⟨18, _⟩ => ⟨S_, .f32⟩
  | .hbm, ⟨19, _⟩ => ⟨S1540x1024, .f32⟩
  | .hbm, ⟨20, _⟩ => ⟨S1540x1024, .f32⟩
  | .hbm, ⟨21, _⟩ => ⟨S1540x1024, .f32⟩
  | .hbm, ⟨22, _⟩ => ⟨S_, .f32⟩
  | .hbm, ⟨23, _⟩ => ⟨S1540x1024, .f32⟩
  | .hbm, ⟨24, _⟩ => ⟨S1540x1024, .f32⟩
  | .hbm, ⟨25, _⟩ => ⟨S_, .f32⟩
  | .hbm, ⟨26, _⟩ => ⟨S1540x1024, .f32⟩
  | .hbm, ⟨27, _⟩ => ⟨S1540x1024, .f32⟩
  | .hbm, ⟨28, _⟩ => ⟨S1540x1024, .f32⟩
  | .hbm, ⟨29, _⟩ => ⟨S_, .f32⟩
  | .hbm, ⟨30, _⟩ => ⟨S1540x1024, .f32⟩
  | .hbm, ⟨31, _⟩ => ⟨S1540x1024, .f32⟩
  | .hbm, ⟨32, _⟩ => ⟨S1540x1024, .f32⟩
  | .hbm, ⟨33, _⟩ => ⟨S_, .f32⟩
  | .hbm, ⟨34, _⟩ => ⟨S1540x1024, .f32⟩
  | .hbm, ⟨35, _⟩ => ⟨S1540x1024, .f32⟩
  | .hbm, ⟨36, _⟩ => ⟨S1540x1024, .f32⟩
  | .hbm, ⟨37, _⟩ => ⟨S_, .f32⟩
  | .hbm, ⟨38, _⟩ => ⟨S1540x1024, .f32⟩
  | .hbm, ⟨39, _⟩ => ⟨S1540x1024, .f32⟩
  | _, _ => ⟨S8x1540x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x128x1024 : Shape := ⟨3, ![8, 128, 1024]⟩
abbrev S128x1024 : Shape := ⟨2, ![128, 1024]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x512, .bf16⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x256x1024 : Shape := ⟨3, ![8, 256, 1024]⟩
abbrev S256x1024 : Shape := ⟨2, ![256, 1024]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x8x1024 : Shape := ⟨3, ![8, 8, 1024]⟩
abbrev S8x1024 : Shape := ⟨2, ![8, 1024]⟩
abbrev S8x8x512 : Shape := ⟨3, ![8, 8, 512]⟩
abbrev S8x512 : Shape := ⟨2, ![8, 512]⟩
abbrev S1x8x512 : Shape := ⟨3, ![1, 8, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x512, .f32⟩
  | .local _ .vmem, ⟨1, _⟩ => ⟨S8x8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x4x512 : Shape := ⟨3, ![8, 4, 512]⟩
abbrev S4x512 : Shape := ⟨2, ![4, 512]⟩
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S8x4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x4x512 : Shape := ⟨3, ![8, 4, 512]⟩
abbrev S4x512 : Shape := ⟨2, ![4, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S_, .f32⟩
  | .hbm, ⟨7, _⟩ => ⟨S4x512, .f32⟩
  | .hbm, ⟨8, _⟩ => ⟨S4x512, .f32⟩
  | .hbm, ⟨9, _⟩ => ⟨S_, .f32⟩
  | .hbm, ⟨10, _⟩ => ⟨S4x512, .f32⟩
  | .hbm, ⟨11, _⟩ => ⟨S4x512, .f32⟩
  | .hbm, ⟨12, _⟩ => ⟨S4x512, .f32⟩
  | .hbm, ⟨13, _⟩ => ⟨S_, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x512, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S_, .f32⟩
  | .hbm, ⟨37, _⟩ => ⟨S4x512, .f32⟩
  | .hbm, ⟨38, _⟩ => ⟨S4x512, .f32⟩
  | _, _ => ⟨S8x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v33 : BitVec 32 := Scalar.extui v31
  let c0_i32_14 : BitVec 32 := 0#32
  let v34 : BitVec 1 := Scalar.cmpi .ne v33 c0_i32_14
  v34

def k0_cond2 (i : grid0.Coords) : BitVec 1 :=
  let arg1 : BitVec 32 := BitVec.ofNat 32 (i 1).val
  let c0_i32 : BitVec 32 := 0#32
  let v31 : BitVec 1 := Scalar.cmpi .eq arg1 c0_i32
  let v_true : BitVec 1 := 1#1
  let v35 : BitVec 1 := Scalar.xori v31 v_true
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference22Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x128, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x128, .f32⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4096x1024 : Shape := ⟨2, ![4096, 1024]⟩
abbrev S1024x1024 : Shape := ⟨2, ![1024, 1024]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel26.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference29Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel31.lean ====
abbrev S4096x2816 : Shape := ⟨2, ![4096, 2816]⟩
abbrev S4096x5632 : Shape := ⟨2, ![4096, 5632]⟩
abbrev S128x2816 : Shape := ⟨2, ![128, 2816]⟩
abbrev S128x5632 : Shape := ⟨2, ![128, 5632]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .local _ .vmem, ⟨0, _⟩ => ⟨S128x2816, .bf16⟩
  | .local _ .vmem, ⟨1, _⟩ => ⟨S128x2816, .bf16⟩
  | .local _ .vmem, ⟨2, _⟩ => ⟨S128x2816, .bf16⟩
  | .local _ .vmem, ⟨3, _⟩ => ⟨S128x2816, .bf16⟩
  | .local _ .vmem, ⟨4, _⟩ => ⟨S128x2816, .bf16⟩
  | .local _ .vmem, ⟨5, _⟩ => ⟨S128x2816, .bf16⟩
  | .local _ .vmem, ⟨6, _⟩ => ⟨S128x5632, .bf16⟩
  | .local _ .vmem, ⟨7, _⟩ => ⟨S128x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S128x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference31Ideal.lean ====
abbrev S4096x2816 : Shape := ⟨2, ![4096, 2816]⟩
abbrev S_ : Shape := ⟨0, ![]⟩
abbrev S4096x5632 : Shape := ⟨2, ![4096, 5632]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel32.lean ====
abbrev S4096x4096 : Shape := ⟨2, ![4096, 4096]⟩
abbrev S4096x1024 : Shape := ⟨2, ![4096, 1024]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference32Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel33.lean ====
abbrev S4096x4096 : Shape := ⟨2, ![4096, 4096]⟩
abbrev S4096x1024 : Shape := ⟨2, ![4096, 1024]⟩
abbrev S256x512 : Shape := ⟨2, ![256, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference33Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Half.lean ====
/-
  The factor of one half.
-/
module

public import Idealize.ShloMosaic.Lib.Pipeline.ValueKit.Point
public import Idealize.ShloMosaic.Lib.Pipeline.ReadBack
public import Idealize.ShloMosaic.Lib.Pipeline.ValueKit.Acc
public import proofs.«01_k».proof.Defs
public import Idealize.ShloMosaic.PureOps
public import Idealize.ShloMosaic.Lib.Pointwise

@[expose] public section

noncomputable section

open Idealize.ShloMosaic

namespace Cert.Proof

/-- The constant one half. -/
def half : EReal := (Scalar.ofBits .f32 0x3F000000#32 : Ideal .f32)

theorem half_eq : Ideal.ofBits .f32 0x3F000000#32 = ((2⁻¹ : ℝ) : EReal) := by
  simp [Ideal.ofBits, Ideal.ieee, -EReal.coe_mul]
  norm_num

/-- A real factor that is not negative comes out of a sum on the right. -/
theorem sum_mul_coe {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- One half comes out of a product's left factor. -/
theorem half_sum {n : ℕ} (f g : Fin n → EReal) :
    (∑ k, Ideal.ofBits .f32 0x3F000000#32 * f k * g k) = (∑ k, f k * g k) * Ideal.ofBits .f32 0x3F000000#32 := by
  rw [half_eq, sum_mul_coe _ _ _ (by norm_num)]
  exact Finset.sum_congr rfl fun k _ => by rw [mul_assoc, mul_comm]

/-- One half comes out of a product's right factor. -/
theorem sum_half {n : ℕ} (f g : Fin n → EReal) :
    (∑ k, f k * (Ideal.ofBits .f32 0x3F000000#32 * g k)) = (∑ k, f k * g k) * Ideal.ofBits .f32 0x3F000000#32 := by
  rw [half_eq, sum_mul_coe _ _ _ (by norm_num)]
  exact Finset.sum_congr rfl fun k _ => by rw [mul_comm ((2⁻¹ : ℝ) : EReal), mul_assoc]

/-- A sum with its second part halved, whichever way round. -/
theorem add_half (r s : EReal) : r + Ideal.ofBits .f32 0x3F000000#32 * s = r + s * Ideal.ofBits .f32 0x3F000000#32 := by
  rw [mul_comm]

end Cert.Proof

end
-- ==== Proof.K2.lean ====
/-
  The gradient of a feed-forward layer's first weights.
-/
module

public import proofs.«01_k».proof.Proof.Gen.Kernel2Ideal.Value
public import proofs.«01_k».proof.Proof.Gen.Reference2Ideal.Run
public import proofs.«01_k».proof.Proof.Half

@[expose] public section

noncomputable section

open Idealize.ShloMosaic Idealize.ShloMosaic.TcCoe Idealize.SL.Sem

namespace Cert.Proof.K2

open Cert.Kernel2Ideal Cert.Kernel2Ideal.Gen

/-- The product, every entry summed at once. -/
def prod (a : S4096x5632.Idx → EReal) (b : S4096x1024.Idx → EReal) : S5632x1024.Idx → EReal :=
  fun j => (∑ k : Fin 4096, a (ix2 k (j 0)) * b (ix2 k (j 1)))

/-- What one grid point leaves. -/
theorem point (x0 : Vec Ideal S4096x1408 .bf16) (x1 : Vec Ideal S4096x512 .bf16) (i : Fin 1408) (q : Fin 512) :
    out0_2 x0 x1 (ix2 i q) = ((∑ k : Fin 4096, x0 (ix2 k i) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![0, t.val / 2] ∧ win0_1.index t = ![0, t.val % 2] ∧ win0_2.index t = ![t.val / 2, t.val % 2] := by
  change ∀ t : Fin grid0.N, _
  decide +kernel

variable (t : Fin cfg0.N)

theorem rd0 (k : Fin 4096) (i : Fin 1408) (h : 1408 * (t.val / 2) + i.val < 5632) :
    (iblk m c 0 t : Vec Ideal S4096x1408 .bf16) (ix2 k i) = m ((c : Thread nD τ).loc main_arg0) (ix2 k ⟨1408 * (t.val / 2) + i.val, h⟩) := by
  blk_ext [iblk, V, ix t]

theorem rd1 (k : Fin 4096) (q : Fin 512) (h : 512 * (t.val % 2) + q.val < 1024) :
    (iblk m c 1 t : Vec Ideal S4096x512 .bf16) (ix2 k q) = m ((c : Thread nD τ).loc main_arg1) (ix2 k ⟨512 * (t.val % 2) + q.val, h⟩) := by
  blk_ext [iblk, V, ix t]

theorem emb (G : S5632x1024.Idx → EReal) (i : Fin 1408) (q : Fin 512) (h : 1408 * (t.val / 2) + i.val < 5632) (h' : 512 * (t.val % 2) + q.val < 1024) :
    G (((cfg0.win 2).blk t).view.emb (ix2 i q)) = G (ix2 ⟨1408 * (t.val / 2) + i.val, h⟩ ⟨512 * (t.val % 2) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1408) (q : Fin 512), y = ix2 i q := ⟨y 0, y 1, eq_ix2 y⟩
  have ht : t.val < 8 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference2Ideal (hReference2Ideal := Reference2Ideal.Gen.facts) := by
  intro m ρ _
  exact (θ_run Reference2Ideal.defs _ _).mono (fun r h => ⟨fun c => (h c).2, sem_eq_zero_of_no_sems (by decide) r.2⟩)
    (Reference2Ideal.Value.run m ρ)

theorem equal : algebraic_Kernel2Ideal_Reference2Ideal (hKernel2Ideal := Kernel2Ideal.Gen.facts)
    (hReference2Ideal := Reference2Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel2Ideal.Value.run_blocks m g)
    obtain ⟨h0, h1⟩ := h c
    exact ⟨h0.trans (arr m c), h1⟩
  · refine (θ_run _ _ _).mono (fun r h c => ?_) (Reference2Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K2

end
-- ==== Proof.K3.lean ====
/-
  The gradient of a feed-forward layer's input.
-/
module

public import proofs.«01_k».proof.Proof.Gen.Kernel3Ideal.Value
public import proofs.«01_k».proof.Proof.Gen.Reference3Ideal.Run
public import proofs.«01_k».proof.Proof.Half

@[expose] public section

noncomputable section

open Idealize.ShloMosaic Idealize.ShloMosaic.TcCoe Idealize.SL.Sem

namespace Cert.Proof.K3

open Cert.Kernel3Ideal Cert.Kernel3Ideal.Gen

/-- The product, every entry summed at once. -/
def prod (a : S4096x5632.Idx → EReal) (b : S5632x1024.Idx → EReal) : S4096x1024.Idx → EReal :=
  fun j => (∑ k : Fin 5632, a (ix2 (j 0) k) * b (ix2 k (j 1)))

/-- What one grid point leaves. -/
theorem point (x0 : Vec Ideal S1024x5632 .bf16) (x1 : Vec Ideal S5632x512 .bf16) (x2 : Vec Ideal S8x128 .f32) (i : Fin 1024) (q : Fin 512) :
    out0_3 x0 x1 x2 (ix2 i q) = ((∑ k : Fin 5632, x0 (ix2 i k) * x1 (ix2 k q)) : EReal) := by
  unfold out0_3
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 2, 0] ∧ win0_1.index t = ![0, t.val % 2] ∧ win0_3.index t = ![t.val / 2, t.val % 2] := by
  change ∀ t : Fin grid0.N, _
  decide +kernel

variable (t : Fin cfg0.N)

theorem rd0 (k : Fin 5632) (i : Fin 1024) (h : 1024 * (t.val / 2) + i.val < 4096) :
    (iblk m c 0 t : Vec Ideal S1024x5632 .bf16) (ix2 i k) = m ((c : Thread nD τ).loc main_arg0) (ix2 ⟨1024 * (t.val / 2) + i.val, h⟩ k) := by
  blk_ext [iblk, V, ix t]

theorem rd1 (k : Fin 5632) (q : Fin 512) (h : 512 * (t.val % 2) + q.val < 1024) :
    (iblk m c 1 t : Vec Ideal S5632x512 .bf16) (ix2 k q) = m ((c : Thread nD τ).loc main_arg1) (ix2 k ⟨512 * (t.val % 2) + q.val, h⟩) := by
  blk_ext [iblk, V, ix t]

theorem emb (G : S4096x1024.Idx → EReal) (i : Fin 1024) (q : Fin 512) (h : 1024 * (t.val / 2) + i.val < 4096) (h' : 512 * (t.val % 2) + q.val < 1024) :
    G (((cfg0.win 3).blk t).view.emb (ix2 i q)) = G (ix2 ⟨1024 * (t.val / 2) + i.val, h⟩ ⟨512 * (t.val % 2) + q.val, h'⟩) := by
  blk_ext [ix t]

theorem arr : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp
  rw [after0_3]
  obtain ⟨i, q, rfl⟩ : ∃ (i : Fin 1024) (q : Fin 512), y = ix2 i q := ⟨y 0, y 1, eq_ix2 y⟩
  have ht : t.val < 8 := t.isLt
  refine (point _ _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference3Ideal (hReference3Ideal := Reference3Ideal.Gen.facts) := by
  intro m ρ _
  exact (θ_run Reference3Ideal.defs _ _).mono (fun r h => ⟨fun c => (h c).2, sem_eq_zero_of_no_sems (by decide) r.2⟩)
    (Reference3Ideal.Value.run m ρ)

theorem equal : algebraic_Kernel3Ideal_Reference3Ideal (hKernel3Ideal := Kernel3Ideal.Gen.facts)
    (hReference3Ideal := Reference3Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel3Ideal.Value.run_blocks m g)
    obtain ⟨h0, h1⟩ := h c
    exact ⟨h0.trans (arr m c), h1⟩
  · refine (θ_run _ _ _).mono (fun r h c => ?_) (Reference3Ideal.Value.run m' g')
    obtain ⟨h0, h1⟩ := h c
    obtain ⟨e0, e1, e2⟩ := hagree c
    refine ⟨h0.trans ?_, h1⟩
    rw [e0, e1]
    funext j
    pointwise [prod]
    first | done | rfl

end Cert.Proof.K3

end
-- ==== Proof.K4.lean ====
/-
  The gradient of a feed-forward layer's gated activations.
-/
module

public import proofs.«01_k».proof.Proof.Gen.Kernel4Ideal.Value
public import proofs.«01_k».proof.Proof.Gen.Reference4Ideal.Run
public import proofs.«01_k».proof.Proof.Half

@[expose] public section

noncomputable section

open Idealize.ShloMosaic Idealize.ShloMosaic.TcCoe Idealize.SL.Sem

namespace Cert.Proof.K4

open Cert.Kernel4Ideal Cert.Kernel4Ideal.Gen

/-- The product, every entry summed at once. -/
def prod (a : S4096x1024.Idx → EReal) (b : S2816x1024.Idx → EReal) : S4096x2816.Idx → EReal :=
  fun j => (∑ k : Fin 1024, a (ix2 (j 0) k) * b (ix2 (j 1) k)) * half

/-- What one grid point leaves. -/
theorem point (x0 : Vec Ideal S1024x1024 .f32) (x1 : Vec Ideal S1408x1024 .bf16) (x2 : Vec Ideal S8x128 .f32) (i : Fin 1024) (q : Fin 1408) :
    out0_3 x0 x1 x2 (ix2 i q) = ((∑ k : Fin 1024, x0 (ix2 i k) * x1 (ix2 q k)) * half : EReal) := by
  unfold out0_3
  simp (disch := decide) only [View.canon_cons_unit_lit', View.ld_unit_lit']
  pointwise [k0_pay1, half]

variable (m : (ℓ : Loc nD τ sig) → Buf (Elt Ideal) ℓ) (c : Dev nD)

theorem ix : ∀ t : Fin cfg0.N, win0_0.index t = ![t.val / 2, 0] ∧ win0_1.index t = ![t.val % 2, 0] ∧ win0_3.index t = ![t.val / 2, t.val % 2] := by
  change ∀ t : Fin grid0.N, _
  decide +kernel

variable (t : Fin cfg0.N)

theorem rd0 (k : Fin 1024) (i : Fin 1024) (h : 1024 * (t.val / 2) + i.val < 4096) :
    (iblk m c 0 t : Vec Ideal S1024x1024 .f32) (ix2 i k) = m ((c : Thread nD τ).loc main_arg0) (ix2 ⟨1024 * (t.val / 2) + i.val, h⟩ k) := by
  blk_ext [iblk, V, ix t]

theorem rd1 (k : Fin 1024) (q : Fin 1408) (h : 1408 * (t.val % 2) + q.val < 2816) :
    (iblk m c 1 t : Vec Ideal S1408x1024 .bf16) (ix2 q k) = m ((c : Thread nD τ).loc main_arg1) (ix2 ⟨1408 * (t.val % 2) + q.val, h⟩ k) := by
  blk_ext [iblk, V, ix t]

theorem emb (G : S4096x2816.Idx → EReal) (i : Fin 1024) (q : Fin 1408) (h : 1024 * (t.val / 2) + i.val < 4096) (h' : 1408 * (t.val % 2) + q.val < 2816) :
    G (((cfg0.win 3).blk t).view.emb (ix2 i q)) = G (ix2 ⟨1024 * (t.val / 2) + i.val, h⟩ ⟨1408 * (t.val % 2) + q.val, h'⟩) := by
  blk_ext [ix t]

theorem arr : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp
  rw [after0_3]
  obtain ⟨i, q, rfl⟩ : ∃ (i : Fin 1024) (q : Fin 1408), y = ix2 i q := ⟨y 0, y 1, eq_ix2 y⟩
  have ht : t.val < 8 := t.isLt
  refine (point _ _ _ i q).trans (Eq.trans ?_ (emb t _ i q (by omega) (by omega)).symm)
  exact congrArg (· * half) (Finset.sum_congr rfl fun k _ => congrArg₂ (· * ·) (rd0 m c t k i (by omega)) (rd1 m c t k q (by omega)))

theorem frame_r : quiescent_Reference4Ideal (hReference4Ideal := Reference4Ideal.Gen.facts) := by
  intro m ρ _
  exact (θ_run Reference4Ideal.defs _ _).mono (fun r h => ⟨fun c => (h c).2, sem_eq_zero_of_no_sems (by decide) r.2⟩)
    (Reference4Ideal.Value.run m ρ)

theorem equal : algebraic_Kernel4Ideal_Reference4Ideal (hKernel4Ideal := Kernel4Ideal.Gen.facts)
    (hReference4Ideal := Reference4Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel4Ideal.Value.run_blocks m g)
    obtain ⟨h0, h1⟩ := h c
    exact ⟨h0.trans (arr m c), h1⟩
  · refine (θ_run _ _ _).mono (fun r h c => ?_) (Reference4Ideal.Value.run m' g')
    obtain ⟨h0, h1⟩ := h c
    obtain ⟨e0, e1, e2⟩ := hagree c
    refine ⟨h0.trans ?_, h1⟩
    rw [e0, e1]
    funext j
    pointwise [prod, half]
    exact half_sum _ _

end Cert.Proof.K4

end
-- ==== Proof.K5.lean ====
/-
  The gradient of a feed-forward layer's output weight: half the product of the activations and
  the cotangent over all rows, summed in two halves of the rows.
-/
module

public import proofs.«01_k».proof.Proof.Gen.Kernel5Ideal.Value
public import proofs.«01_k».proof.Proof.Gen.Reference5Ideal.Run
public import proofs.«01_k».proof.Proof.Half

@[expose] public section

noncomputable section

open Idealize.ShloMosaic Idealize.ShloMosaic.TcCoe Idealize.SL.Sem

namespace Cert.Proof.K5

open Cert.Kernel5Ideal Cert.Kernel5Ideal.Gen

/-- The product, every entry summed at once. -/
def prod (a : S4096x2816.Idx → EReal) (b : S4096x1024.Idx → EReal) : S2816x1024.Idx → EReal :=
  fun j => (∑ k : Fin 4096, a (ix2 k (j 0)) * b (ix2 k (j 1))) * half

/-- The product of two blocks. -/
def part (x : S2048x1408.Idx → EReal) (y : S2048x1024.Idx → EReal) (i : Fin 1408) (q : Fin 1024) : EReal := ∑ k : Fin 2048, x (ix2 k i) * y (ix2 k q)

/-- The product over one half of the rows. -/
def slab (a : S4096x2816.Idx → EReal) (b : S4096x1024.Idx → EReal) (r : ℕ) (h : r < 2) (i : Fin 2816) (q : Fin 1024) : EReal :=
  ∑ k : Fin 2048, a (ix2 ⟨2048 * r + k.val, by omega⟩ i) * b (ix2 ⟨2048 * r + k.val, by omega⟩ q)

/-- The whole product from its halves. -/
theorem prod_slabs (a : S4096x2816.Idx → EReal) (b : S4096x1024.Idx → EReal) (i : Fin 2816) (q : Fin 1024) :
    prod a b (ix2 i q) = (slab a b 0 (by decide) i q + slab a b 1 (by decide) i q) * half := by
  refine congrArg (· * half) ((Fin.sum_univ_add (a := 2048) (b := 2048) fun k : Fin 4096 => a (ix2 k i) * b (ix2 k q)).trans ?_)
  refine congrArg₂ (· + ·) (Finset.sum_congr rfl fun k _ => ?_) rfl
  have e : (Fin.castAdd 2048 k : Fin 4096) = ⟨2048 * 0 + k.val, by omega⟩ := Fin.ext (by simp)
  rw [e]

section
variable (x0 : Vec Ideal S2048x1408 .bf16) (x1 : Vec Ideal S2048x1024 .f32) (acc : Vec Ideal S1408x1024 .f32) (i : Fin 1408) (q : Fin 1024)
theorem point2 : k0_pay2 x0 x1 (ix2 i q) = part x0 x1 i q := by
  pointwise [k0_pay2, k0_pay1, part]
theorem point3 : k0_pay3 x0 x1 acc (ix2 i q) = acc (ix2 i q) + part x0 x1 i q := by
  pointwise [k0_pay3, k0_pay1, part]
theorem point4 : k0_pay4 acc (ix2 i q) = acc (ix2 i q) * half := by
  pointwise [k0_pay4, half]
end

variable (m : (ℓ : Loc nD τ sig) → Buf (Elt Ideal) ℓ) (c : Dev nD)

theorem ix : ∀ t : Fin cfg0.N, win0_0.index t = ![t.val % 2, t.val / 2] ∧ win0_1.index t = ![t.val % 2, 0] ∧ win0_2.index t = ![t.val / 2, 0] := by
  change ∀ t : Fin grid0.N, _
  decide +kernel

variable (t : Fin cfg0.N)

theorem rd0 (k : Fin 2048) (i : Fin 1408) (h : 2048 * (t.val % 2) + k.val < 4096) (h' : 1408 * (t.val / 2) + i.val < 2816) :
    (iblk m c 0 t : Vec Ideal S2048x1408 .bf16) (ix2 k i) = m ((c : Thread nD τ).loc main_arg0) (ix2 ⟨2048 * (t.val % 2) + k.val, h⟩ ⟨1408 * (t.val / 2) + i.val, h'⟩) := by
  blk_ext [iblk, V, ix t]

theorem rd1 (k : Fin 2048) (q : Fin 1024) (h : 2048 * (t.val % 2) + k.val < 4096) :
    (iblk m c 1 t : Vec Ideal S2048x1024 .f32) (ix2 k q) = m ((c : Thread nD τ).loc main_arg1) (ix2 ⟨2048 * (t.val % 2) + k.val, h⟩ q) := by
  blk_ext [iblk, V, ix t]

theorem part_eq (i : Fin 1408) (q : Fin 1024) (h : t.val % 2 < 2) (h' : 1408 * (t.val / 2) + i.val < 2816) :
    part (iblk m c 0 t) (iblk m c 1 t) i q = slab (m ((c : Thread nD τ).loc main_arg0)) (m ((c : Thread nD τ).loc main_arg1)) (t.val % 2) h ⟨1408 * (t.val / 2) + i.val, h'⟩ q :=
  Finset.sum_congr rfl fun k _ => congrArg₂ (· * ·) (rd0 m c t k i (by omega) h') (rd1 m c t k q (by omega))

/-- After a point of the first half the scratch holds that half's product. -/
theorem first (h0 : t.val % 2 = 0) (i : Fin 1408) (q : Fin 1024) :
    (outsAt0 m c t.val t.isLt).2 (ix2 i q) = part (iblk m c 0 t) (iblk m c 1 t) i q := by
  rw [outsAt0_A m c t h0 (by omega) (by omega)]
  frame_out
  exact point2 _ _ i q

/-- A point of the second half leaves half of the two halves' sum. -/
theorem second (h0 : t.val % 2 = 1) (hp : t.val - 1 < cfg0.N) (i : Fin 1408) (q : Fin 1024) :
    (outsAt0 m c t.val t.isLt).1 (ix2 i q) = ((part (iblk m c 0 ⟨t.val - 1, hp⟩) (iblk m c 1 ⟨t.val - 1, hp⟩) i q + part (iblk m c 0 t) (iblk m c 1 t) i q) * half : EReal) := by
  have key := first m c ⟨t.val - 1, hp⟩ (by show (t.val - 1) % 2 = 0; omega) i q
  rw [outsAt0_B m c t (by omega) h0 h0]
  frame_out
  simp only [read_unread_whole]
  refine (point4 _ i q).trans (congrArg (· * half) ?_)
  refine (point3 _ _ _ i q).trans (congrArg (· + _) ?_)
  exact key

theorem emb (G : S2816x1024.Idx → EReal) (i : Fin 1408) (q : Fin 1024) (h : 1408 * (t.val / 2) + i.val < 2816) :
    G (((cfg0.win 2).blk t).view.emb (ix2 i q)) = G (ix2 ⟨1408 * (t.val / 2) + i.val, h⟩ q) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  blk_simp
  rw [after0_2]
  obtain ⟨i, q, rfl⟩ : ∃ (i : Fin 1408) (q : Fin 1024), y = ix2 i q := ⟨y 0, y 1, eq_ix2 y⟩
  have ht : t.val < 4 := t.isLt
  have hp : t.val - 1 < cfg0.N := Nat.lt_of_le_of_lt (Nat.sub_le _ _) t.isLt
  have hm : (t.val - 1) % 2 = 0 := by omega
  have hd : (t.val - 1) / 2 = t.val / 2 := by omega
  refine (second m c t h1 hp i q).trans (Eq.trans ?_ (emb t (prod _ _) i q (by omega)).symm)
  rw [prod_slabs, part_eq m c t i q (by omega) (by omega),
    part_eq m c ⟨t.val - 1, hp⟩ i q (by show (t.val - 1) % 2 < 2; omega) (by show 1408 * ((t.val - 1) / 2) + i.val < 2816; omega)]
  simp only [hm, hd, h1]

theorem frame_r : quiescent_Reference5Ideal (hReference5Ideal := Reference5Ideal.Gen.facts) := by
  intro m ρ _
  exact (θ_run Reference5Ideal.defs _ _).mono (fun r h => ⟨fun c => (h c).2, sem_eq_zero_of_no_sems (by decide) r.2⟩)
    (Reference5Ideal.Value.run m ρ)

theorem equal : algebraic_Kernel5Ideal_Reference5Ideal (hKernel5Ideal := Kernel5Ideal.Gen.facts)
    (hReference5Ideal := Reference5Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel5Ideal.Value.run_blocks m g)
    obtain ⟨h0, h1⟩ := h c
    exact ⟨h0.trans (arr m c), h1⟩
  · refine (θ_run _ _ _).mono (fun r h c => ?_) (Reference5Ideal.Value.run m' g')
    obtain ⟨h0, h1⟩ := h c
    obtain ⟨e0, e1⟩ := hagree c
    refine ⟨h0.trans ?_, h1⟩
    rw [e0, e1]
    funext j
    pointwise [prod, half]
    exact (half_sum _ _).trans (congrArg (· * half) (Finset.sum_congr rfl fun k _ => mul_comm _ _))

end Cert.Proof.K5

end
-- ==== Proof.K6.lean ====
/-
  The gradient of the mixer's projection weights, for a block of 1024 columns.
-/
module

public import proofs.«01_k».proof.Proof.Gen.Kernel6Ideal.Value
public import proofs.«01_k».proof.Proof.Gen.Reference6Ideal.Run
public import proofs.«01_k».proof.Proof.Half

@[expose] public section

noncomputable section

open Idealize.ShloMosaic Idealize.ShloMosaic.TcCoe Idealize.SL.Sem

namespace Cert.Proof.K6

open Cert.Kernel6Ideal Cert.Kernel6Ideal.Gen

/-- The product, every entry summed at once. -/
def prod (a : S4096x1024.Idx → EReal) (b : S4096x1024.Idx → EReal) : S1024x1024.Idx → EReal :=
  fun j => (∑ k : Fin 4096, a (ix2 k (j 0)) * b (ix2 k (j 1)))

/-- What one grid point leaves. -/
theorem point (x0 : Vec Ideal S4096x1024 .bf16) (x1 : Vec Ideal S4096x1024 .bf16) (i : Fin 1024) (q : Fin 1024) :
    out0_2 x0 x1 (ix2 i q) = ((∑ k : Fin 4096, x0 (ix2 k i) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![0, t.val / 1] ∧ win0_1.index t = ![0, t.val % 1] ∧ win0_2.index t = ![t.val / 1, t.val % 1] := by
  change ∀ t : Fin grid0.N, _
  decide +kernel

variable (t : Fin cfg0.N)

theorem rd0 (k : Fin 4096) (i : Fin 1024) (h : 1024 * (t.val / 1) + i.val < 1024) :
    (iblk m c 0 t : Vec Ideal S4096x1024 .bf16) (ix2 k i) = m ((c : Thread nD τ).loc main_arg0) (ix2 k ⟨1024 * (t.val / 1) + i.val, h⟩) := by
  blk_ext [iblk, V, ix t]

theorem rd1 (k : Fin 4096) (q : Fin 1024) (h : 1024 * (t.val % 1) + q.val < 1024) :
    (iblk m c 1 t : Vec Ideal S4096x1024 .bf16) (ix2 k q) = m ((c : Thread nD τ).loc main_arg1) (ix2 k ⟨1024 * (t.val % 1) + q.val, h⟩) := by
  blk_ext [iblk, V, ix t]

theorem emb (G : S1024x1024.Idx → EReal) (i : Fin 1024) (q : Fin 1024) (h : 1024 * (t.val / 1) + i.val < 1024) (h' : 1024 * (t.val % 1) + q.val < 1024) :
    G (((cfg0.win 2).blk t).view.emb (ix2 i q)) = G (ix2 ⟨1024 * (t.val / 1) + i.val, h⟩ ⟨1024 * (t.val % 1) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 1 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference6Ideal (hReference6Ideal := Reference6Ideal.Gen.facts) := by
  intro m ρ _
  exact (θ_run Reference6Ideal.defs _ _).mono (fun r h => ⟨fun c => (h c).2, sem_eq_zero_of_no_sems (by decide) r.2⟩)
    (Reference6Ideal.Value.run m ρ)

theorem equal : algebraic_Kernel6Ideal_Reference6Ideal (hKernel6Ideal := Kernel6Ideal.Gen.facts)
    (hReference6Ideal := Reference6Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel6Ideal.Value.run_blocks m g)
    obtain ⟨h0, h1⟩ := h c
    exact ⟨h0.trans (arr m c), h1⟩
  · refine (θ_run _ _ _).mono (fun r h c => ?_) (Reference6Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K6

end
-- ==== Proof.K7.lean ====
/-
  The gradient of the mixer's projection weights, for the 4096 columns that feed the convolution.
-/
module

public import proofs.«01_k».proof.Proof.Gen.Kernel7Ideal.Value
public import proofs.«01_k».proof.Proof.Gen.Reference7Ideal.Run
public import proofs.«01_k».proof.Proof.Half

@[expose] public section

noncomputable section

open Idealize.ShloMosaic Idealize.ShloMosaic.TcCoe Idealize.SL.Sem

namespace Cert.Proof.K7

open Cert.Kernel7Ideal Cert.Kernel7Ideal.Gen

/-- The product, every entry summed at once. -/
def prod (a : S4096x4096.Idx → EReal) (b : S4096x1024.Idx → EReal) : S4096x1024.Idx → EReal :=
  fun j => (∑ k : Fin 4096, a (ix2 k (j 0)) * b (ix2 k (j 1)))

/-- What one grid point leaves. -/
theorem point (x0 : Vec Ideal S4096x1024 .bf16) (x1 : Vec Ideal S4096x1024 .bf16) (i : Fin 1024) (q : Fin 1024) :
    out0_2 x0 x1 (ix2 i q) = ((∑ k : Fin 4096, x0 (ix2 k i) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![0, t.val / 1] ∧ win0_1.index t = ![0, t.val % 1] ∧ win0_2.index t = ![t.val / 1, t.val % 1] := by
  change ∀ t : Fin grid0.N, _
  decide +kernel

variable (t : Fin cfg0.N)

theorem rd0 (k : Fin 4096) (i : Fin 1024) (h : 1024 * (t.val / 1) + i.val < 4096) :
    (iblk m c 0 t : Vec Ideal S4096x1024 .bf16) (ix2 k i) = m ((c : Thread nD τ).loc main_arg0) (ix2 k ⟨1024 * (t.val / 1) + i.val, h⟩) := by
  blk_ext [iblk, V, ix t]

theorem rd1 (k : Fin 4096) (q : Fin 1024) (h : 1024 * (t.val % 1) + q.val < 1024) :
    (iblk m c 1 t : Vec Ideal S4096x1024 .bf16) (ix2 k q) = m ((c : Thread nD τ).loc main_arg1) (ix2 k ⟨1024 * (t.val % 1) + q.val, h⟩) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 2).blk t).view.emb (ix2 i q)) = G (ix2 ⟨1024 * (t.val / 1) + i.val, h⟩ ⟨1024 * (t.val % 1) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 4 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference7Ideal (hReference7Ideal := Reference7Ideal.Gen.facts) := by
  intro m ρ _
  exact (θ_run Reference7Ideal.defs _ _).mono (fun r h => ⟨fun c => (h c).2, sem_eq_zero_of_no_sems (by decide) r.2⟩)
    (Reference7Ideal.Value.run m ρ)

theorem equal : algebraic_Kernel7Ideal_Reference7Ideal (hKernel7Ideal := Kernel7Ideal.Gen.facts)
    (hReference7Ideal := Reference7Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel7Ideal.Value.run_blocks m g)
    obtain ⟨h0, h1⟩ := h c
    exact ⟨h0.trans (arr m c), h1⟩
  · refine (θ_run _ _ _).mono (fun r h c => ?_) (Reference7Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K7

end
-- ==== Proof.K8.lean ====
/-
  The gradient of the mixer's projection weights, for the 2048 columns of the output gate.
-/
module

public import proofs.«01_k».proof.Proof.Gen.Kernel8Ideal.Value
public import proofs.«01_k».proof.Proof.Gen.Reference8Ideal.Run
public import proofs.«01_k».proof.Proof.Half

@[expose] public section

noncomputable section

open Idealize.ShloMosaic Idealize.ShloMosaic.TcCoe Idealize.SL.Sem

namespace Cert.Proof.K8

open Cert.Kernel8Ideal Cert.Kernel8Ideal.Gen

/-- The product, every entry summed at once. -/
def prod (a : S4096x2048.Idx → EReal) (b : S4096x1024.Idx → EReal) : S2048x1024.Idx → EReal :=
  fun j => (∑ k : Fin 4096, a (ix2 k (j 0)) * b (ix2 k (j 1)))

/-- What one grid point leaves. -/
theorem point (x0 : Vec Ideal S4096x1024 .bf16) (x1 : Vec Ideal S4096x1024 .bf16) (i : Fin 1024) (q : Fin 1024) :
    out0_2 x0 x1 (ix2 i q) = ((∑ k : Fin 4096, x0 (ix2 k i) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![0, t.val / 1] ∧ win0_1.index t = ![0, t.val % 1] ∧ win0_2.index t = ![t.val / 1, t.val % 1] := by
  change ∀ t : Fin grid0.N, _
  decide +kernel

variable (t : Fin cfg0.N)

theorem rd0 (k : Fin 4096) (i : Fin 1024) (h : 1024 * (t.val / 1) + i.val < 2048) :
    (iblk m c 0 t : Vec Ideal S4096x1024 .bf16) (ix2 k i) = m ((c : Thread nD τ).loc main_arg0) (ix2 k ⟨1024 * (t.val / 1) + i.val, h⟩) := by
  blk_ext [iblk, V, ix t]

theorem rd1 (k : Fin 4096) (q : Fin 1024) (h : 1024 * (t.val % 1) + q.val < 1024) :
    (iblk m c 1 t : Vec Ideal S4096x1024 .bf16) (ix2 k q) = m ((c : Thread nD τ).loc main_arg1) (ix2 k ⟨1024 * (t.val % 1) + q.val, h⟩) := by
  blk_ext [iblk, V, ix t]

theorem emb (G : S2048x1024.Idx → EReal) (i : Fin 1024) (q : Fin 1024) (h : 1024 * (t.val / 1) + i.val < 2048) (h' : 1024 * (t.val % 1) + q.val < 1024) :
    G (((cfg0.win 2).blk t).view.emb (ix2 i q)) = G (ix2 ⟨1024 * (t.val / 1) + i.val, h⟩ ⟨1024 * (t.val % 1) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 2 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference8Ideal (hReference8Ideal := Reference8Ideal.Gen.facts) := by
  intro m ρ _
  exact (θ_run Reference8Ideal.defs _ _).mono (fun r h => ⟨fun c => (h c).2, sem_eq_zero_of_no_sems (by decide) r.2⟩)
    (Reference8Ideal.Value.run m ρ)

theorem equal : algebraic_Kernel8Ideal_Reference8Ideal (hKernel8Ideal := Kernel8Ideal.Gen.facts)
    (hReference8Ideal := Reference8Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel8Ideal.Value.run_blocks m g)
    obtain ⟨h0, h1⟩ := h c
    exact ⟨h0.trans (arr m c), h1⟩
  · refine (θ_run _ _ _).mono (fun r h c => ?_) (Reference8Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K8

end
-- ==== Proof.K9.lean ====
/-
  A feed-forward layer's second product, scaled and added to the stream.
-/
module

public import proofs.«01_k».proof.Proof.Gen.Kernel9Ideal.Value
public import proofs.«01_k».proof.Proof.Gen.Reference9Ideal.Run
public import proofs.«01_k».proof.Proof.Half

@[expose] public section

noncomputable section

open Idealize.ShloMosaic Idealize.ShloMosaic.TcCoe Idealize.SL.Sem

namespace Cert.Proof.K9

open Cert.Kernel9Ideal Cert.Kernel9Ideal.Gen

/-- The product, every entry summed at once. -/
def prod (a : S4096x2816.Idx → EReal) (b : S2816x1024.Idx → EReal) (r : S4096x1024.Idx → EReal) : S4096x1024.Idx → EReal :=
  fun j => r j + (∑ k : Fin 2816, a (ix2 (j 0) k) * b (ix2 k (j 1))) * half

/-- What one grid point leaves. -/
theorem point (x0 : Vec Ideal S1024x2816 .bf16) (x1 : Vec Ideal S2816x1024 .bf16) (x2 : Vec Ideal S1024x1024 .f32) (i : Fin 1024) (q : Fin 1024) :
    out0_3 x0 x1 x2 (ix2 i q) = (x2 (ix2 i q) + (∑ k : Fin 2816, x0 (ix2 i k) * x1 (ix2 k q)) * half : EReal) := by
  unfold out0_3
  simp (disch := decide) only [View.canon_cons_unit_lit', View.ld_unit_lit']
  pointwise [k0_pay1, half]

variable (m : (ℓ : Loc nD τ sig) → Buf (Elt Ideal) ℓ) (c : Dev nD)

theorem ix : ∀ t : Fin cfg0.N, win0_0.index t = ![t.val / 1, 0] ∧ win0_1.index t = ![0, t.val % 1] ∧ win0_2.index t = ![t.val / 1, t.val % 1] ∧ win0_3.index t = ![t.val / 1, t.val % 1] := by
  change ∀ t : Fin grid0.N, _
  decide +kernel

variable (t : Fin cfg0.N)

theorem rd0 (k : Fin 2816) (i : Fin 1024) (h : 1024 * (t.val / 1) + i.val < 4096) :
    (iblk m c 0 t : Vec Ideal S1024x2816 .bf16) (ix2 i k) = m ((c : Thread nD τ).loc main_arg0) (ix2 ⟨1024 * (t.val / 1) + i.val, h⟩ k) := by
  blk_ext [iblk, V, ix t]

theorem rd1 (k : Fin 2816) (q : Fin 1024) (h : 1024 * (t.val % 1) + q.val < 1024) :
    (iblk m c 1 t : Vec Ideal S2816x1024 .bf16) (ix2 k q) = m ((c : Thread nD τ).loc main_arg1) (ix2 k ⟨1024 * (t.val % 1) + q.val, h⟩) := by
  blk_ext [iblk, V, ix t]

theorem rd2 (i : Fin 1024) (q : Fin 1024) (h : 1024 * (t.val / 1) + i.val < 4096) (h' : 1024 * (t.val % 1) + q.val < 1024) :
    (iblk m c 2 t : Vec Ideal S1024x1024 .f32) (ix2 i q) = m ((c : Thread nD τ).loc main_arg2) (ix2 ⟨1024 * (t.val / 1) + i.val, h⟩ ⟨1024 * (t.val % 1) + q.val, h'⟩) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 3).blk t).view.emb (ix2 i q)) = G (ix2 ⟨1024 * (t.val / 1) + i.val, h⟩ ⟨1024 * (t.val % 1) + q.val, h'⟩) := by
  blk_ext [ix t]

theorem arr : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, q, rfl⟩ : ∃ (i : Fin 1024) (q : Fin 1024), y = ix2 i q := ⟨y 0, y 1, eq_ix2 y⟩
  have ht : t.val < 4 := t.isLt
  refine (point _ _ _ i q).trans (Eq.trans ?_ (emb t _ i q (by omega) (by omega)).symm)
  exact congrArg₂ (· + ·) (rd2 m c t i q (by omega) (by omega)) (congrArg (· * half) (Finset.sum_congr rfl fun k _ => congrArg₂ (· * ·) (rd0 m c t k i (by omega)) (rd1 m c t k q (by omega))))

theorem frame_r : quiescent_Reference9Ideal (hReference9Ideal := Reference9Ideal.Gen.facts) := by
  intro m ρ _
  exact (θ_run Reference9Ideal.defs _ _).mono (fun r h => ⟨fun c => (h c).2, sem_eq_zero_of_no_sems (by decide) r.2⟩)
    (Reference9Ideal.Value.run m ρ)

theorem equal : algebraic_Kernel9Ideal_Reference9Ideal (hKernel9Ideal := Kernel9Ideal.Gen.facts)
    (hReference9Ideal := Reference9Ideal.Gen.facts) := by
  intro m g m' g' _ hagree
  refine ⟨fun c => prod (m ((c : Thread nD τ).loc main_arg0)) (m ((c : Thread nD τ).loc main_arg1)) (m ((c : Thread nD τ).loc main_arg2)), ?_, ?_⟩
  · refine (θ_run _ _ _).mono (fun r h c => ?_) (Kernel9Ideal.Value.run_blocks m g)
    obtain ⟨h0, h1⟩ := h c
    exact ⟨h0.trans (arr m c), h1⟩
  · refine (θ_run _ _ _).mono (fun r h c => ?_) (Reference9Ideal.Value.run m' g')
    obtain ⟨h0, h1⟩ := h c
    obtain ⟨e0, e1, e2⟩ := hagree c
    refine ⟨h0.trans ?_, h1⟩
    rw [e0, e1, e2]
    funext j
    pointwise [prod, half]
    exact add_half _ _

end Cert.Proof.K9

end
-- ==== Proof.K10.lean ====
/-
  A feed-forward layer's first product and its gated activations.
-/
module

public import proofs.«01_k».proof.Proof.Gen.Kernel10Ideal.Value
public import proofs.«01_k».proof.Proof.Gen.Reference10Ideal.Run
public import proofs.«01_k».proof.Proof.Half

@[expose] public section

noncomputable section

open Idealize.ShloMosaic Idealize.ShloMosaic.TcCoe Idealize.SL.Sem

namespace Cert.Proof.K10

open Cert.Kernel10Ideal Cert.Kernel10Ideal.Gen

/-- A position among the second half of the columns. -/
abbrev up (q : Fin 2816) : Fin 5632 := ⟨2816 + q.val, by omega⟩
abbrev lo (q : Fin 2816) : Fin 5632 := ⟨q.val, by omega⟩

/-- An entry of the first half of the product. -/
def pa (n : S4096x1024.Idx → EReal) (w : S5632x1024.Idx → EReal) (i : Fin 4096) (q : Fin 2816) : EReal := ∑ k : Fin 1024, n (ix2 i k) * w (ix2 (lo q) k)
/-- An entry of the second half of the product. -/
def pb (n : S4096x1024.Idx → EReal) (w : S5632x1024.Idx → EReal) (i : Fin 4096) (q : Fin 2816) : EReal := ∑ k : Fin 1024, n (ix2 i k) * w (ix2 (up q) k)
/-- An entry of the product of two blocks. -/
def blockSum (x : S512x1024.Idx → EReal) (y : S1408x1024.Idx → EReal) (i : Fin 512) (q : Fin 1408) : EReal := ∑ k : Fin 1024, x (ix2 i k) * y (ix2 q k)
/-- The first entry through its own gate, times the second. -/
def act (a b : EReal) : EReal := a * Ideal.div 1 (1 + Ideal.exp (-a)) * b

def arrA (n : S4096x1024.Idx → EReal) (w : S5632x1024.Idx → EReal) : S4096x2816.Idx → EReal := fun j => pa n w (j 0) (j 1)
def arrB (n : S4096x1024.Idx → EReal) (w : S5632x1024.Idx → EReal) : S4096x2816.Idx → EReal := fun j => pb n w (j 0) (j 1)
def arrS (n : S4096x1024.Idx → EReal) (w : S5632x1024.Idx → EReal) : S4096x2816.Idx → EReal := fun j => act (pa n w (j 0) (j 1)) (pb n w (j 0) (j 1))

section
variable (x0 : Vec Ideal S512x1024 .bf16) (x1 : Vec Ideal S1408x1024 .bf16) (x2 : Vec Ideal S1408x1024 .bf16) (x3 : Vec Ideal S8x128 .f32) (i : Fin 512) (q : Fin 1408)

theorem point4 : out0_4 x0 x1 x2 x3 (ix2 i q) = blockSum x0 x1 i q := by
  unfold out0_4
  simp (disch := decide) only [View.canon_cons_unit_lit', View.ld_unit_lit']
  pointwise [k0_pay1, blockSum]

theorem point5 : out0_5 x0 x1 x2 x3 (ix2 i q) = blockSum x0 x2 i q := by
  unfold out0_5
  simp (disch := decide) only [View.canon_cons_unit_lit', View.ld_unit_lit']
  pointwise [k0_pay2, blockSum]

theorem point6 : out0_6 x0 x1 x2 x3 (ix2 i q) = act (blockSum x0 x1 i q) (blockSum x0 x2 i q) := by
  unfold out0_6
  simp (disch := decide) only [View.canon_cons_unit_lit', View.ld_unit_lit']
  pointwise [k0_pay3, k0_pay1, k0_pay2, act, blockSum]
  rfl
end

variable (m : (ℓ : Loc nD τ sig) → Buf (Elt Ideal) ℓ) (c : Dev nD)

theorem ix : ∀ t : Fin cfg0.N, win0_0.index t = ![t.val / 2, 0] ∧ win0_1.index t = ![t.val % 2, 0] ∧ win0_2.index t = ![t.val % 2 + 2, 0] ∧ win0_4.index t = ![t.val / 2, t.val % 2] ∧ win0_5.index t = ![t.val / 2, t.val % 2] ∧ win0_6.index t = ![t.val / 2, t.val % 2] := by
  change ∀ t : Fin grid0.N, _
  decide +kernel

variable (t : Fin cfg0.N)

theorem rd0 (k : Fin 1024) (i : Fin 512) (h : 512 * (t.val / 2) + i.val < 4096) :
    (iblk m c 0 t : Vec Ideal S512x1024 .bf16) (ix2 i k) = m ((c : Thread nD τ).loc main_arg0) (ix2 ⟨512 * (t.val / 2) + i.val, h⟩ k) := by
  blk_ext [iblk, V, ix t]

theorem rd1 (k : Fin 1024) (q : Fin 1408) (h : 1408 * (t.val % 2) + q.val < 2816) :
    (iblk m c 1 t : Vec Ideal S1408x1024 .bf16) (ix2 q k) = m ((c : Thread nD τ).loc main_arg1) (ix2 (lo ⟨1408 * (t.val % 2) + q.val, h⟩) k) := by
  blk_ext [iblk, V, ix t]

theorem rd2 (k : Fin 1024) (q : Fin 1408) (h : 1408 * (t.val % 2) + q.val < 2816) :
    (iblk m c 2 t : Vec Ideal S1408x1024 .bf16) (ix2 q k) = m ((c : Thread nD τ).loc main_arg1) (ix2 (up ⟨1408 * (t.val % 2) + q.val, h⟩) k) := by
  blk_ext [iblk, V, ix t]

theorem suma (i : Fin 512) (q : Fin 1408) (h : 512 * (t.val / 2) + i.val < 4096) (h' : 1408 * (t.val % 2) + q.val < 2816) :
    blockSum (iblk m c 0 t) (iblk m c 1 t) i q
      = pa (m ((c : Thread nD τ).loc main_arg0)) (m ((c : Thread nD τ).loc main_arg1)) ⟨512 * (t.val / 2) + i.val, h⟩ ⟨1408 * (t.val % 2) + q.val, h'⟩ :=
  Finset.sum_congr rfl fun k _ => congrArg₂ (· * ·) (rd0 m c t k i h) (rd1 m c t k q h')

theorem sumb (i : Fin 512) (q : Fin 1408) (h : 512 * (t.val / 2) + i.val < 4096) (h' : 1408 * (t.val % 2) + q.val < 2816) :
    blockSum (iblk m c 0 t) (iblk m c 2 t) i q
      = pb (m ((c : Thread nD τ).loc main_arg0)) (m ((c : Thread nD τ).loc main_arg1)) ⟨512 * (t.val / 2) + i.val, h⟩ ⟨1408 * (t.val % 2) + q.val, h'⟩ :=
  Finset.sum_congr rfl fun k _ => congrArg₂ (· * ·) (rd0 m c t k i h) (rd2 m c t k q h')

theorem emb4 (G : S4096x2816.Idx → EReal) (i : Fin 512) (q : Fin 1408) (h : 512 * (t.val / 2) + i.val < 4096) (h' : 1408 * (t.val % 2) + q.val < 2816) :
    G (((cfg0.win 4).blk t).view.emb (ix2 i q)) = G (ix2 ⟨512 * (t.val / 2) + i.val, h⟩ ⟨1408 * (t.val % 2) + q.val, h'⟩) := by
  blk_ext [ix t]

theorem arr4 : (dats m 0 c).arrAt 4 cfg0.N = arrA (m ((c : Thread nD τ).loc main_arg0)) (m ((c : Thread nD τ).loc main_arg1)) := by
  refine (dats m 0 c).arrAt_eq_of_covers 4 _ (by decide +kernel) fun t hf y => ?_
  blk_simp
  rw [after0_4]
  obtain ⟨i, q, rfl⟩ : ∃ (i : Fin 512) (q : Fin 1408), y = ix2 i q := ⟨y 0, y 1, eq_ix2 y⟩
  have ht : t.val < 16 := t.isLt
  refine (point4 _ _ _ _ i q).trans (Eq.trans ?_ (emb4 t _ i q (by omega) (by omega)).symm)
  exact suma m c t i q (by omega) (by omega)

theorem emb5 (G : S4096x2816.Idx → EReal) (i : Fin 512) (q : Fin 1408) (h : 512 * (t.val / 2) + i.val < 4096) (h' : 1408 * (t.val % 2) + q.val < 2816) :
    G (((cfg0.win 5).blk t).view.emb (ix2 i q)) = G (ix2 ⟨512 * (t.val / 2) + i.val, h⟩ ⟨1408 * (t.val % 2) + q.val, h'⟩) := by
  blk_ext [ix t]

theorem arr5 : (dats m 0 c).arrAt 5 cfg0.N = arrB (m ((c : Thread nD τ).loc main_arg0)) (m ((c : Thread nD τ).loc main_arg1)) := by
  refine (dats m 0 c).arrAt_eq_of_covers 5 _ (by decide +kernel) fun t hf y => ?_
  blk_simp
  rw [after0_5]
  obtain ⟨i, q, rfl⟩ : ∃ (i : Fin 512) (q : Fin 1408), y = ix2 i q := ⟨y 0, y 1, eq_ix2 y⟩
  have ht : t.val < 16 := t.isLt
  refine (point5 _ _ _ _ i q).trans (Eq.trans ?_ (emb5 t _ i q (by omega) (by omega)).symm)
  exact sumb m c t i q (by omega) (by omega)

theorem emb6 (G : S4096x2816.Idx → EReal) (i : Fin 512) (q : Fin 1408) (h : 512 * (t.val / 2) + i.val < 4096) (h' : 1408 * (t.val % 2) + q.val < 2816) :
    G (((cfg0.win 6).blk t).view.emb (ix2 i q)) = G (ix2 ⟨512 * (t.val / 2) + i.val, h⟩ ⟨1408 * (t.val % 2) + q.val, h'⟩) := by
  blk_ext [ix t]

theorem arr6 : (dats m 0 c).arrAt 6 cfg0.N = arrS (m ((c : Thread nD τ).loc main_arg0)) (m ((c : Thread nD τ).loc main_arg1)) := by
  refine (dats m 0 c).arrAt_eq_of_covers 6 _ (by decide +kernel) fun t hf y => ?_
  blk_simp
  rw [after0_6]
  obtain ⟨i, q, rfl⟩ : ∃ (i : Fin 512) (q : Fin 1408), y = ix2 i q := ⟨y 0, y 1, eq_ix2 y⟩
  have ht : t.val < 16 := t.isLt
  refine (point6 _ _ _ _ i q).trans (Eq.trans ?_ (emb6 t _ i q (by omega) (by omega)).symm)
  exact congrArg₂ act (suma m c t i q (by omega) (by omega)) (sumb m c t i q (by omega) (by omega))

theorem frame_r : quiescent_Reference10Ideal (hReference10Ideal := Reference10Ideal.Gen.facts) := by
  intro m ρ _
  exact (θ_run Reference10Ideal.defs _ _).mono (fun r h => ⟨fun c => (h c).2.2.2, sem_eq_zero_of_no_sems (by decide) r.2⟩)
    (Reference10Ideal.Value.run m ρ)

theorem equal : algebraic_Kernel10Ideal_Reference10Ideal (hKernel10Ideal := Kernel10Ideal.Gen.facts)
    (hReference10Ideal := Reference10Ideal.Gen.facts) := by
  intro m g m' g' _ hagree
  refine ⟨fun c => arrA (m ((c : Thread nD τ).loc main_arg0)) (m ((c : Thread nD τ).loc main_arg1)),
    fun c => arrB (m ((c : Thread nD τ).loc main_arg0)) (m ((c : Thread nD τ).loc main_arg1)),
    fun c => arrS (m ((c : Thread nD τ).loc main_arg0)) (m ((c : Thread nD τ).loc main_arg1)), ?_, ?_⟩
  · refine (θ_run _ _ _).mono (fun r h c => ?_) (Kernel10Ideal.Value.run_blocks m g)
    obtain ⟨h0, h1, h2, h3⟩ := h c
    exact ⟨h0.trans (arr4 m c), h1.trans (arr5 m c), h2.trans (arr6 m c), h3⟩
  · refine (θ_run _ _ _).mono (fun r h c => ?_) (Reference10Ideal.Value.run m' g')
    obtain ⟨h0, h1, h2, h3⟩ := h c
    obtain ⟨e0, e1, e2⟩ := hagree c
    refine ⟨h0.trans ?_, h1.trans ?_, h2.trans ?_, h3⟩
    · rw [e0, e1]
      funext j
      pointwise [arrA, pa]
    · rw [e0, e1]
      funext j
      pointwise [arrB, pb]
    · rw [e0, e1]
      funext j
      pointwise [arrS, act, pa, pb]

end Cert.Proof.K10

end
-- ==== Proof.K11.lean ====
/-
  The mixer's input projection: the columns the front half of the mixer reads.
-/
module

public import proofs.«01_k».proof.Proof.Gen.Kernel11Ideal.Value
public import proofs.«01_k».proof.Proof.Gen.Reference11Ideal.Run
public import proofs.«01_k».proof.Proof.Half

@[expose] public section

noncomputable section

open Idealize.ShloMosaic Idealize.ShloMosaic.TcCoe Idealize.SL.Sem

namespace Cert.Proof.K11

open Cert.Kernel11Ideal Cert.Kernel11Ideal.Gen

/-- A column among all the rows of the stored weight. -/
abbrev row (q : Fin 8192) : Fin 12320 := ⟨q.val, by omega⟩

/-- The product, every entry summed at once. -/
def prod (a : S4096x1024.Idx → EReal) (b : S12320x1024.Idx → EReal) : S4096x8192.Idx → EReal :=
  fun j => ∑ k : Fin 1024, a (ix2 (j 0) k) * b (ix2 (row (j 1)) k)

/-- The product of two blocks. -/
def part (x : S1024x1024.Idx → EReal) (y : S1024x1024.Idx → EReal) (i q : Fin 1024) : EReal := ∑ k : Fin 1024, x (ix2 i k) * y (ix2 q k)

theorem point (x0 x1 : Vec Ideal S1024x1024 .bf16) (i q : Fin 1024) : k0_pay1 x0 x1 (ix2 i q) = part x0 x1 i q := by
  pointwise [k0_pay1, part]

variable (m : (ℓ : Loc nD τ sig) → Buf (Elt Ideal) ℓ) (c : Dev nD)

theorem ix : ∀ t : Fin cfg0.N, win0_0.index t = ![t.val / 8, 0] ∧ win0_1.index t = ![t.val % 8, 0] ∧ win0_3.index t = ![t.val / 8, t.val % 8] := by
  change ∀ t : Fin grid0.N, _
  decide +kernel

variable (t : Fin cfg0.N)

theorem rd0 (k : Fin 1024) (i : Fin 1024) (h : 1024 * (t.val / 8) + i.val < 4096) :
    (iblk m c 0 t : Vec Ideal S1024x1024 .bf16) (ix2 i k) = m ((c : Thread nD τ).loc main_arg0) (ix2 ⟨1024 * (t.val / 8) + i.val, h⟩ k) := by
  blk_ext [iblk, V, ix t]

theorem rd1 (k : Fin 1024) (q : Fin 1024) (h : 1024 * (t.val % 8) + q.val < 8192) :
    (X0_1 m c t : Vec Ideal S1024x1024 .bf16) (ix2 q k) = m ((c : Thread nD τ).loc main_arg1) (ix2 (row ⟨1024 * (t.val % 8) + q.val, h⟩) k) := by
  unfold X0_1 Pipeline.Window.fill
  rw [dif_pos (moved0_1 t _)]
  blk_ext [iblk, V, ix t]

theorem emb (G : S4096x8192.Idx → EReal) (i q : Fin 1024) (h : 1024 * (t.val / 8) + i.val < 4096) (h' : 1024 * (t.val % 8) + q.val < 8192) :
    G (((cfg0.win 3).blk t).view.emb (ix2 i q)) = G (ix2 ⟨1024 * (t.val / 8) + i.val, h⟩ ⟨1024 * (t.val % 8) + q.val, h'⟩) := by
  blk_ext [ix t]

theorem arr : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp
  rw [after0_3]
  obtain ⟨i, q, rfl⟩ : ∃ (i : Fin 1024) (q : Fin 1024), y = ix2 i q := ⟨y 0, y 1, eq_ix2 y⟩
  have ht : t.val < 32 := t.isLt
  unfold outsAt0
  frame_out
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference11Ideal (hReference11Ideal := Reference11Ideal.Gen.facts) := by
  intro m ρ _
  exact (θ_run Reference11Ideal.defs _ _).mono (fun r h => ⟨fun c => (h c).2, sem_eq_zero_of_no_sems (by decide) r.2⟩)
    (Reference11Ideal.Value.run m ρ)

theorem equal : algebraic_Kernel11Ideal_Reference11Ideal (hKernel11Ideal := Kernel11Ideal.Gen.facts)
    (hReference11Ideal := Reference11Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel11Ideal.Value.run_blocks m g)
    obtain ⟨h0, h1⟩ := h c
    exact ⟨h0.trans (arr m c), h1⟩
  · refine (θ_run _ _ _).mono (fun r h c => ?_) (Reference11Ideal.Value.run m' g')
    obtain ⟨h0, h1⟩ := h c
    obtain ⟨e0, e1, e2⟩ := hagree c
    refine ⟨h0.trans ?_, h1⟩
    rw [e0, e1]
    funext j
    pointwise [prod]

end Cert.Proof.K11

end
-- ==== Proof.K12.lean ====
/-
  The mixer's projection onto its last 4096 columns.
-/
module

public import proofs.«01_k».proof.Proof.Gen.Kernel12Ideal.Value
public import proofs.«01_k».proof.Proof.Gen.Reference12Ideal.Run
public import proofs.«01_k».proof.Proof.Half

@[expose] public section

noncomputable section

open Idealize.ShloMosaic Idealize.ShloMosaic.TcCoe Idealize.SL.Sem

namespace Cert.Proof.K12

open Cert.Kernel12Ideal Cert.Kernel12Ideal.Gen

/-- The product, every entry summed at once. -/
def prod (a : S4096x1024.Idx → EReal) (b : S4096x1024.Idx → EReal) : S4096x4096.Idx → EReal :=
  fun j => (∑ k : Fin 1024, a (ix2 (j 0) k) * b (ix2 (j 1) k))

/-- What one grid point leaves. -/
theorem point (x0 : Vec Ideal S1024x1024 .bf16) (x1 : Vec Ideal S1024x1024 .bf16) (i : Fin 1024) (q : Fin 1024) :
    out0_2 x0 x1 (ix2 i q) = ((∑ k : Fin 1024, x0 (ix2 i k) * x1 (ix2 q k)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 4, 0] ∧ win0_1.index t = ![t.val % 4, 0] ∧ win0_2.index t = ![t.val / 4, t.val % 4] := by
  change ∀ t : Fin grid0.N, _
  decide +kernel

variable (t : Fin cfg0.N)

theorem rd0 (k : Fin 1024) (i : Fin 1024) (h : 1024 * (t.val / 4) + i.val < 4096) :
    (iblk m c 0 t : Vec Ideal S1024x1024 .bf16) (ix2 i k) = m ((c : Thread nD τ).loc main_arg0) (ix2 ⟨1024 * (t.val / 4) + i.val, h⟩ k) := by
  blk_ext [iblk, V, ix t]

theorem rd1 (k : Fin 1024) (q : Fin 1024) (h : 1024 * (t.val % 4) + q.val < 4096) :
    (iblk m c 1 t : Vec Ideal S1024x1024 .bf16) (ix2 q k) = m ((c : Thread nD τ).loc main_arg1) (ix2 ⟨1024 * (t.val % 4) + q.val, h⟩ k) := by
  blk_ext [iblk, V, ix t]

theorem emb (G : S4096x4096.Idx → EReal) (i : Fin 1024) (q : Fin 1024) (h : 1024 * (t.val / 4) + i.val < 4096) (h' : 1024 * (t.val % 4) + q.val < 4096) :
    G (((cfg0.win 2).blk t).view.emb (ix2 i q)) = G (ix2 ⟨1024 * (t.val / 4) + i.val, h⟩ ⟨1024 * (t.val % 4) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 16 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference12Ideal (hReference12Ideal := Reference12Ideal.Gen.facts) := by
  intro m ρ _
  exact (θ_run Reference12Ideal.defs _ _).mono (fun r h => ⟨fun c => (h c).2, sem_eq_zero_of_no_sems (by decide) r.2⟩)
    (Reference12Ideal.Value.run m ρ)

theorem equal : algebraic_Kernel12Ideal_Reference12Ideal (hKernel12Ideal := Kernel12Ideal.Gen.facts)
    (hReference12Ideal := Reference12Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel12Ideal.Value.run_blocks m g)
    obtain ⟨h0, h1⟩ := h c
    exact ⟨h0.trans (arr m c), h1⟩
  · refine (θ_run _ _ _).mono (fun r h c => ?_) (Reference12Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K12

end
-- ==== Proof.Sums.lean ====
/- Sums taken in blocks. -/
module

public import proofs.«01_k».proof.Proof.Half

@[expose] public section

open Idealize.ShloMosaic

namespace Cert.Proof

/-- A sum taken so many terms at a time. -/
theorem sum_blocks (a : ℕ) (f : ℕ → EReal) : ∀ n : ℕ, ∑ i ∈ Finset.range (a * n), f i = ∑ s ∈ Finset.range n, ∑ k : Fin a, f (a * s + k.val)
  | 0 => by simp
  | n + 1 => by
    rw [Nat.mul_succ, Finset.sum_range_add, Finset.sum_range_succ (fun s => ∑ k : Fin a, f (a * s + k.val)), sum_blocks a f n, Finset.sum_range (fun x => f (a * n + x))]

end Cert.Proof

end
-- ==== Proof.K13.lean ====
/-
  The gradient of the mixer's input through its first 8192 columns: the five pieces of the
  cotangent times the columns of the weight they belong to, summed 1024 columns at a time.
-/
module

public import proofs.«01_k».proof.Proof.Gen.Kernel13Ideal.Value
public import proofs.«01_k».proof.Proof.Gen.Reference13Ideal.Run
public import proofs.«01_k».proof.Proof.Sums

@[expose] public section

noncomputable section

open Idealize.ShloMosaic Idealize.ShloMosaic.TcCoe Idealize.SL.Sem

namespace Cert.Proof.K13

open Cert.Kernel13Ideal Cert.Kernel13Ideal.Gen

section
variable (p0 : S4096x1024.Idx → EReal) (p1 : S4096x1024.Idx → EReal) (p2 : S4096x1024.Idx → EReal) (p3 : S4096x1024.Idx → EReal) (p4 : S4096x4096.Idx → EReal) (w : S12320x1024.Idx → EReal) (i : Fin 4096) (q : Fin 1024)

/-- The pieces of the cotangent side by side; zero beyond the last one. -/
def col (n : ℕ) : EReal :=
  if h0 : n < 1024 then p0 (ix2 i ⟨n - 0, by omega⟩)
  else if h1 : n < 2048 then p1 (ix2 i ⟨n - 1024, by omega⟩)
  else if h2 : n < 3072 then p2 (ix2 i ⟨n - 2048, by omega⟩)
  else if h3 : n < 4096 then p3 (ix2 i ⟨n - 3072, by omega⟩)
  else if h4 : n < 8192 then p4 (ix2 i ⟨n - 4096, by omega⟩)
  else 0

/-- A column of the weight. -/
def wt (n : ℕ) : EReal := if h : n < 12320 then w (ix2 ⟨n, h⟩ q) else 0

/-- One column's part of an entry. -/
def term (n : ℕ) : EReal := col p0 p1 p2 p3 p4 i n * wt w q n

/-- The product, every entry summed at once. -/
def prod : S4096x1024.Idx → EReal := fun j => ∑ n ∈ Finset.range (1024 * 8), term p0 p1 p2 p3 p4 w (j 0) (j 1) n

/-- The product over 1024 columns. -/
def slab (s : ℕ) : EReal := ∑ k : Fin 1024, term p0 p1 p2 p3 p4 w i q (1024 * s + k.val)

variable (s : ℕ) (k : Fin 1024)
theorem term_zero (n : ℕ) (hn : n ∉ Finset.range 8192) : term p0 p1 p2 p3 p4 w i q n = 0 := by
  have h : 8192 ≤ n := by simpa using hn
  unfold term col
  rw [dif_neg (by omega), dif_neg (by omega), dif_neg (by omega), dif_neg (by omega), dif_neg (by omega), zero_mul]
theorem col0 (hs : 0 ≤ s) (he : s < 1) : col p0 p1 p2 p3 p4 i (1024 * s + k.val) = p0 (ix2 i ⟨1024 * (s - 0) + k.val, by omega⟩) := by
  unfold col
  rw [dif_pos (by omega)]
  exact congrArg (fun z => p0 (ix2 i z)) (Fin.ext (by show 1024 * s + k.val - 0 = 1024 * (s - 0) + k.val; omega))
theorem col1 (hs : 1 ≤ s) (he : s < 2) : col p0 p1 p2 p3 p4 i (1024 * s + k.val) = p1 (ix2 i ⟨1024 * (s - 1) + k.val, by omega⟩) := by
  unfold col
  rw [dif_neg (by omega), dif_pos (by omega)]
  exact congrArg (fun z => p1 (ix2 i z)) (Fin.ext (by show 1024 * s + k.val - 1024 = 1024 * (s - 1) + k.val; omega))
theorem col2 (hs : 2 ≤ s) (he : s < 3) : col p0 p1 p2 p3 p4 i (1024 * s + k.val) = p2 (ix2 i ⟨1024 * (s - 2) + k.val, by omega⟩) := by
  unfold col
  rw [dif_neg (by omega), dif_neg (by omega), dif_pos (by omega)]
  exact congrArg (fun z => p2 (ix2 i z)) (Fin.ext (by show 1024 * s + k.val - 2048 = 1024 * (s - 2) + k.val; omega))
theorem col3 (hs : 3 ≤ s) (he : s < 4) : col p0 p1 p2 p3 p4 i (1024 * s + k.val) = p3 (ix2 i ⟨1024 * (s - 3) + k.val, by omega⟩) := by
  unfold col
  rw [dif_neg (by omega), dif_neg (by omega), dif_neg (by omega), dif_pos (by omega)]
  exact congrArg (fun z => p3 (ix2 i z)) (Fin.ext (by show 1024 * s + k.val - 3072 = 1024 * (s - 3) + k.val; omega))
theorem col4 (hs : 4 ≤ s) (he : s < 8) : col p0 p1 p2 p3 p4 i (1024 * s + k.val) = p4 (ix2 i ⟨1024 * (s - 4) + k.val, by omega⟩) := by
  unfold col
  rw [dif_neg (by omega), dif_neg (by omega), dif_neg (by omega), dif_neg (by omega), dif_pos (by omega)]
  exact congrArg (fun z => p4 (ix2 i z)) (Fin.ext (by show 1024 * s + k.val - 4096 = 1024 * (s - 4) + k.val; omega))
theorem wts (he : s < 8) : wt w q (1024 * s + k.val) = w (ix2 ⟨1024 * s + k.val, by omega⟩ q) := dif_pos (by omega)
theorem wt_eq (x : Fin 12320) : wt w q x.val = w (ix2 x q) := dif_pos x.isLt
end

/-- The product of two blocks. -/
def part (x y : S1024x1024.Idx → EReal) (i q : Fin 1024) : EReal := ∑ k : Fin 1024, x (ix2 i k) * y (ix2 k q)
theorem part_congr (x y : S1024x1024.Idx → EReal) (i q : Fin 1024) (f g : Fin 1024 → EReal) (hx : ∀ k, x (ix2 i k) = f k) (hy : ∀ k, y (ix2 k q) = g k) :
    part x y i q = ∑ k : Fin 1024, f k * g k := Finset.sum_congr rfl fun k _ => congrArg₂ (· * ·) (hx k) (hy k)

section
variable (acc : Vec Ideal S1024x1024 .f32) (x y : Vec Ideal S1024x1024 .bf16) (i q : Fin 1024)
theorem point1 : (k0_pay1 : FVec Ideal S1024x1024 .f32) (ix2 i q) = (0 : EReal) := by
  pointwise [k0_pay1]
theorem point2 : k0_pay2 acc x y (ix2 i q) = (acc (ix2 i q) + part x y i q : EReal) := by
  pointwise [k0_pay2, part]
theorem point3 : k0_pay3 acc x y (ix2 i q) = (acc (ix2 i q) + part x y i q : EReal) := by
  pointwise [k0_pay3, part]
theorem point4 : k0_pay4 acc x y (ix2 i q) = (acc (ix2 i q) + part x y i q : EReal) := by
  pointwise [k0_pay4, part]
theorem point5 : k0_pay5 acc x y (ix2 i q) = (acc (ix2 i q) + part x y i q : EReal) := by
  pointwise [k0_pay5, part]
theorem point6 : k0_pay6 acc x y (ix2 i q) = (acc (ix2 i q) + part x y i q : EReal) := by
  pointwise [k0_pay6, part]
end

variable (m : (ℓ : Loc nD τ sig) → Buf (Elt Ideal) ℓ) (c : Dev nD)

abbrev A0 : S4096x1024.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S4096x4096.Idx → EReal := m ((c : Thread nD τ).loc main_arg4)
abbrev A5 : S12320x1024.Idx → EReal := m ((c : Thread nD τ).loc main_arg5)

/-- The product of this program's arguments. -/
def tot : S4096x1024.Idx → EReal := prod (A0 m c) (A1 m c) (A2 m c) (A3 m c) (A4 m c) (A5 m c)

/-- A slab of them. -/
def S (i : Fin 4096) (q : Fin 1024) (s : ℕ) : EReal := slab (A0 m c) (A1 m c) (A2 m c) (A3 m c) (A4 m c) (A5 m c) i q s

theorem at0 : ∀ t : Fin cfg0.N, 0 ≤ t.val % 8 → t.val % 8 < 1 → win0_0.index t = ![t.val / 8, t.val % 8 - 0] := by
  change ∀ t : Fin grid0.N, _
  decide +kernel
theorem at1 : ∀ t : Fin cfg0.N, 1 ≤ t.val % 8 → t.val % 8 < 2 → win0_1.index t = ![t.val / 8, t.val % 8 - 1] := by
  change ∀ t : Fin grid0.N, _
  decide +kernel
theorem at2 : ∀ t : Fin cfg0.N, 2 ≤ t.val % 8 → t.val % 8 < 3 → win0_2.index t = ![t.val / 8, t.val % 8 - 2] := by
  change ∀ t : Fin grid0.N, _
  decide +kernel
theorem at3 : ∀ t : Fin cfg0.N, 3 ≤ t.val % 8 → t.val % 8 < 4 → win0_3.index t = ![t.val / 8, t.val % 8 - 3] := by
  change ∀ t : Fin grid0.N, _
  decide +kernel
theorem at4 : ∀ t : Fin cfg0.N, 4 ≤ t.val % 8 → t.val % 8 < 8 → win0_4.index t = ![t.val / 8, t.val % 8 - 4] := by
  change ∀ t : Fin grid0.N, _
  decide +kernel
theorem ix : ∀ t : Fin cfg0.N, win0_5.index t = ![t.val % 8, 0] ∧ win0_7.index t = ![t.val / 8, 0] := by
  change ∀ t : Fin grid0.N, _
  decide +kernel

variable (t : Fin cfg0.N) (i q : Fin 1024) (I : Fin 4096)

theorem rdw (k : Fin 1024) (h : 1024 * (t.val % 8) + k.val < 12320) :
    (X0_5 m c t : Vec Ideal S1024x1024 .bf16) (ix2 k q) = A5 m c (ix2 ⟨1024 * (t.val % 8) + k.val, h⟩ q) := by
  unfold X0_5 Pipeline.Window.fill
  rw [dif_pos (moved0_5 t _)]
  blk_ext [iblk, V, ix t]

theorem rd0 (k : Fin 1024) (hs : 0 ≤ t.val % 8) (he : t.val % 8 < 1) (h : 1024 * (t.val / 8) + i.val < 4096) (h' : 1024 * (t.val % 8 - 0) + k.val < 1024) :
    (iblk m c 0 t : Vec Ideal S1024x1024 .bf16) (ix2 i k) = A0 m c (ix2 ⟨1024 * (t.val / 8) + i.val, h⟩ ⟨1024 * (t.val % 8 - 0) + k.val, h'⟩) := by
  blk_ext [iblk, V, at0 t hs he]
theorem part0 (hI : I.val = 1024 * (t.val / 8) + i.val) (hs : 0 ≤ t.val % 8) (he : t.val % 8 < 1) :
    part (iblk m c 0 t) (X0_5 m c t) i q = S m c I q (t.val % 8) := by
  have h : 1024 * (t.val / 8) + i.val < 4096 := hI ▸ I.isLt
  obtain rfl : I = ⟨1024 * (t.val / 8) + i.val, h⟩ := Fin.ext hI
  exact part_congr _ _ i q (fun k => col (A0 m c) (A1 m c) (A2 m c) (A3 m c) (A4 m c) ⟨_, h⟩ (1024 * (t.val % 8) + k.val)) (fun k => wt (A5 m c) q (1024 * (t.val % 8) + k.val))
    (fun k => (rd0 m c t i k hs he h (by omega)).trans (col0 _ _ _ _ _ _ _ k hs he).symm)
    (fun k => (rdw m c t q k (by omega)).trans (wts _ q _ k (by omega)).symm)

theorem rd1 (k : Fin 1024) (hs : 1 ≤ t.val % 8) (he : t.val % 8 < 2) (h : 1024 * (t.val / 8) + i.val < 4096) (h' : 1024 * (t.val % 8 - 1) + k.val < 1024) :
    (iblk m c 1 t : Vec Ideal S1024x1024 .bf16) (ix2 i k) = A1 m c (ix2 ⟨1024 * (t.val / 8) + i.val, h⟩ ⟨1024 * (t.val % 8 - 1) + k.val, h'⟩) := by
  blk_ext [iblk, V, at1 t hs he]
theorem part1 (hI : I.val = 1024 * (t.val / 8) + i.val) (hs : 1 ≤ t.val % 8) (he : t.val % 8 < 2) :
    part (iblk m c 1 t) (X0_5 m c t) i q = S m c I q (t.val % 8) := by
  have h : 1024 * (t.val / 8) + i.val < 4096 := hI ▸ I.isLt
  obtain rfl : I = ⟨1024 * (t.val / 8) + i.val, h⟩ := Fin.ext hI
  exact part_congr _ _ i q (fun k => col (A0 m c) (A1 m c) (A2 m c) (A3 m c) (A4 m c) ⟨_, h⟩ (1024 * (t.val % 8) + k.val)) (fun k => wt (A5 m c) q (1024 * (t.val % 8) + k.val))
    (fun k => (rd1 m c t i k hs he h (by omega)).trans (col1 _ _ _ _ _ _ _ k hs he).symm)
    (fun k => (rdw m c t q k (by omega)).trans (wts _ q _ k (by omega)).symm)

theorem rd2 (k : Fin 1024) (hs : 2 ≤ t.val % 8) (he : t.val % 8 < 3) (h : 1024 * (t.val / 8) + i.val < 4096) (h' : 1024 * (t.val % 8 - 2) + k.val < 1024) :
    (iblk m c 2 t : Vec Ideal S1024x1024 .bf16) (ix2 i k) = A2 m c (ix2 ⟨1024 * (t.val / 8) + i.val, h⟩ ⟨1024 * (t.val % 8 - 2) + k.val, h'⟩) := by
  blk_ext [iblk, V, at2 t hs he]
theorem part2 (hI : I.val = 1024 * (t.val / 8) + i.val) (hs : 2 ≤ t.val % 8) (he : t.val % 8 < 3) :
    part (iblk m c 2 t) (X0_5 m c t) i q = S m c I q (t.val % 8) := by
  have h : 1024 * (t.val / 8) + i.val < 4096 := hI ▸ I.isLt
  obtain rfl : I = ⟨1024 * (t.val / 8) + i.val, h⟩ := Fin.ext hI
  exact part_congr _ _ i q (fun k => col (A0 m c) (A1 m c) (A2 m c) (A3 m c) (A4 m c) ⟨_, h⟩ (1024 * (t.val % 8) + k.val)) (fun k => wt (A5 m c) q (1024 * (t.val % 8) + k.val))
    (fun k => (rd2 m c t i k hs he h (by omega)).trans (col2 _ _ _ _ _ _ _ k hs he).symm)
    (fun k => (rdw m c t q k (by omega)).trans (wts _ q _ k (by omega)).symm)

theorem rd3 (k : Fin 1024) (hs : 3 ≤ t.val % 8) (he : t.val % 8 < 4) (h : 1024 * (t.val / 8) + i.val < 4096) (h' : 1024 * (t.val % 8 - 3) + k.val < 1024) :
    (iblk m c 3 t : Vec Ideal S1024x1024 .bf16) (ix2 i k) = A3 m c (ix2 ⟨1024 * (t.val / 8) + i.val, h⟩ ⟨1024 * (t.val % 8 - 3) + k.val, h'⟩) := by
  blk_ext [iblk, V, at3 t hs he]
theorem part3 (hI : I.val = 1024 * (t.val / 8) + i.val) (hs : 3 ≤ t.val % 8) (he : t.val % 8 < 4) :
    part (iblk m c 3 t) (X0_5 m c t) i q = S m c I q (t.val % 8) := by
  have h : 1024 * (t.val / 8) + i.val < 4096 := hI ▸ I.isLt
  obtain rfl : I = ⟨1024 * (t.val / 8) + i.val, h⟩ := Fin.ext hI
  exact part_congr _ _ i q (fun k => col (A0 m c) (A1 m c) (A2 m c) (A3 m c) (A4 m c) ⟨_, h⟩ (1024 * (t.val % 8) + k.val)) (fun k => wt (A5 m c) q (1024 * (t.val % 8) + k.val))
    (fun k => (rd3 m c t i k hs he h (by omega)).trans (col3 _ _ _ _ _ _ _ k hs he).symm)
    (fun k => (rdw m c t q k (by omega)).trans (wts _ q _ k (by omega)).symm)

theorem rd4 (k : Fin 1024) (hs : 4 ≤ t.val % 8) (he : t.val % 8 < 8) (h : 1024 * (t.val / 8) + i.val < 4096) (h' : 1024 * (t.val % 8 - 4) + k.val < 4096) :
    (iblk m c 4 t : Vec Ideal S1024x1024 .bf16) (ix2 i k) = A4 m c (ix2 ⟨1024 * (t.val / 8) + i.val, h⟩ ⟨1024 * (t.val % 8 - 4) + k.val, h'⟩) := by
  blk_ext [iblk, V, at4 t hs he]
theorem part4 (hI : I.val = 1024 * (t.val / 8) + i.val) (hs : 4 ≤ t.val % 8) (he : t.val % 8 < 8) :
    part (iblk m c 4 t) (X0_5 m c t) i q = S m c I q (t.val % 8) := by
  have h : 1024 * (t.val / 8) + i.val < 4096 := hI ▸ I.isLt
  obtain rfl : I = ⟨1024 * (t.val / 8) + i.val, h⟩ := Fin.ext hI
  exact part_congr _ _ i q (fun k => col (A0 m c) (A1 m c) (A2 m c) (A3 m c) (A4 m c) ⟨_, h⟩ (1024 * (t.val % 8) + k.val)) (fun k => wt (A5 m c) q (1024 * (t.val % 8) + k.val))
    (fun k => (rd4 m c t i k hs he h (by omega)).trans (col4 _ _ _ _ _ _ _ k hs he).symm)
    (fun k => (rdw m c t q k (by omega)).trans (wts _ q _ k (by omega)).symm)

theorem first (h0 : t.val % 8 = 0) : (outsAt0 m c t.val t.isLt).2 (ix2 i q) = part (iblk m c 0 t) (X0_5 m c t) i q := by
  rw [outsAt0_A m c t (by omega) (by omega) (by omega) (by omega) (by omega) (by omega) (by omega)]
  frame_out
  refine (point2 _ _ _ i q).trans ((congrArg (· + part _ _ i q) ?_).trans (zero_add _))
  try simp only [read_unread_whole]
  exact point1 i q

theorem stepB (hp : t.val - 1 < cfg0.N) (h0 : t.val % 8 = 1) :
    (outsAt0 m c t.val t.isLt).2 (ix2 i q) = ((outsAt0 m c (t.val - 1) hp).2 (ix2 i q) + part (iblk m c 1 t) (X0_5 m c t) i q : EReal) := by
  rw [outsAt0_B m c t (by omega) (by omega) (by omega) (by omega) (by omega) (by omega) (by omega)]
  frame_out
  simp only [read_unread_whole]
  exact point3 _ _ _ i q

theorem stepC (hp : t.val - 1 < cfg0.N) (h0 : t.val % 8 = 2) :
    (outsAt0 m c t.val t.isLt).2 (ix2 i q) = ((outsAt0 m c (t.val - 1) hp).2 (ix2 i q) + part (iblk m c 2 t) (X0_5 m c t) i q : EReal) := by
  rw [outsAt0_C m c t (by omega) (by omega) (by omega) (by omega) (by omega) (by omega) (by omega)]
  frame_out
  simp only [read_unread_whole]
  exact point4 _ _ _ i q

theorem stepD (hp : t.val - 1 < cfg0.N) (h0 : t.val % 8 = 3) :
    (outsAt0 m c t.val t.isLt).2 (ix2 i q) = ((outsAt0 m c (t.val - 1) hp).2 (ix2 i q) + part (iblk m c 3 t) (X0_5 m c t) i q : EReal) := by
  rw [outsAt0_D m c t (by omega) (by omega) (by omega) (by omega) (by omega) (by omega) (by omega)]
  frame_out
  simp only [read_unread_whole]
  exact point5 _ _ _ i q

theorem stepE (hp : t.val - 1 < cfg0.N) (h0 : 4 ≤ t.val % 8 ∧ t.val % 8 ≠ 7) :
    (outsAt0 m c t.val t.isLt).2 (ix2 i q) = ((outsAt0 m c (t.val - 1) hp).2 (ix2 i q) + part (iblk m c 4 t) (X0_5 m c t) i q : EReal) := by
  rw [outsAt0_E m c t (by omega) (by omega) (by omega) (by omega) (by omega) (by omega) (by omega)]
  frame_out
  simp only [read_unread_whole]
  exact point6 _ _ _ i q

theorem stepF (hp : t.val - 1 < cfg0.N) (h0 : t.val % 8 = 7) :
    (outsAt0 m c t.val t.isLt).2 (ix2 i q) = ((outsAt0 m c (t.val - 1) hp).2 (ix2 i q) + part (iblk m c 4 t) (X0_5 m c t) i q : EReal) := by
  rw [outsAt0_F m c t (by omega) (by omega) (by omega) (by omega) (by omega) (by omega) (by omega)]
  frame_out
  simp only [read_unread_whole]
  exact point6 _ _ _ i q

theorem step (hp : t.val - 1 < cfg0.N) (hI : I.val = 1024 * (t.val / 8) + i.val) (h0 : t.val % 8 ≠ 0) :
    (outsAt0 m c t.val t.isLt).2 (ix2 i q) = ((outsAt0 m c (t.val - 1) hp).2 (ix2 i q) + S m c I q (t.val % 8) : EReal) := by
  by_cases hB : t.val % 8 = 1
  · exact (stepB m c t i q hp (by omega)).trans (congrArg (_ + ·) (part1 m c t i q I hI (by omega) (by omega)))
  by_cases hC : t.val % 8 = 2
  · exact (stepC m c t i q hp (by omega)).trans (congrArg (_ + ·) (part2 m c t i q I hI (by omega) (by omega)))
  by_cases hD : t.val % 8 = 3
  · exact (stepD m c t i q hp (by omega)).trans (congrArg (_ + ·) (part3 m c t i q I hI (by omega) (by omega)))
  by_cases hE : 4 ≤ t.val % 8 ∧ t.val % 8 ≠ 7
  · exact (stepE m c t i q hp (by omega)).trans (congrArg (_ + ·) (part4 m c t i q I hI (by omega) (by omega)))
  exact (stepF m c t i q hp (by omega)).trans (congrArg (_ + ·) (part4 m c t i q I hI (by omega) (by omega)))

/-- The scratch after a point: the slabs so far. -/
theorem acc : ∀ (s : ℕ) (t : Fin cfg0.N) (hI : I.val = 1024 * (t.val / 8) + i.val) (hs : t.val % 8 = s),
    (outsAt0 m c t.val t.isLt).2 (ix2 i q) = (∑ r ∈ Finset.range (s + 1), S m c I q r : EReal)
  | 0, t, hI, hs => by
    rw [Finset.sum_range_one]
    exact (first m c t i q hs).trans ((part0 m c t i q I hI (by omega) (by omega)).trans (by rw [hs]))
  | s + 1, t, hI, hs => by
    have hp : t.val - 1 < cfg0.N := Nat.lt_of_le_of_lt (Nat.sub_le _ _) t.isLt
    rw [Finset.sum_range_succ]
    refine (step m c t i q I hp hI (by omega)).trans (congrArg₂ (· + ·) (acc s ⟨t.val - 1, hp⟩ ?_ ?_) (by rw [hs]))
    · show I.val = 1024 * ((t.val - 1) / 8) + i.val
      omega
    · show (t.val - 1) % 8 = s
      omega

theorem last (hI : I.val = 1024 * (t.val / 8) + i.val) (h0 : t.val % 8 = 7) :
    (outsAt0 m c t.val t.isLt).1 (ix2 i q) = tot m c (ix2 I q) := by
  have hp : t.val - 1 < cfg0.N := Nat.lt_of_le_of_lt (Nat.sub_le _ _) t.isLt
  have key := acc m c i q I 7 t hI h0
  rw [stepF m c t i q hp h0] at key
  rw [outsAt0_F m c t (by omega) (by omega) (by omega) (by omega) (by omega) (by omega) (by omega)]
  frame_out
  simp only [read_unread_whole]
  refine (point6 _ _ _ i q).trans ?_
  exact (key.trans (sum_blocks 1024 (fun n => term (A0 m c) (A1 m c) (A2 m c) (A3 m c) (A4 m c) (A5 m c) I q n) 8).symm)

theorem emb (G : S4096x1024.Idx → EReal) (h : 1024 * (t.val / 8) + i.val < 4096) :
    G (((cfg0.win 7).blk t).view.emb (ix2 i q)) = G (ix2 ⟨1024 * (t.val / 8) + i.val, h⟩ q) := by
  blk_ext [ix t]

theorem arr : (dats m 0 c).arrAt 7 cfg0.N = tot m c := by
  refine (dats m 0 c).arrAt_eq_of_covers 7 _ (by decide +kernel) fun t hf y => ?_
  have h1 : t.val % 8 = 7 := (flush0_7 t).mp hf
  blk_simp
  rw [after0_7]
  obtain ⟨i, q, rfl⟩ : ∃ (i : Fin 1024) (q : Fin 1024), y = ix2 i q := ⟨y 0, y 1, eq_ix2 y⟩
  have ht : t.val < 32 := t.isLt
  have h : 1024 * (t.val / 8) + i.val < 4096 := by omega
  exact (last m c t i q ⟨_, h⟩ rfl h1).trans (emb t i q _ h).symm

theorem frame_r : quiescent_Reference13Ideal (hReference13Ideal := Reference13Ideal.Gen.facts) := by
  intro m ρ _
  exact (θ_run Reference13Ideal.defs _ _).mono (fun r h => ⟨fun c => (h c).2, sem_eq_zero_of_no_sems (by decide) r.2⟩)
    (Reference13Ideal.Value.run m ρ)

theorem equal : algebraic_Kernel13Ideal_Reference13Ideal (hKernel13Ideal := Kernel13Ideal.Gen.facts)
    (hReference13Ideal := Reference13Ideal.Gen.facts) := by
  intro m g m' g' _ hagree
  refine ⟨tot m, ?_, ?_⟩
  · refine (θ_run _ _ _).mono (fun r h c => ?_) (Kernel13Ideal.Value.run_blocks m g)
    obtain ⟨h0, h1⟩ := h c
    exact ⟨h0.trans (arr m c), h1⟩
  · refine (θ_run _ _ _).mono (fun r h c => ?_) (Reference13Ideal.Value.run m' g')
    obtain ⟨h0, h1⟩ := h c
    obtain ⟨e0, e1, e2, e3, e4, e5, e6⟩ := hagree c
    refine ⟨h0.trans ?_, h1⟩
    rw [e0, e1, e2, e3, e4, e5]
    funext j
    pointwise [tot, prod]
    have e := Finset.sum_range (n := 12320) fun n => term (A0 m c) (A1 m c) (A2 m c) (A3 m c) (A4 m c) (A5 m c) (j 0) (j 1) n
    rw [Finset.sum_subset (Finset.range_mono (show 8192 ≤ 12320 by decide)) fun n _ hn => term_zero _ _ _ _ _ _ (j 0) (j 1) n hn, e]
    refine Finset.sum_congr rfl fun x _ => congrArg₂ (· * ·) ?_ (wt_eq _ (j 1) x).symm
    unfold col
    by_cases hx : x.val < 8192
    swap
    · rw [dif_neg hx, dif_neg (show ¬x.val < 1024 by omega), dif_neg (show ¬x.val < 2048 by omega), dif_neg (show ¬x.val < 3072 by omega), dif_neg (show ¬x.val < 4096 by omega), dif_neg hx]
    rw [dif_pos hx]
    by_cases h0 : x.val < 1024
    · rw [dif_pos h0, dif_pos h0]
      rfl
    rw [dif_neg (show ¬x.val < 1024 by omega), dif_neg h0]
    by_cases h1 : x.val < 2048
    · rw [dif_pos (show x.val - 1024 < 1024 by omega), dif_pos h1]
    rw [dif_neg (show ¬x.val - 1024 < 1024 by omega), dif_neg h1]
    by_cases h2 : x.val < 3072
    · rw [dif_pos (show x.val - 1024 - 1024 < 1024 by omega), dif_pos h2]
      exact congrArg (fun z => (A2 m c) (ix2 (j 0) z)) (Fin.ext (by show x.val - 1024 - 1024 = x.val - 2048; omega))
    rw [dif_neg (show ¬x.val - 1024 - 1024 < 1024 by omega), dif_neg h2]
    by_cases h3 : x.val < 4096
    · rw [dif_pos (show x.val - 1024 - 1024 - 1024 < 1024 by omega), dif_pos h3]
      exact congrArg (fun z => (A3 m c) (ix2 (j 0) z)) (Fin.ext (by show x.val - 1024 - 1024 - 1024 = x.val - 3072; omega))
    rw [dif_neg (show ¬x.val - 1024 - 1024 - 1024 < 1024 by omega), dif_neg h3]
    rw [dif_pos (show x.val < 8192 by omega)]
    exact congrArg (fun z => (A4 m c) (ix2 (j 0) z)) (Fin.ext (by show x.val - 1024 - 1024 - 1024 - 1024 = x.val - 4096; omega))

end Cert.Proof.K13

end
-- ==== Proof.K14.lean ====
/-
  The gradient of the mixer's input through its last 4096 columns, added to what the first 8192
  left: three pieces of the cotangent times the weight, summed 1024 columns at a time.
-/
module

public import proofs.«01_k».proof.Proof.Gen.Kernel14Ideal.Value
public import proofs.«01_k».proof.Proof.Gen.Reference14Ideal.Run
public import proofs.«01_k».proof.Proof.Sums

@[expose] public section

noncomputable section

open Idealize.ShloMosaic Idealize.ShloMosaic.TcCoe Idealize.SL.Sem

namespace Cert.Proof.K14

open Cert.Kernel14Ideal Cert.Kernel14Ideal.Gen

section
variable (p0 : S4096x2048.Idx → EReal) (p1 : S4096x1024.Idx → EReal) (p2 : S4096x1024.Idx → EReal) (w : S4096x1024.Idx → EReal) (r : S4096x1024.Idx → EReal) (i : Fin 4096) (q : Fin 1024)

/-- The pieces of the cotangent side by side; zero beyond the last one. -/
def col (n : ℕ) : EReal :=
  if h0 : n < 2048 then p0 (ix2 i ⟨n - 0, by omega⟩)
  else if h1 : n < 3072 then p1 (ix2 i ⟨n - 2048, by omega⟩)
  else if h2 : n < 4096 then p2 (ix2 i ⟨n - 3072, by omega⟩)
  else 0

/-- A column of the weight. -/
def wt (n : ℕ) : EReal := if h : n < 4096 then w (ix2 ⟨n, h⟩ q) else 0

/-- One column's part of an entry. -/
def term (n : ℕ) : EReal := col p0 p1 p2 i n * wt w q n

/-- The product, every entry summed at once. -/
def prod : S4096x1024.Idx → EReal := fun j => r j + ∑ n ∈ Finset.range (1024 * 4), term p0 p1 p2 w (j 0) (j 1) n

/-- The product over 1024 columns. -/
def slab (s : ℕ) : EReal := ∑ k : Fin 1024, term p0 p1 p2 w i q (1024 * s + k.val)

variable (s : ℕ) (k : Fin 1024)
theorem col0 (hs : 0 ≤ s) (he : s < 2) : col p0 p1 p2 i (1024 * s + k.val) = p0 (ix2 i ⟨1024 * (s - 0) + k.val, by omega⟩) := by
  unfold col
  rw [dif_pos (by omega)]
  exact congrArg (fun z => p0 (ix2 i z)) (Fin.ext (by show 1024 * s + k.val - 0 = 1024 * (s - 0) + k.val; omega))
theorem col1 (hs : 2 ≤ s) (he : s < 3) : col p0 p1 p2 i (1024 * s + k.val) = p1 (ix2 i ⟨1024 * (s - 2) + k.val, by omega⟩) := by
  unfold col
  rw [dif_neg (by omega), dif_pos (by omega)]
  exact congrArg (fun z => p1 (ix2 i z)) (Fin.ext (by show 1024 * s + k.val - 2048 = 1024 * (s - 2) + k.val; omega))
theorem col2 (hs : 3 ≤ s) (he : s < 4) : col p0 p1 p2 i (1024 * s + k.val) = p2 (ix2 i ⟨1024 * (s - 3) + k.val, by omega⟩) := by
  unfold col
  rw [dif_neg (by omega), dif_neg (by omega), dif_pos (by omega)]
  exact congrArg (fun z => p2 (ix2 i z)) (Fin.ext (by show 1024 * s + k.val - 3072 = 1024 * (s - 3) + k.val; omega))
theorem wts (he : s < 4) : wt w q (1024 * s + k.val) = w (ix2 ⟨1024 * s + k.val, by omega⟩ q) := dif_pos (by omega)
theorem wt_eq (x : Fin 4096) : wt w q x.val = w (ix2 x q) := dif_pos x.isLt
end

/-- The product of two blocks. -/
def part (x y : S1024x1024.Idx → EReal) (i q : Fin 1024) : EReal := ∑ k : Fin 1024, x (ix2 i k) * y (ix2 k q)
theorem part_congr (x y : S1024x1024.Idx → EReal) (i q : Fin 1024) (f g : Fin 1024 → EReal) (hx : ∀ k, x (ix2 i k) = f k) (hy : ∀ k, y (ix2 k q) = g k) :
    part x y i q = ∑ k : Fin 1024, f k * g k := Finset.sum_congr rfl fun k _ => congrArg₂ (· * ·) (hx k) (hy k)

section
variable (acc : Vec Ideal S1024x1024 .f32) (x y : Vec Ideal S1024x1024 .bf16) (i q : Fin 1024)
theorem point1 : (k0_pay1 : FVec Ideal S1024x1024 .f32) (ix2 i q) = (0 : EReal) := by
  pointwise [k0_pay1]
theorem point2 : k0_pay2 acc x y (ix2 i q) = (acc (ix2 i q) + part x y i q : EReal) := by
  pointwise [k0_pay2, part]
theorem point3 : k0_pay3 acc x y (ix2 i q) = (acc (ix2 i q) + part x y i q : EReal) := by
  pointwise [k0_pay3, part]
theorem point4 : k0_pay4 acc x y (ix2 i q) = (acc (ix2 i q) + part x y i q : EReal) := by
  pointwise [k0_pay4, part]
theorem point5 (x : Vec Ideal S1024x1024 .f32) : k0_pay5 acc x (ix2 i q) = (x (ix2 i q) + acc (ix2 i q) : EReal) := by
  pointwise [k0_pay5]
end

variable (m : (ℓ : Loc nD τ sig) → Buf (Elt Ideal) ℓ) (c : Dev nD)

abbrev A0 : S4096x2048.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S4096x1024.Idx → EReal := m ((c : Thread nD τ).loc main_arg4)

/-- The product of this program's arguments. -/
def tot : S4096x1024.Idx → EReal := prod (A0 m c) (A1 m c) (A2 m c) (A3 m c) (A4 m c)

/-- A slab of them. -/
def S (i : Fin 4096) (q : Fin 1024) (s : ℕ) : EReal := slab (A0 m c) (A1 m c) (A2 m c) (A3 m c) i q s

theorem at0 : ∀ t : Fin cfg0.N, 0 ≤ t.val % 4 → t.val % 4 < 2 → win0_0.index t = ![t.val / 4, t.val % 4 - 0] := by
  change ∀ t : Fin grid0.N, _
  decide +kernel
theorem at1 : ∀ t : Fin cfg0.N, 2 ≤ t.val % 4 → t.val % 4 < 3 → win0_1.index t = ![t.val / 4, t.val % 4 - 2] := by
  change ∀ t : Fin grid0.N, _
  decide +kernel
theorem at2 : ∀ t : Fin cfg0.N, 3 ≤ t.val % 4 → t.val % 4 < 4 → win0_2.index t = ![t.val / 4, t.val % 4 - 3] := by
  change ∀ t : Fin grid0.N, _
  decide +kernel
theorem ix : ∀ t : Fin cfg0.N, win0_3.index t = ![t.val % 4, 0] ∧ win0_5.index t = ![t.val / 4, 0] ∧ win0_4.index t = ![t.val / 4, 0] := by
  change ∀ t : Fin grid0.N, _
  decide +kernel

variable (t : Fin cfg0.N) (i q : Fin 1024) (I : Fin 4096)

theorem rdw (k : Fin 1024) (h : 1024 * (t.val % 4) + k.val < 4096) :
    (iblk m c 3 t : Vec Ideal S1024x1024 .bf16) (ix2 k q) = A3 m c (ix2 ⟨1024 * (t.val % 4) + k.val, h⟩ q) := by
  blk_ext [iblk, V, ix t]

theorem rdr (h : 1024 * (t.val / 4) + i.val < 4096) :
    (iblk m c 4 t : Vec Ideal S1024x1024 .f32) (ix2 i q) = A4 m c (ix2 ⟨1024 * (t.val / 4) + i.val, h⟩ q) := by
  blk_ext [iblk, V, ix t]

theorem rd0 (k : Fin 1024) (hs : 0 ≤ t.val % 4) (he : t.val % 4 < 2) (h : 1024 * (t.val / 4) + i.val < 4096) (h' : 1024 * (t.val % 4 - 0) + k.val < 2048) :
    (iblk m c 0 t : Vec Ideal S1024x1024 .bf16) (ix2 i k) = A0 m c (ix2 ⟨1024 * (t.val / 4) + i.val, h⟩ ⟨1024 * (t.val % 4 - 0) + k.val, h'⟩) := by
  blk_ext [iblk, V, at0 t hs he]
theorem part0 (hI : I.val = 1024 * (t.val / 4) + i.val) (hs : 0 ≤ t.val % 4) (he : t.val % 4 < 2) :
    part (iblk m c 0 t) (iblk m c 3 t) i q = S m c I q (t.val % 4) := by
  have h : 1024 * (t.val / 4) + i.val < 4096 := hI ▸ I.isLt
  obtain rfl : I = ⟨1024 * (t.val / 4) + i.val, h⟩ := Fin.ext hI
  exact part_congr _ _ i q (fun k => col (A0 m c) (A1 m c) (A2 m c) ⟨_, h⟩ (1024 * (t.val % 4) + k.val)) (fun k => wt (A3 m c) q (1024 * (t.val % 4) + k.val))
    (fun k => (rd0 m c t i k hs he h (by omega)).trans (col0 _ _ _ _ _ k hs he).symm)
    (fun k => (rdw m c t q k (by omega)).trans (wts _ q _ k (by omega)).symm)

theorem rd1 (k : Fin 1024) (hs : 2 ≤ t.val % 4) (he : t.val % 4 < 3) (h : 1024 * (t.val / 4) + i.val < 4096) (h' : 1024 * (t.val % 4 - 2) + k.val < 1024) :
    (iblk m c 1 t : Vec Ideal S1024x1024 .bf16) (ix2 i k) = A1 m c (ix2 ⟨1024 * (t.val / 4) + i.val, h⟩ ⟨1024 * (t.val % 4 - 2) + k.val, h'⟩) := by
  blk_ext [iblk, V, at1 t hs he]
theorem part1 (hI : I.val = 1024 * (t.val / 4) + i.val) (hs : 2 ≤ t.val % 4) (he : t.val % 4 < 3) :
    part (iblk m c 1 t) (iblk m c 3 t) i q = S m c I q (t.val % 4) := by
  have h : 1024 * (t.val / 4) + i.val < 4096 := hI ▸ I.isLt
  obtain rfl : I = ⟨1024 * (t.val / 4) + i.val, h⟩ := Fin.ext hI
  exact part_congr _ _ i q (fun k => col (A0 m c) (A1 m c) (A2 m c) ⟨_, h⟩ (1024 * (t.val % 4) + k.val)) (fun k => wt (A3 m c) q (1024 * (t.val % 4) + k.val))
    (fun k => (rd1 m c t i k hs he h (by omega)).trans (col1 _ _ _ _ _ k hs he).symm)
    (fun k => (rdw m c t q k (by omega)).trans (wts _ q _ k (by omega)).symm)

theorem rd2 (k : Fin 1024) (hs : 3 ≤ t.val % 4) (he : t.val % 4 < 4) (h : 1024 * (t.val / 4) + i.val < 4096) (h' : 1024 * (t.val % 4 - 3) + k.val < 1024) :
    (iblk m c 2 t : Vec Ideal S1024x1024 .bf16) (ix2 i k) = A2 m c (ix2 ⟨1024 * (t.val / 4) + i.val, h⟩ ⟨1024 * (t.val % 4 - 3) + k.val, h'⟩) := by
  blk_ext [iblk, V, at2 t hs he]
theorem part2 (hI : I.val = 1024 * (t.val / 4) + i.val) (hs : 3 ≤ t.val % 4) (he : t.val % 4 < 4) :
    part (iblk m c 2 t) (iblk m c 3 t) i q = S m c I q (t.val % 4) := by
  have h : 1024 * (t.val / 4) + i.val < 4096 := hI ▸ I.isLt
  obtain rfl : I = ⟨1024 * (t.val / 4) + i.val, h⟩ := Fin.ext hI
  exact part_congr _ _ i q (fun k => col (A0 m c) (A1 m c) (A2 m c) ⟨_, h⟩ (1024 * (t.val % 4) + k.val)) (fun k => wt (A3 m c) q (1024 * (t.val % 4) + k.val))
    (fun k => (rd2 m c t i k hs he h (by omega)).trans (col2 _ _ _ _ _ k hs he).symm)
    (fun k => (rdw m c t q k (by omega)).trans (wts _ q _ k (by omega)).symm)

theorem first (h0 : t.val % 4 = 0) : (outsAt0 m c t.val t.isLt).2 (ix2 i q) = part (iblk m c 0 t) (iblk m c 3 t) i q := by
  rw [outsAt0_A m c t (by omega) (by omega) (by omega) (by omega) (by omega)]
  frame_out
  refine (point2 _ _ _ i q).trans ((congrArg (· + part _ _ i q) ?_).trans (zero_add _))
  try simp only [read_unread_whole]
  exact point1 i q

theorem stepB (hp : t.val - 1 < cfg0.N) (h0 : t.val % 4 = 1) :
    (outsAt0 m c t.val t.isLt).2 (ix2 i q) = ((outsAt0 m c (t.val - 1) hp).2 (ix2 i q) + part (iblk m c 0 t) (iblk m c 3 t) i q : EReal) := by
  rw [outsAt0_B m c t (by omega) (by omega) (by omega) (by omega) (by omega)]
  frame_out
  simp only [read_unread_whole]
  exact point2 _ _ _ i q

theorem stepC (hp : t.val - 1 < cfg0.N) (h0 : t.val % 4 = 2) :
    (outsAt0 m c t.val t.isLt).2 (ix2 i q) = ((outsAt0 m c (t.val - 1) hp).2 (ix2 i q) + part (iblk m c 1 t) (iblk m c 3 t) i q : EReal) := by
  rw [outsAt0_C m c t (by omega) (by omega) (by omega) (by omega) (by omega)]
  frame_out
  simp only [read_unread_whole]
  exact point3 _ _ _ i q

theorem stepD (hp : t.val - 1 < cfg0.N) (h0 : t.val % 4 = 3) :
    (outsAt0 m c t.val t.isLt).2 (ix2 i q) = ((outsAt0 m c (t.val - 1) hp).2 (ix2 i q) + part (iblk m c 2 t) (iblk m c 3 t) i q : EReal) := by
  rw [outsAt0_D m c t (by omega) (by omega) (by omega) (by omega) (by omega)]
  frame_out
  simp only [read_unread_whole]
  exact point4 _ _ _ i q

theorem step (hp : t.val - 1 < cfg0.N) (hI : I.val = 1024 * (t.val / 4) + i.val) (h0 : t.val % 4 ≠ 0) :
    (outsAt0 m c t.val t.isLt).2 (ix2 i q) = ((outsAt0 m c (t.val - 1) hp).2 (ix2 i q) + S m c I q (t.val % 4) : EReal) := by
  by_cases hB : t.val % 4 = 1
  · exact (stepB m c t i q hp (by omega)).trans (congrArg (_ + ·) (part0 m c t i q I hI (by omega) (by omega)))
  by_cases hC : t.val % 4 = 2
  · exact (stepC m c t i q hp (by omega)).trans (congrArg (_ + ·) (part1 m c t i q I hI (by omega) (by omega)))
  exact (stepD m c t i q hp (by omega)).trans (congrArg (_ + ·) (part2 m c t i q I hI (by omega) (by omega)))

/-- The scratch after a point: the slabs so far. -/
theorem acc : ∀ (s : ℕ) (t : Fin cfg0.N) (hI : I.val = 1024 * (t.val / 4) + i.val) (hs : t.val % 4 = s),
    (outsAt0 m c t.val t.isLt).2 (ix2 i q) = (∑ r ∈ Finset.range (s + 1), S m c I q r : EReal)
  | 0, t, hI, hs => by
    rw [Finset.sum_range_one]
    exact (first m c t i q hs).trans ((part0 m c t i q I hI (by omega) (by omega)).trans (by rw [hs]))
  | s + 1, t, hI, hs => by
    have hp : t.val - 1 < cfg0.N := Nat.lt_of_le_of_lt (Nat.sub_le _ _) t.isLt
    rw [Finset.sum_range_succ]
    refine (step m c t i q I hp hI (by omega)).trans (congrArg₂ (· + ·) (acc s ⟨t.val - 1, hp⟩ ?_ ?_) (by rw [hs]))
    · show I.val = 1024 * ((t.val - 1) / 4) + i.val
      omega
    · show (t.val - 1) % 4 = s
      omega

theorem last (hI : I.val = 1024 * (t.val / 4) + i.val) (h0 : t.val % 4 = 3) :
    (outsAt0 m c t.val t.isLt).1 (ix2 i q) = tot m c (ix2 I q) := by
  have hp : t.val - 1 < cfg0.N := Nat.lt_of_le_of_lt (Nat.sub_le _ _) t.isLt
  have key := acc m c i q I 3 t hI h0
  rw [stepD m c t i q hp h0] at key
  rw [outsAt0_D m c t (by omega) (by omega) (by omega) (by omega) (by omega)]
  frame_out
  simp only [read_unread_whole]
  have h : 1024 * (t.val / 4) + i.val < 4096 := hI ▸ I.isLt
  have e : (iblk m c 4 t : Vec Ideal S1024x1024 .f32) (ix2 i q) = A4 m c (ix2 I q) :=
    (rdr m c t i q h).trans (congrArg (fun z => A4 m c (ix2 z q)) (Fin.ext hI.symm))
  refine (point5 _ i q _).trans (congrArg₂ (· + ·) e ((point4 _ _ _ i q).trans ?_))
  exact (key.trans (sum_blocks 1024 (fun n => term (A0 m c) (A1 m c) (A2 m c) (A3 m c) I q n) 4).symm)

theorem emb (G : S4096x1024.Idx → EReal) (h : 1024 * (t.val / 4) + i.val < 4096) :
    G (((cfg0.win 5).blk t).view.emb (ix2 i q)) = G (ix2 ⟨1024 * (t.val / 4) + i.val, h⟩ q) := by
  blk_ext [ix t]

theorem arr : (dats m 0 c).arrAt 5 cfg0.N = tot m c := by
  refine (dats m 0 c).arrAt_eq_of_covers 5 _ (by decide +kernel) fun t hf y => ?_
  have h1 : t.val % 4 = 3 := (flush0_5 t).mp hf
  blk_simp
  rw [after0_5]
  obtain ⟨i, q, rfl⟩ : ∃ (i : Fin 1024) (q : Fin 1024), y = ix2 i q := ⟨y 0, y 1, eq_ix2 y⟩
  have ht : t.val < 16 := t.isLt
  have h : 1024 * (t.val / 4) + i.val < 4096 := by omega
  exact (last m c t i q ⟨_, h⟩ rfl h1).trans (emb t i q _ h).symm

theorem frame_r : quiescent_Reference14Ideal (hReference14Ideal := Reference14Ideal.Gen.facts) := by
  intro m ρ _
  exact (θ_run Reference14Ideal.defs _ _).mono (fun r h => ⟨fun c => (h c).2, sem_eq_zero_of_no_sems (by decide) r.2⟩)
    (Reference14Ideal.Value.run m ρ)

theorem equal : algebraic_Kernel14Ideal_Reference14Ideal (hKernel14Ideal := Kernel14Ideal.Gen.facts)
    (hReference14Ideal := Reference14Ideal.Gen.facts) := by
  intro m g m' g' _ hagree
  refine ⟨tot m, ?_, ?_⟩
  · refine (θ_run _ _ _).mono (fun r h c => ?_) (Kernel14Ideal.Value.run_blocks m g)
    obtain ⟨h0, h1⟩ := h c
    exact ⟨h0.trans (arr m c), h1⟩
  · refine (θ_run _ _ _).mono (fun r h c => ?_) (Reference14Ideal.Value.run m' g')
    obtain ⟨h0, h1⟩ := h c
    obtain ⟨e0, e1, e2, e3, e4⟩ := hagree c
    refine ⟨h0.trans ?_, h1⟩
    rw [e0, e1, e2, e3, e4]
    funext j
    pointwise [tot, prod]
    rw [Finset.sum_range]
    refine congrArg₂ (· + ·) rfl (Finset.sum_congr rfl fun x _ => congrArg₂ (· * ·) ?_ (wt_eq _ (j 1) x).symm)
    have hx : x.val < 4096 := x.isLt
    unfold col
    by_cases h0 : x.val < 2048
    · rw [dif_pos h0, dif_pos h0]
      rfl
    rw [dif_neg (show ¬x.val < 2048 by omega), dif_neg h0]
    by_cases h1 : x.val < 3072
    · rw [dif_pos (show x.val - 2048 < 1024 by omega), dif_pos h1]
    rw [dif_neg (show ¬x.val - 2048 < 1024 by omega), dif_neg h1]
    rw [dif_pos (show x.val < 4096 by omega)]
    exact congrArg (fun z => (A2 m c) (ix2 (j 0) z)) (Fin.ext (by show x.val - 2048 - 1024 = x.val - 3072; omega))

end Cert.Proof.K14

end
-- ==== Proof.Adam.lean ====
/-
  One entry of an AdamW step.
-/
module

public import Idealize.ShloMosaic.Lib.Pointwise

@[expose] public section

noncomputable section

open Idealize.ShloMosaic

namespace Cert.Proof.Adam

/-- The new first moment. -/
def mom (g m : EReal) : EReal := Ideal.ofBits .f32 0x3F666666#32 * m + Ideal.ofBits .f32 0x3DCCCCCD#32 * g
/-- The new second moment. -/
def var (g v : EReal) : EReal := Ideal.ofBits .f32 0x3F7FBE77#32 * v + Ideal.ofBits .f32 0x3A83126F#32 * (g * g)
/-- The weight's change. -/
def change (g w m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)

theorem change_congr {g w m v g' w' m' v' : EReal} (hg : g = g') (hw : w = w') (hm : m = m') (hv : v = v') :
    change g w m v = change g' w' m' v' := by rw [hg, hw, hm, hv]

end Cert.Proof.Adam

end
-- ==== Proof.K15.lean ====
/-
  The optimiser's step on a feed-forward layer's input weight.
-/
module

public import proofs.«01_k».proof.Proof.Gen.Kernel15Ideal.Value
public import proofs.«01_k».proof.Proof.Gen.Reference15Ideal.Run
public import proofs.«01_k».proof.Proof.Adam
public import proofs.«01_k».proof.Proof.Half

@[expose] public section

noncomputable section

open Idealize.ShloMosaic Idealize.ShloMosaic.TcCoe Idealize.SL.Sem

namespace Cert.Proof.K15

open Cert.Kernel15Ideal Cert.Kernel15Ideal.Gen Adam

/-- The gradient: the sum of the parts. -/
def grad (p : S8x704x1024.Idx → EReal) : S704x1024.Idx → EReal := fun j => ∑ d : Fin 8, p (ix3 d (j 0) (j 1))

section
variable (x0 : Vec Ideal S8x704x512 .bf16) (x1 x2 x3 : Vec Ideal S704x512 .f32) (i : Fin 704) (q : Fin 512)
def part (x : S8x704x512.Idx → EReal) : EReal := ∑ d : Fin 8, x (ix3 d i q)
theorem part_congr (x : S8x704x512.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay4, part]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, k0_pay3, change, mom, var]
  simp only [total]
theorem point6 : out0_6 x0 x1 x2 x3 (ix2 i q) = mom (part i q x0) (x2 (ix2 i q)) := by
  unfold out0_6
  simp (disch := decide) only [View.canon_cons_unit_lit', View.ld_unit_lit']
  pointwise [k0_pay1, k0_pay2, k0_pay3, mom]
  simp only [total]
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, k0_pay3, var]
  simp only [total]
end

variable (m : (ℓ : Loc nD τ sig) → Buf (Elt Ideal) ℓ) (c : Dev nD)

def G : S704x1024.Idx → EReal := grad (m ((c : Thread nD τ).loc main_arg0))
def W : S704x1024.Idx → EReal := m ((c : Thread nD τ).loc main_arg1)
def M1 : S704x1024.Idx → EReal := m ((c : Thread nD τ).loc main_arg2)
def M2 : S704x1024.Idx → EReal := m ((c : Thread nD τ).loc main_arg3)
def D : S704x1024.Idx → EReal := fun j => change (G m c j) (W m c j) (M1 m c j) (M2 m c j)
def N1 : S704x1024.Idx → EReal := fun j => mom (G m c j) (M1 m c j)
def N2 : S704x1024.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 704) (q : Fin 512)
theorem lt : 512 * t.val + q.val < 1024 := by
  have ht : t.val < 2 := t.isLt
  omega

theorem rd0 : part i q (iblk m c 0 t) = G m c (ix2 i ⟨512 * t.val + q.val, lt t q⟩) :=
  part_congr i q (iblk m c 0 t) _ fun d => (by blk_ext [iblk, V, ix t] :
    (iblk m c 0 t : Vec Ideal S8x704x512 .bf16) (ix3 d i q) = m ((c : Thread nD τ).loc main_arg0) (ix3 d i ⟨512 * t.val + q.val, lt t q⟩))
theorem rd1 : (iblk m c 1 t : Vec Ideal S704x512 .f32) (ix2 i q) = W m c (ix2 i ⟨512 * t.val + q.val, lt t q⟩) := by
  unfold W
  blk_ext [iblk, V, ix t]
theorem rd2 : (iblk m c 2 t : Vec Ideal S704x512 .f32) (ix2 i q) = M1 m c (ix2 i ⟨512 * t.val + q.val, lt t q⟩) := by
  unfold M1
  blk_ext [iblk, V, ix t]
theorem rd3 : (iblk m c 3 t : Vec Ideal S704x512 .f32) (ix2 i q) = M2 m c (ix2 i ⟨512 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 704) (q : Fin 512), y = ix2 i q := ⟨y 0, y 1, eq_ix2 y⟩
  have he : ((cfg0.win 4).blk t).view.emb (ix2 i q) = (ix2 i ⟨_, lt t q⟩ : S704x1024.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 704) (q : Fin 512), y = ix2 i q := ⟨y 0, y 1, eq_ix2 y⟩
  have he : ((cfg0.win 5).blk t).view.emb (ix2 i q) = (ix2 i ⟨_, lt t q⟩ : S704x1024.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 704) (q : Fin 512), y = ix2 i q := ⟨y 0, y 1, eq_ix2 y⟩
  have he : ((cfg0.win 6).blk t).view.emb (ix2 i q) = (ix2 i ⟨_, lt t q⟩ : S704x1024.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 704) (q : Fin 512), y = ix2 i q := ⟨y 0, y 1, eq_ix2 y⟩
  have he : ((cfg0.win 7).blk t).view.emb (ix2 i q) = (ix2 i ⟨_, lt t q⟩ : S704x1024.Idx) := by blk_ext [ix t]
  exact (point7 _ _ _ _ i q).trans ((congrArg₂ var (rd0 m c t i q) (rd3 m c t i q)).trans (congrArg (N2 m c) he.symm))

theorem frame_r : quiescent_Reference15Ideal (hReference15Ideal := Reference15Ideal.Gen.facts) := by
  intro m ρ _
  exact (θ_run Reference15Ideal.defs _ _).mono (fun r h => ⟨fun c => (h c).2.2.2.2, sem_eq_zero_of_no_sems (by decide) r.2⟩)
    (Reference15Ideal.Value.run m ρ)

theorem equal : algebraic_Kernel15Ideal_Reference15Ideal (hKernel15Ideal := Kernel15Ideal.Gen.facts)
    (hReference15Ideal := Reference15Ideal.Gen.facts) := by
  intro m g m' g' _ hagree
  refine ⟨G m, D m, N1 m, N2 m, ?_, ?_⟩
  · refine (θ_run _ _ _).mono (fun r h c => ?_) (Kernel15Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference15Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K15

end
-- ==== Proof.K16.lean ====
/-
  The optimiser's step on a feed-forward layer's output weight.
-/
module

public import proofs.«01_k».proof.Proof.Gen.Kernel16Ideal.Value
public import proofs.«01_k».proof.Proof.Gen.Reference16Ideal.Run
public import proofs.«01_k».proof.Proof.Adam
public import proofs.«01_k».proof.Proof.Half

@[expose] public section

noncomputable section

open Idealize.ShloMosaic Idealize.ShloMosaic.TcCoe Idealize.SL.Sem

namespace Cert.Proof.K16

open Cert.Kernel16Ideal Cert.Kernel16Ideal.Gen Adam

/-- The gradient: the sum of the parts. -/
def grad (p : S8x352x1024.Idx → EReal) : S352x1024.Idx → EReal := fun j => ∑ d : Fin 8, p (ix3 d (j 0) (j 1))

section
variable (x0 : Vec Ideal S8x352x512 .bf16) (x1 x2 x3 : Vec Ideal S352x512 .f32) (i : Fin 352) (q : Fin 512)
def part (x : S8x352x512.Idx → EReal) : EReal := ∑ d : Fin 8, x (ix3 d i q)
theorem part_congr (x : S8x352x512.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay4, part]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, k0_pay3, change, mom, var]
  simp only [total]
theorem point6 : out0_6 x0 x1 x2 x3 (ix2 i q) = mom (part i q x0) (x2 (ix2 i q)) := by
  unfold out0_6
  simp (disch := decide) only [View.canon_cons_unit_lit', View.ld_unit_lit']
  pointwise [k0_pay1, k0_pay2, k0_pay3, mom]
  simp only [total]
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, k0_pay3, var]
  simp only [total]
end

variable (m : (ℓ : Loc nD τ sig) → Buf (Elt Ideal) ℓ) (c : Dev nD)

def G : S352x1024.Idx → EReal := grad (m ((c : Thread nD τ).loc main_arg0))
def W : S352x1024.Idx → EReal := m ((c : Thread nD τ).loc main_arg1)
def M1 : S352x1024.Idx → EReal := m ((c : Thread nD τ).loc main_arg2)
def M2 : S352x1024.Idx → EReal := m ((c : Thread nD τ).loc main_arg3)
def D : S352x1024.Idx → EReal := fun j => change (G m c j) (W m c j) (M1 m c j) (M2 m c j)
def N1 : S352x1024.Idx → EReal := fun j => mom (G m c j) (M1 m c j)
def N2 : S352x1024.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 352) (q : Fin 512)
theorem lt : 512 * t.val + q.val < 1024 := by
  have ht : t.val < 2 := t.isLt
  omega

theorem rd0 : part i q (iblk m c 0 t) = G m c (ix2 i ⟨512 * t.val + q.val, lt t q⟩) :=
  part_congr i q (iblk m c 0 t) _ fun d => (by blk_ext [iblk, V, ix t] :
    (iblk m c 0 t : Vec Ideal S8x352x512 .bf16) (ix3 d i q) = m ((c : Thread nD τ).loc main_arg0) (ix3 d i ⟨512 * t.val + q.val, lt t q⟩))
theorem rd1 : (iblk m c 1 t : Vec Ideal S352x512 .f32) (ix2 i q) = W m c (ix2 i ⟨512 * t.val + q.val, lt t q⟩) := by
  unfold W
  blk_ext [iblk, V, ix t]
theorem rd2 : (iblk m c 2 t : Vec Ideal S352x512 .f32) (ix2 i q) = M1 m c (ix2 i ⟨512 * t.val + q.val, lt t q⟩) := by
  unfold M1
  blk_ext [iblk, V, ix t]
theorem rd3 : (iblk m c 3 t : Vec Ideal S352x512 .f32) (ix2 i q) = M2 m c (ix2 i ⟨512 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 352) (q : Fin 512), y = ix2 i q := ⟨y 0, y 1, eq_ix2 y⟩
  have he : ((cfg0.win 4).blk t).view.emb (ix2 i q) = (ix2 i ⟨_, lt t q⟩ : S352x1024.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 352) (q : Fin 512), y = ix2 i q := ⟨y 0, y 1, eq_ix2 y⟩
  have he : ((cfg0.win 5).blk t).view.emb (ix2 i q) = (ix2 i ⟨_, lt t q⟩ : S352x1024.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 352) (q : Fin 512), y = ix2 i q := ⟨y 0, y 1, eq_ix2 y⟩
  have he : ((cfg0.win 6).blk t).view.emb (ix2 i q) = (ix2 i ⟨_, lt t q⟩ : S352x1024.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 352) (q : Fin 512), y = ix2 i q := ⟨y 0, y 1, eq_ix2 y⟩
  have he : ((cfg0.win 7).blk t).view.emb (ix2 i q) = (ix2 i ⟨_, lt t q⟩ : S352x1024.Idx) := by blk_ext [ix t]
  exact (point7 _ _ _ _ i q).trans ((congrArg₂ var (rd0 m c t i q) (rd3 m c t i q)).trans (congrArg (N2 m c) he.symm))

theorem frame_r : quiescent_Reference16Ideal (hReference16Ideal := Reference16Ideal.Gen.facts) := by
  intro m ρ _
  exact (θ_run Reference16Ideal.defs _ _).mono (fun r h => ⟨fun c => (h c).2.2.2.2, sem_eq_zero_of_no_sems (by decide) r.2⟩)
    (Reference16Ideal.Value.run m ρ)

theorem equal : algebraic_Kernel16Ideal_Reference16Ideal (hKernel16Ideal := Kernel16Ideal.Gen.facts)
    (hReference16Ideal := Reference16Ideal.Gen.facts) := by
  intro m g m' g' _ hagree
  refine ⟨G m, D m, N1 m, N2 m, ?_, ?_⟩
  · refine (θ_run _ _ _).mono (fun r h c => ?_) (Kernel16Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference16Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K16

end
-- ==== Proof.K17.lean ====
/-
  The optimiser's step on the mixer's input weight.
-/
module

public import proofs.«01_k».proof.Proof.Gen.Kernel17Ideal.Value
public import proofs.«01_k».proof.Proof.Gen.Reference17Ideal.Run
public import proofs.«01_k».proof.Proof.Adam
public import proofs.«01_k».proof.Proof.Half

@[expose] public section

noncomputable section

open Idealize.ShloMosaic Idealize.ShloMosaic.TcCoe Idealize.SL.Sem

namespace Cert.Proof.K17

open Cert.Kernel17Ideal Cert.Kernel17Ideal.Gen Adam

/-- The gradient: the sum of the parts. -/
def grad (p : S8x1540x1024.Idx → EReal) : S1540x1024.Idx → EReal := fun j => ∑ d : Fin 8, p (ix3 d (j 0) (j 1))

section
variable (x0 : Vec Ideal S8x1540x256 .bf16) (x1 x2 x3 : Vec Ideal S1540x256 .f32) (i : Fin 1540) (q : Fin 256)
def part (x : S8x1540x256.Idx → EReal) : EReal := ∑ d : Fin 8, x (ix3 d i q)
theorem part_congr (x : S8x1540x256.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay4, part]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, k0_pay3, change, mom, var]
  simp only [total]
theorem point6 : out0_6 x0 x1 x2 x3 (ix2 i q) = mom (part i q x0) (x2 (ix2 i q)) := by
  unfold out0_6
  simp (disch := decide) only [View.canon_cons_unit_lit', View.ld_unit_lit']
  pointwise [k0_pay1, k0_pay2, k0_pay3, mom]
  simp only [total]
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, k0_pay3, var]
  simp only [total]
end

variable (m : (ℓ : Loc nD τ sig) → Buf (Elt Ideal) ℓ) (c : Dev nD)

def G : S1540x1024.Idx → EReal := grad (m ((c : Thread nD τ).loc main_arg0))
def W : S1540x1024.Idx → EReal := m ((c : Thread nD τ).loc main_arg1)
def M1 : S1540x1024.Idx → EReal := m ((c : Thread nD τ).loc main_arg2)
def M2 : S1540x1024.Idx → EReal := m ((c : Thread nD τ).loc main_arg3)
def D : S1540x1024.Idx → EReal := fun j => change (G m c j) (W m c j) (M1 m c j) (M2 m c j)
def N1 : S1540x1024.Idx → EReal := fun j => mom (G m c j) (M1 m c j)
def N2 : S1540x1024.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 1540) (q : Fin 256)
theorem lt : 256 * t.val + q.val < 1024 := by
  have ht : t.val < 4 := t.isLt
  omega

theorem rd0 : part i q (iblk m c 0 t) = G m c (ix2 i ⟨256 * t.val + q.val, lt t q⟩) :=
  part_congr i q (iblk m c 0 t) _ fun d => (by blk_ext [iblk, V, ix t] :
    (iblk m c 0 t : Vec Ideal S8x1540x256 .bf16) (ix3 d i q) = m ((c : Thread nD τ).loc main_arg0) (ix3 d i ⟨256 * t.val + q.val, lt t q⟩))
theorem rd1 : (iblk m c 1 t : Vec Ideal S1540x256 .f32) (ix2 i q) = W m c (ix2 i ⟨256 * t.val + q.val, lt t q⟩) := by
  unfold W
  blk_ext [iblk, V, ix t]
theorem rd2 : (iblk m c 2 t : Vec Ideal S1540x256 .f32) (ix2 i q) = M1 m c (ix2 i ⟨256 * t.val + q.val, lt t q⟩) := by
  unfold M1
  blk_ext [iblk, V, ix t]
theorem rd3 : (iblk m c 3 t : Vec Ideal S1540x256 .f32) (ix2 i q) = M2 m c (ix2 i ⟨256 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 1540) (q : Fin 256), y = ix2 i q := ⟨y 0, y 1, eq_ix2 y⟩
  have he : ((cfg0.win 4).blk t).view.emb (ix2 i q) = (ix2 i ⟨_, lt t q⟩ : S1540x1024.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 1540) (q : Fin 256), y = ix2 i q := ⟨y 0, y 1, eq_ix2 y⟩
  have he : ((cfg0.win 5).blk t).view.emb (ix2 i q) = (ix2 i ⟨_, lt t q⟩ : S1540x1024.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 1540) (q : Fin 256), y = ix2 i q := ⟨y 0, y 1, eq_ix2 y⟩
  have he : ((cfg0.win 6).blk t).view.emb (ix2 i q) = (ix2 i ⟨_, lt t q⟩ : S1540x1024.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 1540) (q : Fin 256), y = ix2 i q := ⟨y 0, y 1, eq_ix2 y⟩
  have he : ((cfg0.win 7).blk t).view.emb (ix2 i q) = (ix2 i ⟨_, lt t q⟩ : S1540x1024.Idx) := by blk_ext [ix t]
  exact (point7 _ _ _ _ i q).trans ((congrArg₂ var (rd0 m c t i q) (rd3 m c t i q)).trans (congrArg (N2 m c) he.symm))

theorem frame_r : quiescent_Reference17Ideal (hReference17Ideal := Reference17Ideal.Gen.facts) := by
  intro m ρ _
  exact (θ_run Reference17Ideal.defs _ _).mono (fun r h => ⟨fun c => (h c).2.2.2.2, sem_eq_zero_of_no_sems (by decide) r.2⟩)
    (Reference17Ideal.Value.run m ρ)

theorem equal : algebraic_Kernel17Ideal_Reference17Ideal (hKernel17Ideal := Kernel17Ideal.Gen.facts)
    (hReference17Ideal := Reference17Ideal.Gen.facts) := by
  intro m g m' g' _ hagree
  refine ⟨G m, D m, N1 m, N2 m, ?_, ?_⟩
  · refine (θ_run _ _ _).mono (fun r h c => ?_) (Kernel17Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference17Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K17

end
-- ==== Proof.K18.lean ====
/-
  The optimiser's step on the mixer's output weight.
-/
module

public import proofs.«01_k».proof.Proof.Gen.Kernel18Ideal.Value
public import proofs.«01_k».proof.Proof.Gen.Reference18Ideal.Run
public import proofs.«01_k».proof.Proof.Adam
public import proofs.«01_k».proof.Proof.Half

@[expose] public section

noncomputable section

open Idealize.ShloMosaic Idealize.ShloMosaic.TcCoe Idealize.SL.Sem

namespace Cert.Proof.K18

open Cert.Kernel18Ideal Cert.Kernel18Ideal.Gen Adam

/-- The gradient: the sum of the parts. -/
def grad (p : S8x128x1024.Idx → EReal) : S128x1024.Idx → EReal := fun j => ∑ d : Fin 8, p (ix3 d (j 0) (j 1))

section
variable (x0 : Vec Ideal S8x128x512 .bf16) (x1 x2 x3 : Vec Ideal S128x512 .f32) (i : Fin 128) (q : Fin 512)
def part (x : S8x128x512.Idx → EReal) : EReal := ∑ d : Fin 8, x (ix3 d i q)
theorem part_congr (x : S8x128x512.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay4, part]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, k0_pay3, change, mom, var]
  simp only [total]
theorem point6 : out0_6 x0 x1 x2 x3 (ix2 i q) = mom (part i q x0) (x2 (ix2 i q)) := by
  unfold out0_6
  simp (disch := decide) only [View.canon_cons_unit_lit', View.ld_unit_lit']
  pointwise [k0_pay1, k0_pay2, k0_pay3, mom]
  simp only [total]
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, k0_pay3, var]
  simp only [total]
end

variable (m : (ℓ : Loc nD τ sig) → Buf (Elt Ideal) ℓ) (c : Dev nD)

def G : S128x1024.Idx → EReal := grad (m ((c : Thread nD τ).loc main_arg0))
def W : S128x1024.Idx → EReal := m ((c : Thread nD τ).loc main_arg1)
def M1 : S128x1024.Idx → EReal := m ((c : Thread nD τ).loc main_arg2)
def M2 : S128x1024.Idx → EReal := m ((c : Thread nD τ).loc main_arg3)
def D : S128x1024.Idx → EReal := fun j => change (G m c j) (W m c j) (M1 m c j) (M2 m c j)
def N1 : S128x1024.Idx → EReal := fun j => mom (G m c j) (M1 m c j)
def N2 : S128x1024.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 128) (q : Fin 512)
theorem lt : 512 * t.val + q.val < 1024 := by
  have ht : t.val < 2 := t.isLt
  omega

theorem rd0 : part i q (iblk m c 0 t) = G m c (ix2 i ⟨512 * t.val + q.val, lt t q⟩) :=
  part_congr i q (iblk m c 0 t) _ fun d => (by blk_ext [iblk, V, ix t] :
    (iblk m c 0 t : Vec Ideal S8x128x512 .bf16) (ix3 d i q) = m ((c : Thread nD τ).loc main_arg0) (ix3 d i ⟨512 * t.val + q.val, lt t q⟩))
theorem rd1 : (iblk m c 1 t : Vec Ideal S128x512 .f32) (ix2 i q) = W m c (ix2 i ⟨512 * t.val + q.val, lt t q⟩) := by
  unfold W
  blk_ext [iblk, V, ix t]
theorem rd2 : (iblk m c 2 t : Vec Ideal S128x512 .f32) (ix2 i q) = M1 m c (ix2 i ⟨512 * t.val + q.val, lt t q⟩) := by
  unfold M1
  blk_ext [iblk, V, ix t]
theorem rd3 : (iblk m c 3 t : Vec Ideal S128x512 .f32) (ix2 i q) = M2 m c (ix2 i ⟨512 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 128) (q : Fin 512), y = ix2 i q := ⟨y 0, y 1, eq_ix2 y⟩
  have he : ((cfg0.win 4).blk t).view.emb (ix2 i q) = (ix2 i ⟨_, lt t q⟩ : S128x1024.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 128) (q : Fin 512), y = ix2 i q := ⟨y 0, y 1, eq_ix2 y⟩
  have he : ((cfg0.win 5).blk t).view.emb (ix2 i q) = (ix2 i ⟨_, lt t q⟩ : S128x1024.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 128) (q : Fin 512), y = ix2 i q := ⟨y 0, y 1, eq_ix2 y⟩
  have he : ((cfg0.win 6).blk t).view.emb (ix2 i q) = (ix2 i ⟨_, lt t q⟩ : S128x1024.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 128) (q : Fin 512), y = ix2 i q := ⟨y 0, y 1, eq_ix2 y⟩
  have he : ((cfg0.win 7).blk t).view.emb (ix2 i q) = (ix2 i ⟨_, lt t q⟩ : S128x1024.Idx) := by blk_ext [ix t]
  exact (point7 _ _ _ _ i q).trans ((congrArg₂ var (rd0 m c t i q) (rd3 m c t i q)).trans (congrArg (N2 m c) he.symm))

theorem frame_r : quiescent_Reference18Ideal (hReference18Ideal := Reference18Ideal.Gen.facts) := by
  intro m ρ _
  exact (θ_run Reference18Ideal.defs _ _).mono (fun r h => ⟨fun c => (h c).2.2.2.2, sem_eq_zero_of_no_sems (by decide) r.2⟩)
    (Reference18Ideal.Value.run m ρ)

theorem equal : algebraic_Kernel18Ideal_Reference18Ideal (hKernel18Ideal := Kernel18Ideal.Gen.facts)
    (hReference18Ideal := Reference18Ideal.Gen.facts) := by
  intro m g m' g' _ hagree
  refine ⟨G m, D m, N1 m, N2 m, ?_, ?_⟩
  · refine (θ_run _ _ _).mono (fun r h c => ?_) (Kernel18Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference18Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K18

end
-- ==== Proof.K19.lean ====
/-
  The optimiser's step on the delta rule branch's weight.
-/
module

public import proofs.«01_k».proof.Proof.Gen.Kernel19Ideal.Value
public import proofs.«01_k».proof.Proof.Gen.Reference19Ideal.Run
public import proofs.«01_k».proof.Proof.Adam
public import proofs.«01_k».proof.Proof.Half

@[expose] public section

noncomputable section

open Idealize.ShloMosaic Idealize.ShloMosaic.TcCoe Idealize.SL.Sem

namespace Cert.Proof.K19

open Cert.Kernel19Ideal Cert.Kernel19Ideal.Gen Adam

/-- The gradient: the sum of the parts. -/
def grad (p : S8x256x1024.Idx → EReal) : S256x1024.Idx → EReal := fun j => ∑ d : Fin 8, p (ix3 d (j 0) (j 1))

section
variable (x0 : Vec Ideal S8x256x512 .bf16) (x1 x2 x3 : Vec Ideal S256x512 .f32) (i : Fin 256) (q : Fin 512)
def part (x : S8x256x512.Idx → EReal) : EReal := ∑ d : Fin 8, x (ix3 d i q)
theorem part_congr (x : S8x256x512.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay4, part]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, k0_pay3, change, mom, var]
  simp only [total]
theorem point6 : out0_6 x0 x1 x2 x3 (ix2 i q) = mom (part i q x0) (x2 (ix2 i q)) := by
  unfold out0_6
  simp (disch := decide) only [View.canon_cons_unit_lit', View.ld_unit_lit']
  pointwise [k0_pay1, k0_pay2, k0_pay3, mom]
  simp only [total]
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, k0_pay3, var]
  simp only [total]
end

variable (m : (ℓ : Loc nD τ sig) → Buf (Elt Ideal) ℓ) (c : Dev nD)

def G : S256x1024.Idx → EReal := grad (m ((c : Thread nD τ).loc main_arg0))
def W : S256x1024.Idx → EReal := m ((c : Thread nD τ).loc main_arg1)
def M1 : S256x1024.Idx → EReal := m ((c : Thread nD τ).loc main_arg2)
def M2 : S256x1024.Idx → EReal := m ((c : Thread nD τ).loc main_arg3)
def D : S256x1024.Idx → EReal := fun j => change (G m c j) (W m c j) (M1 m c j) (M2 m c j)
def N1 : S256x1024.Idx → EReal := fun j => mom (G m c j) (M1 m c j)
def N2 : S256x1024.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 256) (q : Fin 512)
theorem lt : 512 * t.val + q.val < 1024 := by
  have ht : t.val < 2 := t.isLt
  omega

theorem rd0 : part i q (iblk m c 0 t) = G m c (ix2 i ⟨512 * t.val + q.val, lt t q⟩) :=
  part_congr i q (iblk m c 0 t) _ fun d => (by blk_ext [iblk, V, ix t] :
    (iblk m c 0 t : Vec Ideal S8x256x512 .bf16) (ix3 d i q) = m ((c : Thread nD τ).loc main_arg0) (ix3 d i ⟨512 * t.val + q.val, lt t q⟩))
theorem rd1 : (iblk m c 1 t : Vec Ideal S256x512 .f32) (ix2 i q) = W m c (ix2 i ⟨512 * t.val + q.val, lt t q⟩) := by
  unfold W
  blk_ext [iblk, V, ix t]
theorem rd2 : (iblk m c 2 t : Vec Ideal S256x512 .f32) (ix2 i q) = M1 m c (ix2 i ⟨512 * t.val + q.val, lt t q⟩) := by
  unfold M1
  blk_ext [iblk, V, ix t]
theorem rd3 : (iblk m c 3 t : Vec Ideal S256x512 .f32) (ix2 i q) = M2 m c (ix2 i ⟨512 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 256) (q : Fin 512), y = ix2 i q := ⟨y 0, y 1, eq_ix2 y⟩
  have he : ((cfg0.win 4).blk t).view.emb (ix2 i q) = (ix2 i ⟨_, lt t q⟩ : S256x1024.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 256) (q : Fin 512), y = ix2 i q := ⟨y 0, y 1, eq_ix2 y⟩
  have he : ((cfg0.win 5).blk t).view.emb (ix2 i q) = (ix2 i ⟨_, lt t q⟩ : S256x1024.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 256) (q : Fin 512), y = ix2 i q := ⟨y 0, y 1, eq_ix2 y⟩
  have he : ((cfg0.win 6).blk t).view.emb (ix2 i q) = (ix2 i ⟨_, lt t q⟩ : S256x1024.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 256) (q : Fin 512), y = ix2 i q := ⟨y 0, y 1, eq_ix2 y⟩
  have he : ((cfg0.win 7).blk t).view.emb (ix2 i q) = (ix2 i ⟨_, lt t q⟩ : S256x1024.Idx) := by blk_ext [ix t]
  exact (point7 _ _ _ _ i q).trans ((congrArg₂ var (rd0 m c t i q) (rd3 m c t i q)).trans (congrArg (N2 m c) he.symm))

theorem frame_r : quiescent_Reference19Ideal (hReference19Ideal := Reference19Ideal.Gen.facts) := by
  intro m ρ _
  exact (θ_run Reference19Ideal.defs _ _).mono (fun r h => ⟨fun c => (h c).2.2.2.2, sem_eq_zero_of_no_sems (by decide) r.2⟩)
    (Reference19Ideal.Value.run m ρ)

theorem equal : algebraic_Kernel19Ideal_Reference19Ideal (hKernel19Ideal := Kernel19Ideal.Gen.facts)
    (hReference19Ideal := Reference19Ideal.Gen.facts) := by
  intro m g m' g' _ hagree
  refine ⟨G m, D m, N1 m, N2 m, ?_, ?_⟩
  · refine (θ_run _ _ _).mono (fun r h c => ?_) (Kernel19Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference19Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K19

end
-- ==== Proof.K20.lean ====
/-
  The optimiser's step on the small weights together.
-/
module

public import proofs.«01_k».proof.Proof.Gen.Kernel20Ideal.Value
public import proofs.«01_k».proof.Proof.Gen.Reference20Ideal.Run
public import proofs.«01_k».proof.Proof.Adam
public import proofs.«01_k».proof.Proof.Half

@[expose] public section

noncomputable section

open Idealize.ShloMosaic Idealize.ShloMosaic.TcCoe Idealize.SL.Sem

namespace Cert.Proof.K20

open Cert.Kernel20Ideal Cert.Kernel20Ideal.Gen Adam

/-- The gradient: the sum of the parts. -/
def grad (p : S8x8x1024.Idx → EReal) : S8x1024.Idx → EReal := fun j => ∑ d : Fin 8, p (ix3 d (j 0) (j 1))

section
variable (x0 : Vec Ideal S8x8x512 .f32) (x1 x2 x3 : Vec Ideal S8x512 .f32) (i : Fin 8) (q : Fin 512)
def part (x : S8x8x512.Idx → EReal) : EReal := ∑ d : Fin 8, x (ix3 d i q)
theorem part_congr (x : S8x8x512.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay3, part]
  simp only [Fin.sum_univ_eight]
theorem moment : k0_pay6 x0 x1 x2 x3 (ix2 i q) = mom (part i q x0) (x2 (ix2 i q)) := by
  unfold k0_pay6
  pointwise [k0_pay3, k0_pay4, part, mom]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, change, var]
  simp only [total, moment]
theorem point6 : out0_6 x0 x1 x2 x3 (ix2 i q) = mom (part i q x0) (x2 (ix2 i q)) := by
  unfold out0_6
  simp (disch := decide) only [View.canon_cons_unit_lit', View.ld_unit_lit']
  exact moment x0 x1 x2 x3 i q
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, var]
  simp only [total]
end

variable (m : (ℓ : Loc nD τ sig) → Buf (Elt Ideal) ℓ) (c : Dev nD)

def G : S8x1024.Idx → EReal := grad (m ((c : Thread nD τ).loc main_arg0))
def W : S8x1024.Idx → EReal := m ((c : Thread nD τ).loc main_arg1)
def M1 : S8x1024.Idx → EReal := m ((c : Thread nD τ).loc main_arg2)
def M2 : S8x1024.Idx → EReal := m ((c : Thread nD τ).loc main_arg3)
def D : S8x1024.Idx → EReal := fun j => change (G m c j) (W m c j) (M1 m c j) (M2 m c j)
def N1 : S8x1024.Idx → EReal := fun j => mom (G m c j) (M1 m c j)
def N2 : S8x1024.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 8) (q : Fin 512)
theorem lt : 512 * t.val + q.val < 1024 := by
  have ht : t.val < 2 := t.isLt
  omega

theorem rd0 : part i q (iblk m c 0 t) = G m c (ix2 i ⟨512 * t.val + q.val, lt t q⟩) :=
  part_congr i q (iblk m c 0 t) _ fun d => (by blk_ext [iblk, V, ix t] :
    (iblk m c 0 t : Vec Ideal S8x8x512 .f32) (ix3 d i q) = m ((c : Thread nD τ).loc main_arg0) (ix3 d i ⟨512 * t.val + q.val, lt t q⟩))
theorem rd1 : (iblk m c 1 t : Vec Ideal S8x512 .f32) (ix2 i q) = W m c (ix2 i ⟨512 * t.val + q.val, lt t q⟩) := by
  unfold W
  blk_ext [iblk, V, ix t]
theorem rd2 : (iblk m c 2 t : Vec Ideal S8x512 .f32) (ix2 i q) = M1 m c (ix2 i ⟨512 * t.val + q.val, lt t q⟩) := by
  unfold M1
  blk_ext [iblk, V, ix t]
theorem rd3 : (iblk m c 3 t : Vec Ideal S8x512 .f32) (ix2 i q) = M2 m c (ix2 i ⟨512 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 8) (q : Fin 512), y = ix2 i q := ⟨y 0, y 1, eq_ix2 y⟩
  have he : ((cfg0.win 4).blk t).view.emb (ix2 i q) = (ix2 i ⟨_, lt t q⟩ : S8x1024.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 8) (q : Fin 512), y = ix2 i q := ⟨y 0, y 1, eq_ix2 y⟩
  have he : ((cfg0.win 5).blk t).view.emb (ix2 i q) = (ix2 i ⟨_, lt t q⟩ : S8x1024.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 8) (q : Fin 512), y = ix2 i q := ⟨y 0, y 1, eq_ix2 y⟩
  have he : ((cfg0.win 6).blk t).view.emb (ix2 i q) = (ix2 i ⟨_, lt t q⟩ : S8x1024.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 8) (q : Fin 512), y = ix2 i q := ⟨y 0, y 1, eq_ix2 y⟩
  have he : ((cfg0.win 7).blk t).view.emb (ix2 i q) = (ix2 i ⟨_, lt t q⟩ : S8x1024.Idx) := by blk_ext [ix t]
  exact (point7 _ _ _ _ i q).trans ((congrArg₂ var (rd0 m c t i q) (rd3 m c t i q)).trans (congrArg (N2 m c) he.symm))

theorem frame_r : quiescent_Reference20Ideal (hReference20Ideal := Reference20Ideal.Gen.facts) := by
  intro m ρ _
  exact (θ_run Reference20Ideal.defs _ _).mono (fun r h => ⟨fun c => (h c).2.2.2.2, sem_eq_zero_of_no_sems (by decide) r.2⟩)
    (Reference20Ideal.Value.run m ρ)

theorem equal : algebraic_Kernel20Ideal_Reference20Ideal (hKernel20Ideal := Kernel20Ideal.Gen.facts)
    (hReference20Ideal := Reference20Ideal.Gen.facts) := by
  intro m g m' g' _ hagree
  refine ⟨G m, D m, N1 m, N2 m, ?_, ?_⟩
  · refine (θ_run _ _ _).mono (fun r h c => ?_) (Kernel20Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference20Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K20

end
-- ==== Proof.K21.lean ====
/-
  The optimiser's step on the convolution's weight.
-/
module

public import proofs.«01_k».proof.Proof.Gen.Kernel21Ideal.Value
public import proofs.«01_k».proof.Proof.Gen.Reference21Ideal.Run
public import proofs.«01_k».proof.Proof.Adam
public import proofs.«01_k».proof.Proof.Half

@[expose] public section

noncomputable section

open Idealize.ShloMosaic Idealize.ShloMosaic.TcCoe Idealize.SL.Sem

namespace Cert.Proof.K21

open Cert.Kernel21Ideal Cert.Kernel21Ideal.Gen Adam

/-- The gradient: the sum of the parts. -/
def grad (p : S8x4x512.Idx → EReal) : S4x512.Idx → EReal := fun j => ∑ d : Fin 8, p (ix3 d (j 0) (j 1))

section
variable (x0 : Vec Ideal S8x4x512 .f32) (x1 x2 x3 : Vec Ideal S4x512 .f32) (i : Fin 4) (q : Fin 512)
def part (x : S8x4x512.Idx → EReal) : EReal := ∑ d : Fin 8, x (ix3 d i q)
theorem part_congr (x : S8x4x512.Idx → EReal) (f : Fin 8 → EReal) (h : ∀ d, x (ix3 d i q) = f d) : part i q x = ∑ d, f d := Finset.sum_congr rfl fun d _ => h d
theorem total : k0_pay5 x0 x1 x2 x3 (ix2 i q) = part i q x0 := by
  unfold k0_pay5
  pointwise [k0_pay3, part]
  simp only [Fin.sum_univ_eight]
theorem moment : k0_pay6 x0 x1 x2 x3 (ix2 i q) = mom (part i q x0) (x2 (ix2 i q)) := by
  unfold k0_pay6
  pointwise [k0_pay3, k0_pay4, part, mom]
  simp only [Fin.sum_univ_eight]
theorem point4 : out0_4 x0 x1 x2 x3 (ix2 i q) = part i q x0 := by
  unfold out0_4
  simp (disch := decide) only [View.canon_cons_unit_lit', View.ld_unit_lit']
  exact total x0 x1 x2 x3 i q
theorem point5 : out0_5 x0 x1 x2 x3 (ix2 i q) = change (part i q x0) (x1 (ix2 i q)) (x2 (ix2 i q)) (x3 (ix2 i q)) := by
  unfold out0_5
  simp (disch := decide) only [View.canon_cons_unit_lit', View.ld_unit_lit']
  pointwise [k0_pay1, k0_pay2, change, var]
  simp only [total, moment]
theorem point6 : out0_6 x0 x1 x2 x3 (ix2 i q) = mom (part i q x0) (x2 (ix2 i q)) := by
  unfold out0_6
  simp (disch := decide) only [View.canon_cons_unit_lit', View.ld_unit_lit']
  exact moment x0 x1 x2 x3 i q
theorem point7 : out0_7 x0 x1 x2 x3 (ix2 i q) = var (part i q x0) (x3 (ix2 i q)) := by
  unfold out0_7
  simp (disch := decide) only [View.canon_cons_unit_lit', View.ld_unit_lit']
  pointwise [k0_pay1, k0_pay2, var]
  simp only [total]
end

variable (m : (ℓ : Loc nD τ sig) → Buf (Elt Ideal) ℓ) (c : Dev nD)

def G : S4x512.Idx → EReal := grad (m ((c : Thread nD τ).loc main_arg0))
def W : S4x512.Idx → EReal := m ((c : Thread nD τ).loc main_arg1)
def M1 : S4x512.Idx → EReal := m ((c : Thread nD τ).loc main_arg2)
def M2 : S4x512.Idx → EReal := m ((c : Thread nD τ).loc main_arg3)
def D : S4x512.Idx → EReal := fun j => change (G m c j) (W m c j) (M1 m c j) (M2 m c j)
def N1 : S4x512.Idx → EReal := fun j => mom (G m c j) (M1 m c j)
def N2 : S4x512.Idx → EReal := fun j => var (G m c j) (M2 m c j)

abbrev At (t : Fin grid0.N) : Prop := win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val]
theorem ix : ∀ t : Fin cfg0.N, At t := by
  change ∀ t : Fin grid0.N, _
  decide +kernel

variable (t : Fin cfg0.N) (i : Fin 4) (q : Fin 512)
theorem lt : 512 * t.val + q.val < 512 := by
  have ht : t.val < 1 := t.isLt
  omega

theorem rd0 : part i q (iblk m c 0 t) = G m c (ix2 i ⟨512 * t.val + q.val, lt t q⟩) :=
  part_congr i q (iblk m c 0 t) _ fun d => (by blk_ext [iblk, V, ix t] :
    (iblk m c 0 t : Vec Ideal S8x4x512 .f32) (ix3 d i q) = m ((c : Thread nD τ).loc main_arg0) (ix3 d i ⟨512 * t.val + q.val, lt t q⟩))
theorem rd1 : (iblk m c 1 t : Vec Ideal S4x512 .f32) (ix2 i q) = W m c (ix2 i ⟨512 * t.val + q.val, lt t q⟩) := by
  unfold W
  blk_ext [iblk, V, ix t]
theorem rd2 : (iblk m c 2 t : Vec Ideal S4x512 .f32) (ix2 i q) = M1 m c (ix2 i ⟨512 * t.val + q.val, lt t q⟩) := by
  unfold M1
  blk_ext [iblk, V, ix t]
theorem rd3 : (iblk m c 3 t : Vec Ideal S4x512 .f32) (ix2 i q) = M2 m c (ix2 i ⟨512 * t.val + q.val, lt t q⟩) := by
  unfold M2
  blk_ext [iblk, V, ix t]

theorem arr4 : (dats m 0 c).arrAt 4 cfg0.N = G m c := by
  refine (dats m 0 c).arrAt_eq_of_covers 4 _ (by decide +kernel) fun t hf y => ?_
  blk_simp
  rw [after0_4]
  obtain ⟨i, q, rfl⟩ : ∃ (i : Fin 4) (q : Fin 512), y = ix2 i q := ⟨y 0, y 1, eq_ix2 y⟩
  have he : ((cfg0.win 4).blk t).view.emb (ix2 i q) = (ix2 i ⟨_, lt t q⟩ : S4x512.Idx) := by blk_ext [ix t]
  exact (point4 _ _ _ _ i q).trans ((rd0 m c t i q).trans (congrArg (G m c) he.symm))

theorem arr5 : (dats m 0 c).arrAt 5 cfg0.N = D m c := by
  refine (dats m 0 c).arrAt_eq_of_covers 5 _ (by decide +kernel) fun t hf y => ?_
  blk_simp
  rw [after0_5]
  obtain ⟨i, q, rfl⟩ : ∃ (i : Fin 4) (q : Fin 512), y = ix2 i q := ⟨y 0, y 1, eq_ix2 y⟩
  have he : ((cfg0.win 5).blk t).view.emb (ix2 i q) = (ix2 i ⟨_, lt t q⟩ : S4x512.Idx) := by blk_ext [ix t]
  exact (point5 _ _ _ _ i q).trans ((change_congr (rd0 m c t i q) (rd1 m c t i q) (rd2 m c t i q) (rd3 m c t i q)).trans (congrArg (D m c) he.symm))

theorem arr6 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 4) (q : Fin 512), y = ix2 i q := ⟨y 0, y 1, eq_ix2 y⟩
  have he : ((cfg0.win 6).blk t).view.emb (ix2 i q) = (ix2 i ⟨_, lt t q⟩ : S4x512.Idx) := by blk_ext [ix t]
  exact (point6 _ _ _ _ i q).trans ((congrArg₂ mom (rd0 m c t i q) (rd2 m c t i q)).trans (congrArg (N1 m c) he.symm))

theorem arr7 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 4) (q : Fin 512), y = ix2 i q := ⟨y 0, y 1, eq_ix2 y⟩
  have he : ((cfg0.win 7).blk t).view.emb (ix2 i q) = (ix2 i ⟨_, lt t q⟩ : S4x512.Idx) := by blk_ext [ix t]
  exact (point7 _ _ _ _ i q).trans ((congrArg₂ var (rd0 m c t i q) (rd3 m c t i q)).trans (congrArg (N2 m c) he.symm))

theorem frame_r : quiescent_Reference21Ideal (hReference21Ideal := Reference21Ideal.Gen.facts) := by
  intro m ρ _
  exact (θ_run Reference21Ideal.defs _ _).mono (fun r h => ⟨fun c => (h c).2.2.2.2, sem_eq_zero_of_no_sems (by decide) r.2⟩)
    (Reference21Ideal.Value.run m ρ)

theorem equal : algebraic_Kernel21Ideal_Reference21Ideal (hKernel21Ideal := Kernel21Ideal.Gen.facts)
    (hReference21Ideal := Reference21Ideal.Gen.facts) := by
  intro m g m' g' _ hagree
  refine ⟨G m, D m, N1 m, N2 m, ?_, ?_⟩
  · refine (θ_run _ _ _).mono (fun r h c => ?_) (Kernel21Ideal.Value.run_blocks m g)
    obtain ⟨h0, h1, h2, h3, h4⟩ := h c
    exact ⟨h0.trans (arr4 m c), h1.trans (arr5 m c), h2.trans (arr6 m c), h3.trans (arr7 m c), h4⟩
  · refine (θ_run _ _ _).mono (fun r h c => ?_) (Reference21Ideal.Value.run m' g')
    obtain ⟨h0, h1, h2, h3, h4⟩ := h c
    obtain ⟨e0, e1, e2, e3⟩ := hagree c
    refine ⟨h0.trans ?_, h1.trans ?_, h2.trans ?_, h3.trans ?_, h4⟩ <;>
    · simp only [e0, e1, e2, e3]
      funext j
      pointwise [G, D, N1, N2, W, M1, M2, grad, change, mom, var]

end Cert.Proof.K21

end
-- ==== Proof.K22.lean ====
/-
  The gradient of the root mean square norm, with the stream's gradient added. At a row whose mean
  square is infinite every factor is zero; at any other the two ways of writing it are one product
  rearranged.
-/
module

public import proofs.«01_k».proof.Proof.Gen.Kernel22Ideal.Value
public import proofs.«01_k».proof.Proof.Gen.Reference22Ideal.Run
public import proofs.«01_k».proof.Proof.Sums

@[expose] public section

noncomputable section

open Idealize.ShloMosaic Idealize.ShloMosaic.TcCoe Idealize.SL.Sem

namespace Cert.Proof.K22

open Cert.Kernel22Ideal Cert.Kernel22Ideal.Gen

abbrev NN : EReal := Ideal.ofBits .f32 0x44800000#32
abbrev MH : EReal := Ideal.ofBits .f32 0xBF000000#32
abbrev EP : EReal := Ideal.ofBits .f32 0x358637BD#32

theorem nn_eq : NN = ((1024 : ℝ) : EReal) := by
  simp [NN, Ideal.ofBits, Ideal.ieee, -EReal.coe_mul]
  norm_num
theorem mh_eq : MH = ((-2⁻¹ : ℝ) : EReal) := by
  simp [MH, Ideal.ofBits, Ideal.ieee, -EReal.coe_mul, -EReal.coe_neg]
  norm_num
theorem ep_eq : ∃ e : ℝ, 0 < e ∧ EP = (e : EReal) :=
  ⟨8796093 * (2 : ℝ) ^ (-43 : ℤ), by positivity, by simp [EP, Ideal.ofBits, Ideal.ieee, -EReal.coe_mul]⟩

theorem div_nn (y : EReal) : Ideal.div y NN = y * ((1024⁻¹ : ℝ) : EReal) := by
  rw [nn_eq]
  unfold Ideal.div
  rw [if_neg (by norm_num), ← EReal.coe_inv]

section
variable (x g d : Fin 1024 → EReal) (q : Fin 1024)
/-- The mean square, and the reciprocal of its root. -/
def ms : EReal := Ideal.div (∑ k, x k * x k) NN + EP
def rs : EReal := Ideal.rsqrt (ms x)
/-- An entry of the gradient, as the kernel writes it. -/
def row : EReal := rs x * (d q * g q - x q * rs x * Ideal.div (∑ k, d k * g k * (x k * rs x)) NN)
/-- The factor of the row in the gradient as the derivative's rules write it. -/
def fac : EReal := ∑ _ : Fin 1, Ideal.div ((∑ k, x k * (d k * g k)) * (MH * Ideal.div (rs x) (ms x))) NN

theorem ms_cases : ms x = ⊤ ∨ ∃ p : ℝ, 0 < p ∧ ms x = (p : EReal) := by
  obtain ⟨e, he, hE⟩ := ep_eq
  have h0 : 0 ≤ ∑ k, x k * x k := Finset.sum_nonneg fun k _ => by
    induction x k using EReal.rec with
    | bot => simp
    | top => simp
    | coe r => exact_mod_cast mul_self_nonneg r
  unfold ms
  rw [div_nn, hE]
  revert h0
  induction (∑ k, x k * x k) using EReal.rec with
  | bot => intro h; simp at h
  | top => intro _; left; rw [EReal.top_mul_coe_of_pos (by norm_num)]; rfl
  | coe s =>
    intro h
    have hs : 0 ≤ s := by exact_mod_cast h
    exact Or.inr ⟨s * 1024⁻¹ + e, by positivity, by push_cast; rfl⟩

theorem twice (z : EReal) : z + z = z * ((2 : ℝ) : EReal) := by
  induction z using EReal.rec with
  | bot => rw [EReal.bot_mul_coe_of_pos (by norm_num)]; rfl
  | top => rw [EReal.top_mul_coe_of_pos (by norm_num)]; rfl
  | coe r => rw [← EReal.coe_add, ← EReal.coe_mul, mul_two]

theorem row_eq : d q * g q * rs x + x q * fac x g d + fac x g d * x q = row x g d q := by
  unfold row fac rs
  simp only [div_nn, Finset.univ_unique, Finset.sum_singleton]
  rcases ms_cases x with h | ⟨p, hp, h⟩
  · rw [h]
    simp [Ideal.div]
  · obtain ⟨r, hr, e⟩ : ∃ r : ℝ, r = (Real.sqrt p)⁻¹ ∧ Ideal.rsqrt (p : EReal) = (r : EReal) :=
      ⟨_, rfl, by
        show (if p < 0 then ⊥ else if p = 0 then ⊤ else (((Real.sqrt p)⁻¹ : ℝ) : EReal)) = _
        rw [if_neg (not_lt.mpr hp.le), if_neg hp.ne']⟩
    have h0 : 0 ≤ r := hr ▸ inv_nonneg.mpr (Real.sqrt_nonneg p)
    have h2 : r * r = p⁻¹ := by rw [hr, ← mul_inv, Real.mul_self_sqrt hp.le]
    have e1 : Ideal.div (r : EReal) (p : EReal) = ((r * p⁻¹ : ℝ) : EReal) := by
      unfold Ideal.div
      rw [if_neg (by exact_mod_cast hp.ne'), EReal.coe_mul, EReal.coe_inv]
    have e2 : ∑ k, d k * g k * (x k * (r : EReal)) = (∑ k, x k * (d k * g k)) * (r : EReal) := by
      rw [sum_mul_coe _ _ _ h0]
      exact Finset.sum_congr rfl fun k _ => by rw [← mul_assoc, mul_comm (x k)]
    rw [h, e, e1, e2, mh_eq, sub_eq_add_neg, EReal.left_distrib_of_nonneg_of_ne_top (EReal.coe_nonneg.mpr h0) (EReal.coe_ne_top r),
      add_assoc, mul_comm (r : EReal) (d q * g q)]
    generalize (∑ k, x k * (d k * g k)) = S
    refine congrArg (d q * g q * (r : EReal) + ·) ?_
    have a1 : x q * (S * (((-2⁻¹ : ℝ) : EReal) * ((r * p⁻¹ : ℝ) : EReal)) * ((1024⁻¹ : ℝ) : EReal)) = x q * S * (((-2⁻¹) * (r * p⁻¹) * 1024⁻¹ : ℝ) : EReal) := by
      simp only [EReal.coe_mul]
      ac_rfl
    have a2 : (r : EReal) * -(x q * r * (S * r * ((1024⁻¹ : ℝ) : EReal))) = x q * S * ((-(r * r * r * 1024⁻¹) : ℝ) : EReal) := by
      rw [EReal.coe_neg, mul_neg, mul_neg]
      simp only [EReal.coe_mul]
      exact congrArg Neg.neg (by ac_rfl)
    rw [mul_comm _ (x q), a1, twice, a2, mul_assoc, ← EReal.coe_mul, h2]
    refine congrArg (fun z : ℝ => x q * S * (z : EReal)) ?_
    ring
end

section
variable (x0 : Vec Ideal S256x1024 .f32) (x1 : Vec Ideal S1x1024 .f32) (x2 : Vec Ideal S256x1024 .bf16) (x3 : Vec Ideal S256x1024 .f32) (acc v : Vec Ideal S1x1024 .f32)
  (i : Fin 256) (z : Fin 1) (q : Fin 1024)
/-- A block's part of the weight's gradient. -/
def part (x y : S256x1024.Idx → EReal) (q : Fin 1024) : EReal := ∑ i : Fin 256, y (ix2 i q) * (x (ix2 i q) * rs fun k => x (ix2 i k))
theorem part_congr (x y : S256x1024.Idx → EReal) (f : Fin 256 → EReal) (h : ∀ i, y (ix2 i q) * (x (ix2 i q) * rs fun k => x (ix2 i k)) = f i) : part x y q = ∑ i, f i :=
  Finset.sum_congr rfl fun i _ => h i
theorem point5 : k0_pay5 x0 x1 x2 x3 (ix2 i q) = (x3 (ix2 i q) + row (fun k => x0 (ix2 i k)) (fun k => x1 (ix2 0 k)) (fun k => x2 (ix2 i k)) q : EReal) := by
  pointwise [k0_pay5, k0_pay4, k0_pay3, k0_pay2, row, rs, ms]
theorem point6 : k0_pay6 x0 x2 (ix2 z q) = part x0 x2 q := by
  pointwise [k0_pay6, k0_pay4, k0_pay3, k0_pay2, part, rs, ms]
theorem point1 : k0_pay1 v acc (ix2 z q) = (acc (ix2 z q) + v (ix2 z q) : EReal) := by
  pointwise [k0_pay1]
end

variable (m : (ℓ : Loc nD τ sig) → Buf (Elt Ideal) ℓ) (c : Dev nD)

abbrev A0 : S4096x1024.Idx → EReal := m ((c : Thread nD τ).loc main_arg0)
abbrev A1 : S1x1024.Idx → EReal := m ((c : Thread nD τ).loc main_arg1)
abbrev A2 : S4096x1024.Idx → EReal := m ((c : Thread nD τ).loc main_arg2)
abbrev A3 : S4096x1024.Idx → EReal := m ((c : Thread nD τ).loc main_arg3)

/-- The gradient of the norm's input, with the stream's. -/
def DX : S4096x1024.Idx → EReal := fun j => A3 m c j + row (fun k => A0 m c (ix2 (j 0) k)) (fun k => A1 m c (ix2 0 k)) (fun k => A2 m c (ix2 (j 0) k)) (j 1)
/-- One row's part of the weight's gradient, and its sum. -/
def term (q : Fin 1024) (n : ℕ) : EReal := if h : n < 4096 then A2 m c (ix2 ⟨n, h⟩ q) * (A0 m c (ix2 ⟨n, h⟩ q) * rs fun k => A0 m c (ix2 ⟨n, h⟩ k)) else 0
def DG : S1x1024.Idx → EReal := fun j => ∑ n ∈ Finset.range (256 * 16), term m c (j 1) n

theorem ix : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] := by
  change ∀ t : Fin grid0.N, _
  decide +kernel

variable (t : Fin cfg0.N) (i : Fin 256) (z : Fin 1) (q : Fin 1024)

theorem lt : 256 * t.val + i.val < 4096 := by
  have ht : t.val < 16 := t.isLt
  omega
theorem rd0 : (iblk m c 0 t : Vec Ideal S256x1024 .f32) (ix2 i q) = A0 m c (ix2 ⟨256 * t.val + i.val, lt t i⟩ q) := by
  blk_ext [iblk, V, ix t]
theorem rd1 : (iblk m c 1 t : Vec Ideal S1x1024 .f32) (ix2 z q) = A1 m c (ix2 z q) := by
  blk_ext [iblk, V, ix t]
theorem rd2 : (iblk m c 2 t : Vec Ideal S256x1024 .bf16) (ix2 i q) = A2 m c (ix2 ⟨256 * t.val + i.val, lt t i⟩ q) := by
  blk_ext [iblk, V, ix t]
theorem rd3 : (iblk m c 3 t : Vec Ideal S256x1024 .f32) (ix2 i q) = A3 m c (ix2 ⟨256 * t.val + i.val, lt t i⟩ q) := by
  blk_ext [iblk, V, ix t]

theorem part_eq : part (iblk m c 0 t) (iblk m c 2 t) q = ∑ k : Fin 256, term m c q (256 * t.val + k.val) :=
  part_congr q _ _ _ fun i => by
    unfold term
    rw [dif_pos (lt t i)]
    exact congrArg₂ (· * ·) (rd2 m c t i q) (congrArg₂ (fun a b => a * rs b) (rd0 m c t i q) (funext fun k => rd0 m c t i k))

theorem out4 : (outsAt0 m c t.val t.isLt).1 (ix2 i q) = DX m c (ix2 ⟨256 * t.val + i.val, lt t i⟩ q) := by
  have ht : t.val < 16 := t.isLt
  have key : k0_pay5 (iblk m c 0 t) (iblk m c 1 t) (iblk m c 2 t) (iblk m c 3 t) (ix2 i q) = DX m c (ix2 ⟨256 * t.val + i.val, lt t i⟩ q) := by
    refine (point5 _ _ _ _ i q).trans (congrArg₂ (· + ·) (rd3 m c t i q) ?_)
    exact (congrArg (fun a => row a _ _ q) (funext fun k => rd0 m c t i k)).trans ((congrArg (fun a => row _ a _ q) (funext fun k => rd1 m c t 0 k)).trans
      (congrArg (fun a => row _ _ a q) (funext fun k => rd2 m c t i k)))
  by_cases h : t.val = 0
  · rw [outsAt0_A m c t (by omega) (by omega)]
    frame_out
    exact key
  · rw [outsAt0_B m c t (by omega) (by omega)]
    frame_out
    exact key

/-- After a point: the rows so far. -/
theorem acc : ∀ (s : ℕ) (h : s < cfg0.N), (outsAt0 m c s h).2 (ix2 z q) = (∑ r ∈ Finset.range (s + 1), ∑ k : Fin 256, term m c q (256 * r + k.val) : EReal)
  | 0, h => by
    rw [Finset.sum_range_one, outsAt0_A m c ⟨0, h⟩ rfl (Nat.not_succ_le_zero 0)]
    frame_out
    exact (point6 _ _ z q).trans (part_eq m c ⟨0, h⟩ q)
  | s + 1, h => by
    have hs : s + 1 < 16 := h
    rw [Finset.sum_range_succ, outsAt0_B m c ⟨s + 1, h⟩ (by show ¬(s + 1) % 16 = 0; omega) (Nat.succ_le_succ (Nat.zero_le s))]
    frame_out
    refine (point1 _ _ z q).trans (congrArg₂ (· + ·) ?_ ((point6 _ _ z q).trans (part_eq m c ⟨s + 1, h⟩ q)))
    exact acc s (Nat.lt_of_succ_lt h)

theorem arr4 : (dats m 0 c).arrAt 4 cfg0.N = DX m c := by
  refine (dats m 0 c).arrAt_eq_of_covers 4 _ (by decide +kernel) fun t hf y => ?_
  blk_simp
  rw [after0_4]
  obtain ⟨i, q, rfl⟩ : ∃ (i : Fin 256) (q : Fin 1024), y = ix2 i q := ⟨y 0, y 1, eq_ix2 y⟩
  have he : ((cfg0.win 4).blk t).view.emb (ix2 i q) = (ix2 ⟨256 * t.val + i.val, lt t i⟩ q : S4096x1024.Idx) := by blk_ext [ix t]
  exact (out4 m c t i q).trans (congrArg (DX m c) he.symm)

theorem arr5 : (dats m 0 c).arrAt 5 cfg0.N = DG m c := by
  refine (dats m 0 c).arrAt_eq_of_covers 5 _ (by decide +kernel) fun t hf y => ?_
  have ht : t.val < 16 := t.isLt
  have h1 := (flush0_5 t).mp hf
  blk_simp
  rw [after0_5]
  obtain ⟨z, q, rfl⟩ : ∃ (z : Fin 1) (q : Fin 1024), y = ix2 z q := ⟨y 0, y 1, eq_ix2 y⟩
  have he : ((cfg0.win 5).blk t).view.emb (ix2 z q) = (ix2 z q : S1x1024.Idx) := by blk_ext [ix t]
  have hr : t.val + 1 = 16 := by omega
  exact (acc m c z q t.val t.isLt).trans (Eq.trans (by rw [hr]; exact (sum_blocks 256 (term m c q) 16).symm) (congrArg (DG m c) he.symm))

theorem frame_r : quiescent_Reference22Ideal (hReference22Ideal := Reference22Ideal.Gen.facts) := by
  intro m ρ _
  exact (θ_run Reference22Ideal.defs _ _).mono (fun r h => ⟨fun c => (h c).2.2, sem_eq_zero_of_no_sems (by decide) r.2⟩)
    (Reference22Ideal.Value.run m ρ)

theorem equal : algebraic_Kernel22Ideal_Reference22Ideal (hKernel22Ideal := Kernel22Ideal.Gen.facts)
    (hReference22Ideal := Reference22Ideal.Gen.facts) := by
  intro m g m' g' _ hagree
  refine ⟨DX m, DG m, ?_, ?_⟩
  · refine (θ_run _ _ _).mono (fun r h c => ?_) (Kernel22Ideal.Value.run_blocks m g)
    obtain ⟨h0, h1, h2⟩ := h c
    exact ⟨h0.trans (arr4 m c), h1.trans (arr5 m c), h2⟩
  · refine (θ_run _ _ _).mono (fun r h c => ?_) (Reference22Ideal.Value.run m' g')
    obtain ⟨h0, h1, h2⟩ := h c
    obtain ⟨e0, e1, e2, e3⟩ := hagree c
    refine ⟨h0.trans ?_, h1.trans ?_, h2⟩
    · rw [e0, e1, e2, e3]
      funext j
      refine Eq.trans ?_ (congrArg (A3 m c j + ·) (row_eq _ _ _ (j 1)))
      pointwise [fac, rs, ms]
      try rfl
    · rw [e0, e2]
      funext j
      show _ = ∑ n ∈ Finset.range 4096, term m c (j 1) n
      rw [Finset.sum_range]
      pointwise [rs, ms]
      refine Finset.sum_congr rfl fun n _ => ?_
      unfold term
      rw [dif_pos n.isLt, mul_comm]
      rfl

end Cert.Proof.K22

end
-- ==== Proof.K23.lean ====
/-
  The gradient of the mixer's output weight.
-/
module

public import proofs.«01_k».proof.Proof.Gen.Kernel23Ideal.Value
public import proofs.«01_k».proof.Proof.Gen.Reference23Ideal.Run
public import proofs.«01_k».proof.Proof.Half

@[expose] public section

noncomputable section

open Idealize.ShloMosaic Idealize.ShloMosaic.TcCoe Idealize.SL.Sem

namespace Cert.Proof.K23

open Cert.Kernel23Ideal Cert.Kernel23Ideal.Gen

/-- The product, every entry summed at once. -/
def prod (a : S4096x1024.Idx → EReal) (b : S4096x1024.Idx → EReal) : S1024x1024.Idx → EReal :=
  fun j => (∑ k : Fin 4096, a (ix2 k (j 0)) * b (ix2 k (j 1)))

/-- What one grid point leaves. -/
theorem point (x0 : Vec Ideal S4096x1024 .bf16) (x1 : Vec Ideal S4096x512 .f32) (i : Fin 1024) (q : Fin 512) :
    out0_2 x0 x1 (ix2 i q) = ((∑ k : Fin 4096, x0 (ix2 k i) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![0, t.val / 2] ∧ win0_1.index t = ![0, t.val % 2] ∧ win0_2.index t = ![t.val / 2, t.val % 2] := by
  change ∀ t : Fin grid0.N, _
  decide +kernel

variable (t : Fin cfg0.N)

theorem rd0 (k : Fin 4096) (i : Fin 1024) (h : 1024 * (t.val / 2) + i.val < 1024) :
    (iblk m c 0 t : Vec Ideal S4096x1024 .bf16) (ix2 k i) = m ((c : Thread nD τ).loc main_arg0) (ix2 k ⟨1024 * (t.val / 2) + i.val, h⟩) := by
  blk_ext [iblk, V, ix t]

theorem rd1 (k : Fin 4096) (q : Fin 512) (h : 512 * (t.val % 2) + q.val < 1024) :
    (iblk m c 1 t : Vec Ideal S4096x512 .f32) (ix2 k q) = m ((c : Thread nD τ).loc main_arg1) (ix2 k ⟨512 * (t.val % 2) + q.val, h⟩) := by
  blk_ext [iblk, V, ix t]

theorem emb (G : S1024x1024.Idx → EReal) (i : Fin 1024) (q : Fin 512) (h : 1024 * (t.val / 2) + i.val < 1024) (h' : 512 * (t.val % 2) + q.val < 1024) :
    G (((cfg0.win 2).blk t).view.emb (ix2 i q)) = G (ix2 ⟨1024 * (t.val / 2) + i.val, h⟩ ⟨512 * (t.val % 2) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 512), y = ix2 i q := ⟨y 0, y 1, eq_ix2 y⟩
  have ht : t.val < 2 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference23Ideal (hReference23Ideal := Reference23Ideal.Gen.facts) := by
  intro m ρ _
  exact (θ_run Reference23Ideal.defs _ _).mono (fun r h => ⟨fun c => (h c).2, sem_eq_zero_of_no_sems (by decide) r.2⟩)
    (Reference23Ideal.Value.run m ρ)

theorem equal : algebraic_Kernel23Ideal_Reference23Ideal (hKernel23Ideal := Kernel23Ideal.Gen.facts)
    (hReference23Ideal := Reference23Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel23Ideal.Value.run_blocks m g)
    obtain ⟨h0, h1⟩ := h c
    exact ⟨h0.trans (arr m c), h1⟩
  · refine (θ_run _ _ _).mono (fun r h c => ?_) (Reference23Ideal.Value.run m' g')
    obtain ⟨h0, h1⟩ := h c
    obtain ⟨e0, e1⟩ := hagree c
    refine ⟨h0.trans ?_, h1⟩
    rw [e0, e1]
    funext j
    pointwise [prod]
    exact Finset.sum_congr rfl fun k _ => mul_comm _ _

end Cert.Proof.K23

end
-- ==== Proof.K24.lean ====
/-
  The gradient of the mixer's gathered branches.
-/
module

public import proofs.«01_k».proof.Proof.Gen.Kernel24Ideal.Value
public import proofs.«01_k».proof.Proof.Gen.Reference24Ideal.Run
public import proofs.«01_k».proof.Proof.Half

@[expose] public section

noncomputable section

open Idealize.ShloMosaic Idealize.ShloMosaic.TcCoe Idealize.SL.Sem

namespace Cert.Proof.K24

open Cert.Kernel24Ideal Cert.Kernel24Ideal.Gen

/-- The product, every entry summed at once. -/
def prod (a : S4096x1024.Idx → EReal) (b : S1024x1024.Idx → EReal) : S4096x1024.Idx → EReal :=
  fun j => (∑ k : Fin 1024, a (ix2 (j 0) k) * b (ix2 (j 1) k))

/-- What one grid point leaves. -/
theorem point (x0 : Vec Ideal S1024x1024 .f32) (x1 : Vec Ideal S1024x1024 .bf16) (i : Fin 1024) (q : Fin 1024) :
    out0_2 x0 x1 (ix2 i q) = ((∑ k : Fin 1024, x0 (ix2 i k) * x1 (ix2 q k)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 1, 0] ∧ win0_1.index t = ![t.val % 1, 0] ∧ win0_2.index t = ![t.val / 1, t.val % 1] := by
  change ∀ t : Fin grid0.N, _
  decide +kernel

variable (t : Fin cfg0.N)

theorem rd0 (k : Fin 1024) (i : Fin 1024) (h : 1024 * (t.val / 1) + i.val < 4096) :
    (iblk m c 0 t : Vec Ideal S1024x1024 .f32) (ix2 i k) = m ((c : Thread nD τ).loc main_arg0) (ix2 ⟨1024 * (t.val / 1) + i.val, h⟩ k) := by
  blk_ext [iblk, V, ix t]

theorem rd1 (k : Fin 1024) (q : Fin 1024) (h : 1024 * (t.val % 1) + q.val < 1024) :
    (iblk m c 1 t : Vec Ideal S1024x1024 .bf16) (ix2 q k) = m ((c : Thread nD τ).loc main_arg1) (ix2 ⟨1024 * (t.val % 1) + q.val, h⟩ k) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 2).blk t).view.emb (ix2 i q)) = G (ix2 ⟨1024 * (t.val / 1) + i.val, h⟩ ⟨1024 * (t.val % 1) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 4 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference24Ideal (hReference24Ideal := Reference24Ideal.Gen.facts) := by
  intro m ρ _
  exact (θ_run Reference24Ideal.defs _ _).mono (fun r h => ⟨fun c => (h c).2, sem_eq_zero_of_no_sems (by decide) r.2⟩)
    (Reference24Ideal.Value.run m ρ)

theorem equal : algebraic_Kernel24Ideal_Reference24Ideal (hKernel24Ideal := Kernel24Ideal.Gen.facts)
    (hReference24Ideal := Reference24Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel24Ideal.Value.run_blocks m g)
    obtain ⟨h0, h1⟩ := h c
    exact ⟨h0.trans (arr m c), h1⟩
  · refine (θ_run _ _ _).mono (fun r h c => ?_) (Reference24Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K24

end
-- ==== Proof.K25.lean ====
/-
  The gradient of the first branch's normalised output.
-/
module

public import proofs.«01_k».proof.Proof.Gen.Kernel25Ideal.Value
public import proofs.«01_k».proof.Proof.Gen.Reference25Ideal.Run
public import proofs.«01_k».proof.Proof.Half

@[expose] public section

noncomputable section

open Idealize.ShloMosaic Idealize.ShloMosaic.TcCoe Idealize.SL.Sem

namespace Cert.Proof.K25

open Cert.Kernel25Ideal Cert.Kernel25Ideal.Gen

/-- The product, every entry summed at once. -/
def prod (a : S4096x1024.Idx → EReal) (b : S1024x1024.Idx → EReal) : S4096x1024.Idx → EReal :=
  fun j => (∑ k : Fin 1024, a (ix2 (j 0) k) * b (ix2 (j 1) k))

/-- What one grid point leaves. -/
theorem point (x0 : Vec Ideal S1024x1024 .bf16) (x1 : Vec Ideal S1024x1024 .bf16) (x2 : Vec Ideal S8x128 .f32) (i : Fin 1024) (q : Fin 1024) :
    out0_3 x0 x1 x2 (ix2 i q) = ((∑ k : Fin 1024, x0 (ix2 i k) * x1 (ix2 q k)) : EReal) := by
  unfold out0_3
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 1, 0] ∧ win0_1.index t = ![t.val % 1, 0] ∧ win0_3.index t = ![t.val / 1, t.val % 1] := by
  change ∀ t : Fin grid0.N, _
  decide +kernel

variable (t : Fin cfg0.N)

theorem rd0 (k : Fin 1024) (i : Fin 1024) (h : 1024 * (t.val / 1) + i.val < 4096) :
    (iblk m c 0 t : Vec Ideal S1024x1024 .bf16) (ix2 i k) = m ((c : Thread nD τ).loc main_arg0) (ix2 ⟨1024 * (t.val / 1) + i.val, h⟩ k) := by
  blk_ext [iblk, V, ix t]

theorem rd1 (k : Fin 1024) (q : Fin 1024) (h : 1024 * (t.val % 1) + q.val < 1024) :
    (iblk m c 1 t : Vec Ideal S1024x1024 .bf16) (ix2 q k) = m ((c : Thread nD τ).loc main_arg1) (ix2 ⟨1024 * (t.val % 1) + q.val, h⟩ k) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 3).blk t).view.emb (ix2 i q)) = G (ix2 ⟨1024 * (t.val / 1) + i.val, h⟩ ⟨1024 * (t.val % 1) + q.val, h'⟩) := by
  blk_ext [ix t]

theorem arr : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp
  rw [after0_3]
  obtain ⟨i, q, rfl⟩ : ∃ (i : Fin 1024) (q : Fin 1024), y = ix2 i q := ⟨y 0, y 1, eq_ix2 y⟩
  have ht : t.val < 4 := t.isLt
  refine (point _ _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference25Ideal (hReference25Ideal := Reference25Ideal.Gen.facts) := by
  intro m ρ _
  exact (θ_run Reference25Ideal.defs _ _).mono (fun r h => ⟨fun c => (h c).2, sem_eq_zero_of_no_sems (by decide) r.2⟩)
    (Reference25Ideal.Value.run m ρ)

theorem equal : algebraic_Kernel25Ideal_Reference25Ideal (hKernel25Ideal := Kernel25Ideal.Gen.facts)
    (hReference25Ideal := Reference25Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel25Ideal.Value.run_blocks m g)
    obtain ⟨h0, h1⟩ := h c
    exact ⟨h0.trans (arr m c), h1⟩
  · refine (θ_run _ _ _).mono (fun r h c => ?_) (Reference25Ideal.Value.run m' g')
    obtain ⟨h0, h1⟩ := h c
    obtain ⟨e0, e1, e2⟩ := hagree c
    refine ⟨h0.trans ?_, h1⟩
    rw [e0, e1]
    funext j
    pointwise [prod]
    first | done | rfl

end Cert.Proof.K25

end
-- ==== Proof.K26.lean ====
/-
  The gradient of the delta rule branch's normalised output.
-/
module

public import proofs.«01_k».proof.Proof.Gen.Kernel26Ideal.Value
public import proofs.«01_k».proof.Proof.Gen.Reference26Ideal.Run
public import proofs.«01_k».proof.Proof.Half

@[expose] public section

noncomputable section

open Idealize.ShloMosaic Idealize.ShloMosaic.TcCoe Idealize.SL.Sem

namespace Cert.Proof.K26

open Cert.Kernel26Ideal Cert.Kernel26Ideal.Gen

/-- The product, every entry summed at once. -/
def prod (a : S4096x1024.Idx → EReal) (b : S2048x1024.Idx → EReal) : S4096x2048.Idx → EReal :=
  fun j => (∑ k : Fin 1024, a (ix2 (j 0) k) * b (ix2 (j 1) k))

/-- What one grid point leaves. -/
theorem point (x0 : Vec Ideal S1024x1024 .bf16) (x1 : Vec Ideal S1024x1024 .bf16) (i : Fin 1024) (q : Fin 1024) :
    out0_2 x0 x1 (ix2 i q) = ((∑ k : Fin 1024, x0 (ix2 i k) * x1 (ix2 q k)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 2, 0] ∧ win0_1.index t = ![t.val % 2, 0] ∧ win0_2.index t = ![t.val / 2, t.val % 2] := by
  change ∀ t : Fin grid0.N, _
  decide +kernel

variable (t : Fin cfg0.N)

theorem rd0 (k : Fin 1024) (i : Fin 1024) (h : 1024 * (t.val / 2) + i.val < 4096) :
    (iblk m c 0 t : Vec Ideal S1024x1024 .bf16) (ix2 i k) = m ((c : Thread nD τ).loc main_arg0) (ix2 ⟨1024 * (t.val / 2) + i.val, h⟩ k) := by
  blk_ext [iblk, V, ix t]

theorem rd1 (k : Fin 1024) (q : Fin 1024) (h : 1024 * (t.val % 2) + q.val < 2048) :
    (iblk m c 1 t : Vec Ideal S1024x1024 .bf16) (ix2 q k) = m ((c : Thread nD τ).loc main_arg1) (ix2 ⟨1024 * (t.val % 2) + q.val, h⟩ k) := by
  blk_ext [iblk, V, ix t]

theorem emb (G : S4096x2048.Idx → EReal) (i : Fin 1024) (q : Fin 1024) (h : 1024 * (t.val / 2) + i.val < 4096) (h' : 1024 * (t.val % 2) + q.val < 2048) :
    G (((cfg0.win 2).blk t).view.emb (ix2 i q)) = G (ix2 ⟨1024 * (t.val / 2) + i.val, h⟩ ⟨1024 * (t.val % 2) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 8 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference26Ideal (hReference26Ideal := Reference26Ideal.Gen.facts) := by
  intro m ρ _
  exact (θ_run Reference26Ideal.defs _ _).mono (fun r h => ⟨fun c => (h c).2, sem_eq_zero_of_no_sems (by decide) r.2⟩)
    (Reference26Ideal.Value.run m ρ)

theorem equal : algebraic_Kernel26Ideal_Reference26Ideal (hKernel26Ideal := Kernel26Ideal.Gen.facts)
    (hReference26Ideal := Reference26Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel26Ideal.Value.run_blocks m g)
    obtain ⟨h0, h1⟩ := h c
    exact ⟨h0.trans (arr m c), h1⟩
  · refine (θ_run _ _ _).mono (fun r h c => ?_) (Reference26Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K26

end
-- ==== Proof.K27.lean ====
/-
  The first branch's product.
-/
module

public import proofs.«01_k».proof.Proof.Gen.Kernel27Ideal.Value
public import proofs.«01_k».proof.Proof.Gen.Reference27Ideal.Run
public import proofs.«01_k».proof.Proof.Half

@[expose] public section

noncomputable section

open Idealize.ShloMosaic Idealize.ShloMosaic.TcCoe Idealize.SL.Sem

namespace Cert.Proof.K27

open Cert.Kernel27Ideal Cert.Kernel27Ideal.Gen

/-- The product, every entry summed at once. -/
def prod (a : S4096x1024.Idx → EReal) (b : S1024x1024.Idx → EReal) : S4096x1024.Idx → EReal :=
  fun j => (∑ k : Fin 1024, a (ix2 (j 0) k) * b (ix2 k (j 1)))

/-- What one grid point leaves. -/
theorem point (x0 : Vec Ideal S1024x1024 .bf16) (x1 : Vec Ideal S1024x1024 .bf16) (i : Fin 1024) (q : Fin 1024) :
    out0_2 x0 x1 (ix2 i q) = ((∑ k : Fin 1024, x0 (ix2 i k) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 1, 0] ∧ win0_1.index t = ![0, t.val % 1] ∧ win0_2.index t = ![t.val / 1, t.val % 1] := by
  change ∀ t : Fin grid0.N, _
  decide +kernel

variable (t : Fin cfg0.N)

theorem rd0 (k : Fin 1024) (i : Fin 1024) (h : 1024 * (t.val / 1) + i.val < 4096) :
    (iblk m c 0 t : Vec Ideal S1024x1024 .bf16) (ix2 i k) = m ((c : Thread nD τ).loc main_arg0) (ix2 ⟨1024 * (t.val / 1) + i.val, h⟩ k) := by
  blk_ext [iblk, V, ix t]

theorem rd1 (k : Fin 1024) (q : Fin 1024) (h : 1024 * (t.val % 1) + q.val < 1024) :
    (iblk m c 1 t : Vec Ideal S1024x1024 .bf16) (ix2 k q) = m ((c : Thread nD τ).loc main_arg1) (ix2 k ⟨1024 * (t.val % 1) + q.val, h⟩) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 2).blk t).view.emb (ix2 i q)) = G (ix2 ⟨1024 * (t.val / 1) + i.val, h⟩ ⟨1024 * (t.val % 1) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 4 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference27Ideal (hReference27Ideal := Reference27Ideal.Gen.facts) := by
  intro m ρ _
  exact (θ_run Reference27Ideal.defs _ _).mono (fun r h => ⟨fun c => (h c).2, sem_eq_zero_of_no_sems (by decide) r.2⟩)
    (Reference27Ideal.Value.run m ρ)

theorem equal : algebraic_Kernel27Ideal_Reference27Ideal (hKernel27Ideal := Kernel27Ideal.Gen.facts)
    (hReference27Ideal := Reference27Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel27Ideal.Value.run_blocks m g)
    obtain ⟨h0, h1⟩ := h c
    exact ⟨h0.trans (arr m c), h1⟩
  · refine (θ_run _ _ _).mono (fun r h c => ?_) (Reference27Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K27

end
-- ==== Proof.K28.lean ====
/-
  The delta rule branch's product.
-/
module

public import proofs.«01_k».proof.Proof.Gen.Kernel28Ideal.Value
public import proofs.«01_k».proof.Proof.Gen.Reference28Ideal.Run
public import proofs.«01_k».proof.Proof.Half

@[expose] public section

noncomputable section

open Idealize.ShloMosaic Idealize.ShloMosaic.TcCoe Idealize.SL.Sem

namespace Cert.Proof.K28

open Cert.Kernel28Ideal Cert.Kernel28Ideal.Gen

/-- The product, every entry summed at once. -/
def prod (a : S4096x2048.Idx → EReal) (b : S2048x1024.Idx → EReal) : S4096x1024.Idx → EReal :=
  fun j => (∑ k : Fin 2048, a (ix2 (j 0) k) * b (ix2 k (j 1)))

/-- What one grid point leaves. -/
theorem point (x0 : Vec Ideal S1024x2048 .bf16) (x1 : Vec Ideal S2048x1024 .bf16) (i : Fin 1024) (q : Fin 1024) :
    out0_2 x0 x1 (ix2 i q) = ((∑ k : Fin 2048, x0 (ix2 i k) * x1 (ix2 k q)) : EReal) := by
  unfold out0_2
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 1, 0] ∧ win0_1.index t = ![0, t.val % 1] ∧ win0_2.index t = ![t.val / 1, t.val % 1] := by
  change ∀ t : Fin grid0.N, _
  decide +kernel

variable (t : Fin cfg0.N)

theorem rd0 (k : Fin 2048) (i : Fin 1024) (h : 1024 * (t.val / 1) + i.val < 4096) :
    (iblk m c 0 t : Vec Ideal S1024x2048 .bf16) (ix2 i k) = m ((c : Thread nD τ).loc main_arg0) (ix2 ⟨1024 * (t.val / 1) + i.val, h⟩ k) := by
  blk_ext [iblk, V, ix t]

theorem rd1 (k : Fin 2048) (q : Fin 1024) (h : 1024 * (t.val % 1) + q.val < 1024) :
    (iblk m c 1 t : Vec Ideal S2048x1024 .bf16) (ix2 k q) = m ((c : Thread nD τ).loc main_arg1) (ix2 k ⟨1024 * (t.val % 1) + q.val, h⟩) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 2).blk t).view.emb (ix2 i q)) = G (ix2 ⟨1024 * (t.val / 1) + i.val, h⟩ ⟨1024 * (t.val % 1) + q.val, h'⟩) := by
  blk_ext [ix t]

theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, q, rfl⟩ : ∃ (i : Fin 1024) (q : Fin 1024), y = ix2 i q := ⟨y 0, y 1, eq_ix2 y⟩
  have ht : t.val < 4 := t.isLt
  refine (point _ _ i q).trans (Eq.trans ?_ (emb t _ i q (by omega) (by omega)).symm)
  exact Finset.sum_congr rfl fun k _ => congrArg₂ (· * ·) (rd0 m c t k i (by omega)) (rd1 m c t k q (by omega))

theorem frame_r : quiescent_Reference28Ideal (hReference28Ideal := Reference28Ideal.Gen.facts) := by
  intro m ρ _
  exact (θ_run Reference28Ideal.defs _ _).mono (fun r h => ⟨fun c => (h c).2, sem_eq_zero_of_no_sems (by decide) r.2⟩)
    (Reference28Ideal.Value.run m ρ)

theorem equal : algebraic_Kernel28Ideal_Reference28Ideal (hKernel28Ideal := Kernel28Ideal.Gen.facts)
    (hReference28Ideal := Reference28Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Kernel28Ideal.Value.run_blocks m g)
    obtain ⟨h0, h1⟩ := h c
    exact ⟨h0.trans (arr m c), h1⟩
  · refine (θ_run _ _ _).mono (fun r h c => ?_) (Reference28Ideal.Value.run m' g')
    obtain ⟨h0, h1⟩ := h c
    obtain ⟨e0, e1⟩ := hagree c
    refine ⟨h0.trans ?_, h1⟩
    rw [e0, e1]
    funext j
    pointwise [prod]
    first | done | rfl

end Cert.Proof.K28

end
-- ==== Proof.K29.lean ====
/-
  The mixer's output product, added to the stream.
-/
module

public import proofs.«01_k».proof.Proof.Gen.Kernel29Ideal.Value
public import proofs.«01_k».proof.Proof.Gen.Reference29Ideal.Run
public import proofs.«01_k».proof.Proof.Half

@[expose] public section

noncomputable section

open Idealize.ShloMosaic Idealize.ShloMosaic.TcCoe Idealize.SL.Sem

namespace Cert.Proof.K29

open Cert.Kernel29Ideal Cert.Kernel29Ideal.Gen

/-- The product, every entry summed at once. -/
def prod (a : S4096x1024.Idx → EReal) (b : S1024x1024.Idx → EReal) (r : S4096x1024.Idx → EReal) : S4096x1024.Idx → EReal :=
  fun j => r j + (∑ k : Fin 1024, a (ix2 (j 0) k) * b (ix2 k (j 1)))

/-- What one grid point leaves. -/
theorem point (x0 : Vec Ideal S1024x1024 .bf16) (x1 : Vec Ideal S1024x1024 .bf16) (x2 : Vec Ideal S1024x1024 .f32) (i : Fin 1024) (q : Fin 1024) :
    out0_3 x0 x1 x2 (ix2 i q) = (x2 (ix2 i q) + (∑ k : Fin 1024, x0 (ix2 i k) * x1 (ix2 k q)) : EReal) := by
  unfold out0_3
  simp (disch := decide) only [View.canon_cons_unit_lit', View.ld_unit_lit']
  pointwise [k0_pay1]

variable (m : (ℓ : Loc nD τ sig) → Buf (Elt Ideal) ℓ) (c : Dev nD)

theorem ix : ∀ t : Fin cfg0.N, win0_0.index t = ![t.val / 1, 0] ∧ win0_1.index t = ![0, t.val % 1] ∧ win0_2.index t = ![t.val / 1, t.val % 1] ∧ win0_3.index t = ![t.val / 1, t.val % 1] := by
  change ∀ t : Fin grid0.N, _
  decide +kernel

variable (t : Fin cfg0.N)

theorem rd0 (k : Fin 1024) (i : Fin 1024) (h : 1024 * (t.val / 1) + i.val < 4096) :
    (iblk m c 0 t : Vec Ideal S1024x1024 .bf16) (ix2 i k) = m ((c : Thread nD τ).loc main_arg0) (ix2 ⟨1024 * (t.val / 1) + i.val, h⟩ k) := by
  blk_ext [iblk, V, ix t]

theorem rd1 (k : Fin 1024) (q : Fin 1024) (h : 1024 * (t.val % 1) + q.val < 1024) :
    (iblk m c 1 t : Vec Ideal S1024x1024 .bf16) (ix2 k q) = m ((c : Thread nD τ).loc main_arg1) (ix2 k ⟨1024 * (t.val % 1) + q.val, h⟩) := by
  blk_ext [iblk, V, ix t]

theorem rd2 (i : Fin 1024) (q : Fin 1024) (h : 1024 * (t.val / 1) + i.val < 4096) (h' : 1024 * (t.val % 1) + q.val < 1024) :
    (iblk m c 2 t : Vec Ideal S1024x1024 .f32) (ix2 i q) = m ((c : Thread nD τ).loc main_arg2) (ix2 ⟨1024 * (t.val / 1) + i.val, h⟩ ⟨1024 * (t.val % 1) + q.val, h'⟩) := by
  blk_ext [iblk, V, ix t]

theorem emb (G : S4096x1024.Idx → EReal) (i : Fin 1024) (q : Fin 1024) (h : 1024 * (t.val / 1) + i.val < 4096) (h' : 1024 * (t.val % 1) + q.val < 1024) :
    G (((cfg0.win 3).blk t).view.emb (ix2 i q)) = G (ix2 ⟨1024 * (t.val / 1) + i.val, h⟩ ⟨1024 * (t.val % 1) + q.val, h'⟩) := by
  blk_ext [ix t]

theorem arr : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, q, rfl⟩ : ∃ (i : Fin 1024) (q : Fin 1024), y = ix2 i q := ⟨y 0, y 1, eq_ix2 y⟩
  have ht : t.val < 4 := t.isLt
  refine (point _ _ _ i q).trans (Eq.trans ?_ (emb t _ i q (by omega) (by omega)).symm)
  exact congrArg₂ (· + ·) (rd2 m c t i q (by omega) (by omega)) (Finset.sum_congr rfl fun k _ => congrArg₂ (· * ·) (rd0 m c t k i (by omega)) (rd1 m c t k q (by omega)))

theorem frame_r : quiescent_Reference29Ideal (hReference29Ideal := Reference29Ideal.Gen.facts) := by
  intro m ρ _
  exact (θ_run Reference29Ideal.defs _ _).mono (fun r h => ⟨fun c => (h c).2, sem_eq_zero_of_no_sems (by decide) r.2⟩)
    (Reference29Ideal.Value.run m ρ)

theorem equal : algebraic_Kernel29Ideal_Reference29Ideal (hKernel29Ideal := Kernel29Ideal.Gen.facts)
    (hReference29Ideal := Reference29Ideal.Gen.facts) := by
  intro m g m' g' _ hagree
  refine ⟨fun c => prod (m ((c : Thread nD τ).loc main_arg0)) (m ((c : Thread nD τ).loc main_arg1)) (m ((c : Thread nD τ).loc main_arg2)), ?_, ?_⟩
  · refine (θ_run _ _ _).mono (fun r h c => ?_) (Kernel29Ideal.Value.run_blocks m g)
    obtain ⟨h0, h1⟩ := h c
    exact ⟨h0.trans (arr m c), h1⟩
  · refine (θ_run _ _ _).mono (fun r h c => ?_) (Reference29Ideal.Value.run m' g')
    obtain ⟨h0, h1⟩ := h c
    obtain ⟨e0, e1, e2⟩ := hagree c
    refine ⟨h0.trans ?_, h1⟩
    rw [e0, e1, e2]
    funext j
    pointwise [prod]
    first | done | rfl

end Cert.Proof.K29

end
-- ==== Proof.K30.lean ====
/-
  The root mean square norm.
-/
module

public import proofs.«01_k».proof.Proof.Gen.Kernel30Ideal.Value
public import proofs.«01_k».proof.Proof.Gen.Reference30Ideal.Run
public import proofs.«01_k».proof.Proof.Half

@[expose] public section

noncomputable section

open Idealize.ShloMosaic Idealize.ShloMosaic.TcCoe Idealize.SL.Sem

namespace Cert.Proof.K30

open Cert.Kernel30Ideal Cert.Kernel30Ideal.Gen

/-- An entry of a row's norm. -/
def nrm (x g : Fin 1024 → EReal) (q : Fin 1024) : EReal :=
  x q * Ideal.rsqrt (Ideal.div (∑ k, x k * x k) (Ideal.ofBits .f32 0x44800000#32) + Ideal.ofBits .f32 0x358637BD#32) * g q

theorem point (x0 : Vec Ideal S256x1024 .f32) (x1 : Vec Ideal S1x1024 .f32) (i : Fin 256) (q : Fin 1024) :
    out0_2 x0 x1 (ix2 i q) = nrm (fun k => x0 (ix2 i k)) (fun k => x1 (ix2 0 k)) q := by
  unfold out0_2
  simp (disch := decide) only [View.canon_cons_unit_lit', View.ld_unit_lit']
  pointwise [k0_pay1, nrm]

variable (m : (ℓ : Loc nD τ sig) → Buf (Elt Ideal) ℓ) (c : Dev nD)

/-- The whole. -/
def N : S4096x1024.Idx → EReal := fun j => nrm (fun k => m ((c : Thread nD τ).loc main_arg0) (ix2 (j 0) k)) (fun k => m ((c : Thread nD τ).loc main_arg1) (ix2 0 k)) (j 1)

theorem ix : ∀ t : Fin cfg0.N, win0_0.index t = ![t.val, 0] ∧ win0_1.index t = ![0, 0] ∧ win0_2.index t = ![t.val, 0] := by
  change ∀ t : Fin grid0.N, _
  decide +kernel

variable (t : Fin cfg0.N) (i : Fin 256) (h : 256 * t.val + i.val < 4096) (q : Fin 1024)

theorem rd0 : (iblk m c 0 t : Vec Ideal S256x1024 .f32) (ix2 i q) = m ((c : Thread nD τ).loc main_arg0) (ix2 ⟨256 * t.val + i.val, h⟩ q) := by
  blk_ext [iblk, V, ix t]
theorem rd1 : (iblk m c 1 t : Vec Ideal S1x1024 .f32) (ix2 0 q) = m ((c : Thread nD τ).loc main_arg1) (ix2 0 q) := by
  blk_ext [iblk, V, ix t]

theorem arr : (dats m 0 c).arrAt 2 cfg0.N = N m c := by
  refine (dats m 0 c).arrAt_eq_of_covers 2 _ (by decide +kernel) fun t hf y => ?_
  blk_simp
  rw [after0_2]
  obtain ⟨i, q, rfl⟩ : ∃ (i : Fin 256) (q : Fin 1024), y = ix2 i q := ⟨y 0, y 1, eq_ix2 y⟩
  have ht : t.val < 16 := t.isLt
  have h : 256 * t.val + i.val < 4096 := by omega
  have he : ((cfg0.win 2).blk t).view.emb (ix2 i q) = (ix2 ⟨256 * t.val + i.val, h⟩ q : S4096x1024.Idx) := by blk_ext [ix t]
  refine (point _ _ i q).trans (Eq.trans ?_ (congrArg (N m c) he.symm))
  exact congrArg₂ (nrm · · q) (funext fun k => rd0 m c t i h k) (funext fun k => rd1 m c t k)

theorem frame_r : quiescent_Reference30Ideal (hReference30Ideal := Reference30Ideal.Gen.facts) := by
  intro m ρ _
  exact (θ_run Reference30Ideal.defs _ _).mono (fun r h => ⟨fun c => (h c).2, sem_eq_zero_of_no_sems (by decide) r.2⟩)
    (Reference30Ideal.Value.run m ρ)

theorem equal : algebraic_Kernel30Ideal_Reference30Ideal (hKernel30Ideal := Kernel30Ideal.Gen.facts)
    (hReference30Ideal := Reference30Ideal.Gen.facts) := by
  intro m g m' g' _ hagree
  refine ⟨N m, ?_, ?_⟩
  · refine (θ_run _ _ _).mono (fun r h c => ?_) (Kernel30Ideal.Value.run_blocks m g)
    obtain ⟨h0, h1⟩ := h c
    exact ⟨h0.trans (arr m c), h1⟩
  · refine (θ_run _ _ _).mono (fun r h c => ?_) (Reference30Ideal.Value.run m' g')
    obtain ⟨h0, h1⟩ := h c
    obtain ⟨e0, e1⟩ := hagree c
    refine ⟨h0.trans ?_, h1⟩
    rw [e0, e1]
    funext j
    pointwise [N, nrm]
    try rfl

end Cert.Proof.K30

end
-- ==== Proof.K31.lean ====
/-
  The gradient of the gated activation, of both halves side by side.
-/
module

public import proofs.«01_k».proof.Proof.Gen.Kernel31Ideal.Value
public import proofs.«01_k».proof.Proof.Gen.Reference31Ideal.Run
public import proofs.«01_k».proof.Proof.Half

@[expose] public section

noncomputable section

open Idealize.ShloMosaic Idealize.ShloMosaic.TcCoe Idealize.SL.Sem

namespace Cert.Proof.K31

open Cert.Kernel31Ideal Cert.Kernel31Ideal.Gen

/-- The gradient of the first half's entry, and of the second's. -/
def da (a b d : EReal) : EReal := d * b * Ideal.logistic a + a * (d * b) * (Ideal.logistic a * (Ideal.ofBits .f32 0x3F800000#32 - Ideal.logistic a))
def db (a d : EReal) : EReal := a * Ideal.logistic a * d
/-- An entry of a row, the halves side by side. -/
def row (a b d : Fin 2816 → EReal) (q : Fin 5632) : EReal :=
  if h : q.val < 2816 then da (a ⟨q.val, h⟩) (b ⟨q.val, h⟩) (d ⟨q.val, h⟩) else db (a ⟨q.val - 2816, by omega⟩) (d ⟨q.val - 2816, by omega⟩)

theorem point (x0 x1 x2 : Vec Ideal S128x2816 .bf16) (i : Fin 128) (q : Fin 5632) :
    out0_3 x0 x1 x2 (ix2 i q) = row (fun k => x0 (ix2 i k)) (fun k => x1 (ix2 i k)) (fun k => x2 (ix2 i k)) q := by
  unfold out0_3
  simp (disch := decide) only [View.canon_cons_unit_lit', View.ld_unit_lit']
  pointwise [k0_pay1, row, da, db]

variable (m : (ℓ : Loc nD τ sig) → Buf (Elt Ideal) ℓ) (c : Dev nD)

/-- The whole. -/
def N : S4096x5632.Idx → EReal := fun j => row (fun k => m ((c : Thread nD τ).loc main_arg0) (ix2 (j 0) k)) (fun k => m ((c : Thread nD τ).loc main_arg1) (ix2 (j 0) k)) (fun k => m ((c : Thread nD τ).loc main_arg2) (ix2 (j 0) k)) (j 1)

theorem ix : ∀ t : Fin cfg0.N, win0_0.index t = ![t.val, 0] ∧ win0_1.index t = ![t.val, 0] ∧ win0_2.index t = ![t.val, 0] ∧ win0_3.index t = ![t.val, 0] := by
  change ∀ t : Fin grid0.N, _
  decide +kernel

variable (t : Fin cfg0.N) (i : Fin 128) (h : 128 * t.val + i.val < 4096) (q : Fin 2816)

theorem rd0 : (iblk m c 0 t : Vec Ideal S128x2816 .bf16) (ix2 i q) = m ((c : Thread nD τ).loc main_arg0) (ix2 ⟨128 * t.val + i.val, h⟩ q) := by
  blk_ext [iblk, V, ix t]
theorem rd1 : (iblk m c 1 t : Vec Ideal S128x2816 .bf16) (ix2 i q) = m ((c : Thread nD τ).loc main_arg1) (ix2 ⟨128 * t.val + i.val, h⟩ q) := by
  blk_ext [iblk, V, ix t]
theorem rd2 : (iblk m c 2 t : Vec Ideal S128x2816 .bf16) (ix2 i q) = m ((c : Thread nD τ).loc main_arg2) (ix2 ⟨128 * t.val + i.val, h⟩ q) := by
  blk_ext [iblk, V, ix t]

theorem arr : (dats m 0 c).arrAt 3 cfg0.N = N m c := by
  refine (dats m 0 c).arrAt_eq_of_covers 3 _ (by decide +kernel) fun t hf y => ?_
  blk_simp
  rw [after0_3]
  obtain ⟨i, q, rfl⟩ : ∃ (i : Fin 128) (q : Fin 5632), y = ix2 i q := ⟨y 0, y 1, eq_ix2 y⟩
  have ht : t.val < 32 := t.isLt
  have h : 128 * t.val + i.val < 4096 := by omega
  have he : ((cfg0.win 3).blk t).view.emb (ix2 i q) = (ix2 ⟨128 * t.val + i.val, h⟩ q : S4096x5632.Idx) := by blk_ext [ix t]
  refine (point _ _ _ i q).trans (Eq.trans ?_ (congrArg (N m c) he.symm))
  exact (congrArg₂ (row · · _ q) (funext fun k => rd0 m c t i h k) (funext fun k => rd1 m c t i h k)).trans (congrArg (row _ _ · q) (funext fun k => rd2 m c t i h k))

theorem frame_r : quiescent_Reference31Ideal (hReference31Ideal := Reference31Ideal.Gen.facts) := by
  intro m ρ _
  exact (θ_run Reference31Ideal.defs _ _).mono (fun r h => ⟨fun c => (h c).2, sem_eq_zero_of_no_sems (by decide) r.2⟩)
    (Reference31Ideal.Value.run m ρ)

theorem equal : algebraic_Kernel31Ideal_Reference31Ideal (hKernel31Ideal := Kernel31Ideal.Gen.facts)
    (hReference31Ideal := Reference31Ideal.Gen.facts) := by
  intro m g m' g' _ hagree
  refine ⟨N m, ?_, ?_⟩
  · refine (θ_run _ _ _).mono (fun r h c => ?_) (Kernel31Ideal.Value.run_blocks m g)
    obtain ⟨h0, h1⟩ := h c
    exact ⟨h0.trans (arr m c), h1⟩
  · refine (θ_run _ _ _).mono (fun r h c => ?_) (Reference31Ideal.Value.run m' g')
    obtain ⟨h0, h1⟩ := h c
    obtain ⟨e0, e1, e2⟩ := hagree c
    refine ⟨h0.trans ?_, h1⟩
    rw [e0, e1, e2]
    funext j
    pointwise [N, row, da, db]
    try rfl

end Cert.Proof.K31

end
-- ==== Proof.K32.lean ====
/-
  The gated merge of the two branches.
-/
module

public import proofs.«01_k».proof.Proof.Gen.Kernel32Ideal.Value
public import proofs.«01_k».proof.Proof.Gen.Reference32Ideal.Run
public import proofs.«01_k».proof.Proof.Half

@[expose] public section

noncomputable section

open Idealize.ShloMosaic Idealize.ShloMosaic.TcCoe Idealize.SL.Sem

namespace Cert.Proof.K32

open Cert.Kernel32Ideal Cert.Kernel32Ideal.Gen

/-- An entry of each result, by the gates, the branches. -/
def e0 (h g a b : EReal) : EReal := Ideal.logistic h * a + Ideal.logistic g * b

section
variable (x0 x1 : Vec Ideal S256x512 .f32) (x2 x3 : Vec Ideal S256x512 .bf16) (i : Fin 256) (q : Fin 512)
theorem point0 : out0_4 x0 x1 x2 x3 (ix2 i q) = e0 (x0 (ix2 i q)) (x1 (ix2 i q)) (x2 (ix2 i q)) (x3 (ix2 i q)) := by
  unfold out0_4
  simp (disch := decide) only [View.canon_cons_unit_lit', View.ld_unit_lit']
  pointwise [k0_pay1, e0]
end

variable (m : (ℓ : Loc nD τ sig) → Buf (Elt Ideal) ℓ) (c : Dev nD)

abbrev col (o : ℕ) (q : Fin 1024) (h : o + 1024 ≤ 4096) : Fin 4096 := ⟨o + q.val, by omega⟩
abbrev A0 : S4096x4096.Idx → EReal := m ((c : Thread nD τ).loc main_arg0)
abbrev A1 : S4096x1024.Idx → EReal := m ((c : Thread nD τ).loc main_arg1)
abbrev A2 : S4096x1024.Idx → EReal := m ((c : Thread nD τ).loc main_arg2)

/-- The results. -/
def N0 : S4096x1024.Idx → EReal := fun j => e0 (A0 m c (ix2 (j 0) (col 2048 (j 1) (by decide)))) (A0 m c (ix2 (j 0) (col 3072 (j 1) (by decide)))) (A1 m c j) (A2 m c j)

theorem ix : ∀ t : Fin cfg0.N, win0_0.index t = ![t.val % 16, t.val / 16 + 4] ∧ win0_1.index t = ![t.val % 16, t.val / 16 + 6] ∧ win0_2.index t = ![t.val % 16, t.val / 16] ∧ win0_3.index t = ![t.val % 16, t.val / 16] ∧ win0_4.index t = ![t.val % 16, t.val / 16] := by
  change ∀ t : Fin grid0.N, _
  decide +kernel

variable (t : Fin cfg0.N) (i : Fin 256) (q : Fin 512)

theorem lt : 256 * (t.val % 16) + i.val < 4096 := by omega
theorem lt' : 512 * (t.val / 16) + q.val < 1024 := by
  have ht : t.val < 32 := t.isLt
  omega
theorem rd0 : (iblk m c 0 t : Vec Ideal S256x512 .f32) (ix2 i q) = A0 m c (ix2 ⟨_, lt t i⟩ (col 2048 ⟨_, lt' t q⟩ (by decide))) := by
  blk_ext [iblk, V, ix t]
theorem rd1 : (iblk m c 1 t : Vec Ideal S256x512 .f32) (ix2 i q) = A0 m c (ix2 ⟨_, lt t i⟩ (col 3072 ⟨_, lt' t q⟩ (by decide))) := by
  blk_ext [iblk, V, ix t]
theorem rd2 : (iblk m c 2 t : Vec Ideal S256x512 .bf16) (ix2 i q) = A1 m c (ix2 ⟨256 * (t.val % 16) + i.val, lt t i⟩ ⟨512 * (t.val / 16) + q.val, lt' t q⟩) := by
  blk_ext [iblk, V, ix t]
theorem rd3 : (iblk m c 3 t : Vec Ideal S256x512 .bf16) (ix2 i q) = A2 m c (ix2 ⟨256 * (t.val % 16) + i.val, lt t i⟩ ⟨512 * (t.val / 16) + q.val, lt' t q⟩) := by
  blk_ext [iblk, V, ix t]
theorem cong (f : EReal → EReal → EReal → EReal → EReal) : f (iblk m c 0 t (ix2 i q)) (iblk m c 1 t (ix2 i q)) (iblk m c 2 t (ix2 i q)) (iblk m c 3 t (ix2 i q)) = (fun j : S4096x1024.Idx => f (A0 m c (ix2 (j 0) (col 2048 (j 1) (by decide)))) (A0 m c (ix2 (j 0) (col 3072 (j 1) (by decide)))) (A1 m c j) (A2 m c j)) (ix2 ⟨256 * (t.val % 16) + i.val, lt t i⟩ ⟨512 * (t.val / 16) + q.val, lt' t q⟩) := by
  rw [rd0 m c t i q, rd1 m c t i q, rd2 m c t i q, rd3 m c t i q]
  rfl
theorem arr0 : (dats m 0 c).arrAt 4 cfg0.N = N0 m c := by
  refine (dats m 0 c).arrAt_eq_of_covers 4 _ (by decide +kernel) fun t hf y => ?_
  blk_simp
  rw [after0_4]
  obtain ⟨i, q, rfl⟩ : ∃ (i : Fin 256) (q : Fin 512), y = ix2 i q := ⟨y 0, y 1, eq_ix2 y⟩
  have he : ((cfg0.win 4).blk t).view.emb (ix2 i q) = (ix2 ⟨256 * (t.val % 16) + i.val, lt t i⟩ ⟨512 * (t.val / 16) + q.val, lt' t q⟩ : S4096x1024.Idx) := by blk_ext [ix t]
  exact (point0 _ _ _ _ i q).trans ((cong m c t i q e0).trans (congrArg (N0 m c) he.symm))

theorem frame_r : quiescent_Reference32Ideal (hReference32Ideal := Reference32Ideal.Gen.facts) := by
  intro m ρ _
  exact (θ_run Reference32Ideal.defs _ _).mono (fun r h => ⟨fun c => (h c).2, sem_eq_zero_of_no_sems (by decide) r.2⟩)
    (Reference32Ideal.Value.run m ρ)

theorem equal : algebraic_Kernel32Ideal_Reference32Ideal (hKernel32Ideal := Kernel32Ideal.Gen.facts)
    (hReference32Ideal := Reference32Ideal.Gen.facts) := by
  intro m g m' g' _ hagree
  refine ⟨N0 m, ?_, ?_⟩
  · refine (θ_run _ _ _).mono (fun r h c => ?_) (Kernel32Ideal.Value.run_blocks m g)
    obtain ⟨h0, h1⟩ := h c
    exact ⟨h0.trans (arr0 m c), h1⟩
  · refine (θ_run _ _ _).mono (fun r h c => ?_) (Reference32Ideal.Value.run m' g')
    obtain ⟨h0, h1⟩ := h c
    obtain ⟨q0, q1, q2⟩ := hagree c
    refine ⟨h0.trans ?_, h1⟩ <;>
    · simp only [q0, q1, q2]
      funext j
      pointwise [N0, e0]
      try rfl

end Cert.Proof.K32

end
-- ==== Proof.K33.lean ====
/-
  The gradient of the gated merge: of both gates and of both branches.
-/
module

public import proofs.«01_k».proof.Proof.Gen.Kernel33Ideal.Value
public import proofs.«01_k».proof.Proof.Gen.Reference33Ideal.Run
public import proofs.«01_k».proof.Proof.Half

@[expose] public section

noncomputable section

open Idealize.ShloMosaic Idealize.ShloMosaic.TcCoe Idealize.SL.Sem

namespace Cert.Proof.K33

open Cert.Kernel33Ideal Cert.Kernel33Ideal.Gen

/-- An entry of each result, by the gates, the branches and the cotangent. -/
def e0 (h g a b d : EReal) : EReal := d * a * (Ideal.logistic h * (Ideal.ofBits .f32 0x3F800000#32 - Ideal.logistic h))
def e1 (h g a b d : EReal) : EReal := d * b * (Ideal.logistic g * (Ideal.ofBits .f32 0x3F800000#32 - Ideal.logistic g))
def e2 (h g a b d : EReal) : EReal := Ideal.logistic h * d
def e3 (h g a b d : EReal) : EReal := Ideal.logistic g * d

section
variable (x0 x1 : Vec Ideal S256x512 .f32) (x2 x3 x4 : Vec Ideal S256x512 .bf16) (i : Fin 256) (q : Fin 512)
theorem point0 : out0_5 x0 x1 x2 x3 x4 (ix2 i q) = e0 (x0 (ix2 i q)) (x1 (ix2 i q)) (x2 (ix2 i q)) (x3 (ix2 i q)) (x4 (ix2 i q)) := by
  unfold out0_5
  simp (disch := decide) only [View.canon_cons_unit_lit', View.ld_unit_lit']
  pointwise [k0_pay1, k0_pay2, k0_pay3, k0_pay4, k0_pay5, k0_pay6, k0_pay7, e0]
theorem point1 : out0_6 x0 x1 x2 x3 x4 (ix2 i q) = e1 (x0 (ix2 i q)) (x1 (ix2 i q)) (x2 (ix2 i q)) (x3 (ix2 i q)) (x4 (ix2 i q)) := by
  unfold out0_6
  simp (disch := decide) only [View.canon_cons_unit_lit', View.ld_unit_lit']
  pointwise [k0_pay1, k0_pay2, k0_pay3, k0_pay4, k0_pay5, k0_pay6, k0_pay7, e1]
theorem point2 : out0_7 x0 x1 x2 x3 x4 (ix2 i q) = e2 (x0 (ix2 i q)) (x1 (ix2 i q)) (x2 (ix2 i q)) (x3 (ix2 i q)) (x4 (ix2 i q)) := by
  unfold out0_7
  simp (disch := decide) only [View.canon_cons_unit_lit', View.ld_unit_lit']
  pointwise [k0_pay1, k0_pay2, k0_pay3, k0_pay4, k0_pay5, k0_pay6, k0_pay7, e2]
theorem point3 : out0_8 x0 x1 x2 x3 x4 (ix2 i q) = e3 (x0 (ix2 i q)) (x1 (ix2 i q)) (x2 (ix2 i q)) (x3 (ix2 i q)) (x4 (ix2 i q)) := by
  unfold out0_8
  simp (disch := decide) only [View.canon_cons_unit_lit', View.ld_unit_lit']
  pointwise [k0_pay1, k0_pay2, k0_pay3, k0_pay4, k0_pay5, k0_pay6, k0_pay7, e3]
end

variable (m : (ℓ : Loc nD τ sig) → Buf (Elt Ideal) ℓ) (c : Dev nD)

abbrev col (o : ℕ) (q : Fin 1024) (h : o + 1024 ≤ 4096) : Fin 4096 := ⟨o + q.val, by omega⟩
abbrev A0 : S4096x4096.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)

/-- The results. -/
def N0 : S4096x1024.Idx → EReal := fun j => e0 (A0 m c (ix2 (j 0) (col 2048 (j 1) (by decide)))) (A0 m c (ix2 (j 0) (col 3072 (j 1) (by decide)))) (A1 m c j) (A2 m c j) (A3 m c j)
def N1 : S4096x1024.Idx → EReal := fun j => e1 (A0 m c (ix2 (j 0) (col 2048 (j 1) (by decide)))) (A0 m c (ix2 (j 0) (col 3072 (j 1) (by decide)))) (A1 m c j) (A2 m c j) (A3 m c j)
def N2 : S4096x1024.Idx → EReal := fun j => e2 (A0 m c (ix2 (j 0) (col 2048 (j 1) (by decide)))) (A0 m c (ix2 (j 0) (col 3072 (j 1) (by decide)))) (A1 m c j) (A2 m c j) (A3 m c j)
def N3 : S4096x1024.Idx → EReal := fun j => e3 (A0 m c (ix2 (j 0) (col 2048 (j 1) (by decide)))) (A0 m c (ix2 (j 0) (col 3072 (j 1) (by decide)))) (A1 m c j) (A2 m c j) (A3 m c j)

theorem ix : ∀ t : Fin cfg0.N, win0_0.index t = ![t.val % 16, t.val / 16 + 4] ∧ win0_1.index t = ![t.val % 16, t.val / 16 + 6] ∧ win0_2.index t = ![t.val % 16, t.val / 16] ∧ win0_3.index t = ![t.val % 16, t.val / 16] ∧ win0_4.index t = ![t.val % 16, t.val / 16] ∧ win0_5.index t = ![t.val % 16, t.val / 16] ∧ win0_6.index t = ![t.val % 16, t.val / 16] ∧ win0_7.index t = ![t.val % 16, t.val / 16] ∧ win0_8.index t = ![t.val % 16, t.val / 16] := by
  change ∀ t : Fin grid0.N, _
  decide +kernel

variable (t : Fin cfg0.N) (i : Fin 256) (q : Fin 512)

theorem lt : 256 * (t.val % 16) + i.val < 4096 := by omega
theorem lt' : 512 * (t.val / 16) + q.val < 1024 := by
  have ht : t.val < 32 := t.isLt
  omega
theorem rd0 : (iblk m c 0 t : Vec Ideal S256x512 .f32) (ix2 i q) = A0 m c (ix2 ⟨_, lt t i⟩ (col 2048 ⟨_, lt' t q⟩ (by decide))) := by
  blk_ext [iblk, V, ix t]
theorem rd1 : (iblk m c 1 t : Vec Ideal S256x512 .f32) (ix2 i q) = A0 m c (ix2 ⟨_, lt t i⟩ (col 3072 ⟨_, lt' t q⟩ (by decide))) := by
  blk_ext [iblk, V, ix t]
theorem rd2 : (iblk m c 2 t : Vec Ideal S256x512 .bf16) (ix2 i q) = A1 m c (ix2 ⟨256 * (t.val % 16) + i.val, lt t i⟩ ⟨512 * (t.val / 16) + q.val, lt' t q⟩) := by
  blk_ext [iblk, V, ix t]
theorem rd3 : (iblk m c 3 t : Vec Ideal S256x512 .bf16) (ix2 i q) = A2 m c (ix2 ⟨256 * (t.val % 16) + i.val, lt t i⟩ ⟨512 * (t.val / 16) + q.val, lt' t q⟩) := by
  blk_ext [iblk, V, ix t]
theorem rd4 : (iblk m c 4 t : Vec Ideal S256x512 .bf16) (ix2 i q) = A3 m c (ix2 ⟨256 * (t.val % 16) + i.val, lt t i⟩ ⟨512 * (t.val / 16) + q.val, lt' t q⟩) := by
  blk_ext [iblk, V, ix t]
theorem cong (f : EReal → EReal → EReal → EReal → EReal → EReal) : f (iblk m c 0 t (ix2 i q)) (iblk m c 1 t (ix2 i q)) (iblk m c 2 t (ix2 i q)) (iblk m c 3 t (ix2 i q)) (iblk m c 4 t (ix2 i q)) = (fun j : S4096x1024.Idx => f (A0 m c (ix2 (j 0) (col 2048 (j 1) (by decide)))) (A0 m c (ix2 (j 0) (col 3072 (j 1) (by decide)))) (A1 m c j) (A2 m c j) (A3 m c j)) (ix2 ⟨256 * (t.val % 16) + i.val, lt t i⟩ ⟨512 * (t.val / 16) + q.val, lt' t q⟩) := by
  rw [rd0 m c t i q, rd1 m c t i q, rd2 m c t i q, rd3 m c t i q, rd4 m c t i q]
  rfl
theorem arr0 : (dats m 0 c).arrAt 5 cfg0.N = N0 m c := by
  refine (dats m 0 c).arrAt_eq_of_covers 5 _ (by decide +kernel) fun t hf y => ?_
  blk_simp
  rw [after0_5]
  obtain ⟨i, q, rfl⟩ : ∃ (i : Fin 256) (q : Fin 512), y = ix2 i q := ⟨y 0, y 1, eq_ix2 y⟩
  have he : ((cfg0.win 5).blk t).view.emb (ix2 i q) = (ix2 ⟨256 * (t.val % 16) + i.val, lt t i⟩ ⟨512 * (t.val / 16) + q.val, lt' t q⟩ : S4096x1024.Idx) := by blk_ext [ix t]
  exact (point0 _ _ _ _ _ i q).trans ((cong m c t i q e0).trans (congrArg (N0 m c) he.symm))
theorem arr1 : (dats m 0 c).arrAt 6 cfg0.N = N1 m c := by
  refine (dats m 0 c).arrAt_eq_of_covers 6 _ (by decide +kernel) fun t hf y => ?_
  blk_simp
  rw [after0_6]
  obtain ⟨i, q, rfl⟩ : ∃ (i : Fin 256) (q : Fin 512), y = ix2 i q := ⟨y 0, y 1, eq_ix2 y⟩
  have he : ((cfg0.win 6).blk t).view.emb (ix2 i q) = (ix2 ⟨256 * (t.val % 16) + i.val, lt t i⟩ ⟨512 * (t.val / 16) + q.val, lt' t q⟩ : S4096x1024.Idx) := by blk_ext [ix t]
  exact (point1 _ _ _ _ _ i q).trans ((cong m c t i q e1).trans (congrArg (N1 m c) he.symm))
theorem arr2 : (dats m 0 c).arrAt 7 cfg0.N = N2 m c := by
  refine (dats m 0 c).arrAt_eq_of_covers 7 _ (by decide +kernel) fun t hf y => ?_
  blk_simp
  rw [after0_7]
  obtain ⟨i, q, rfl⟩ : ∃ (i : Fin 256) (q : Fin 512), y = ix2 i q := ⟨y 0, y 1, eq_ix2 y⟩
  have he : ((cfg0.win 7).blk t).view.emb (ix2 i q) = (ix2 ⟨256 * (t.val % 16) + i.val, lt t i⟩ ⟨512 * (t.val / 16) + q.val, lt' t q⟩ : S4096x1024.Idx) := by blk_ext [ix t]
  exact (point2 _ _ _ _ _ i q).trans ((cong m c t i q e2).trans (congrArg (N2 m c) he.symm))
theorem arr3 : (dats m 0 c).arrAt 8 cfg0.N = N3 m c := by
  refine (dats m 0 c).arrAt_eq_of_covers 8 _ (by decide +kernel) fun t hf y => ?_
  blk_simp
  rw [after0_8]
  obtain ⟨i, q, rfl⟩ : ∃ (i : Fin 256) (q : Fin 512), y = ix2 i q := ⟨y 0, y 1, eq_ix2 y⟩
  have he : ((cfg0.win 8).blk t).view.emb (ix2 i q) = (ix2 ⟨256 * (t.val % 16) + i.val, lt t i⟩ ⟨512 * (t.val / 16) + q.val, lt' t q⟩ : S4096x1024.Idx) := by blk_ext [ix t]
  exact (point3 _ _ _ _ _ i q).trans ((cong m c t i q e3).trans (congrArg (N3 m c) he.symm))

theorem frame_r : quiescent_Reference33Ideal (hReference33Ideal := Reference33Ideal.Gen.facts) := by
  intro m ρ _
  exact (θ_run Reference33Ideal.defs _ _).mono (fun r h => ⟨fun c => (h c).2.2.2.2, sem_eq_zero_of_no_sems (by decide) r.2⟩)
    (Reference33Ideal.Value.run m ρ)

theorem equal : algebraic_Kernel33Ideal_Reference33Ideal (hKernel33Ideal := Kernel33Ideal.Gen.facts)
    (hReference33Ideal := Reference33Ideal.Gen.facts) := by
  intro m g m' g' _ hagree
  refine ⟨N0 m, N1 m, N2 m, N3 m, ?_, ?_⟩
  · refine (θ_run _ _ _).mono (fun r h c => ?_) (Kernel33Ideal.Value.run_blocks m g)
    obtain ⟨h0, h1, h2, h3, h4⟩ := h c
    exact ⟨h0.trans (arr0 m c), h1.trans (arr1 m c), h2.trans (arr2 m c), h3.trans (arr3 m c), h4⟩
  · refine (θ_run _ _ _).mono (fun r h c => ?_) (Reference33Ideal.Value.run m' g')
    obtain ⟨h0, h1, h2, h3, h4⟩ := h c
    obtain ⟨q0, q1, q2, q3⟩ := hagree c
    refine ⟨h0.trans ?_, h1.trans ?_, h2.trans ?_, h3.trans ?_, h4⟩ <;>
    · simp only [q0, q1, q2, q3]
      funext j
      pointwise [N0, N1, N2, N3, e0, e1, e2, e3]
      try rfl

end Cert.Proof.K33

end
-- ==== Proof.Model.lean ====
/-
  The backward pass of one chunk of one head of the gated delta rule, as plain functions of extended reals.
  The reference (one host loop trip, all heads at once) and the kernel (one grid point, head by head) are both
  read down to these functions.
-/
module

public import Idealize.ShloMosaic.PureOps
public import Idealize.ShloMosaic.Lib.Pointwise

@[expose] public section

noncomputable section

open Idealize.ShloMosaic

namespace Cert.Proof.Delta

/-- What one chunk of one head reads: the state before the chunk and the cotangent of the state after it, queries,
    keys, values, the cotangent of the output, the write strengths, the summed log decays, the inverse of the
    unit triangular matrix. -/
structure Inp where
  s : Fin 128 → Fin 128 → EReal
  ds : Fin 128 → Fin 128 → EReal
  q : Fin 64 → Fin 128 → EReal
  k : Fin 64 → Fin 128 → EReal
  v : Fin 64 → Fin 128 → EReal
  d : Fin 64 → Fin 128 → EReal
  b : Fin 64 → EReal
  g : Fin 64 → EReal
  t : Fin 64 → Fin 64 → EReal

namespace Inp

variable (x : Inp)

/-- The decay from position `j` to position `i`, zero above the diagonal. -/
def dec (i j : Fin 64) : EReal := if j ≤ i then Ideal.exp (x.g i - x.g j) else 0
def kb (i : Fin 64) (m : Fin 128) : EReal := x.k i m * x.b i
def vb (i : Fin 64) (m : Fin 128) : EReal := x.v i m * x.b i
def e (i : Fin 64) : EReal := Ideal.exp (x.g i)
def kbe (i : Fin 64) (m : Fin 128) : EReal := x.kb i m * x.e i
def u (i : Fin 64) (m : Fin 128) : EReal := ∑ j, x.t i j * x.vb j m
def w (i : Fin 64) (m : Fin 128) : EReal := ∑ j, x.t i j * x.kbe j m
/-- The corrected values the chunk writes into the state. -/
def vn (i : Fin 64) (m : Fin 128) : EReal := x.u i m - ∑ n, x.w i n * x.s n m
def qk (i j : Fin 64) : EReal := ∑ m, x.q i m * x.k j m
def kk (i j : Fin 64) : EReal := ∑ m, x.kb i m * x.k j m
def att (i j : Fin 64) : EReal := x.qk i j * x.dec i j
def te (i : Fin 64) : EReal := Ideal.exp (x.g 63 - x.g i)
def kte (i : Fin 64) (m : Fin 128) : EReal := x.k i m * x.te i
def el : EReal := Ideal.exp (x.g 63)
def p (i : Fin 64) (m : Fin 128) : EReal := ∑ n, x.vn i n * x.ds m n
/-- The cotangent of the corrected values. -/
def dvn (i : Fin 64) (n : Fin 128) : EReal := (∑ m, x.kte i m * x.ds m n) + ∑ j, x.att j i * x.d j n
def dP (i j : Fin 64) : EReal := ∑ n, x.d i n * x.vn j n
def y (i : Fin 64) (m : Fin 128) : EReal := ∑ n, x.d i n * x.s m n
def dQ (i j : Fin 64) : EReal := x.dP i j * x.dec i j
/-- The cotangent of the queries. -/
def dq (i : Fin 64) (m : Fin 128) : EReal := x.y i m * x.e i + ∑ j, x.dQ i j * x.k j m
def r (i : Fin 64) (m : Fin 128) : EReal := ∑ n, (-x.dvn i n) * x.s m n
def dkbe (i : Fin 64) (m : Fin 128) : EReal := ∑ j, x.t j i * x.r j m
def dvb (i : Fin 64) (n : Fin 128) : EReal := ∑ j, x.t j i * x.dvn j n
/-- The cotangent of the inverse. -/
def dT (i j : Fin 64) : EReal := (∑ m, x.r i m * x.kbe j m) + ∑ n, x.dvn i n * x.vb j n
def dTt (i j : Fin 64) : EReal := ∑ l, x.dT i l * x.t j l
/-- The cotangent of the strictly triangular matrix. -/
def dA (i j : Fin 64) : EReal := if j < i then -(∑ l, x.t l i * x.dTt l j) else 0
def dK (i j : Fin 64) : EReal := x.dA i j * x.dec i j
def dkb (i : Fin 64) (m : Fin 128) : EReal := x.dkbe i m * x.e i + ∑ j, x.dK i j * x.k j m
/-- The cotangent of the keys. -/
def dk (i : Fin 64) (m : Fin 128) : EReal :=
  x.p i m * x.te i + (∑ j, x.dQ j i * x.q j m) + (∑ j, x.dK j i * x.kb j m) + x.dkb i m * x.b i
/-- The cotangent of the values. -/
def dv (i : Fin 64) (n : Fin 128) : EReal := x.dvb i n * x.b i
/-- The cotangent of the write strengths. -/
def db (i : Fin 64) : EReal := (∑ n, x.v i n * x.dvb i n) + ∑ m, x.k i m * x.dkb i m
def z (i : Fin 64) : EReal := (∑ m, x.k i m * x.p i m) * x.te i
def mm (i j : Fin 64) : EReal := if j ≤ i then (x.qk i j * x.dP i j + x.kk i j * x.dA i j) * x.dec i j else 0
/-- What the last position's decay gets from the whole state and from every key. -/
def zl : EReal := (∑ m, ∑ n, x.s m n * x.ds m n) * x.el + ∑ i, x.z i
def f (i : Fin 64) : EReal := ((∑ m, x.q i m * x.y i m) + ∑ m, x.kb i m * x.dkbe i m) * x.e i
/-- The cotangent of the summed log decays. -/
def dg (i : Fin 64) : EReal :=
  -x.z i + (if i = 63 then x.zl else 0) + (∑ j, -x.mm j i) + (∑ j, x.mm i j) + x.f i
/-- The cotangent of the state before the chunk. -/
def dS (m n : Fin 128) : EReal :=
  x.ds m n * x.el + (∑ i, (x.q i m * x.e i) * x.d i n) + ∑ i, x.w i m * -x.dvn i n

end Inp

end Cert.Proof.Delta

end
-- ==== Proof.Spec.lean ====
/-
  The whole backward pass as plain functions: the chunks from the last to the first, the cotangent of the state carried.
-/
module

public import proofs.«01_k».proof.Proof.Model

@[expose] public section

noncomputable section

open Idealize.ShloMosaic

namespace Cert.Proof.Delta

/-- The seven arrays both programs are given. -/
structure Args where
  qk : (⟨2, ![4096, 2048]⟩ : Shape).Idx → EReal
  c : (⟨2, ![4096, 4096]⟩ : Shape).Idx → EReal
  beta : (⟨4, ![16, 64, 1, 64]⟩ : Shape).Idx → EReal
  gam : (⟨4, ![16, 64, 1, 64]⟩ : Shape).Idx → EReal
  ss : (⟨4, ![16, 64, 128, 128]⟩ : Shape).Idx → EReal
  inv : (⟨4, ![16, 64, 64, 64]⟩ : Shape).Idx → EReal
  ct : (⟨2, ![4096, 2048]⟩ : Shape).Idx → EReal

/-- Position `i` of chunk `ch` in the sequence. -/
def row (ch i : Fin 64) : Fin 4096 := ⟨64 * ch.val + i.val, by omega⟩

/-- The chunk trip `n` works on. -/
def back (n : ℕ) : Fin 64 := ⟨63 - n, by omega⟩

namespace Args

variable (A : Args)

/-- What chunk `ch` of head `h` is given when the cotangents of the states after it are `ds`. -/
def inp (ch : Fin 64) (ds : Fin 16 → Fin 128 → Fin 128 → EReal) (h : Fin 16) : Inp where
  s m n := A.ss (ix4 h ch m n)
  ds m n := ds h m n
  q i m := A.qk (ix2 (row ch i) ⟨128 * (h.val / 2) + m.val, by omega⟩)
  k i m := A.qk (ix2 (row ch i) ⟨1024 + (128 * (h.val / 2) + m.val), by omega⟩)
  v i m := A.c (ix2 (row ch i) ⟨2048 + (128 * h.val + m.val), by omega⟩)
  d i m := A.ct (ix2 (row ch i) ⟨128 * h.val + m.val, by omega⟩)
  b i := A.beta (ix4 h ch 0 i)
  g i := A.gam (ix4 h ch 0 i)
  t i l := A.inv (ix4 h ch i l)

/-- The cotangents of the states after `n` trips. -/
def carry : ℕ → Fin 16 → Fin 128 → Fin 128 → EReal
  | 0 => fun _ _ _ => 0
  | n + 1 => fun h => (A.inp (back n) (carry n) h).dS

/-- What trip `n` reads for head `h`. -/
def trip (n : ℕ) (h : Fin 16) : Inp := A.inp (back n) (A.carry n) h

/-- What chunk `ch` of head `h` is given in the pass. -/
def chunk (ch : Fin 64) (h : Fin 16) : Inp := A.trip (63 - ch.val) h

theorem chunk_back (n : ℕ) (hn : n < 64) (h : Fin 16) : A.chunk (back n) h = A.trip n h := by
  unfold chunk
  have : 63 - (back n).val = n := by show 63 - (63 - n) = n; omega
  rw [this]

end Args

end Cert.Proof.Delta

end
-- ==== Proof.Sheet.lean ====
/-
  The gradients laid out over the whole sequence.
-/
module

public import proofs.«01_k».proof.Proof.Spec

@[expose] public section

noncomputable section

open Idealize.ShloMosaic

namespace Cert.Proof.Delta.Args

variable (A : Args)

/-- A gradient laid out as the sequence is: chunk after chunk down, head after head across. -/
def sheet (f : Inp → Fin 64 → Fin 128 → EReal) (y : (⟨2, ![4096, 2048]⟩ : Shape).Idx) : EReal :=
  f (A.chunk ⟨(y 0).val / 64, by have : (y 0).val < 4096 := (y 0).isLt; omega⟩ ⟨(y 1).val / 128, by have : (y 1).val < 2048 := (y 1).isLt; omega⟩)
    ⟨(y 0).val % 64, by omega⟩ ⟨(y 1).val % 128, by omega⟩

/-- A gradient laid out as the decays are. -/
def lines (f : Inp → Fin 64 → EReal) (y : (⟨4, ![16, 64, 1, 64]⟩ : Shape).Idx) : EReal :=
  f (A.chunk (y 1) (y 0)) (y 3)

theorem sheet_at (f : Inp → Fin 64 → Fin 128 → EReal) (ch i : Fin 64) (h : Fin 16) (k : Fin 128) (q : Fin 2048) (hq : q.val = 128 * h.val + k.val) :
    A.sheet f (ix2 (row ch i) q) = f (A.chunk ch h) i k := by
  have e1 : (⟨(row ch i).val / 64, by have := (row ch i).isLt; omega⟩ : Fin 64) = ch := Fin.ext (by show (64 * ch.val + i.val) / 64 = ch.val; omega)
  have e2 : (⟨(row ch i).val % 64, by omega⟩ : Fin 64) = i := Fin.ext (by show (64 * ch.val + i.val) % 64 = i.val; omega)
  have e3 : (⟨q.val / 128, by omega⟩ : Fin 16) = h := Fin.ext (by show q.val / 128 = h.val; omega)
  have e4 : (⟨q.val % 128, by omega⟩ : Fin 128) = k := Fin.ext (by show q.val % 128 = k.val; omega)
  show f (A.chunk ⟨(row ch i).val / 64, _⟩ ⟨q.val / 128, _⟩) ⟨(row ch i).val % 64, _⟩ ⟨q.val % 128, _⟩ = _
  rw [e1, e2, e3, e4]

theorem sheet_ext {F : (⟨2, ![4096, 2048]⟩ : Shape).Idx → EReal} (f : Inp → Fin 64 → Fin 128 → EReal)
    (hF : ∀ (ch i : Fin 64) (h : Fin 16) (k : Fin 128), F (ix2 (row ch i) ⟨128 * h.val + k.val, by omega⟩) = f (A.chunk ch h) i k) : F = A.sheet f := by
  funext y
  have h0 : (y 0).val < 4096 := (y 0).isLt
  have h1 : (y 1).val < 2048 := (y 1).isLt
  have he : y = ix2 (row ⟨(y 0).val / 64, by omega⟩ ⟨(y 0).val % 64, by omega⟩)
      ⟨128 * (⟨(y 1).val / 128, by omega⟩ : Fin 16).val + (⟨(y 1).val % 128, by omega⟩ : Fin 128).val, by show 128 * ((y 1).val / 128) + (y 1).val % 128 < 2048; omega⟩ :=
    (eq_ix2 y).trans (congrArg₂ (ix2 (n0 := 4096) (n1 := 2048)) (Fin.ext (by show (y 0).val = 64 * ((y 0).val / 64) + (y 0).val % 64; omega))
      (Fin.ext (by show (y 1).val = 128 * ((y 1).val / 128) + (y 1).val % 128; omega)))
  exact (congrArg F he).trans (hF _ _ _ _)

theorem lines_ext {F : (⟨4, ![16, 64, 1, 64]⟩ : Shape).Idx → EReal} (f : Inp → Fin 64 → EReal)
    (hF : ∀ (ch i : Fin 64) (h : Fin 16), F (ix4 h ch 0 i) = f (A.chunk ch h) i) : F = A.lines f := by
  funext y
  obtain ⟨a, b, e, d, rfl⟩ : ∃ (a : Fin 16) (b : Fin 64) (e : Fin 1) (d : Fin 64), y = ix4 a b e d := ⟨y 0, y 1, y 2, y 3, eq_ix4 y⟩
  obtain rfl : e = 0 := Subsingleton.elim _ _
  exact hF _ _ _

end Cert.Proof.Delta.Args

end
-- ==== Proof.Head.lean ====
/-
  One head of the kernel's body as operations of what it loads: the values of `Model.lean`, spelled in the kernel's
  own operations.
-/
module

public import proofs.«01_k».proof.Proof.Model
public import proofs.«01_k».proof.Proof.Gen.KernelIdeal

@[expose] public section

noncomputable section

open Idealize.ShloMosaic Idealize.ShloMosaic.TcCoe Cert.KernelIdeal

namespace Cert.Proof.Delta

open Facts₀

/-- What the body loads for one head. The summed decays come twice: as a column and as a row. -/
structure Raw (F : FTy → Type) [FloatOps F] where
  q : FVec F S64x128 .bf16
  k : FVec F S64x128 .bf16
  v : FVec F S64x128 .f32
  d : FVec F S64x128 .f32
  b : FVec F S64x1 .f32
  g : FVec F S64x1 .f32
  gr : FVec F S1x64 .f32
  s : FVec F S128x128 .f32
  t : FVec F S64x64 .f32
  ds : FVec F S1x128x128 .f32

namespace Raw

variable {F : FTy → Type} [FloatOps F] (x : Raw F)

def dec : FVec F S64x64 .f32 :=
  select (cmpi .sge (iota .tc S64x64 32 [0] iota_S64x64_d0_w32) (iota .tc S64x64 32 [1] iota_S64x64_d1_w32)) (exp (minimumf (subf (broadcastTo S64x64 x.g broadcasts_S64x1_S64x64) (broadcastTo S64x64 x.gr broadcasts_S1x64_S64x64)) (broadcast S64x64 (Scalar.ofBits .f32 0x00000000#32 : F .f32)))) (broadcast S64x64 (Scalar.ofBits .f32 0x00000000#32 : F .f32))

def kb : FVec F S64x128 .f32 :=
  mulf (extf .f32 x.k bitsLt_bf16_f32) (broadcastTo S64x128 x.b broadcasts_S64x1_S64x128)

def kk : FVec F S64x64 .f32 :=
  matmul dot_S64x128_S64x128_S64x64_1_1_0_0_n_n none (truncf .bf16 x.kb bitsLt_bf16_f32) (truncf .bf16 (extf .f32 x.k bitsLt_bf16_f32) bitsLt_bf16_f32) (constant S64x64 .f32 0x00000000#32)

def e : FVec F S64x1 .f32 :=
  exp x.g

def vb : FVec F S64x128 .f32 :=
  mulf x.v (broadcastTo S64x128 x.b broadcasts_S64x1_S64x128)

def u : FVec F S64x128 .f32 :=
  matmul dot_S64x64_S64x128_S64x128_1_0_0_1_n_n none (truncf .bf16 x.t bitsLt_bf16_f32) (truncf .bf16 x.vb bitsLt_bf16_f32) (constant S64x128 .f32 0x00000000#32)

def kbe : FVec F S64x128 .f32 :=
  mulf x.kb (broadcastTo S64x128 x.e broadcasts_S64x1_S64x128)

def w : FVec F S64x128 .f32 :=
  matmul dot_S64x64_S64x128_S64x128_1_0_0_1_n_n none (truncf .bf16 x.t bitsLt_bf16_f32) (truncf .bf16 x.kbe bitsLt_bf16_f32) (constant S64x128 .f32 0x00000000#32)

def qk : FVec F S64x64 .f32 :=
  matmul dot_S64x128_S64x128_S64x64_1_1_0_0_n_n none (truncf .bf16 (extf .f32 x.q bitsLt_bf16_f32) bitsLt_bf16_f32) (truncf .bf16 (extf .f32 x.k bitsLt_bf16_f32) bitsLt_bf16_f32) (constant S64x64 .f32 0x00000000#32)

def att : FVec F S64x64 .f32 :=
  mulf x.qk x.dec

def vn : FVec F S64x128 .f32 :=
  subf x.u (matmul dot_S64x128_S128x128_S64x128_1_0_0_1_n_n none (truncf .bf16 x.w bitsLt_bf16_f32) (truncf .bf16 x.s bitsLt_bf16_f32) (constant S64x128 .f32 0x00000000#32))

def te : FVec F S64x1 .f32 :=
  exp (subf (broadcastTo S64x1 (extractStridedSlice S1x1 ![63, 0] x.g slices_S64x1_o63_0_S1x1) broadcasts_S1x1_S64x1) x.g)

def kte : FVec F S64x128 .f32 :=
  mulf (extf .f32 x.k bitsLt_bf16_f32) (broadcastTo S64x128 x.te broadcasts_S64x1_S64x128)

def p : FVec F S64x128 .f32 :=
  matmul dot_S64x128_S128x128_S64x128_1_1_0_0_n_n none (truncf .bf16 x.vn bitsLt_bf16_f32) (truncf .bf16 (shapeCast S128x128 (shapeCast S128x128 x.ds shapeCasts_S1x128x128_S128x128) shapeCasts_S128x128_S128x128) bitsLt_bf16_f32) (constant S64x128 .f32 0x00000000#32)

def z : FVec F S64x1 .f32 :=
  mulf (shapeCast S64x1 (multiReduction .add [1] S64 (mulf (extf .f32 x.k bitsLt_bf16_f32) x.p) 0x00000000#32 reduces_S64x128_S64 (.inl rfl) rfl) shapeCasts_S64_S64x1) x.te

def zl : FVec F S1x1 .f32 :=
  addf (shapeCast S1x1 (multiReduction .add [0] S1 x.z 0x00000000#32 reduces_S64x1_S1 (.inl rfl) rfl) shapeCasts_S1_S1x1) (mulf (broadcast S1x1 (extractAt ![0, 0, 0] (shapeCast S1x1x1 (multiReduction .add [1, 2] S1 (shapeCast S1x128x128 (mulf x.s (shapeCast S128x128 (shapeCast S128x128 x.ds shapeCasts_S1x128x128_S128x128) shapeCasts_S128x128_S128x128)) shapeCasts_S128x128_S1x128x128) 0x00000000#32 reduces_S1x128x128_S1 (.inl rfl) rfl) shapeCasts_S1_S1x1x1) inpos_S1x1x1_p0_0_0)) (exp (extractStridedSlice S1x1 ![63, 0] x.g slices_S64x1_o63_0_S1x1)))

def dP : FVec F S64x64 .f32 :=
  matmul dot_S64x128_S64x128_S64x64_1_1_0_0_n_n none (truncf .bf16 (shapeCast S64x128 x.d shapeCasts_S64x128_S64x128) bitsLt_bf16_f32) (truncf .bf16 x.vn bitsLt_bf16_f32) (constant S64x64 .f32 0x00000000#32)

def dvn : FVec F S64x128 .f32 :=
  addf (matmul dot_S64x128_S128x128_S64x128_1_0_0_1_n_n none (truncf .bf16 x.kte bitsLt_bf16_f32) (truncf .bf16 (shapeCast S128x128 (shapeCast S128x128 x.ds shapeCasts_S1x128x128_S128x128) shapeCasts_S128x128_S128x128) bitsLt_bf16_f32) (constant S64x128 .f32 0x00000000#32)) (matmul dot_S64x64_S64x128_S64x128_0_0_1_1_n_n none (truncf .bf16 x.att bitsLt_bf16_f32) (truncf .bf16 (shapeCast S64x128 x.d shapeCasts_S64x128_S64x128) bitsLt_bf16_f32) (constant S64x128 .f32 0x00000000#32))

def y : FVec F S64x128 .f32 :=
  matmul dot_S64x128_S128x128_S64x128_1_1_0_0_n_n none (truncf .bf16 (shapeCast S64x128 x.d shapeCasts_S64x128_S64x128) bitsLt_bf16_f32) (truncf .bf16 x.s bitsLt_bf16_f32) (constant S64x128 .f32 0x00000000#32)

def ndvn : FVec F S64x128 .f32 :=
  subf (broadcast S64x128 (Scalar.ofBits .f32 0x00000000#32 : F .f32)) x.dvn

def r : FVec F S64x128 .f32 :=
  matmul dot_S64x128_S128x128_S64x128_1_1_0_0_n_n none (truncf .bf16 x.ndvn bitsLt_bf16_f32) (truncf .bf16 x.s bitsLt_bf16_f32) (constant S64x128 .f32 0x00000000#32)

def dS : FVec F S128x128 .f32 :=
  addf (addf (mulf (shapeCast S128x128 (shapeCast S128x128 x.ds shapeCasts_S1x128x128_S128x128) shapeCasts_S128x128_S128x128) (broadcastTo S128x128 (exp (extractStridedSlice S1x1 ![63, 0] x.g slices_S64x1_o63_0_S1x1)) broadcasts_S1x1_S128x128)) (matmul dot_S64x128_S64x128_S128x128_0_0_1_1_n_n none (truncf .bf16 (mulf (extf .f32 x.q bitsLt_bf16_f32) (broadcastTo S64x128 x.e broadcasts_S64x1_S64x128)) bitsLt_bf16_f32) (truncf .bf16 (shapeCast S64x128 x.d shapeCasts_S64x128_S64x128) bitsLt_bf16_f32) (constant S128x128 .f32 0x00000000#32))) (matmul dot_S64x128_S64x128_S128x128_0_0_1_1_n_n none (truncf .bf16 x.w bitsLt_bf16_f32) (truncf .bf16 x.ndvn bitsLt_bf16_f32) (constant S128x128 .f32 0x00000000#32))

def dQ : FVec F S64x64 .f32 :=
  mulf x.dP x.dec

def dq : FVec F S64x128 .f32 :=
  addf (mulf x.y (broadcastTo S64x128 x.e broadcasts_S64x1_S64x128)) (matmul dot_S64x64_S64x128_S64x128_1_0_0_1_n_n none (truncf .bf16 x.dQ bitsLt_bf16_f32) (truncf .bf16 (extf .f32 x.k bitsLt_bf16_f32) bitsLt_bf16_f32) (constant S64x128 .f32 0x00000000#32))

def dkbe : FVec F S64x128 .f32 :=
  matmul dot_S64x64_S64x128_S64x128_0_0_1_1_n_n none (truncf .bf16 x.t bitsLt_bf16_f32) (truncf .bf16 x.r bitsLt_bf16_f32) (constant S64x128 .f32 0x00000000#32)

def dvb : FVec F S64x128 .f32 :=
  matmul dot_S64x64_S64x128_S64x128_0_0_1_1_n_n none (truncf .bf16 x.t bitsLt_bf16_f32) (truncf .bf16 x.dvn bitsLt_bf16_f32) (constant S64x128 .f32 0x00000000#32)

def dT : FVec F S64x64 .f32 :=
  addf (addf (broadcast S64x64 (Scalar.ofBits .f32 0x00000000#32 : F .f32)) (matmul dot_S64x128_S64x128_S64x64_1_1_0_0_n_n none (truncf .bf16 x.r bitsLt_bf16_f32) (truncf .bf16 x.kbe bitsLt_bf16_f32) (constant S64x64 .f32 0x00000000#32))) (matmul dot_S64x128_S64x128_S64x64_1_1_0_0_n_n none (truncf .bf16 x.dvn bitsLt_bf16_f32) (truncf .bf16 x.vb bitsLt_bf16_f32) (constant S64x64 .f32 0x00000000#32))

def dv : FVec F S64x128 .f32 :=
  mulf x.dvb (broadcastTo S64x128 x.b broadcasts_S64x1_S64x128)

def dTt : FVec F S64x64 .f32 :=
  matmul dot_S64x64_S64x64_S64x64_1_1_0_0_n_n none (truncf .bf16 x.dT bitsLt_bf16_f32) (truncf .bf16 x.t bitsLt_bf16_f32) (constant S64x64 .f32 0x00000000#32)

def dA : FVec F S64x64 .f32 :=
  select (cmpi .sgt (iota .tc S64x64 32 [0] iota_S64x64_d0_w32) (iota .tc S64x64 32 [1] iota_S64x64_d1_w32)) (subf (broadcast S64x64 (Scalar.ofBits .f32 0x00000000#32 : F .f32)) (matmul dot_S64x64_S64x64_S64x64_0_0_1_1_n_n none (truncf .bf16 x.t bitsLt_bf16_f32) (truncf .bf16 x.dTt bitsLt_bf16_f32) (constant S64x64 .f32 0x00000000#32))) (broadcast S64x64 (Scalar.ofBits .f32 0x00000000#32 : F .f32))

def dK : FVec F S64x64 .f32 :=
  mulf x.dA x.dec

def dkb : FVec F S64x128 .f32 :=
  addf (mulf x.dkbe (broadcastTo S64x128 x.e broadcasts_S64x1_S64x128)) (matmul dot_S64x64_S64x128_S64x128_1_0_0_1_n_n none (truncf .bf16 x.dK bitsLt_bf16_f32) (truncf .bf16 (extf .f32 x.k bitsLt_bf16_f32) bitsLt_bf16_f32) (constant S64x128 .f32 0x00000000#32))

def db : FVec F S64x1 .f32 :=
  addf (shapeCast S64x1 (multiReduction .add [1] S64 (mulf x.v x.dvb) 0x00000000#32 reduces_S64x128_S64 (.inl rfl) rfl) shapeCasts_S64_S64x1) (shapeCast S64x1 (multiReduction .add [1] S64 (mulf (extf .f32 x.k bitsLt_bf16_f32) x.dkb) 0x00000000#32 reduces_S64x128_S64 (.inl rfl) rfl) shapeCasts_S64_S64x1)

def dk : FVec F S64x128 .f32 :=
  addf (addf (addf (mulf x.p (broadcastTo S64x128 x.te broadcasts_S64x1_S64x128)) (matmul dot_S64x64_S64x128_S64x128_0_0_1_1_n_n none (truncf .bf16 x.dQ bitsLt_bf16_f32) (truncf .bf16 (extf .f32 x.q bitsLt_bf16_f32) bitsLt_bf16_f32) (constant S64x128 .f32 0x00000000#32))) (matmul dot_S64x64_S64x128_S64x128_0_0_1_1_n_n none (truncf .bf16 x.dK bitsLt_bf16_f32) (truncf .bf16 x.kb bitsLt_bf16_f32) (constant S64x128 .f32 0x00000000#32))) (mulf x.dkb (broadcastTo S64x128 x.b broadcasts_S64x1_S64x128))

def mm : FVec F S64x64 .f32 :=
  mulf (mulf (select (cmpi .sge (iota .tc S64x64 32 [0] iota_S64x64_d0_w32) (iota .tc S64x64 32 [1] iota_S64x64_d1_w32)) (addf (mulf x.qk x.dP) (mulf x.kk x.dA)) (broadcast S64x64 (Scalar.ofBits .f32 0x00000000#32 : F .f32))) (exp (minimumf (subf (broadcastTo S64x64 x.g broadcasts_S64x1_S64x64) (broadcastTo S64x64 x.gr broadcasts_S1x64_S64x64)) (broadcast S64x64 (Scalar.ofBits .f32 0x00000000#32 : F .f32))))) (select (cmpf .ogt (broadcast S64x64 (Scalar.ofBits .f32 0x00000000#32 : F .f32)) (subf (broadcastTo S64x64 x.g broadcasts_S64x1_S64x64) (broadcastTo S64x64 x.gr broadcasts_S1x64_S64x64))) (broadcast S64x64 (Scalar.ofBits .f32 0x3F800000#32 : F .f32)) (select (cmpf .oeq (broadcast S64x64 (Scalar.ofBits .f32 0x00000000#32 : F .f32)) (subf (broadcastTo S64x64 x.g broadcasts_S64x1_S64x64) (broadcastTo S64x64 x.gr broadcasts_S1x64_S64x64))) (broadcast S64x64 (Scalar.ofBits .f32 0x3F000000#32 : F .f32)) (broadcast S64x64 (Scalar.ofBits .f32 0x00000000#32 : F .f32))))

def dgr : FVec F S1x64 .f32 :=
  shapeCast S1x64 (multiReduction .add [0] S64 (subf (broadcast S64x64 (Scalar.ofBits .f32 0x00000000#32 : F .f32)) x.mm) 0x00000000#32 reduces_S64x64_S64_2 (.inl rfl) rfl) shapeCasts_S64_S1x64

def dgc : FVec F S64x1 .f32 :=
  addf (addf (addf (subf (broadcast S64x1 (Scalar.ofBits .f32 0x00000000#32 : F .f32)) x.z) (concatenate S64x1 0 [⟨S63x1, (broadcast S63x1 (Scalar.ofBits .f32 0x00000000#32 : F .f32))⟩, ⟨S1x1, x.zl⟩] concatenates_S63x1_S1x1_S64x1_d0)) (mulf (addf (shapeCast S64x1 (multiReduction .add [1] S64 (mulf (extf .f32 x.q bitsLt_bf16_f32) x.y) 0x00000000#32 reduces_S64x128_S64 (.inl rfl) rfl) shapeCasts_S64_S64x1) (shapeCast S64x1 (multiReduction .add [1] S64 (mulf x.kb x.dkbe) 0x00000000#32 reduces_S64x128_S64 (.inl rfl) rfl) shapeCasts_S64_S64x1)) x.e)) (shapeCast S64x1 (multiReduction .add [1] S64 x.mm 0x00000000#32 reduces_S64x64_S64 (.inl rfl) rfl) shapeCasts_S64_S64x1)

def dq_out : FVec F S64x128 .bf16 :=
  truncf .bf16 x.dq bitsLt_bf16_f32

def dk_out : FVec F S64x128 .bf16 :=
  truncf .bf16 x.dk bitsLt_bf16_f32

def dv_out : FVec F S64x128 .bf16 :=
  truncf .bf16 x.dv bitsLt_bf16_f32

def dS_out : FVec F S1x128x128 .f32 :=
  shapeCast S1x128x128 x.dS shapeCasts_S128x128_S1x128x128

end Raw

end Cert.Proof.Delta

end
-- ==== Proof.HeadRead.lean ====
/-
  One head of the kernel's body, read at an element: the functions of `Model.lean`. Where the summed decays fall
  along the chunk, the clamped differences are the differences themselves.
-/
module

public import proofs.«01_k».proof.Proof.Head

@[expose] public section

set_option maxRecDepth 4096

noncomputable section

open Idealize.ShloMosaic Idealize.ShloMosaic.TcCoe Cert.KernelIdeal

namespace Cert.Proof.Delta.Raw

open Facts₀

variable (x : Raw Ideal)

/-- What the head's loads hold, element by element. -/
def inp : Inp where
  s m n := x.s (ix2 m n)
  ds m n := x.ds (ix3 0 m n)
  q i m := x.q (ix2 i m)
  k i m := x.k (ix2 i m)
  v i m := x.v (ix2 i m)
  d i m := x.d (ix2 i m)
  b i := x.b (ix2 i 0)
  g i := x.g (ix2 i 0)
  t i l := x.t (ix2 i l)

theorem bs (m n : Fin 128) : x.s (ix2 m n) = x.inp.s m n := rfl
theorem bds (m n : Fin 128) : x.ds (ix3 0 m n) = x.inp.ds m n := rfl
theorem bq (i : Fin 64) (m : Fin 128) : x.q (ix2 i m) = x.inp.q i m := rfl
theorem bk (i : Fin 64) (m : Fin 128) : x.k (ix2 i m) = x.inp.k i m := rfl
theorem bv (i : Fin 64) (m : Fin 128) : x.v (ix2 i m) = x.inp.v i m := rfl
theorem bd (i : Fin 64) (m : Fin 128) : x.d (ix2 i m) = x.inp.d i m := rfl
theorem bb (i : Fin 64) : x.b (ix2 i 0) = x.inp.b i := rfl
theorem bg (i : Fin 64) : x.g (ix2 i 0) = x.inp.g i := rfl
theorem bt (i l : Fin 64) : x.t (ix2 i l) = x.inp.t i l := rfl

theorem le_mask : ∀ i l : Fin 64, IntOp.cmpi CmpIPredicate.sge (BitVec.ofNat 32 (i : ℕ)) (BitVec.ofNat 32 (l : ℕ)) = if l ≤ i then 1#1 else 0#1 := by
  decide +kernel

theorem lt_mask : ∀ i l : Fin 64, IntOp.cmpi CmpIPredicate.sgt (BitVec.ofNat 32 (i : ℕ)) (BitVec.ofNat 32 (l : ℕ)) = if l < i then 1#1 else 0#1 := by
  decide +kernel

theorem sel_ite (p : Prop) [Decidable p] (a b : EReal) : Scalar.select (if p then 1#1 else 0#1) a b = if p then a else b := by
  by_cases hp : p <;> simp [hp, Scalar.select]

theorem kb_eq (i : Fin 64) (m : Fin 128) : x.kb (ix2 i m) = x.inp.kb i m := by
  pointwise [kb]
  try simp only [bs, bds, bq, bk, bv, bd, bb, bg, bt]
  rfl

theorem vb_eq (i : Fin 64) (m : Fin 128) : x.vb (ix2 i m) = x.inp.vb i m := by
  pointwise [vb]
  try simp only [bs, bds, bq, bk, bv, bd, bb, bg, bt, kb_eq]
  rfl

theorem e_eq (i : Fin 64) : x.e (ix2 i 0) = x.inp.e i := by
  pointwise [e]
  try simp only [bs, bds, bq, bk, bv, bd, bb, bg, bt, kb_eq, vb_eq]
  rfl

theorem kbe_eq (i : Fin 64) (m : Fin 128) : x.kbe (ix2 i m) = x.inp.kbe i m := by
  pointwise [kbe]
  try simp only [bs, bds, bq, bk, bv, bd, bb, bg, bt, kb_eq, vb_eq, e_eq]
  rfl

theorem u_eq (i : Fin 64) (m : Fin 128) : x.u (ix2 i m) = x.inp.u i m := by
  pointwise [u]
  try simp only [bs, bds, bq, bk, bv, bd, bb, bg, bt, kb_eq, vb_eq, e_eq, kbe_eq]
  rfl

theorem w_eq (i : Fin 64) (m : Fin 128) : x.w (ix2 i m) = x.inp.w i m := by
  pointwise [w]
  try simp only [bs, bds, bq, bk, bv, bd, bb, bg, bt, kb_eq, vb_eq, e_eq, kbe_eq, u_eq]
  rfl

theorem vn_eq (i : Fin 64) (m : Fin 128) : x.vn (ix2 i m) = x.inp.vn i m := by
  pointwise [vn]
  try simp only [bs, bds, bq, bk, bv, bd, bb, bg, bt, kb_eq, vb_eq, e_eq, kbe_eq, u_eq, w_eq]
  rfl

theorem qk_eq (i l : Fin 64) : x.qk (ix2 i l) = x.inp.qk i l := by
  pointwise [qk]
  try simp only [bs, bds, bq, bk, bv, bd, bb, bg, bt, kb_eq, vb_eq, e_eq, kbe_eq, u_eq, w_eq, vn_eq]
  rfl

theorem kk_eq (i l : Fin 64) : x.kk (ix2 i l) = x.inp.kk i l := by
  pointwise [kk]
  try simp only [bs, bds, bq, bk, bv, bd, bb, bg, bt, kb_eq, vb_eq, e_eq, kbe_eq, u_eq, w_eq, vn_eq, qk_eq]
  rfl

theorem te_eq (i : Fin 64) : x.te (ix2 i 0) = x.inp.te i := by
  pointwise [te]
  try simp only [bs, bds, bq, bk, bv, bd, bb, bg, bt, kb_eq, vb_eq, e_eq, kbe_eq, u_eq, w_eq, vn_eq, qk_eq, kk_eq]
  rfl

theorem kte_eq (i : Fin 64) (m : Fin 128) : x.kte (ix2 i m) = x.inp.kte i m := by
  pointwise [kte]
  try simp only [bs, bds, bq, bk, bv, bd, bb, bg, bt, kb_eq, vb_eq, e_eq, kbe_eq, u_eq, w_eq, vn_eq, qk_eq, kk_eq, te_eq]
  rfl

theorem p_eq (i : Fin 64) (m : Fin 128) : x.p (ix2 i m) = x.inp.p i m := by
  pointwise [p]
  try simp only [bs, bds, bq, bk, bv, bd, bb, bg, bt, kb_eq, vb_eq, e_eq, kbe_eq, u_eq, w_eq, vn_eq, qk_eq, kk_eq, te_eq, kte_eq]
  rfl

theorem dP_eq (i l : Fin 64) : x.dP (ix2 i l) = x.inp.dP i l := by
  pointwise [dP]
  try simp only [bs, bds, bq, bk, bv, bd, bb, bg, bt, kb_eq, vb_eq, e_eq, kbe_eq, u_eq, w_eq, vn_eq, qk_eq, kk_eq, te_eq, kte_eq, p_eq]
  rfl

theorem y_eq (i : Fin 64) (m : Fin 128) : x.y (ix2 i m) = x.inp.y i m := by
  pointwise [y]
  try simp only [bs, bds, bq, bk, bv, bd, bb, bg, bt, kb_eq, vb_eq, e_eq, kbe_eq, u_eq, w_eq, vn_eq, qk_eq, kk_eq, te_eq, kte_eq, p_eq, dP_eq]
  rfl

theorem z_eq (i : Fin 64) : x.z (ix2 i 0) = x.inp.z i := by
  pointwise [z]
  try simp only [bs, bds, bq, bk, bv, bd, bb, bg, bt, kb_eq, vb_eq, e_eq, kbe_eq, u_eq, w_eq, vn_eq, qk_eq, kk_eq, te_eq, kte_eq, p_eq, dP_eq, y_eq]
  rfl

end Cert.Proof.Delta.Raw

end
-- ==== Proof.HeadRead2.lean ====
/-
  One head of the kernel's body, read at an element: the cotangents.
-/
module

public import proofs.«01_k».proof.Proof.HeadRead

@[expose] public section

set_option maxRecDepth 4096

noncomputable section

open Idealize.ShloMosaic Idealize.ShloMosaic.TcCoe Cert.KernelIdeal

namespace Cert.Proof.Delta.Raw

open Facts₀

variable {x : Raw Ideal}

/-- The summed decays are real numbers falling along the chunk, and the row holds what the column holds. -/
structure Falls (x : Raw Ideal) : Prop where
  row : ∀ i : Fin 64, x.gr (ix2 0 i) = x.inp.g i
  real : ∀ i : Fin 64, ∃ r : ℝ, x.inp.g i = (r : EReal)
  fall : ∀ i l : Fin 64, l < i → x.inp.g i < x.inp.g l

theorem Falls.sub_le (hx : Falls x) {i l : Fin 64} (h : l ≤ i) : x.inp.g i - x.inp.g l ≤ 0 := by
  obtain ⟨a, ha⟩ := hx.real i
  obtain ⟨b, hb⟩ := hx.real l
  rcases h.eq_or_lt with rfl | hl
  · rw [ha, ← EReal.coe_sub, sub_self, EReal.coe_zero]
  · have := hx.fall i l hl
    rw [ha, hb, EReal.coe_lt_coe_iff] at this
    rw [ha, hb, ← EReal.coe_sub, ← EReal.coe_zero, EReal.coe_le_coe_iff]
    linarith

theorem dec_eq (hx : Falls x) (i l : Fin 64) : x.dec (ix2 i l) = x.inp.dec i l := by
  pointwise [dec]
  simp only [hx.row, bg, le_mask, sel_ite, Inp.dec, Ideal.ofBits_zero_f32]
  split
  · rename_i h
    rw [min_eq_left (hx.sub_le h)]
  · rfl

theorem att_eq (hx : Falls x) (i l : Fin 64) : x.att (ix2 i l) = x.inp.att i l := by
  pointwise [att]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx]
  try rfl

theorem dvn_eq (hx : Falls x) (i : Fin 64) (m : Fin 128) : x.dvn (ix2 i m) = x.inp.dvn i m := by
  pointwise [dvn]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx]
  try rfl

theorem ndvn_eq (hx : Falls x) (i : Fin 64) (m : Fin 128) : x.ndvn (ix2 i m) = -x.inp.dvn i m := by
  pointwise [ndvn]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx]
  try simp only [Ideal.ofBits_zero_f32, zero_sub]

theorem r_eq (hx : Falls x) (i : Fin 64) (m : Fin 128) : x.r (ix2 i m) = x.inp.r i m := by
  pointwise [r]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx]
  try rfl

theorem dS_eq (hx : Falls x) (m n : Fin 128) : x.dS (ix2 m n) = x.inp.dS m n := by
  pointwise [dS]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx]
  try rfl

theorem dQ_eq (hx : Falls x) (i l : Fin 64) : x.dQ (ix2 i l) = x.inp.dQ i l := by
  pointwise [dQ]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx]
  try rfl

theorem dq_eq (hx : Falls x) (i : Fin 64) (m : Fin 128) : x.dq (ix2 i m) = x.inp.dq i m := by
  pointwise [dq]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx]
  try rfl

theorem dkbe_eq (hx : Falls x) (i : Fin 64) (m : Fin 128) : x.dkbe (ix2 i m) = x.inp.dkbe i m := by
  pointwise [dkbe]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx]
  try rfl

theorem dvb_eq (hx : Falls x) (i : Fin 64) (m : Fin 128) : x.dvb (ix2 i m) = x.inp.dvb i m := by
  pointwise [dvb]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx]
  try rfl

theorem dT_eq (hx : Falls x) (i l : Fin 64) : x.dT (ix2 i l) = x.inp.dT i l := by
  pointwise [dT]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx]
  try simp only [Inp.dT, Ideal.ofBits_zero_f32, zero_add]

theorem dv_eq (hx : Falls x) (i : Fin 64) (m : Fin 128) : x.dv (ix2 i m) = x.inp.dv i m := by
  pointwise [dv]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx]
  try rfl

theorem dTt_eq (hx : Falls x) (i l : Fin 64) : x.dTt (ix2 i l) = x.inp.dTt i l := by
  pointwise [dTt]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx]
  try rfl

theorem dA_eq (hx : Falls x) (i l : Fin 64) : x.dA (ix2 i l) = x.inp.dA i l := by
  pointwise [dA]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx]
  try simp only [lt_mask, sel_ite, Ideal.ofBits_zero_f32, zero_sub, Inp.dA]

theorem dK_eq (hx : Falls x) (i l : Fin 64) : x.dK (ix2 i l) = x.inp.dK i l := by
  pointwise [dK]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx, dA_eq hx]
  try rfl

theorem dkb_eq (hx : Falls x) (i : Fin 64) (m : Fin 128) : x.dkb (ix2 i m) = x.inp.dkb i m := by
  pointwise [dkb]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx, dA_eq hx, dK_eq hx]
  try rfl

theorem db_eq (hx : Falls x) (i : Fin 64) : x.db (ix2 i 0) = x.inp.db i := by
  pointwise [db]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx, dA_eq hx, dK_eq hx, dkb_eq hx]
  try rfl

theorem dk_eq (hx : Falls x) (i : Fin 64) (m : Fin 128) : x.dk (ix2 i m) = x.inp.dk i m := by
  pointwise [dk]
  try simp only [bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx, dA_eq hx, dK_eq hx, dkb_eq hx, db_eq hx]
  try rfl

theorem zl_eq : x.zl (ix2 0 0) = x.inp.zl := by
  pointwise [zl]
  try simp only [bs, bds, bq, bk, bv, bd, bb, bg, bt, kb_eq, vb_eq, e_eq, kbe_eq, u_eq, w_eq, vn_eq, qk_eq, kk_eq, te_eq, kte_eq, p_eq, dP_eq, y_eq, z_eq]
  rw [Inp.zl, add_comm]
  rfl

theorem half : Ideal.ofBits FTy.f32 1056964608#32 = ((1/2 : ℝ) : EReal) := by
  simp [Ideal.ofBits, Ideal.ieee, -EReal.coe_mul]
  norm_num

theorem mm_eq (hx : Falls x) (i l : Fin 64) : x.mm (ix2 i l) = if l < i then x.inp.mm i l else if l = i then x.inp.mm i l * ((1/2 : ℝ) : EReal) else 0 := by
  pointwise [mm]
  try simp only [hx.row, le_mask, sel_ite, Ideal.ofBits_zero_f32, bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx, dA_eq hx, dK_eq hx, dkb_eq hx, db_eq hx, dk_eq hx]
  rcases lt_trichotomy l i with h | rfl | h
  · obtain ⟨a, ha⟩ := hx.real i
    obtain ⟨b, hb⟩ := hx.real l
    have hlt : x.inp.g i - x.inp.g l < 0 := by
      have := hx.fall i l h
      rw [ha, hb, EReal.coe_lt_coe_iff] at this
      rw [ha, hb, ← EReal.coe_sub, ← EReal.coe_zero, EReal.coe_lt_coe_iff]
      linarith
    rw [if_pos h.le, if_pos h, if_pos hlt, mul_one, min_eq_left hlt.le, Inp.mm, if_pos h.le, Inp.dec, if_pos h.le]
  · have h0 : x.inp.g l - x.inp.g l = 0 := by
      obtain ⟨a, ha⟩ := hx.real l
      rw [ha, ← EReal.coe_sub, sub_self, EReal.coe_zero]
    rw [if_pos le_rfl, if_neg (lt_irrefl l), if_pos rfl, h0, if_neg (lt_irrefl _), if_pos rfl, min_self, Inp.mm, if_pos le_rfl,
      Inp.dec, if_pos le_rfl, h0, half]
  · rw [if_neg (not_le.mpr h), if_neg h.asymm, if_neg h.ne']

theorem dgr_eq (hx : Falls x) (i : Fin 64) : x.dgr (ix2 0 i) = ∑ l, -x.mm (ix2 l i) := by
  pointwise [dgr]
  try simp only [Ideal.ofBits_zero_f32, zero_sub]
  try rfl

theorem dgc_eq (hx : Falls x) (i : Fin 64) : x.dgc (ix2 i 0) = -x.inp.z i + (if i = 63 then x.inp.zl else 0) + x.inp.f i + ∑ l, x.mm (ix2 i l) := by
  pointwise [dgc]
  try simp only [Ideal.ofBits_zero_f32, zero_sub, bs, bds, bq, bk, bv, bd, bb, bg, bt, kb_eq, vb_eq, e_eq, kbe_eq, u_eq, w_eq, vn_eq, qk_eq, kk_eq, te_eq, kte_eq, p_eq, dP_eq, y_eq, z_eq, dec_eq hx, att_eq hx, dvn_eq hx, ndvn_eq hx, r_eq hx, dS_eq hx, dQ_eq hx, dq_eq hx, dkbe_eq hx, dvb_eq hx, dT_eq hx, dv_eq hx, dTt_eq hx, dA_eq hx, dK_eq hx, dkb_eq hx, db_eq hx, dk_eq hx]
  refine congrArg (· + _) ?_
  refine congrArg₂ (· + ·) (congrArg _ ?_) rfl
  by_cases h : i = 63
  · subst h
    rw [dif_neg (by decide)]
    exact x.zl_eq.trans (if_pos rfl).symm
  · rw [dif_pos (by omega), if_neg h]

/-- The row's share and the column's share of the decay's cotangent add up: what the diagonal gives to one it takes from the
    other, so only that it is a real number is used. -/
theorem dg_sum (hx : Falls x) (hm : ∀ i : Fin 64, ∃ r : ℝ, x.inp.mm i i = (r : EReal)) (i : Fin 64) :
    x.dgr (ix2 0 i) + x.dgc (ix2 i 0) = x.inp.dg i := by
  rw [dgr_eq hx, dgc_eq hx, Inp.dg]
  have e1 : (∑ l, -x.mm (ix2 l i)) + ∑ l, x.mm (ix2 i l) = (∑ l, -x.inp.mm l i) + ∑ l, x.inp.mm i l := by
    simp only [mm_eq hx]
    rw [← Finset.add_sum_erase _ _ (Finset.mem_univ i), ← Finset.add_sum_erase (a := i) _ (fun l => ite _ _ _) (Finset.mem_univ i),
      ← Finset.add_sum_erase _ (fun l => -x.inp.mm l i) (Finset.mem_univ i), ← Finset.add_sum_erase _ (fun l => x.inp.mm i l) (Finset.mem_univ i)]
    have c1 : ∑ l ∈ Finset.univ.erase i, -(if i < l then x.inp.mm l i else if i = l then x.inp.mm l i * ((1/2 : ℝ) : EReal) else 0)
        = ∑ l ∈ Finset.univ.erase i, -x.inp.mm l i := by
      refine Finset.sum_congr rfl fun l hl => ?_
      have hne := Finset.ne_of_mem_erase hl
      by_cases h : i < l
      · rw [if_pos h]
      · rw [if_neg h, if_neg hne.symm, Inp.mm, if_neg (fun h' => h (lt_of_le_of_ne h' hne.symm))]
    have c2 : ∑ l ∈ Finset.univ.erase i, (if l < i then x.inp.mm i l else if l = i then x.inp.mm i l * ((1/2 : ℝ) : EReal) else 0)
        = ∑ l ∈ Finset.univ.erase i, x.inp.mm i l := by
      refine Finset.sum_congr rfl fun l hl => ?_
      have hne := Finset.ne_of_mem_erase hl
      by_cases h : l < i
      · rw [if_pos h]
      · rw [if_neg h, if_neg hne, Inp.mm, if_neg (fun h' => h (lt_of_le_of_ne h' hne))]
    rw [c1, c2]
    simp only [lt_irrefl, if_false, if_true]
    obtain ⟨r, hr⟩ := hm i
    rw [hr]
    have z1 : -((r : EReal) * ((1/2 : ℝ) : EReal)) + (r : EReal) * ((1/2 : ℝ) : EReal) = 0 := by
      rw [← EReal.coe_mul, ← EReal.coe_neg, ← EReal.coe_add, neg_add_cancel, EReal.coe_zero]
    have z2 : -(r : EReal) + (r : EReal) = 0 := by
      rw [← EReal.coe_neg, ← EReal.coe_add, neg_add_cancel, EReal.coe_zero]
    rw [add_add_add_comm, z1, add_add_add_comm, z2]
  calc _ = (-x.inp.z i + (if i = 63 then x.inp.zl else 0) + x.inp.f i) + ((∑ l, -x.mm (ix2 l i)) + ∑ l, x.mm (ix2 i l)) := by ac_rfl
    _ = _ := by rw [e1]; ac_rfl

end Cert.Proof.Delta.Raw

end
-- ==== Proof.Blocks.lean ====
/-
  The blocks one grid point reads, head by head: what each head's values are functions of. And the columns and rows the
  heads' shares are laid out in, read back.
-/
module

public import proofs.«01_k».proof.Proof.HeadRead2

@[expose] public section

noncomputable section

open Idealize.ShloMosaic Idealize.ShloMosaic.TcCoe Cert.KernelIdeal

namespace Cert.Proof.Delta

open Facts₀

/-- Column `m` of head `h` in the values and the cotangents. -/
def wide (h : Fin 16) (m : Fin 128) : Fin 2048 := ⟨128 * h.val + m.val, by omega⟩
/-- Column `m` of head `h` in the queries and the keys, which two heads share. -/
def narrow (h : Fin 16) (m : Fin 128) : Fin 1024 := ⟨128 * (h.val / 2) + m.val, by omega⟩

/-- What head `h` is given at a grid point whose blocks are `x0 … x7` and whose incoming cotangent of the state is `xs`. -/
def inpOf (x0 x1 : Vec Ideal S64x1024 .bf16) (x2 : Vec Ideal S64x2048 .f32) (x3 x4 : Vec Ideal S16x1x1x64 .f32)
    (x5 : Vec Ideal S16x1x128x128 .f32) (x6 : Vec Ideal S16x1x64x64 .f32) (x7 : Vec Ideal S64x2048 .f32)
    (xs : Vec Ideal S16x128x128 .f32) (h : Fin 16) : Inp where
  s m n := x5 (ix4 h 0 m n)
  ds m n := xs (ix3 h m n)
  q i m := x0 (ix2 i (narrow h m))
  k i m := x1 (ix2 i (narrow h m))
  v i m := x2 (ix2 i (wide h m))
  d i m := x7 (ix2 i (wide h m))
  b i := x3 (ix4 h 0 0 i)
  g i := x4 (ix4 h 0 0 i)
  t i l := x6 (ix4 h 0 i l)

/-- The summed decays are real and fall along the chunk, and what a position's decay gives to itself is real. -/
structure Good (x : Inp) : Prop where
  real : ∀ i : Fin 64, ∃ r : ℝ, x.g i = (r : EReal)
  fall : ∀ i l : Fin 64, l < i → x.g i < x.g l
  diag : ∀ i : Fin 64, ∃ r : ℝ, x.mm i i = (r : EReal)

theorem Good.falls {x : Raw Ideal} {y : Inp} (hy : Good y) (hxy : x.inp = y) (hr : ∀ i : Fin 64, x.gr (ix2 0 i) = x.inp.g i) :
    Raw.Falls x := by
  subst hxy
  exact ⟨hr, hy.real, hy.fall⟩

variable {F : FTy → Type} [FloatOps F]

/-- Sixteen columns side by side, each added to zeros. -/
def cols (f : Fin 16 → FVec F S64x1 .f32) : FVec F S64x16 .f32 :=
  addf (addf (addf (addf (addf (addf (addf (addf (addf (addf (addf (addf (addf (addf (addf (concatenate S64x16 1 [⟨S64x15, (broadcast S64x15 (Scalar.ofBits .f32 0x00000000#32 : F .f32))⟩, ⟨S64x1, (f 15)⟩] concatenates_S64x15_S64x1_S64x16_d1) (concatenate S64x16 1 [⟨S64x15, (concatenate S64x15 1 [⟨S64x14, (broadcast S64x14 (Scalar.ofBits .f32 0x00000000#32 : F .f32))⟩, ⟨S64x1, (f 14)⟩] concatenates_S64x14_S64x1_S64x15_d1)⟩, ⟨S64x1, (broadcast S64x1 (Scalar.ofBits .f32 0x00000000#32 : F .f32))⟩] concatenates_S64x15_S64x1_S64x16_d1)) (concatenate S64x16 1 [⟨S64x14, (concatenate S64x14 1 [⟨S64x13, (broadcast S64x13 (Scalar.ofBits .f32 0x00000000#32 : F .f32))⟩, ⟨S64x1, (f 13)⟩] concatenates_S64x13_S64x1_S64x14_d1)⟩, ⟨S64x2, (broadcast S64x2 (Scalar.ofBits .f32 0x00000000#32 : F .f32))⟩] concatenates_S64x14_S64x2_S64x16_d1)) (concatenate S64x16 1 [⟨S64x13, (concatenate S64x13 1 [⟨S64x12, (broadcast S64x12 (Scalar.ofBits .f32 0x00000000#32 : F .f32))⟩, ⟨S64x1, (f 12)⟩] concatenates_S64x12_S64x1_S64x13_d1)⟩, ⟨S64x3, (broadcast S64x3 (Scalar.ofBits .f32 0x00000000#32 : F .f32))⟩] concatenates_S64x13_S64x3_S64x16_d1)) (concatenate S64x16 1 [⟨S64x12, (concatenate S64x12 1 [⟨S64x11, (broadcast S64x11 (Scalar.ofBits .f32 0x00000000#32 : F .f32))⟩, ⟨S64x1, (f 11)⟩] concatenates_S64x11_S64x1_S64x12_d1)⟩, ⟨S64x4, (broadcast S64x4 (Scalar.ofBits .f32 0x00000000#32 : F .f32))⟩] concatenates_S64x12_S64x4_S64x16_d1)) (concatenate S64x16 1 [⟨S64x11, (concatenate S64x11 1 [⟨S64x10, (broadcast S64x10 (Scalar.ofBits .f32 0x00000000#32 : F .f32))⟩, ⟨S64x1, (f 10)⟩] concatenates_S64x10_S64x1_S64x11_d1)⟩, ⟨S64x5, (broadcast S64x5 (Scalar.ofBits .f32 0x00000000#32 : F .f32))⟩] concatenates_S64x11_S64x5_S64x16_d1)) (concatenate S64x16 1 [⟨S64x10, (concatenate S64x10 1 [⟨S64x9, (broadcast S64x9 (Scalar.ofBits .f32 0x00000000#32 : F .f32))⟩, ⟨S64x1, (f 9)⟩] concatenates_S64x9_S64x1_S64x10_d1)⟩, ⟨S64x6, (broadcast S64x6 (Scalar.ofBits .f32 0x00000000#32 : F .f32))⟩] concatenates_S64x10_S64x6_S64x16_d1)) (concatenate S64x16 1 [⟨S64x9, (concatenate S64x9 1 [⟨S64x8, (broadcast S64x8 (Scalar.ofBits .f32 0x00000000#32 : F .f32))⟩, ⟨S64x1, (f 8)⟩] concatenates_S64x8_S64x1_S64x9_d1)⟩, ⟨S64x7, (broadcast S64x7 (Scalar.ofBits .f32 0x00000000#32 : F .f32))⟩] concatenates_S64x9_S64x7_S64x16_d1)) (concatenate S64x16 1 [⟨S64x8, (concatenate S64x8 1 [⟨S64x7, (broadcast S64x7 (Scalar.ofBits .f32 0x00000000#32 : F .f32))⟩, ⟨S64x1, (f 7)⟩] concatenates_S64x7_S64x1_S64x8_d1)⟩, ⟨S64x8, (broadcast S64x8 (Scalar.ofBits .f32 0x00000000#32 : F .f32))⟩] concatenates_S64x8_S64x8_S64x16_d1)) (concatenate S64x16 1 [⟨S64x7, (concatenate S64x7 1 [⟨S64x6, (broadcast S64x6 (Scalar.ofBits .f32 0x00000000#32 : F .f32))⟩, ⟨S64x1, (f 6)⟩] concatenates_S64x6_S64x1_S64x7_d1)⟩, ⟨S64x9, (broadcast S64x9 (Scalar.ofBits .f32 0x00000000#32 : F .f32))⟩] concatenates_S64x7_S64x9_S64x16_d1)) (concatenate S64x16 1 [⟨S64x6, (concatenate S64x6 1 [⟨S64x5, (broadcast S64x5 (Scalar.ofBits .f32 0x00000000#32 : F .f32))⟩, ⟨S64x1, (f 5)⟩] concatenates_S64x5_S64x1_S64x6_d1)⟩, ⟨S64x10, (broadcast S64x10 (Scalar.ofBits .f32 0x00000000#32 : F .f32))⟩] concatenates_S64x6_S64x10_S64x16_d1)) (concatenate S64x16 1 [⟨S64x5, (concatenate S64x5 1 [⟨S64x4, (broadcast S64x4 (Scalar.ofBits .f32 0x00000000#32 : F .f32))⟩, ⟨S64x1, (f 4)⟩] concatenates_S64x4_S64x1_S64x5_d1)⟩, ⟨S64x11, (broadcast S64x11 (Scalar.ofBits .f32 0x00000000#32 : F .f32))⟩] concatenates_S64x5_S64x11_S64x16_d1)) (concatenate S64x16 1 [⟨S64x4, (concatenate S64x4 1 [⟨S64x3, (broadcast S64x3 (Scalar.ofBits .f32 0x00000000#32 : F .f32))⟩, ⟨S64x1, (f 3)⟩] concatenates_S64x3_S64x1_S64x4_d1)⟩, ⟨S64x12, (broadcast S64x12 (Scalar.ofBits .f32 0x00000000#32 : F .f32))⟩] concatenates_S64x4_S64x12_S64x16_d1)) (concatenate S64x16 1 [⟨S64x3, (concatenate S64x3 1 [⟨S64x2, (broadcast S64x2 (Scalar.ofBits .f32 0x00000000#32 : F .f32))⟩, ⟨S64x1, (f 2)⟩] concatenates_S64x2_S64x1_S64x3_d1)⟩, ⟨S64x13, (broadcast S64x13 (Scalar.ofBits .f32 0x00000000#32 : F .f32))⟩] concatenates_S64x3_S64x13_S64x16_d1)) (concatenate S64x16 1 [⟨S64x2, (concatenate S64x2 1 [⟨S64x1, (broadcast S64x1 (Scalar.ofBits .f32 0x00000000#32 : F .f32))⟩, ⟨S64x1, (f 1)⟩] concatenates_S64x1_S64x1_S64x2_d1)⟩, ⟨S64x14, (broadcast S64x14 (Scalar.ofBits .f32 0x00000000#32 : F .f32))⟩] concatenates_S64x2_S64x14_S64x16_d1)) (concatenate S64x16 1 [⟨S64x1, (f 0)⟩, ⟨S64x15, (broadcast S64x15 (Scalar.ofBits .f32 0x00000000#32 : F .f32))⟩] concatenates_S64x1_S64x15_S64x16_d1)

/-- Sixteen rows one above the other, each added to zeros. -/
def rows (f : Fin 16 → FVec F S1x64 .f32) : FVec F S16x64 .f32 :=
  addf (addf (addf (addf (addf (addf (addf (addf (addf (addf (addf (addf (addf (addf (addf (concatenate S16x64 0 [⟨S15x64, (broadcast S15x64 (Scalar.ofBits .f32 0x00000000#32 : F .f32))⟩, ⟨S1x64, (f 15)⟩] concatenates_S15x64_S1x64_S16x64_d0) (concatenate S16x64 0 [⟨S15x64, (concatenate S15x64 0 [⟨S14x64, (broadcast S14x64 (Scalar.ofBits .f32 0x00000000#32 : F .f32))⟩, ⟨S1x64, (f 14)⟩] concatenates_S14x64_S1x64_S15x64_d0)⟩, ⟨S1x64, (broadcast S1x64 (Scalar.ofBits .f32 0x00000000#32 : F .f32))⟩] concatenates_S15x64_S1x64_S16x64_d0)) (concatenate S16x64 0 [⟨S14x64, (concatenate S14x64 0 [⟨S13x64, (broadcast S13x64 (Scalar.ofBits .f32 0x00000000#32 : F .f32))⟩, ⟨S1x64, (f 13)⟩] concatenates_S13x64_S1x64_S14x64_d0)⟩, ⟨S2x64, (broadcast S2x64 (Scalar.ofBits .f32 0x00000000#32 : F .f32))⟩] concatenates_S14x64_S2x64_S16x64_d0)) (concatenate S16x64 0 [⟨S13x64, (concatenate S13x64 0 [⟨S12x64, (broadcast S12x64 (Scalar.ofBits .f32 0x00000000#32 : F .f32))⟩, ⟨S1x64, (f 12)⟩] concatenates_S12x64_S1x64_S13x64_d0)⟩, ⟨S3x64, (broadcast S3x64 (Scalar.ofBits .f32 0x00000000#32 : F .f32))⟩] concatenates_S13x64_S3x64_S16x64_d0)) (concatenate S16x64 0 [⟨S12x64, (concatenate S12x64 0 [⟨S11x64, (broadcast S11x64 (Scalar.ofBits .f32 0x00000000#32 : F .f32))⟩, ⟨S1x64, (f 11)⟩] concatenates_S11x64_S1x64_S12x64_d0)⟩, ⟨S4x64, (broadcast S4x64 (Scalar.ofBits .f32 0x00000000#32 : F .f32))⟩] concatenates_S12x64_S4x64_S16x64_d0)) (concatenate S16x64 0 [⟨S11x64, (concatenate S11x64 0 [⟨S10x64, (broadcast S10x64 (Scalar.ofBits .f32 0x00000000#32 : F .f32))⟩, ⟨S1x64, (f 10)⟩] concatenates_S10x64_S1x64_S11x64_d0)⟩, ⟨S5x64, (broadcast S5x64 (Scalar.ofBits .f32 0x00000000#32 : F .f32))⟩] concatenates_S11x64_S5x64_S16x64_d0)) (concatenate S16x64 0 [⟨S10x64, (concatenate S10x64 0 [⟨S9x64, (broadcast S9x64 (Scalar.ofBits .f32 0x00000000#32 : F .f32))⟩, ⟨S1x64, (f 9)⟩] concatenates_S9x64_S1x64_S10x64_d0)⟩, ⟨S6x64, (broadcast S6x64 (Scalar.ofBits .f32 0x00000000#32 : F .f32))⟩] concatenates_S10x64_S6x64_S16x64_d0)) (concatenate S16x64 0 [⟨S9x64, (concatenate S9x64 0 [⟨S8x64, (broadcast S8x64 (Scalar.ofBits .f32 0x00000000#32 : F .f32))⟩, ⟨S1x64, (f 8)⟩] concatenates_S8x64_S1x64_S9x64_d0)⟩, ⟨S7x64, (broadcast S7x64 (Scalar.ofBits .f32 0x00000000#32 : F .f32))⟩] concatenates_S9x64_S7x64_S16x64_d0)) (concatenate S16x64 0 [⟨S8x64, (concatenate S8x64 0 [⟨S7x64, (broadcast S7x64 (Scalar.ofBits .f32 0x00000000#32 : F .f32))⟩, ⟨S1x64, (f 7)⟩] concatenates_S7x64_S1x64_S8x64_d0)⟩, ⟨S8x64, (broadcast S8x64 (Scalar.ofBits .f32 0x00000000#32 : F .f32))⟩] concatenates_S8x64_S8x64_S16x64_d0)) (concatenate S16x64 0 [⟨S7x64, (concatenate S7x64 0 [⟨S6x64, (broadcast S6x64 (Scalar.ofBits .f32 0x00000000#32 : F .f32))⟩, ⟨S1x64, (f 6)⟩] concatenates_S6x64_S1x64_S7x64_d0)⟩, ⟨S9x64, (broadcast S9x64 (Scalar.ofBits .f32 0x00000000#32 : F .f32))⟩] concatenates_S7x64_S9x64_S16x64_d0)) (concatenate S16x64 0 [⟨S6x64, (concatenate S6x64 0 [⟨S5x64, (broadcast S5x64 (Scalar.ofBits .f32 0x00000000#32 : F .f32))⟩, ⟨S1x64, (f 5)⟩] concatenates_S5x64_S1x64_S6x64_d0)⟩, ⟨S10x64, (broadcast S10x64 (Scalar.ofBits .f32 0x00000000#32 : F .f32))⟩] concatenates_S6x64_S10x64_S16x64_d0)) (concatenate S16x64 0 [⟨S5x64, (concatenate S5x64 0 [⟨S4x64, (broadcast S4x64 (Scalar.ofBits .f32 0x00000000#32 : F .f32))⟩, ⟨S1x64, (f 4)⟩] concatenates_S4x64_S1x64_S5x64_d0)⟩, ⟨S11x64, (broadcast S11x64 (Scalar.ofBits .f32 0x00000000#32 : F .f32))⟩] concatenates_S5x64_S11x64_S16x64_d0)) (concatenate S16x64 0 [⟨S4x64, (concatenate S4x64 0 [⟨S3x64, (broadcast S3x64 (Scalar.ofBits .f32 0x00000000#32 : F .f32))⟩, ⟨S1x64, (f 3)⟩] concatenates_S3x64_S1x64_S4x64_d0)⟩, ⟨S12x64, (broadcast S12x64 (Scalar.ofBits .f32 0x00000000#32 : F .f32))⟩] concatenates_S4x64_S12x64_S16x64_d0)) (concatenate S16x64 0 [⟨S3x64, (concatenate S3x64 0 [⟨S2x64, (broadcast S2x64 (Scalar.ofBits .f32 0x00000000#32 : F .f32))⟩, ⟨S1x64, (f 2)⟩] concatenates_S2x64_S1x64_S3x64_d0)⟩, ⟨S13x64, (broadcast S13x64 (Scalar.ofBits .f32 0x00000000#32 : F .f32))⟩] concatenates_S3x64_S13x64_S16x64_d0)) (concatenate S16x64 0 [⟨S2x64, (concatenate S2x64 0 [⟨S1x64, (broadcast S1x64 (Scalar.ofBits .f32 0x00000000#32 : F .f32))⟩, ⟨S1x64, (f 1)⟩] concatenates_S1x64_S1x64_S2x64_d0)⟩, ⟨S14x64, (broadcast S14x64 (Scalar.ofBits .f32 0x00000000#32 : F .f32))⟩] concatenates_S2x64_S14x64_S16x64_d0)) (concatenate S16x64 0 [⟨S1x64, (f 0)⟩, ⟨S15x64, (broadcast S15x64 (Scalar.ofBits .f32 0x00000000#32 : F .f32))⟩] concatenates_S1x64_S15x64_S16x64_d0)

set_option maxRecDepth 8192 in
theorem cols_eq (f : Fin 16 → FVec Ideal S64x1 .f32) (i : Fin 64) (h : Fin 16) : cols f (ix2 i h) = f h (ix2 i 0) := by
  pointwise [cols]
  fin_cases h <;> simp [Ideal.ofBits_zero_f32]

set_option maxRecDepth 8192 in
theorem rows_eq (f : Fin 16 → FVec Ideal S1x64 .f32) (i : Fin 64) (h : Fin 16) : rows f (ix2 h i) = f h (ix2 0 i) := by
  pointwise [rows]
  fin_cases h <;> simp [Ideal.ofBits_zero_f32]

/-- The write strengths' cotangents, head by head. -/
def dbOut (x : Fin 16 → Raw F) : FVec F S16x1x1x64 .f32 :=
  shapeCast S16x1x1x64 (transpose S16x64 [1, 0] (cols fun h => (x h).db) transposes_S64x16_p1_0_S16x64) shapeCasts_S16x64_S16x1x1x64

/-- The decays' cotangents, head by head. -/
def dgOut (x : Fin 16 → Raw F) : FVec F S16x1x1x64 .f32 :=
  shapeCast S16x1x1x64 (addf (rows fun h => (x h).dgr) (transpose S16x64 [1, 0] (cols fun h => (x h).dgc) transposes_S64x16_p1_0_S16x64)) shapeCasts_S16x64_S16x1x1x64

theorem dbOut_eq (x : Fin 16 → Raw Ideal) (h : Fin 16) (i : Fin 64) : dbOut x (ix4 h 0 0 i) = (x h).db (ix2 i 0) := by
  pointwise [dbOut]
  exact cols_eq _ i h

theorem dgOut_eq (x : Fin 16 → Raw Ideal) (h : Fin 16) (i : Fin 64) : dgOut x (ix4 h 0 0 i) = (x h).dgr (ix2 0 i) + (x h).dgc (ix2 i 0) := by
  pointwise [dgOut]
  rw [rows_eq, cols_eq]

end Cert.Proof.Delta

end
-- ==== Proof.Lay.lean ====
/-
  How one head's results lie in the blocks of a grid point.
-/
module

public import proofs.«01_k».proof.Proof.Blocks
public import proofs.«01_k».proof.Proof.Gen.KernelIdeal.Frame

@[expose] public section

noncomputable section

open Idealize.ShloMosaic Idealize.ShloMosaic.TcCoe
open Idealize.SL.Sem
open Cert.KernelIdeal Cert.KernelIdeal.Gen

namespace Cert.Proof.Delta

/-- Head `h`'s matrix in lanes `128 h ..< 128 h + 128` of a wide block. -/
def flat (f : Fin 16 → (⟨2, ![64, 128]⟩ : Shape).Idx → EReal) : S64x2048.Idx → EReal := fun y =>
  f ⟨(y 1).val / 128, by have : (y 1).val < 2048 := (y 1).isLt; omega⟩ (ix2 (y 0) ⟨(y 1).val % 128, Nat.mod_lt _ (by omega)⟩)

theorem flat_wide (f : Fin 16 → (⟨2, ![64, 128]⟩ : Shape).Idx → EReal) (h : Fin 16) (i : Fin 64) (m : Fin 128) :
    flat f (ix2 i (wide h m)) = f h (ix2 i m) := by
  have e1 : (⟨(wide h m).val / 128, by have := (wide h m).isLt; omega⟩ : Fin 16) = h :=
    Fin.ext (by show (128 * h.val + m.val) / 128 = h.val; omega)
  have e2 : (⟨(wide h m).val % 128, Nat.mod_lt _ (by omega)⟩ : Fin 128) = m :=
    Fin.ext (by show (128 * h.val + m.val) % 128 = m.val; omega)
  show f ⟨(wide h m).val / 128, _⟩ (ix2 i ⟨(wide h m).val % 128, _⟩) = _
  rw [e1, e2]

theorem flat_emb (f : Fin 16 → (⟨2, ![64, 128]⟩ : Shape).Idx → EReal) (h : Fin 16) {o : Nat} (ho : o = 128 * h.val)
    (inb : ∀ a, (![0, o] : Fin 2 → Nat) a + S64x128.size a ≤ S64x2048.size a)
    (z : S64x128.Idx) :
    flat f ((Rect.unit (s := S64x2048) ![0, o] S64x128.size inb).emb z) = f h z := by
  subst ho
  have hz : (Rect.unit (s := S64x2048) ![0, 128 * h.val] S64x128.size inb).emb z = ix2 (z 0) (wide h (z 1)) := by
    funext a
    match a with
    | ⟨0, _⟩ => exact Fin.ext (by show 0 + 1 * (z 0).val = (z 0).val; omega)
    | ⟨1, _⟩ => exact Fin.ext (by show 128 * h.val + 1 * (z 1).val = 128 * h.val + (z 1).val; omega)
  exact (congrArg (flat f) hz).trans ((flat_wide f h (z 0) (z 1)).trans (congrArg (f h) (eq_ix2 z).symm))

/-- Head `h`'s matrix at leading index `h`. -/
def deep (f : Fin 16 → (⟨2, ![128, 128]⟩ : Shape).Idx → EReal) : S16x128x128.Idx → EReal := fun y =>
  f (y 0) (ix2 (y 1) (y 2))

theorem deep_emb (f : Fin 16 → (⟨2, ![128, 128]⟩ : Shape).Idx → EReal) (h : Fin 16) {o : Nat} (ho : o = h.val)
    (inb : ∀ a, (![o, 0, 0] : Fin 3 → Nat) a + S1x128x128.size a ≤ S16x128x128.size a)
    (z : S1x128x128.Idx) :
    deep f ((Rect.unit (s := S16x128x128) ![o, 0, 0] S1x128x128.size inb).emb z) = f h (ix2 (z 1) (z 2)) := by
  subst ho
  have hz : (Rect.unit (s := S16x128x128) ![h.val, 0, 0] S1x128x128.size inb).emb z = ix3 h (z 1) (z 2) := by
    have h0 : (z 0).val < 1 := (z 0).isLt
    funext a
    match a with
    | ⟨0, _⟩ => exact Fin.ext (by show h.val + 1 * (z 0).val = h.val; omega)
    | ⟨1, _⟩ => exact Fin.ext (by show 0 + 1 * (z 1).val = (z 1).val; omega)
    | ⟨2, _⟩ => exact Fin.ext (by show 0 + 1 * (z 2).val = (z 2).val; omega)
  rw [hz]; rfl

theorem deep_idx (z : S1x128x128.Idx) : z = (ix3 (0 : Fin 1) (z 1 : Fin 128) (z 2 : Fin 128) : S1x128x128.Idx) := by
  have h0 : (z 0).val < 1 := (z 0).isLt
  funext a
  match a with
  | ⟨0, _⟩ => exact Fin.ext (by show (z 0).val = 0; omega)
  | ⟨1, _⟩ => rfl
  | ⟨2, _⟩ => rfl

theorem shapeRead (x : Raw Ideal) (m n : Fin 128) : x.dS_out (ix3 (0 : Fin 1) m n : S1x128x128.Idx) = x.dS (ix2 m n) := by
  unfold Raw.dS_out
  pointwise []

section Pieces

variable {x : Raw Ideal} {y : Fin 16 → Inp} (h : Fin 16) (hxy : x.inp = y h) (hy : ∀ h, Good (y h))
  (hr : ∀ i, x.gr (ix2 0 i) = x.inp.g i)
include hxy hy hr

theorem dq_piece {o : Nat} (ho : o = 128 * h.val)
    (inb : ∀ a, (![0, o] : Fin 2 → Nat) a + S64x128.size a ≤ S64x2048.size a)
    (z : S64x128.Idx) :
    x.dq_out z = flat (fun h w => (y h).dq (w 0) (w 1)) ((Rect.unit (s := S64x2048) ![0, o] S64x128.size inb).emb z) := by
  rw [flat_emb _ h ho]
  exact (congrArg x.dq (eq_ix2 z)).trans
    ((Raw.dq_eq (Good.falls (hy h) hxy hr) (z 0) (z 1)).trans (by rw [hxy]))

theorem dk_piece {o : Nat} (ho : o = 128 * h.val)
    (inb : ∀ a, (![0, o] : Fin 2 → Nat) a + S64x128.size a ≤ S64x2048.size a)
    (z : S64x128.Idx) :
    x.dk_out z = flat (fun h w => (y h).dk (w 0) (w 1)) ((Rect.unit (s := S64x2048) ![0, o] S64x128.size inb).emb z) := by
  rw [flat_emb _ h ho]
  exact (congrArg x.dk (eq_ix2 z)).trans
    ((Raw.dk_eq (Good.falls (hy h) hxy hr) (z 0) (z 1)).trans (by rw [hxy]))

theorem dv_piece {o : Nat} (ho : o = 128 * h.val)
    (inb : ∀ a, (![0, o] : Fin 2 → Nat) a + S64x128.size a ≤ S64x2048.size a)
    (z : S64x128.Idx) :
    x.dv_out z = flat (fun h w => (y h).dv (w 0) (w 1)) ((Rect.unit (s := S64x2048) ![0, o] S64x128.size inb).emb z) := by
  rw [flat_emb _ h ho]
  exact (congrArg x.dv (eq_ix2 z)).trans
    ((Raw.dv_eq (Good.falls (hy h) hxy hr) (z 0) (z 1)).trans (by rw [hxy]))

theorem dS_piece {o : Nat} (ho : o = h.val)
    (inb : ∀ a, (![o, 0, 0] : Fin 3 → Nat) a + S1x128x128.size a ≤ S16x128x128.size a)
    (z : S1x128x128.Idx) :
    x.dS_out z = deep (fun h w => (y h).dS (w 0) (w 1)) ((Rect.unit (s := S16x128x128) ![o, 0, 0] S1x128x128.size inb).emb z) := by
  rw [deep_emb _ h ho]
  exact (congrArg x.dS_out (deep_idx z)).trans
    (((shapeRead x (z 1) (z 2)).trans (Raw.dS_eq (Good.falls (hy h) hxy hr) (z 1) (z 2))).trans (by rw [hxy]; rfl))

end Pieces

theorem emb_whole4 (inb : ∀ a, (![0, 0, 0, 0] : Fin 4 → Nat) a + (![16, 1, 1, 64] : Fin 4 → Nat) a ≤ S16x1x1x64.size a)
    (z : S16x1x1x64.Idx) : (Rect.unit (s := S16x1x1x64) ![0, 0, 0, 0] ![16, 1, 1, 64] inb).emb z = z := by
  funext a
  match a with
  | ⟨0, _⟩ => exact Fin.ext (by show 0 + 1 * (z 0).val = (z 0).val; omega)
  | ⟨1, _⟩ => exact Fin.ext (by show 0 + 1 * (z 1).val = (z 1).val; omega)
  | ⟨2, _⟩ => exact Fin.ext (by show 0 + 1 * (z 2).val = (z 2).val; omega)
  | ⟨3, _⟩ => exact Fin.ext (by show 0 + 1 * (z 3).val = (z 3).val; omega)

/-- A row of 64 per head. -/
def line (f : Fin 16 → Fin 64 → EReal) : S16x1x1x64.Idx → EReal := fun y => f (y 0) (y 3)

theorem idx_line (z : S16x1x1x64.Idx) : z = (ix4 (z 0 : Fin 16) (0 : Fin 1) (0 : Fin 1) (z 3 : Fin 64) : S16x1x1x64.Idx) := by
  have h1 : (z 1).val < 1 := (z 1).isLt
  have h2 : (z 2).val < 1 := (z 2).isLt
  funext a
  match a with
  | ⟨0, _⟩ => rfl
  | ⟨1, _⟩ => exact Fin.ext (by show (z 1).val = 0; omega)
  | ⟨2, _⟩ => exact Fin.ext (by show (z 2).val = 0; omega)
  | ⟨3, _⟩ => rfl

section Rows

variable {x : Fin 16 → Raw Ideal} {y : Fin 16 → Inp} (hxy : ∀ h, (x h).inp = y h) (hy : ∀ h, Good (y h))
  (hr : ∀ h i, (x h).gr (ix2 0 i) = (x h).inp.g i)
include hxy hy hr

theorem db_piece (inb : ∀ a, (![0, 0, 0, 0] : Fin 4 → Nat) a + (![16, 1, 1, 64] : Fin 4 → Nat) a ≤ S16x1x1x64.size a)
    (z : S16x1x1x64.Idx) :
    dbOut x z = line (fun h i => (y h).db i) ((Rect.unit (s := S16x1x1x64) ![0, 0, 0, 0] ![16, 1, 1, 64] inb).emb z) := by
  rw [emb_whole4]
  refine (congrArg (dbOut x) (idx_line z)).trans ((dbOut_eq x (z 0) (z 3)).trans ?_)
  refine (Raw.db_eq (Good.falls (hy (z 0)) (hxy (z 0)) (hr (z 0))) (z 3)).trans ?_
  exact congrFun (congrArg Inp.db (hxy (z 0))) (z 3)

theorem dg_piece (inb : ∀ a, (![0, 0, 0, 0] : Fin 4 → Nat) a + (![16, 1, 1, 64] : Fin 4 → Nat) a ≤ S16x1x1x64.size a)
    (z : S16x1x1x64.Idx) :
    dgOut x z = line (fun h i => (y h).dg i) ((Rect.unit (s := S16x1x1x64) ![0, 0, 0, 0] ![16, 1, 1, 64] inb).emb z) := by
  rw [emb_whole4]
  refine (congrArg (dgOut x) (idx_line z)).trans ((dgOut_eq x (z 0) (z 3)).trans ?_)
  refine (Raw.dg_sum (Good.falls (hy (z 0)) (hxy (z 0)) (hr (z 0))) (fun i => ?_) (z 3)).trans ?_
  · have e := hxy (z 0)
    have d := (hy (z 0)).diag i
    rw [← e] at d
    exact d
  · exact congrFun (congrArg Inp.dg (hxy (z 0))) (z 3)

end Rows

/-- A list of writes whose head part covers an element and agrees with one function there reads that function. -/
theorem canon_append {Val : EltTy → Type} [∀ e, Nonempty (Val e)] {S : Shape} {e : EltTy} (G : S.Idx → Val e)
    (K : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ K) y = G y
  | [], _, _, hy => by obtain ⟨p, hp, _⟩ := hy; simp at hp
  | p :: L, hL, y, hy => by
    show View.canon (p :: (L ++ K)) y = G y
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_append G K L (fun q hq => hL q (by simp [hq])) y ?_
      obtain ⟨q, hq, hyq⟩ := hy
      rcases List.mem_cons.mp hq with rfl | hq'
      · exact absurd hyq hm
      · exact ⟨q, hq', hyq⟩

end Cert.Proof.Delta

end
-- ==== Proof.PointA.lean ====
/-
  The first grid point: what the kernel's stores hold, head by head.
-/
module

public import proofs.«01_k».proof.Proof.Lay

@[expose] public section

noncomputable section

open Idealize.ShloMosaic Idealize.ShloMosaic.TcCoe Cert.KernelIdeal Cert.KernelIdeal.Gen

namespace Cert.Proof.Delta

variable {F : FTy → Type} [FloatOps F]

section Stores

variable
  (c : Dev nD) (i : grid0.Coords)
  (a2 : Memref sig .tc .vmem S64x1024 .bf16) (h2 : a2.IsWhole)
  (a3 : Memref sig .tc .vmem S64x1024 .bf16) (h3 : a3.IsWhole)
  (a4 : Memref sig .tc .vmem S64x2048 .f32) (h4 : a4.IsWhole)
  (a5 : Memref sig .tc .vmem S16x1x1x64 .f32) (h5 : a5.IsWhole)
  (a6 : Memref sig .tc .vmem S16x1x1x64 .f32) (h6 : a6.IsWhole)
  (a7 : Memref sig .tc .vmem S16x1x128x128 .f32) (h7 : a7.IsWhole)
  (a8 : Memref sig .tc .vmem S16x1x64x64 .f32) (h8 : a8.IsWhole)
  (a9 : Memref sig .tc .vmem S64x2048 .f32) (h9 : a9.IsWhole)
  (a10 : Memref sig .tc .vmem S64x2048 .bf16) (h10 : a10.IsWhole)
  (a11 : Memref sig .tc .vmem S64x2048 .bf16) (h11 : a11.IsWhole)
  (a12 : Memref sig .tc .vmem S64x2048 .bf16) (h12 : a12.IsWhole)
  (a13 : Memref sig .tc .vmem S16x1x1x64 .f32) (h13 : a13.IsWhole)
  (a14 : Memref sig .tc .vmem S16x1x1x64 .f32) (h14 : a14.IsWhole)
  (a15 : Memref sig .tc .vmem S16x128x128 .f32) (h15 : a15.IsWhole)
  (hc0 : cond0_0 i)
  (x0 : Vec F S64x1024 .bf16) (x1 : Vec F S64x1024 .bf16) (x2 : Vec F S64x2048 .f32) (x3 : Vec F S16x1x1x64 .f32) (x4 : Vec F S16x1x1x64 .f32) (x5 : Vec F S16x1x128x128 .f32) (x6 : Vec F S16x1x64x64 .f32) (x7 : Vec F S64x2048 .f32)

/-- What head 0 loads. -/
def rawA0 : Raw F where
  q := View.readAt (Elt F) a2.view (Rect.unit (s := S64x1024) ![0, 0] S64x128.size inb_S64x1024_S64x128_0_0).toLoadRect (h2.unread x0)
  k := View.readAt (Elt F) a3.view (Rect.unit (s := S64x1024) ![0, 0] S64x128.size inb_S64x1024_S64x128_0_0).toLoadRect (h3.unread x1)
  v := View.readAt (Elt F) a4.view (Rect.unit (s := S64x2048) ![0, 0] S64x128.size inb_S64x2048_S64x128_0_0).toLoadRect (h4.unread x2)
  d := View.readAt (Elt F) a9.view (Rect.unit (s := S64x2048) ![0, 0] S64x128.size inb_S64x2048_S64x128_0_0).toLoadRect (h9.unread x7)
  b := extractStridedSlice S64x1 ![0, 0] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_0_S64x1
  g := extractStridedSlice S64x1 ![0, 0] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_0_S64x1
  gr := extractStridedSlice S1x64 ![0, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o0_0_S1x64
  s := shapeCast S128x128 (View.readAt (Elt F) a7.view (Rect.unit (s := S16x1x128x128) ![0, 0, 0, 0] S1x1x128x128.size inb_S16x1x128x128_S1x1x128x128_0_0_0_0).toLoadRect (h7.unread x5)) shapeCasts_S1x1x128x128_S128x128
  t := shapeCast S64x64 (View.readAt (Elt F) a8.view (Rect.unit (s := S16x1x64x64) ![0, 0, 0, 0] S1x1x64x64.size inb_S16x1x64x64_S1x1x64x64_0_0_0_0).toLoadRect (h8.unread x6)) shapeCasts_S1x1x64x64_S64x64
  ds := a15.view.readCov kernelRun0_A.sl.HS0_1 (Rect.unit (s := S16x128x128) ![0, 0, 0] S1x128x128.size inb_S16x128x128_S1x128x128_0_0_0).toLoadRect

/-- What head 1 loads. -/
def rawA1 : Raw F where
  q := View.readAt (Elt F) a2.view (Rect.unit (s := S64x1024) ![0, 0] S64x128.size inb_S64x1024_S64x128_0_0).toLoadRect (h2.unread x0)
  k := View.readAt (Elt F) a3.view (Rect.unit (s := S64x1024) ![0, 0] S64x128.size inb_S64x1024_S64x128_0_0).toLoadRect (h3.unread x1)
  v := View.readAt (Elt F) a4.view (Rect.unit (s := S64x2048) ![0, 128] S64x128.size inb_S64x2048_S64x128_0_128).toLoadRect (h4.unread x2)
  d := View.readAt (Elt F) a9.view (Rect.unit (s := S64x2048) ![0, 128] S64x128.size inb_S64x2048_S64x128_0_128).toLoadRect (h9.unread x7)
  b := extractStridedSlice S64x1 ![0, 1] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_1_S64x1
  g := extractStridedSlice S64x1 ![0, 1] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_1_S64x1
  gr := extractStridedSlice S1x64 ![1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o1_0_S1x64
  s := shapeCast S128x128 (View.readAt (Elt F) a7.view (Rect.unit (s := S16x1x128x128) ![1, 0, 0, 0] S1x1x128x128.size inb_S16x1x128x128_S1x1x128x128_1_0_0_0).toLoadRect (h7.unread x5)) shapeCasts_S1x1x128x128_S128x128
  t := shapeCast S64x64 (View.readAt (Elt F) a8.view (Rect.unit (s := S16x1x64x64) ![1, 0, 0, 0] S1x1x64x64.size inb_S16x1x64x64_S1x1x64x64_1_0_0_0).toLoadRect (h8.unread x6)) shapeCasts_S1x1x64x64_S64x64
  ds := a15.view.readCov kernelRun0_A.sl.HS0_1 (Rect.unit (s := S16x128x128) ![1, 0, 0] S1x128x128.size inb_S16x128x128_S1x128x128_1_0_0).toLoadRect

/-- What head 2 loads. -/
def rawA2 : Raw F where
  q := View.readAt (Elt F) a2.view (Rect.unit (s := S64x1024) ![0, 128] S64x128.size inb_S64x1024_S64x128_0_128).toLoadRect (h2.unread x0)
  k := View.readAt (Elt F) a3.view (Rect.unit (s := S64x1024) ![0, 128] S64x128.size inb_S64x1024_S64x128_0_128).toLoadRect (h3.unread x1)
  v := View.readAt (Elt F) a4.view (Rect.unit (s := S64x2048) ![0, 256] S64x128.size inb_S64x2048_S64x128_0_256).toLoadRect (h4.unread x2)
  d := View.readAt (Elt F) a9.view (Rect.unit (s := S64x2048) ![0, 256] S64x128.size inb_S64x2048_S64x128_0_256).toLoadRect (h9.unread x7)
  b := extractStridedSlice S64x1 ![0, 2] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_2_S64x1
  g := extractStridedSlice S64x1 ![0, 2] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_2_S64x1
  gr := extractStridedSlice S1x64 ![2, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o2_0_S1x64
  s := shapeCast S128x128 (View.readAt (Elt F) a7.view (Rect.unit (s := S16x1x128x128) ![2, 0, 0, 0] S1x1x128x128.size inb_S16x1x128x128_S1x1x128x128_2_0_0_0).toLoadRect (h7.unread x5)) shapeCasts_S1x1x128x128_S128x128
  t := shapeCast S64x64 (View.readAt (Elt F) a8.view (Rect.unit (s := S16x1x64x64) ![2, 0, 0, 0] S1x1x64x64.size inb_S16x1x64x64_S1x1x64x64_2_0_0_0).toLoadRect (h8.unread x6)) shapeCasts_S1x1x64x64_S64x64
  ds := a15.view.readCov kernelRun0_A.sl.HS0_1 (Rect.unit (s := S16x128x128) ![2, 0, 0] S1x128x128.size inb_S16x128x128_S1x128x128_2_0_0).toLoadRect

/-- What head 3 loads. -/
def rawA3 : Raw F where
  q := View.readAt (Elt F) a2.view (Rect.unit (s := S64x1024) ![0, 128] S64x128.size inb_S64x1024_S64x128_0_128).toLoadRect (h2.unread x0)
  k := View.readAt (Elt F) a3.view (Rect.unit (s := S64x1024) ![0, 128] S64x128.size inb_S64x1024_S64x128_0_128).toLoadRect (h3.unread x1)
  v := View.readAt (Elt F) a4.view (Rect.unit (s := S64x2048) ![0, 384] S64x128.size inb_S64x2048_S64x128_0_384).toLoadRect (h4.unread x2)
  d := View.readAt (Elt F) a9.view (Rect.unit (s := S64x2048) ![0, 384] S64x128.size inb_S64x2048_S64x128_0_384).toLoadRect (h9.unread x7)
  b := extractStridedSlice S64x1 ![0, 3] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_3_S64x1
  g := extractStridedSlice S64x1 ![0, 3] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_3_S64x1
  gr := extractStridedSlice S1x64 ![3, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o3_0_S1x64
  s := shapeCast S128x128 (View.readAt (Elt F) a7.view (Rect.unit (s := S16x1x128x128) ![3, 0, 0, 0] S1x1x128x128.size inb_S16x1x128x128_S1x1x128x128_3_0_0_0).toLoadRect (h7.unread x5)) shapeCasts_S1x1x128x128_S128x128
  t := shapeCast S64x64 (View.readAt (Elt F) a8.view (Rect.unit (s := S16x1x64x64) ![3, 0, 0, 0] S1x1x64x64.size inb_S16x1x64x64_S1x1x64x64_3_0_0_0).toLoadRect (h8.unread x6)) shapeCasts_S1x1x64x64_S64x64
  ds := a15.view.readCov kernelRun0_A.sl.HS0_1 (Rect.unit (s := S16x128x128) ![3, 0, 0] S1x128x128.size inb_S16x128x128_S1x128x128_3_0_0).toLoadRect

/-- What head 4 loads. -/
def rawA4 : Raw F where
  q := View.readAt (Elt F) a2.view (Rect.unit (s := S64x1024) ![0, 256] S64x128.size inb_S64x1024_S64x128_0_256).toLoadRect (h2.unread x0)
  k := View.readAt (Elt F) a3.view (Rect.unit (s := S64x1024) ![0, 256] S64x128.size inb_S64x1024_S64x128_0_256).toLoadRect (h3.unread x1)
  v := View.readAt (Elt F) a4.view (Rect.unit (s := S64x2048) ![0, 512] S64x128.size inb_S64x2048_S64x128_0_512).toLoadRect (h4.unread x2)
  d := View.readAt (Elt F) a9.view (Rect.unit (s := S64x2048) ![0, 512] S64x128.size inb_S64x2048_S64x128_0_512).toLoadRect (h9.unread x7)
  b := extractStridedSlice S64x1 ![0, 4] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_4_S64x1
  g := extractStridedSlice S64x1 ![0, 4] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_4_S64x1
  gr := extractStridedSlice S1x64 ![4, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o4_0_S1x64
  s := shapeCast S128x128 (View.readAt (Elt F) a7.view (Rect.unit (s := S16x1x128x128) ![4, 0, 0, 0] S1x1x128x128.size inb_S16x1x128x128_S1x1x128x128_4_0_0_0).toLoadRect (h7.unread x5)) shapeCasts_S1x1x128x128_S128x128
  t := shapeCast S64x64 (View.readAt (Elt F) a8.view (Rect.unit (s := S16x1x64x64) ![4, 0, 0, 0] S1x1x64x64.size inb_S16x1x64x64_S1x1x64x64_4_0_0_0).toLoadRect (h8.unread x6)) shapeCasts_S1x1x64x64_S64x64
  ds := a15.view.readCov kernelRun0_A.sl.HS0_1 (Rect.unit (s := S16x128x128) ![4, 0, 0] S1x128x128.size inb_S16x128x128_S1x128x128_4_0_0).toLoadRect

/-- What head 5 loads. -/
def rawA5 : Raw F where
  q := View.readAt (Elt F) a2.view (Rect.unit (s := S64x1024) ![0, 256] S64x128.size inb_S64x1024_S64x128_0_256).toLoadRect (h2.unread x0)
  k := View.readAt (Elt F) a3.view (Rect.unit (s := S64x1024) ![0, 256] S64x128.size inb_S64x1024_S64x128_0_256).toLoadRect (h3.unread x1)
  v := View.readAt (Elt F) a4.view (Rect.unit (s := S64x2048) ![0, 640] S64x128.size inb_S64x2048_S64x128_0_640).toLoadRect (h4.unread x2)
  d := View.readAt (Elt F) a9.view (Rect.unit (s := S64x2048) ![0, 640] S64x128.size inb_S64x2048_S64x128_0_640).toLoadRect (h9.unread x7)
  b := extractStridedSlice S64x1 ![0, 5] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_5_S64x1
  g := extractStridedSlice S64x1 ![0, 5] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_5_S64x1
  gr := extractStridedSlice S1x64 ![5, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o5_0_S1x64
  s := shapeCast S128x128 (View.readAt (Elt F) a7.view (Rect.unit (s := S16x1x128x128) ![5, 0, 0, 0] S1x1x128x128.size inb_S16x1x128x128_S1x1x128x128_5_0_0_0).toLoadRect (h7.unread x5)) shapeCasts_S1x1x128x128_S128x128
  t := shapeCast S64x64 (View.readAt (Elt F) a8.view (Rect.unit (s := S16x1x64x64) ![5, 0, 0, 0] S1x1x64x64.size inb_S16x1x64x64_S1x1x64x64_5_0_0_0).toLoadRect (h8.unread x6)) shapeCasts_S1x1x64x64_S64x64
  ds := a15.view.readCov kernelRun0_A.sl.HS0_1 (Rect.unit (s := S16x128x128) ![5, 0, 0] S1x128x128.size inb_S16x128x128_S1x128x128_5_0_0).toLoadRect

/-- What head 6 loads. -/
def rawA6 : Raw F where
  q := View.readAt (Elt F) a2.view (Rect.unit (s := S64x1024) ![0, 384] S64x128.size inb_S64x1024_S64x128_0_384).toLoadRect (h2.unread x0)
  k := View.readAt (Elt F) a3.view (Rect.unit (s := S64x1024) ![0, 384] S64x128.size inb_S64x1024_S64x128_0_384).toLoadRect (h3.unread x1)
  v := View.readAt (Elt F) a4.view (Rect.unit (s := S64x2048) ![0, 768] S64x128.size inb_S64x2048_S64x128_0_768).toLoadRect (h4.unread x2)
  d := View.readAt (Elt F) a9.view (Rect.unit (s := S64x2048) ![0, 768] S64x128.size inb_S64x2048_S64x128_0_768).toLoadRect (h9.unread x7)
  b := extractStridedSlice S64x1 ![0, 6] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_6_S64x1
  g := extractStridedSlice S64x1 ![0, 6] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_6_S64x1
  gr := extractStridedSlice S1x64 ![6, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o6_0_S1x64
  s := shapeCast S128x128 (View.readAt (Elt F) a7.view (Rect.unit (s := S16x1x128x128) ![6, 0, 0, 0] S1x1x128x128.size inb_S16x1x128x128_S1x1x128x128_6_0_0_0).toLoadRect (h7.unread x5)) shapeCasts_S1x1x128x128_S128x128
  t := shapeCast S64x64 (View.readAt (Elt F) a8.view (Rect.unit (s := S16x1x64x64) ![6, 0, 0, 0] S1x1x64x64.size inb_S16x1x64x64_S1x1x64x64_6_0_0_0).toLoadRect (h8.unread x6)) shapeCasts_S1x1x64x64_S64x64
  ds := a15.view.readCov kernelRun0_A.sl.HS0_1 (Rect.unit (s := S16x128x128) ![6, 0, 0] S1x128x128.size inb_S16x128x128_S1x128x128_6_0_0).toLoadRect

/-- What head 7 loads. -/
def rawA7 : Raw F where
  q := View.readAt (Elt F) a2.view (Rect.unit (s := S64x1024) ![0, 384] S64x128.size inb_S64x1024_S64x128_0_384).toLoadRect (h2.unread x0)
  k := View.readAt (Elt F) a3.view (Rect.unit (s := S64x1024) ![0, 384] S64x128.size inb_S64x1024_S64x128_0_384).toLoadRect (h3.unread x1)
  v := View.readAt (Elt F) a4.view (Rect.unit (s := S64x2048) ![0, 896] S64x128.size inb_S64x2048_S64x128_0_896).toLoadRect (h4.unread x2)
  d := View.readAt (Elt F) a9.view (Rect.unit (s := S64x2048) ![0, 896] S64x128.size inb_S64x2048_S64x128_0_896).toLoadRect (h9.unread x7)
  b := extractStridedSlice S64x1 ![0, 7] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_7_S64x1
  g := extractStridedSlice S64x1 ![0, 7] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_7_S64x1
  gr := extractStridedSlice S1x64 ![7, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o7_0_S1x64
  s := shapeCast S128x128 (View.readAt (Elt F) a7.view (Rect.unit (s := S16x1x128x128) ![7, 0, 0, 0] S1x1x128x128.size inb_S16x1x128x128_S1x1x128x128_7_0_0_0).toLoadRect (h7.unread x5)) shapeCasts_S1x1x128x128_S128x128
  t := shapeCast S64x64 (View.readAt (Elt F) a8.view (Rect.unit (s := S16x1x64x64) ![7, 0, 0, 0] S1x1x64x64.size inb_S16x1x64x64_S1x1x64x64_7_0_0_0).toLoadRect (h8.unread x6)) shapeCasts_S1x1x64x64_S64x64
  ds := a15.view.readCov kernelRun0_A.sl.HS0_1 (Rect.unit (s := S16x128x128) ![7, 0, 0] S1x128x128.size inb_S16x128x128_S1x128x128_7_0_0).toLoadRect

/-- What head 8 loads. -/
def rawA8 : Raw F where
  q := View.readAt (Elt F) a2.view (Rect.unit (s := S64x1024) ![0, 512] S64x128.size inb_S64x1024_S64x128_0_512).toLoadRect (h2.unread x0)
  k := View.readAt (Elt F) a3.view (Rect.unit (s := S64x1024) ![0, 512] S64x128.size inb_S64x1024_S64x128_0_512).toLoadRect (h3.unread x1)
  v := View.readAt (Elt F) a4.view (Rect.unit (s := S64x2048) ![0, 1024] S64x128.size inb_S64x2048_S64x128_0_1024).toLoadRect (h4.unread x2)
  d := View.readAt (Elt F) a9.view (Rect.unit (s := S64x2048) ![0, 1024] S64x128.size inb_S64x2048_S64x128_0_1024).toLoadRect (h9.unread x7)
  b := extractStridedSlice S64x1 ![0, 8] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_8_S64x1
  g := extractStridedSlice S64x1 ![0, 8] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_8_S64x1
  gr := extractStridedSlice S1x64 ![8, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o8_0_S1x64
  s := shapeCast S128x128 (View.readAt (Elt F) a7.view (Rect.unit (s := S16x1x128x128) ![8, 0, 0, 0] S1x1x128x128.size inb_S16x1x128x128_S1x1x128x128_8_0_0_0).toLoadRect (h7.unread x5)) shapeCasts_S1x1x128x128_S128x128
  t := shapeCast S64x64 (View.readAt (Elt F) a8.view (Rect.unit (s := S16x1x64x64) ![8, 0, 0, 0] S1x1x64x64.size inb_S16x1x64x64_S1x1x64x64_8_0_0_0).toLoadRect (h8.unread x6)) shapeCasts_S1x1x64x64_S64x64
  ds := a15.view.readCov kernelRun0_A.sl.HS0_1 (Rect.unit (s := S16x128x128) ![8, 0, 0] S1x128x128.size inb_S16x128x128_S1x128x128_8_0_0).toLoadRect

/-- What head 9 loads. -/
def rawA9 : Raw F where
  q := View.readAt (Elt F) a2.view (Rect.unit (s := S64x1024) ![0, 512] S64x128.size inb_S64x1024_S64x128_0_512).toLoadRect (h2.unread x0)
  k := View.readAt (Elt F) a3.view (Rect.unit (s := S64x1024) ![0, 512] S64x128.size inb_S64x1024_S64x128_0_512).toLoadRect (h3.unread x1)
  v := View.readAt (Elt F) a4.view (Rect.unit (s := S64x2048) ![0, 1152] S64x128.size inb_S64x2048_S64x128_0_1152).toLoadRect (h4.unread x2)
  d := View.readAt (Elt F) a9.view (Rect.unit (s := S64x2048) ![0, 1152] S64x128.size inb_S64x2048_S64x128_0_1152).toLoadRect (h9.unread x7)
  b := extractStridedSlice S64x1 ![0, 9] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_9_S64x1
  g := extractStridedSlice S64x1 ![0, 9] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_9_S64x1
  gr := extractStridedSlice S1x64 ![9, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o9_0_S1x64
  s := shapeCast S128x128 (View.readAt (Elt F) a7.view (Rect.unit (s := S16x1x128x128) ![9, 0, 0, 0] S1x1x128x128.size inb_S16x1x128x128_S1x1x128x128_9_0_0_0).toLoadRect (h7.unread x5)) shapeCasts_S1x1x128x128_S128x128
  t := shapeCast S64x64 (View.readAt (Elt F) a8.view (Rect.unit (s := S16x1x64x64) ![9, 0, 0, 0] S1x1x64x64.size inb_S16x1x64x64_S1x1x64x64_9_0_0_0).toLoadRect (h8.unread x6)) shapeCasts_S1x1x64x64_S64x64
  ds := a15.view.readCov kernelRun0_A.sl.HS0_1 (Rect.unit (s := S16x128x128) ![9, 0, 0] S1x128x128.size inb_S16x128x128_S1x128x128_9_0_0).toLoadRect

/-- What head 10 loads. -/
def rawA10 : Raw F where
  q := View.readAt (Elt F) a2.view (Rect.unit (s := S64x1024) ![0, 640] S64x128.size inb_S64x1024_S64x128_0_640).toLoadRect (h2.unread x0)
  k := View.readAt (Elt F) a3.view (Rect.unit (s := S64x1024) ![0, 640] S64x128.size inb_S64x1024_S64x128_0_640).toLoadRect (h3.unread x1)
  v := View.readAt (Elt F) a4.view (Rect.unit (s := S64x2048) ![0, 1280] S64x128.size inb_S64x2048_S64x128_0_1280).toLoadRect (h4.unread x2)
  d := View.readAt (Elt F) a9.view (Rect.unit (s := S64x2048) ![0, 1280] S64x128.size inb_S64x2048_S64x128_0_1280).toLoadRect (h9.unread x7)
  b := extractStridedSlice S64x1 ![0, 10] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_10_S64x1
  g := extractStridedSlice S64x1 ![0, 10] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_10_S64x1
  gr := extractStridedSlice S1x64 ![10, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o10_0_S1x64
  s := shapeCast S128x128 (View.readAt (Elt F) a7.view (Rect.unit (s := S16x1x128x128) ![10, 0, 0, 0] S1x1x128x128.size inb_S16x1x128x128_S1x1x128x128_10_0_0_0).toLoadRect (h7.unread x5)) shapeCasts_S1x1x128x128_S128x128
  t := shapeCast S64x64 (View.readAt (Elt F) a8.view (Rect.unit (s := S16x1x64x64) ![10, 0, 0, 0] S1x1x64x64.size inb_S16x1x64x64_S1x1x64x64_10_0_0_0).toLoadRect (h8.unread x6)) shapeCasts_S1x1x64x64_S64x64
  ds := a15.view.readCov kernelRun0_A.sl.HS0_1 (Rect.unit (s := S16x128x128) ![10, 0, 0] S1x128x128.size inb_S16x128x128_S1x128x128_10_0_0).toLoadRect

/-- What head 11 loads. -/
def rawA11 : Raw F where
  q := View.readAt (Elt F) a2.view (Rect.unit (s := S64x1024) ![0, 640] S64x128.size inb_S64x1024_S64x128_0_640).toLoadRect (h2.unread x0)
  k := View.readAt (Elt F) a3.view (Rect.unit (s := S64x1024) ![0, 640] S64x128.size inb_S64x1024_S64x128_0_640).toLoadRect (h3.unread x1)
  v := View.readAt (Elt F) a4.view (Rect.unit (s := S64x2048) ![0, 1408] S64x128.size inb_S64x2048_S64x128_0_1408).toLoadRect (h4.unread x2)
  d := View.readAt (Elt F) a9.view (Rect.unit (s := S64x2048) ![0, 1408] S64x128.size inb_S64x2048_S64x128_0_1408).toLoadRect (h9.unread x7)
  b := extractStridedSlice S64x1 ![0, 11] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_11_S64x1
  g := extractStridedSlice S64x1 ![0, 11] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_11_S64x1
  gr := extractStridedSlice S1x64 ![11, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o11_0_S1x64
  s := shapeCast S128x128 (View.readAt (Elt F) a7.view (Rect.unit (s := S16x1x128x128) ![11, 0, 0, 0] S1x1x128x128.size inb_S16x1x128x128_S1x1x128x128_11_0_0_0).toLoadRect (h7.unread x5)) shapeCasts_S1x1x128x128_S128x128
  t := shapeCast S64x64 (View.readAt (Elt F) a8.view (Rect.unit (s := S16x1x64x64) ![11, 0, 0, 0] S1x1x64x64.size inb_S16x1x64x64_S1x1x64x64_11_0_0_0).toLoadRect (h8.unread x6)) shapeCasts_S1x1x64x64_S64x64
  ds := a15.view.readCov kernelRun0_A.sl.HS0_1 (Rect.unit (s := S16x128x128) ![11, 0, 0] S1x128x128.size inb_S16x128x128_S1x128x128_11_0_0).toLoadRect

/-- What head 12 loads. -/
def rawA12 : Raw F where
  q := View.readAt (Elt F) a2.view (Rect.unit (s := S64x1024) ![0, 768] S64x128.size inb_S64x1024_S64x128_0_768).toLoadRect (h2.unread x0)
  k := View.readAt (Elt F) a3.view (Rect.unit (s := S64x1024) ![0, 768] S64x128.size inb_S64x1024_S64x128_0_768).toLoadRect (h3.unread x1)
  v := View.readAt (Elt F) a4.view (Rect.unit (s := S64x2048) ![0, 1536] S64x128.size inb_S64x2048_S64x128_0_1536).toLoadRect (h4.unread x2)
  d := View.readAt (Elt F) a9.view (Rect.unit (s := S64x2048) ![0, 1536] S64x128.size inb_S64x2048_S64x128_0_1536).toLoadRect (h9.unread x7)
  b := extractStridedSlice S64x1 ![0, 12] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_12_S64x1
  g := extractStridedSlice S64x1 ![0, 12] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_12_S64x1
  gr := extractStridedSlice S1x64 ![12, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o12_0_S1x64
  s := shapeCast S128x128 (View.readAt (Elt F) a7.view (Rect.unit (s := S16x1x128x128) ![12, 0, 0, 0] S1x1x128x128.size inb_S16x1x128x128_S1x1x128x128_12_0_0_0).toLoadRect (h7.unread x5)) shapeCasts_S1x1x128x128_S128x128
  t := shapeCast S64x64 (View.readAt (Elt F) a8.view (Rect.unit (s := S16x1x64x64) ![12, 0, 0, 0] S1x1x64x64.size inb_S16x1x64x64_S1x1x64x64_12_0_0_0).toLoadRect (h8.unread x6)) shapeCasts_S1x1x64x64_S64x64
  ds := a15.view.readCov kernelRun0_A.sl.HS0_1 (Rect.unit (s := S16x128x128) ![12, 0, 0] S1x128x128.size inb_S16x128x128_S1x128x128_12_0_0).toLoadRect

/-- What head 13 loads. -/
def rawA13 : Raw F where
  q := View.readAt (Elt F) a2.view (Rect.unit (s := S64x1024) ![0, 768] S64x128.size inb_S64x1024_S64x128_0_768).toLoadRect (h2.unread x0)
  k := View.readAt (Elt F) a3.view (Rect.unit (s := S64x1024) ![0, 768] S64x128.size inb_S64x1024_S64x128_0_768).toLoadRect (h3.unread x1)
  v := View.readAt (Elt F) a4.view (Rect.unit (s := S64x2048) ![0, 1664] S64x128.size inb_S64x2048_S64x128_0_1664).toLoadRect (h4.unread x2)
  d := View.readAt (Elt F) a9.view (Rect.unit (s := S64x2048) ![0, 1664] S64x128.size inb_S64x2048_S64x128_0_1664).toLoadRect (h9.unread x7)
  b := extractStridedSlice S64x1 ![0, 13] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_13_S64x1
  g := extractStridedSlice S64x1 ![0, 13] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_13_S64x1
  gr := extractStridedSlice S1x64 ![13, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o13_0_S1x64
  s := shapeCast S128x128 (View.readAt (Elt F) a7.view (Rect.unit (s := S16x1x128x128) ![13, 0, 0, 0] S1x1x128x128.size inb_S16x1x128x128_S1x1x128x128_13_0_0_0).toLoadRect (h7.unread x5)) shapeCasts_S1x1x128x128_S128x128
  t := shapeCast S64x64 (View.readAt (Elt F) a8.view (Rect.unit (s := S16x1x64x64) ![13, 0, 0, 0] S1x1x64x64.size inb_S16x1x64x64_S1x1x64x64_13_0_0_0).toLoadRect (h8.unread x6)) shapeCasts_S1x1x64x64_S64x64
  ds := a15.view.readCov kernelRun0_A.sl.HS0_1 (Rect.unit (s := S16x128x128) ![13, 0, 0] S1x128x128.size inb_S16x128x128_S1x128x128_13_0_0).toLoadRect

/-- What head 14 loads. -/
def rawA14 : Raw F where
  q := View.readAt (Elt F) a2.view (Rect.unit (s := S64x1024) ![0, 896] S64x128.size inb_S64x1024_S64x128_0_896).toLoadRect (h2.unread x0)
  k := View.readAt (Elt F) a3.view (Rect.unit (s := S64x1024) ![0, 896] S64x128.size inb_S64x1024_S64x128_0_896).toLoadRect (h3.unread x1)
  v := View.readAt (Elt F) a4.view (Rect.unit (s := S64x2048) ![0, 1792] S64x128.size inb_S64x2048_S64x128_0_1792).toLoadRect (h4.unread x2)
  d := View.readAt (Elt F) a9.view (Rect.unit (s := S64x2048) ![0, 1792] S64x128.size inb_S64x2048_S64x128_0_1792).toLoadRect (h9.unread x7)
  b := extractStridedSlice S64x1 ![0, 14] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_14_S64x1
  g := extractStridedSlice S64x1 ![0, 14] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_14_S64x1
  gr := extractStridedSlice S1x64 ![14, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o14_0_S1x64
  s := shapeCast S128x128 (View.readAt (Elt F) a7.view (Rect.unit (s := S16x1x128x128) ![14, 0, 0, 0] S1x1x128x128.size inb_S16x1x128x128_S1x1x128x128_14_0_0_0).toLoadRect (h7.unread x5)) shapeCasts_S1x1x128x128_S128x128
  t := shapeCast S64x64 (View.readAt (Elt F) a8.view (Rect.unit (s := S16x1x64x64) ![14, 0, 0, 0] S1x1x64x64.size inb_S16x1x64x64_S1x1x64x64_14_0_0_0).toLoadRect (h8.unread x6)) shapeCasts_S1x1x64x64_S64x64
  ds := a15.view.readCov kernelRun0_A.sl.HS0_1 (Rect.unit (s := S16x128x128) ![14, 0, 0] S1x128x128.size inb_S16x128x128_S1x128x128_14_0_0).toLoadRect

/-- What head 15 loads. -/
def rawA15 : Raw F where
  q := View.readAt (Elt F) a2.view (Rect.unit (s := S64x1024) ![0, 896] S64x128.size inb_S64x1024_S64x128_0_896).toLoadRect (h2.unread x0)
  k := View.readAt (Elt F) a3.view (Rect.unit (s := S64x1024) ![0, 896] S64x128.size inb_S64x1024_S64x128_0_896).toLoadRect (h3.unread x1)
  v := View.readAt (Elt F) a4.view (Rect.unit (s := S64x2048) ![0, 1920] S64x128.size inb_S64x2048_S64x128_0_1920).toLoadRect (h4.unread x2)
  d := View.readAt (Elt F) a9.view (Rect.unit (s := S64x2048) ![0, 1920] S64x128.size inb_S64x2048_S64x128_0_1920).toLoadRect (h9.unread x7)
  b := extractStridedSlice S64x1 ![0, 15] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_15_S64x1
  g := extractStridedSlice S64x1 ![0, 15] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_15_S64x1
  gr := extractStridedSlice S1x64 ![15, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o15_0_S1x64
  s := shapeCast S128x128 (View.readAt (Elt F) a7.view (Rect.unit (s := S16x1x128x128) ![15, 0, 0, 0] S1x1x128x128.size inb_S16x1x128x128_S1x1x128x128_15_0_0_0).toLoadRect (h7.unread x5)) shapeCasts_S1x1x128x128_S128x128
  t := shapeCast S64x64 (View.readAt (Elt F) a8.view (Rect.unit (s := S16x1x64x64) ![15, 0, 0, 0] S1x1x64x64.size inb_S16x1x64x64_S1x1x64x64_15_0_0_0).toLoadRect (h8.unread x6)) shapeCasts_S1x1x64x64_S64x64
  ds := a15.view.readCov kernelRun0_A.sl.HS0_1 (Rect.unit (s := S16x128x128) ![15, 0, 0] S1x128x128.size inb_S16x128x128_S1x128x128_15_0_0).toLoadRect

/-- What each head loads. -/
def rawsA
 : Fin 16 → Raw F :=
  ![rawA0 a2 h2 a3 h3 a4 h4 a5 h5 a6 h6 a7 h7 a8 h8 a9 h9 a15 x0 x1 x2 x3 x4 x5 x6 x7, rawA1 a2 h2 a3 h3 a4 h4 a5 h5 a6 h6 a7 h7 a8 h8 a9 h9 a15 x0 x1 x2 x3 x4 x5 x6 x7, rawA2 a2 h2 a3 h3 a4 h4 a5 h5 a6 h6 a7 h7 a8 h8 a9 h9 a15 x0 x1 x2 x3 x4 x5 x6 x7, rawA3 a2 h2 a3 h3 a4 h4 a5 h5 a6 h6 a7 h7 a8 h8 a9 h9 a15 x0 x1 x2 x3 x4 x5 x6 x7, rawA4 a2 h2 a3 h3 a4 h4 a5 h5 a6 h6 a7 h7 a8 h8 a9 h9 a15 x0 x1 x2 x3 x4 x5 x6 x7, rawA5 a2 h2 a3 h3 a4 h4 a5 h5 a6 h6 a7 h7 a8 h8 a9 h9 a15 x0 x1 x2 x3 x4 x5 x6 x7, rawA6 a2 h2 a3 h3 a4 h4 a5 h5 a6 h6 a7 h7 a8 h8 a9 h9 a15 x0 x1 x2 x3 x4 x5 x6 x7, rawA7 a2 h2 a3 h3 a4 h4 a5 h5 a6 h6 a7 h7 a8 h8 a9 h9 a15 x0 x1 x2 x3 x4 x5 x6 x7, rawA8 a2 h2 a3 h3 a4 h4 a5 h5 a6 h6 a7 h7 a8 h8 a9 h9 a15 x0 x1 x2 x3 x4 x5 x6 x7, rawA9 a2 h2 a3 h3 a4 h4 a5 h5 a6 h6 a7 h7 a8 h8 a9 h9 a15 x0 x1 x2 x3 x4 x5 x6 x7, rawA10 a2 h2 a3 h3 a4 h4 a5 h5 a6 h6 a7 h7 a8 h8 a9 h9 a15 x0 x1 x2 x3 x4 x5 x6 x7, rawA11 a2 h2 a3 h3 a4 h4 a5 h5 a6 h6 a7 h7 a8 h8 a9 h9 a15 x0 x1 x2 x3 x4 x5 x6 x7, rawA12 a2 h2 a3 h3 a4 h4 a5 h5 a6 h6 a7 h7 a8 h8 a9 h9 a15 x0 x1 x2 x3 x4 x5 x6 x7, rawA13 a2 h2 a3 h3 a4 h4 a5 h5 a6 h6 a7 h7 a8 h8 a9 h9 a15 x0 x1 x2 x3 x4 x5 x6 x7, rawA14 a2 h2 a3 h3 a4 h4 a5 h5 a6 h6 a7 h7 a8 h8 a9 h9 a15 x0 x1 x2 x3 x4 x5 x6 x7, rawA15 a2 h2 a3 h3 a4 h4 a5 h5 a6 h6 a7 h7 a8 h8 a9 h9 a15 x0 x1 x2 x3 x4 x5 x6 x7]

theorem listA_8
    :
    (kernelRun0_A c i a2 h2 a3 h3 a4 h4 a5 h5 a6 h6 a7 h7 a8 h8 a9 h9 a10 h10 a11 h11 a12 h12 a13 h13 a14 h14 a15 h15 hc0 x0 x1 x2 x3 x4 x5 x6 x7).1 =
      [⟨Rect.unit ![0, 1920] S64x128.size inb_S64x2048_S64x128_0_1920, (rawA15 a2 h2 a3 h3 a4 h4 a5 h5 a6 h6 a7 h7 a8 h8 a9 h9 a15 x0 x1 x2 x3 x4 x5 x6 x7).dq_out⟩,
      ⟨Rect.unit ![0, 1792] S64x128.size inb_S64x2048_S64x128_0_1792, (rawA14 a2 h2 a3 h3 a4 h4 a5 h5 a6 h6 a7 h7 a8 h8 a9 h9 a15 x0 x1 x2 x3 x4 x5 x6 x7).dq_out⟩,
      ⟨Rect.unit ![0, 1664] S64x128.size inb_S64x2048_S64x128_0_1664, (rawA13 a2 h2 a3 h3 a4 h4 a5 h5 a6 h6 a7 h7 a8 h8 a9 h9 a15 x0 x1 x2 x3 x4 x5 x6 x7).dq_out⟩,
      ⟨Rect.unit ![0, 1536] S64x128.size inb_S64x2048_S64x128_0_1536, (rawA12 a2 h2 a3 h3 a4 h4 a5 h5 a6 h6 a7 h7 a8 h8 a9 h9 a15 x0 x1 x2 x3 x4 x5 x6 x7).dq_out⟩,
      ⟨Rect.unit ![0, 1408] S64x128.size inb_S64x2048_S64x128_0_1408, (rawA11 a2 h2 a3 h3 a4 h4 a5 h5 a6 h6 a7 h7 a8 h8 a9 h9 a15 x0 x1 x2 x3 x4 x5 x6 x7).dq_out⟩,
      ⟨Rect.unit ![0, 1280] S64x128.size inb_S64x2048_S64x128_0_1280, (rawA10 a2 h2 a3 h3 a4 h4 a5 h5 a6 h6 a7 h7 a8 h8 a9 h9 a15 x0 x1 x2 x3 x4 x5 x6 x7).dq_out⟩,
      ⟨Rect.unit ![0, 1152] S64x128.size inb_S64x2048_S64x128_0_1152, (rawA9 a2 h2 a3 h3 a4 h4 a5 h5 a6 h6 a7 h7 a8 h8 a9 h9 a15 x0 x1 x2 x3 x4 x5 x6 x7).dq_out⟩,
      ⟨Rect.unit ![0, 1024] S64x128.size inb_S64x2048_S64x128_0_1024, (rawA8 a2 h2 a3 h3 a4 h4 a5 h5 a6 h6 a7 h7 a8 h8 a9 h9 a15 x0 x1 x2 x3 x4 x5 x6 x7).dq_out⟩,
      ⟨Rect.unit ![0, 896] S64x128.size inb_S64x2048_S64x128_0_896, (rawA7 a2 h2 a3 h3 a4 h4 a5 h5 a6 h6 a7 h7 a8 h8 a9 h9 a15 x0 x1 x2 x3 x4 x5 x6 x7).dq_out⟩,
      ⟨Rect.unit ![0, 768] S64x128.size inb_S64x2048_S64x128_0_768, (rawA6 a2 h2 a3 h3 a4 h4 a5 h5 a6 h6 a7 h7 a8 h8 a9 h9 a15 x0 x1 x2 x3 x4 x5 x6 x7).dq_out⟩,
      ⟨Rect.unit ![0, 640] S64x128.size inb_S64x2048_S64x128_0_640, (rawA5 a2 h2 a3 h3 a4 h4 a5 h5 a6 h6 a7 h7 a8 h8 a9 h9 a15 x0 x1 x2 x3 x4 x5 x6 x7).dq_out⟩,
      ⟨Rect.unit ![0, 512] S64x128.size inb_S64x2048_S64x128_0_512, (rawA4 a2 h2 a3 h3 a4 h4 a5 h5 a6 h6 a7 h7 a8 h8 a9 h9 a15 x0 x1 x2 x3 x4 x5 x6 x7).dq_out⟩,
      ⟨Rect.unit ![0, 384] S64x128.size inb_S64x2048_S64x128_0_384, (rawA3 a2 h2 a3 h3 a4 h4 a5 h5 a6 h6 a7 h7 a8 h8 a9 h9 a15 x0 x1 x2 x3 x4 x5 x6 x7).dq_out⟩,
      ⟨Rect.unit ![0, 256] S64x128.size inb_S64x2048_S64x128_0_256, (rawA2 a2 h2 a3 h3 a4 h4 a5 h5 a6 h6 a7 h7 a8 h8 a9 h9 a15 x0 x1 x2 x3 x4 x5 x6 x7).dq_out⟩,
      ⟨Rect.unit ![0, 128] S64x128.size inb_S64x2048_S64x128_0_128, (rawA1 a2 h2 a3 h3 a4 h4 a5 h5 a6 h6 a7 h7 a8 h8 a9 h9 a15 x0 x1 x2 x3 x4 x5 x6 x7).dq_out⟩,
      ⟨Rect.unit ![0, 0] S64x128.size inb_S64x2048_S64x128_0_0, (rawA0 a2 h2 a3 h3 a4 h4 a5 h5 a6 h6 a7 h7 a8 h8 a9 h9 a15 x0 x1 x2 x3 x4 x5 x6 x7).dq_out⟩] := by
  sl_kernel_rfl

theorem listA_9
    :
    (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.1 =
      [⟨Rect.unit ![0, 1920] S64x128.size inb_S64x2048_S64x128_0_1920, (rawA15 a2 h2 a3 h3 a4 h4 a5 h5 a6 h6 a7 h7 a8 h8 a9 h9 a15 x0 x1 x2 x3 x4 x5 x6 x7).dk_out⟩,
      ⟨Rect.unit ![0, 1792] S64x128.size inb_S64x2048_S64x128_0_1792, (rawA14 a2 h2 a3 h3 a4 h4 a5 h5 a6 h6 a7 h7 a8 h8 a9 h9 a15 x0 x1 x2 x3 x4 x5 x6 x7).dk_out⟩,
      ⟨Rect.unit ![0, 1664] S64x128.size inb_S64x2048_S64x128_0_1664, (rawA13 a2 h2 a3 h3 a4 h4 a5 h5 a6 h6 a7 h7 a8 h8 a9 h9 a15 x0 x1 x2 x3 x4 x5 x6 x7).dk_out⟩,
      ⟨Rect.unit ![0, 1536] S64x128.size inb_S64x2048_S64x128_0_1536, (rawA12 a2 h2 a3 h3 a4 h4 a5 h5 a6 h6 a7 h7 a8 h8 a9 h9 a15 x0 x1 x2 x3 x4 x5 x6 x7).dk_out⟩,
      ⟨Rect.unit ![0, 1408] S64x128.size inb_S64x2048_S64x128_0_1408, (rawA11 a2 h2 a3 h3 a4 h4 a5 h5 a6 h6 a7 h7 a8 h8 a9 h9 a15 x0 x1 x2 x3 x4 x5 x6 x7).dk_out⟩,
      ⟨Rect.unit ![0, 1280] S64x128.size inb_S64x2048_S64x128_0_1280, (rawA10 a2 h2 a3 h3 a4 h4 a5 h5 a6 h6 a7 h7 a8 h8 a9 h9 a15 x0 x1 x2 x3 x4 x5 x6 x7).dk_out⟩,
      ⟨Rect.unit ![0, 1152] S64x128.size inb_S64x2048_S64x128_0_1152, (rawA9 a2 h2 a3 h3 a4 h4 a5 h5 a6 h6 a7 h7 a8 h8 a9 h9 a15 x0 x1 x2 x3 x4 x5 x6 x7).dk_out⟩,
      ⟨Rect.unit ![0, 1024] S64x128.size inb_S64x2048_S64x128_0_1024, (rawA8 a2 h2 a3 h3 a4 h4 a5 h5 a6 h6 a7 h7 a8 h8 a9 h9 a15 x0 x1 x2 x3 x4 x5 x6 x7).dk_out⟩,
      ⟨Rect.unit ![0, 896] S64x128.size inb_S64x2048_S64x128_0_896, (rawA7 a2 h2 a3 h3 a4 h4 a5 h5 a6 h6 a7 h7 a8 h8 a9 h9 a15 x0 x1 x2 x3 x4 x5 x6 x7).dk_out⟩,
      ⟨Rect.unit ![0, 768] S64x128.size inb_S64x2048_S64x128_0_768, (rawA6 a2 h2 a3 h3 a4 h4 a5 h5 a6 h6 a7 h7 a8 h8 a9 h9 a15 x0 x1 x2 x3 x4 x5 x6 x7).dk_out⟩,
      ⟨Rect.unit ![0, 640] S64x128.size inb_S64x2048_S64x128_0_640, (rawA5 a2 h2 a3 h3 a4 h4 a5 h5 a6 h6 a7 h7 a8 h8 a9 h9 a15 x0 x1 x2 x3 x4 x5 x6 x7).dk_out⟩,
      ⟨Rect.unit ![0, 512] S64x128.size inb_S64x2048_S64x128_0_512, (rawA4 a2 h2 a3 h3 a4 h4 a5 h5 a6 h6 a7 h7 a8 h8 a9 h9 a15 x0 x1 x2 x3 x4 x5 x6 x7).dk_out⟩,
      ⟨Rect.unit ![0, 384] S64x128.size inb_S64x2048_S64x128_0_384, (rawA3 a2 h2 a3 h3 a4 h4 a5 h5 a6 h6 a7 h7 a8 h8 a9 h9 a15 x0 x1 x2 x3 x4 x5 x6 x7).dk_out⟩,
      ⟨Rect.unit ![0, 256] S64x128.size inb_S64x2048_S64x128_0_256, (rawA2 a2 h2 a3 h3 a4 h4 a5 h5 a6 h6 a7 h7 a8 h8 a9 h9 a15 x0 x1 x2 x3 x4 x5 x6 x7).dk_out⟩,
      ⟨Rect.unit ![0, 128] S64x128.size inb_S64x2048_S64x128_0_128, (rawA1 a2 h2 a3 h3 a4 h4 a5 h5 a6 h6 a7 h7 a8 h8 a9 h9 a15 x0 x1 x2 x3 x4 x5 x6 x7).dk_out⟩,
      ⟨Rect.unit ![0, 0] S64x128.size inb_S64x2048_S64x128_0_0, (rawA0 a2 h2 a3 h3 a4 h4 a5 h5 a6 h6 a7 h7 a8 h8 a9 h9 a15 x0 x1 x2 x3 x4 x5 x6 x7).dk_out⟩] := by
  sl_kernel_rfl

theorem listA_10
    :
    (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.1 =
      [⟨Rect.unit ![0, 1920] S64x128.size inb_S64x2048_S64x128_0_1920, (rawA15 a2 h2 a3 h3 a4 h4 a5 h5 a6 h6 a7 h7 a8 h8 a9 h9 a15 x0 x1 x2 x3 x4 x5 x6 x7).dv_out⟩,
      ⟨Rect.unit ![0, 1792] S64x128.size inb_S64x2048_S64x128_0_1792, (rawA14 a2 h2 a3 h3 a4 h4 a5 h5 a6 h6 a7 h7 a8 h8 a9 h9 a15 x0 x1 x2 x3 x4 x5 x6 x7).dv_out⟩,
      ⟨Rect.unit ![0, 1664] S64x128.size inb_S64x2048_S64x128_0_1664, (rawA13 a2 h2 a3 h3 a4 h4 a5 h5 a6 h6 a7 h7 a8 h8 a9 h9 a15 x0 x1 x2 x3 x4 x5 x6 x7).dv_out⟩,
      ⟨Rect.unit ![0, 1536] S64x128.size inb_S64x2048_S64x128_0_1536, (rawA12 a2 h2 a3 h3 a4 h4 a5 h5 a6 h6 a7 h7 a8 h8 a9 h9 a15 x0 x1 x2 x3 x4 x5 x6 x7).dv_out⟩,
      ⟨Rect.unit ![0, 1408] S64x128.size inb_S64x2048_S64x128_0_1408, (rawA11 a2 h2 a3 h3 a4 h4 a5 h5 a6 h6 a7 h7 a8 h8 a9 h9 a15 x0 x1 x2 x3 x4 x5 x6 x7).dv_out⟩,
      ⟨Rect.unit ![0, 1280] S64x128.size inb_S64x2048_S64x128_0_1280, (rawA10 a2 h2 a3 h3 a4 h4 a5 h5 a6 h6 a7 h7 a8 h8 a9 h9 a15 x0 x1 x2 x3 x4 x5 x6 x7).dv_out⟩,
      ⟨Rect.unit ![0, 1152] S64x128.size inb_S64x2048_S64x128_0_1152, (rawA9 a2 h2 a3 h3 a4 h4 a5 h5 a6 h6 a7 h7 a8 h8 a9 h9 a15 x0 x1 x2 x3 x4 x5 x6 x7).dv_out⟩,
      ⟨Rect.unit ![0, 1024] S64x128.size inb_S64x2048_S64x128_0_1024, (rawA8 a2 h2 a3 h3 a4 h4 a5 h5 a6 h6 a7 h7 a8 h8 a9 h9 a15 x0 x1 x2 x3 x4 x5 x6 x7).dv_out⟩,
      ⟨Rect.unit ![0, 896] S64x128.size inb_S64x2048_S64x128_0_896, (rawA7 a2 h2 a3 h3 a4 h4 a5 h5 a6 h6 a7 h7 a8 h8 a9 h9 a15 x0 x1 x2 x3 x4 x5 x6 x7).dv_out⟩,
      ⟨Rect.unit ![0, 768] S64x128.size inb_S64x2048_S64x128_0_768, (rawA6 a2 h2 a3 h3 a4 h4 a5 h5 a6 h6 a7 h7 a8 h8 a9 h9 a15 x0 x1 x2 x3 x4 x5 x6 x7).dv_out⟩,
      ⟨Rect.unit ![0, 640] S64x128.size inb_S64x2048_S64x128_0_640, (rawA5 a2 h2 a3 h3 a4 h4 a5 h5 a6 h6 a7 h7 a8 h8 a9 h9 a15 x0 x1 x2 x3 x4 x5 x6 x7).dv_out⟩,
      ⟨Rect.unit ![0, 512] S64x128.size inb_S64x2048_S64x128_0_512, (rawA4 a2 h2 a3 h3 a4 h4 a5 h5 a6 h6 a7 h7 a8 h8 a9 h9 a15 x0 x1 x2 x3 x4 x5 x6 x7).dv_out⟩,
      ⟨Rect.unit ![0, 384] S64x128.size inb_S64x2048_S64x128_0_384, (rawA3 a2 h2 a3 h3 a4 h4 a5 h5 a6 h6 a7 h7 a8 h8 a9 h9 a15 x0 x1 x2 x3 x4 x5 x6 x7).dv_out⟩,
      ⟨Rect.unit ![0, 256] S64x128.size inb_S64x2048_S64x128_0_256, (rawA2 a2 h2 a3 h3 a4 h4 a5 h5 a6 h6 a7 h7 a8 h8 a9 h9 a15 x0 x1 x2 x3 x4 x5 x6 x7).dv_out⟩,
      ⟨Rect.unit ![0, 128] S64x128.size inb_S64x2048_S64x128_0_128, (rawA1 a2 h2 a3 h3 a4 h4 a5 h5 a6 h6 a7 h7 a8 h8 a9 h9 a15 x0 x1 x2 x3 x4 x5 x6 x7).dv_out⟩,
      ⟨Rect.unit ![0, 0] S64x128.size inb_S64x2048_S64x128_0_0, (rawA0 a2 h2 a3 h3 a4 h4 a5 h5 a6 h6 a7 h7 a8 h8 a9 h9 a15 x0 x1 x2 x3 x4 x5 x6 x7).dv_out⟩] := by
  sl_kernel_rfl

theorem listA_11
    :
    (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.1 =
      [⟨Rect.unit ![0, 0, 0, 0] ![16, 1, 1, 64] inb_S16x1x1x64_S16x1x1x64_0_0_0_0, dbOut (rawsA a2 h2 a3 h3 a4 h4 a5 h5 a6 h6 a7 h7 a8 h8 a9 h9 a15 x0 x1 x2 x3 x4 x5 x6 x7)⟩] := by
  sl_kernel_rfl

theorem listA_12
    :
    (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.1 =
      [⟨Rect.unit ![0, 0, 0, 0] ![16, 1, 1, 64] inb_S16x1x1x64_S16x1x1x64_0_0_0_0, dgOut (rawsA a2 h2 a3 h3 a4 h4 a5 h5 a6 h6 a7 h7 a8 h8 a9 h9 a15 x0 x1 x2 x3 x4 x5 x6 x7)⟩] := by
  sl_kernel_rfl

theorem listA_15
    :
    (kernelRun0_A c i a2 h2 a3 h3 a4 h4 a5 h5 a6 h6 a7 h7 a8 h8 a9 h9 a10 h10 a11 h11 a12 h12 a13 h13 a14 h14 a15 h15 hc0 x0 x1 x2 x3 x4 x5 x6 x7).2.2.2.2.2.1 =
      [⟨Rect.unit ![15, 0, 0] S1x128x128.size inb_S16x128x128_S1x128x128_15_0_0, (rawA15 a2 h2 a3 h3 a4 h4 a5 h5 a6 h6 a7 h7 a8 h8 a9 h9 a15 x0 x1 x2 x3 x4 x5 x6 x7).dS_out⟩,
      ⟨Rect.unit ![14, 0, 0] S1x128x128.size inb_S16x128x128_S1x128x128_14_0_0, (rawA14 a2 h2 a3 h3 a4 h4 a5 h5 a6 h6 a7 h7 a8 h8 a9 h9 a15 x0 x1 x2 x3 x4 x5 x6 x7).dS_out⟩,
      ⟨Rect.unit ![13, 0, 0] S1x128x128.size inb_S16x128x128_S1x128x128_13_0_0, (rawA13 a2 h2 a3 h3 a4 h4 a5 h5 a6 h6 a7 h7 a8 h8 a9 h9 a15 x0 x1 x2 x3 x4 x5 x6 x7).dS_out⟩,
      ⟨Rect.unit ![12, 0, 0] S1x128x128.size inb_S16x128x128_S1x128x128_12_0_0, (rawA12 a2 h2 a3 h3 a4 h4 a5 h5 a6 h6 a7 h7 a8 h8 a9 h9 a15 x0 x1 x2 x3 x4 x5 x6 x7).dS_out⟩,
      ⟨Rect.unit ![11, 0, 0] S1x128x128.size inb_S16x128x128_S1x128x128_11_0_0, (rawA11 a2 h2 a3 h3 a4 h4 a5 h5 a6 h6 a7 h7 a8 h8 a9 h9 a15 x0 x1 x2 x3 x4 x5 x6 x7).dS_out⟩,
      ⟨Rect.unit ![10, 0, 0] S1x128x128.size inb_S16x128x128_S1x128x128_10_0_0, (rawA10 a2 h2 a3 h3 a4 h4 a5 h5 a6 h6 a7 h7 a8 h8 a9 h9 a15 x0 x1 x2 x3 x4 x5 x6 x7).dS_out⟩,
      ⟨Rect.unit ![9, 0, 0] S1x128x128.size inb_S16x128x128_S1x128x128_9_0_0, (rawA9 a2 h2 a3 h3 a4 h4 a5 h5 a6 h6 a7 h7 a8 h8 a9 h9 a15 x0 x1 x2 x3 x4 x5 x6 x7).dS_out⟩,
      ⟨Rect.unit ![8, 0, 0] S1x128x128.size inb_S16x128x128_S1x128x128_8_0_0, (rawA8 a2 h2 a3 h3 a4 h4 a5 h5 a6 h6 a7 h7 a8 h8 a9 h9 a15 x0 x1 x2 x3 x4 x5 x6 x7).dS_out⟩,
      ⟨Rect.unit ![7, 0, 0] S1x128x128.size inb_S16x128x128_S1x128x128_7_0_0, (rawA7 a2 h2 a3 h3 a4 h4 a5 h5 a6 h6 a7 h7 a8 h8 a9 h9 a15 x0 x1 x2 x3 x4 x5 x6 x7).dS_out⟩,
      ⟨Rect.unit ![6, 0, 0] S1x128x128.size inb_S16x128x128_S1x128x128_6_0_0, (rawA6 a2 h2 a3 h3 a4 h4 a5 h5 a6 h6 a7 h7 a8 h8 a9 h9 a15 x0 x1 x2 x3 x4 x5 x6 x7).dS_out⟩,
      ⟨Rect.unit ![5, 0, 0] S1x128x128.size inb_S16x128x128_S1x128x128_5_0_0, (rawA5 a2 h2 a3 h3 a4 h4 a5 h5 a6 h6 a7 h7 a8 h8 a9 h9 a15 x0 x1 x2 x3 x4 x5 x6 x7).dS_out⟩,
      ⟨Rect.unit ![4, 0, 0] S1x128x128.size inb_S16x128x128_S1x128x128_4_0_0, (rawA4 a2 h2 a3 h3 a4 h4 a5 h5 a6 h6 a7 h7 a8 h8 a9 h9 a15 x0 x1 x2 x3 x4 x5 x6 x7).dS_out⟩,
      ⟨Rect.unit ![3, 0, 0] S1x128x128.size inb_S16x128x128_S1x128x128_3_0_0, (rawA3 a2 h2 a3 h3 a4 h4 a5 h5 a6 h6 a7 h7 a8 h8 a9 h9 a15 x0 x1 x2 x3 x4 x5 x6 x7).dS_out⟩,
      ⟨Rect.unit ![2, 0, 0] S1x128x128.size inb_S16x128x128_S1x128x128_2_0_0, (rawA2 a2 h2 a3 h3 a4 h4 a5 h5 a6 h6 a7 h7 a8 h8 a9 h9 a15 x0 x1 x2 x3 x4 x5 x6 x7).dS_out⟩,
      ⟨Rect.unit ![1, 0, 0] S1x128x128.size inb_S16x128x128_S1x128x128_1_0_0, (rawA1 a2 h2 a3 h3 a4 h4 a5 h5 a6 h6 a7 h7 a8 h8 a9 h9 a15 x0 x1 x2 x3 x4 x5 x6 x7).dS_out⟩,
      ⟨Rect.unit ![0, 0, 0] S1x128x128.size inb_S16x128x128_S1x128x128_0_0_0, (rawA0 a2 h2 a3 h3 a4 h4 a5 h5 a6 h6 a7 h7 a8 h8 a9 h9 a15 x0 x1 x2 x3 x4 x5 x6 x7).dS_out⟩] ++ kernelRun0_A.sl.HS0_1 := by
  sl_kernel_rfl

end Stores

section Values

theorem zeroA (y : S16x128x128.Idx) : View.canon (kernelRun0_A.sl.HS0_1 (F := Ideal)) y = 0 := by
  refine View.canon_apply_of_pieces (Val := Elt Ideal) (S := S16x128x128) (e := .f32) (fun _ => (0 : EReal))
    kernelRun0_A.sl.HS0_1 ?_ y (View.cover_of_wholeMem (kernelRun0_A.sl.HS0_1 (F := Ideal)) (by sl_whole_mem) y)
  refine List.forall_mem_cons.2 ⟨fun z => ?_, List.forall_mem_nil _⟩
  show k0_pay5 z = 0
  unfold k0_pay5
  obtain ⟨a, b, d, rfl⟩ : ∃ (a : Fin 16) (b d : Fin 128), z = ix3 a b d := ⟨z 0, z 1, z 2, eq_ix3 z⟩
  pointwise []

variable
  (c : Dev nD) (i : grid0.Coords)
  (a2 : Memref sig .tc .vmem S64x1024 .bf16) (h2 : a2.IsWhole)
  (a3 : Memref sig .tc .vmem S64x1024 .bf16) (h3 : a3.IsWhole)
  (a4 : Memref sig .tc .vmem S64x2048 .f32) (h4 : a4.IsWhole)
  (a5 : Memref sig .tc .vmem S16x1x1x64 .f32) (h5 : a5.IsWhole)
  (a6 : Memref sig .tc .vmem S16x1x1x64 .f32) (h6 : a6.IsWhole)
  (a7 : Memref sig .tc .vmem S16x1x128x128 .f32) (h7 : a7.IsWhole)
  (a8 : Memref sig .tc .vmem S16x1x64x64 .f32) (h8 : a8.IsWhole)
  (a9 : Memref sig .tc .vmem S64x2048 .f32) (h9 : a9.IsWhole)
  (a10 : Memref sig .tc .vmem S64x2048 .bf16) (h10 : a10.IsWhole)
  (a11 : Memref sig .tc .vmem S64x2048 .bf16) (h11 : a11.IsWhole)
  (a12 : Memref sig .tc .vmem S64x2048 .bf16) (h12 : a12.IsWhole)
  (a13 : Memref sig .tc .vmem S16x1x1x64 .f32) (h13 : a13.IsWhole)
  (a14 : Memref sig .tc .vmem S16x1x1x64 .f32) (h14 : a14.IsWhole)
  (a15 : Memref sig .tc .vmem S16x128x128 .f32) (h15 : a15.IsWhole)
  (hc0 : cond0_0 i)
  (x0 : Vec Ideal S64x1024 .bf16) (x1 : Vec Ideal S64x1024 .bf16) (x2 : Vec Ideal S64x2048 .f32) (x3 : Vec Ideal S16x1x1x64 .f32) (x4 : Vec Ideal S16x1x1x64 .f32) (x5 : Vec Ideal S16x1x128x128 .f32) (x6 : Vec Ideal S16x1x64x64 .f32) (x7 : Vec Ideal S64x2048 .f32)

theorem rawA0_inp
 :
    (rawA0 a2 h2 a3 h3 a4 h4 a5 h5 a6 h6 a7 h7 a8 h8 a9 h9 a15 x0 x1 x2 x3 x4 x5 x6 x7).inp = inpOf x0 x1 x2 x3 x4 x5 x6 x7 (fun _ => 0) 0 := by
  unfold Raw.inp inpOf rawA0
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA0_row
 (i : Fin 64) :
    (rawA0 a2 h2 a3 h3 a4 h4 a5 h5 a6 h6 a7 h7 a8 h8 a9 h9 a15 x0 x1 x2 x3 x4 x5 x6 x7).gr (ix2 0 i) = (rawA0 a2 h2 a3 h3 a4 h4 a5 h5 a6 h6 a7 h7 a8 h8 a9 h9 a15 x0 x1 x2 x3 x4 x5 x6 x7).inp.g i := by
  rw [rawA0_inp]
  unfold inpOf rawA0
  simp only [View.readAt_eq_ld, Memref.IsWhole.read_unread, View.readCov_eq_canon', zeroA]
  pointwise []

theorem rawA1_inp
 :
    (rawA1 a2 h2 a3 h3 a4 h4 a5 h5 a6 h6 a7 h7 a8 h8 a9 h9 a15 x0 x1 x2 x3 x4 x5 x6 x7).inp = inpOf x0 x1 x2 x3 x4 x5 x6 x7 (fun _ => 0) 1 := by
  unfold Raw.inp inpOf rawA1
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA1_row
 (i : Fin 64) :
    (rawA1 a2 h2 a3 h3 a4 h4 a5 h5 a6 h6 a7 h7 a8 h8 a9 h9 a15 x0 x1 x2 x3 x4 x5 x6 x7).gr (ix2 0 i) = (rawA1 a2 h2 a3 h3 a4 h4 a5 h5 a6 h6 a7 h7 a8 h8 a9 h9 a15 x0 x1 x2 x3 x4 x5 x6 x7).inp.g i := by
  rw [rawA1_inp]
  unfold inpOf rawA1
  simp only [View.readAt_eq_ld, Memref.IsWhole.read_unread, View.readCov_eq_canon', zeroA]
  pointwise []

theorem rawA2_inp
 :
    (rawA2 a2 h2 a3 h3 a4 h4 a5 h5 a6 h6 a7 h7 a8 h8 a9 h9 a15 x0 x1 x2 x3 x4 x5 x6 x7).inp = inpOf x0 x1 x2 x3 x4 x5 x6 x7 (fun _ => 0) 2 := by
  unfold Raw.inp inpOf rawA2
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA2_row
 (i : Fin 64) :
    (rawA2 a2 h2 a3 h3 a4 h4 a5 h5 a6 h6 a7 h7 a8 h8 a9 h9 a15 x0 x1 x2 x3 x4 x5 x6 x7).gr (ix2 0 i) = (rawA2 a2 h2 a3 h3 a4 h4 a5 h5 a6 h6 a7 h7 a8 h8 a9 h9 a15 x0 x1 x2 x3 x4 x5 x6 x7).inp.g i := by
  rw [rawA2_inp]
  unfold inpOf rawA2
  simp only [View.readAt_eq_ld, Memref.IsWhole.read_unread, View.readCov_eq_canon', zeroA]
  pointwise []

theorem rawA3_inp
 :
    (rawA3 a2 h2 a3 h3 a4 h4 a5 h5 a6 h6 a7 h7 a8 h8 a9 h9 a15 x0 x1 x2 x3 x4 x5 x6 x7).inp = inpOf x0 x1 x2 x3 x4 x5 x6 x7 (fun _ => 0) 3 := by
  unfold Raw.inp inpOf rawA3
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA3_row
 (i : Fin 64) :
    (rawA3 a2 h2 a3 h3 a4 h4 a5 h5 a6 h6 a7 h7 a8 h8 a9 h9 a15 x0 x1 x2 x3 x4 x5 x6 x7).gr (ix2 0 i) = (rawA3 a2 h2 a3 h3 a4 h4 a5 h5 a6 h6 a7 h7 a8 h8 a9 h9 a15 x0 x1 x2 x3 x4 x5 x6 x7).inp.g i := by
  rw [rawA3_inp]
  unfold inpOf rawA3
  simp only [View.readAt_eq_ld, Memref.IsWhole.read_unread, View.readCov_eq_canon', zeroA]
  pointwise []

theorem rawA4_inp
 :
    (rawA4 a2 h2 a3 h3 a4 h4 a5 h5 a6 h6 a7 h7 a8 h8 a9 h9 a15 x0 x1 x2 x3 x4 x5 x6 x7).inp = inpOf x0 x1 x2 x3 x4 x5 x6 x7 (fun _ => 0) 4 := by
  unfold Raw.inp inpOf rawA4
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA4_row
 (i : Fin 64) :
    (rawA4 a2 h2 a3 h3 a4 h4 a5 h5 a6 h6 a7 h7 a8 h8 a9 h9 a15 x0 x1 x2 x3 x4 x5 x6 x7).gr (ix2 0 i) = (rawA4 a2 h2 a3 h3 a4 h4 a5 h5 a6 h6 a7 h7 a8 h8 a9 h9 a15 x0 x1 x2 x3 x4 x5 x6 x7).inp.g i := by
  rw [rawA4_inp]
  unfold inpOf rawA4
  simp only [View.readAt_eq_ld, Memref.IsWhole.read_unread, View.readCov_eq_canon', zeroA]
  pointwise []

theorem rawA5_inp
 :
    (rawA5 a2 h2 a3 h3 a4 h4 a5 h5 a6 h6 a7 h7 a8 h8 a9 h9 a15 x0 x1 x2 x3 x4 x5 x6 x7).inp = inpOf x0 x1 x2 x3 x4 x5 x6 x7 (fun _ => 0) 5 := by
  unfold Raw.inp inpOf rawA5
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA5_row
 (i : Fin 64) :
    (rawA5 a2 h2 a3 h3 a4 h4 a5 h5 a6 h6 a7 h7 a8 h8 a9 h9 a15 x0 x1 x2 x3 x4 x5 x6 x7).gr (ix2 0 i) = (rawA5 a2 h2 a3 h3 a4 h4 a5 h5 a6 h6 a7 h7 a8 h8 a9 h9 a15 x0 x1 x2 x3 x4 x5 x6 x7).inp.g i := by
  rw [rawA5_inp]
  unfold inpOf rawA5
  simp only [View.readAt_eq_ld, Memref.IsWhole.read_unread, View.readCov_eq_canon', zeroA]
  pointwise []

theorem rawA6_inp
 :
    (rawA6 a2 h2 a3 h3 a4 h4 a5 h5 a6 h6 a7 h7 a8 h8 a9 h9 a15 x0 x1 x2 x3 x4 x5 x6 x7).inp = inpOf x0 x1 x2 x3 x4 x5 x6 x7 (fun _ => 0) 6 := by
  unfold Raw.inp inpOf rawA6
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA6_row
 (i : Fin 64) :
    (rawA6 a2 h2 a3 h3 a4 h4 a5 h5 a6 h6 a7 h7 a8 h8 a9 h9 a15 x0 x1 x2 x3 x4 x5 x6 x7).gr (ix2 0 i) = (rawA6 a2 h2 a3 h3 a4 h4 a5 h5 a6 h6 a7 h7 a8 h8 a9 h9 a15 x0 x1 x2 x3 x4 x5 x6 x7).inp.g i := by
  rw [rawA6_inp]
  unfold inpOf rawA6
  simp only [View.readAt_eq_ld, Memref.IsWhole.read_unread, View.readCov_eq_canon', zeroA]
  pointwise []

theorem rawA7_inp
 :
    (rawA7 a2 h2 a3 h3 a4 h4 a5 h5 a6 h6 a7 h7 a8 h8 a9 h9 a15 x0 x1 x2 x3 x4 x5 x6 x7).inp = inpOf x0 x1 x2 x3 x4 x5 x6 x7 (fun _ => 0) 7 := by
  unfold Raw.inp inpOf rawA7
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA7_row
 (i : Fin 64) :
    (rawA7 a2 h2 a3 h3 a4 h4 a5 h5 a6 h6 a7 h7 a8 h8 a9 h9 a15 x0 x1 x2 x3 x4 x5 x6 x7).gr (ix2 0 i) = (rawA7 a2 h2 a3 h3 a4 h4 a5 h5 a6 h6 a7 h7 a8 h8 a9 h9 a15 x0 x1 x2 x3 x4 x5 x6 x7).inp.g i := by
  rw [rawA7_inp]
  unfold inpOf rawA7
  simp only [View.readAt_eq_ld, Memref.IsWhole.read_unread, View.readCov_eq_canon', zeroA]
  pointwise []

theorem rawA8_inp
 :
    (rawA8 a2 h2 a3 h3 a4 h4 a5 h5 a6 h6 a7 h7 a8 h8 a9 h9 a15 x0 x1 x2 x3 x4 x5 x6 x7).inp = inpOf x0 x1 x2 x3 x4 x5 x6 x7 (fun _ => 0) 8 := by
  unfold Raw.inp inpOf rawA8
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA8_row
 (i : Fin 64) :
    (rawA8 a2 h2 a3 h3 a4 h4 a5 h5 a6 h6 a7 h7 a8 h8 a9 h9 a15 x0 x1 x2 x3 x4 x5 x6 x7).gr (ix2 0 i) = (rawA8 a2 h2 a3 h3 a4 h4 a5 h5 a6 h6 a7 h7 a8 h8 a9 h9 a15 x0 x1 x2 x3 x4 x5 x6 x7).inp.g i := by
  rw [rawA8_inp]
  unfold inpOf rawA8
  simp only [View.readAt_eq_ld, Memref.IsWhole.read_unread, View.readCov_eq_canon', zeroA]
  pointwise []

theorem rawA9_inp
 :
    (rawA9 a2 h2 a3 h3 a4 h4 a5 h5 a6 h6 a7 h7 a8 h8 a9 h9 a15 x0 x1 x2 x3 x4 x5 x6 x7).inp = inpOf x0 x1 x2 x3 x4 x5 x6 x7 (fun _ => 0) 9 := by
  unfold Raw.inp inpOf rawA9
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA9_row
 (i : Fin 64) :
    (rawA9 a2 h2 a3 h3 a4 h4 a5 h5 a6 h6 a7 h7 a8 h8 a9 h9 a15 x0 x1 x2 x3 x4 x5 x6 x7).gr (ix2 0 i) = (rawA9 a2 h2 a3 h3 a4 h4 a5 h5 a6 h6 a7 h7 a8 h8 a9 h9 a15 x0 x1 x2 x3 x4 x5 x6 x7).inp.g i := by
  rw [rawA9_inp]
  unfold inpOf rawA9
  simp only [View.readAt_eq_ld, Memref.IsWhole.read_unread, View.readCov_eq_canon', zeroA]
  pointwise []

theorem rawA10_inp
 :
    (rawA10 a2 h2 a3 h3 a4 h4 a5 h5 a6 h6 a7 h7 a8 h8 a9 h9 a15 x0 x1 x2 x3 x4 x5 x6 x7).inp = inpOf x0 x1 x2 x3 x4 x5 x6 x7 (fun _ => 0) 10 := by
  unfold Raw.inp inpOf rawA10
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA10_row
 (i : Fin 64) :
    (rawA10 a2 h2 a3 h3 a4 h4 a5 h5 a6 h6 a7 h7 a8 h8 a9 h9 a15 x0 x1 x2 x3 x4 x5 x6 x7).gr (ix2 0 i) = (rawA10 a2 h2 a3 h3 a4 h4 a5 h5 a6 h6 a7 h7 a8 h8 a9 h9 a15 x0 x1 x2 x3 x4 x5 x6 x7).inp.g i := by
  rw [rawA10_inp]
  unfold inpOf rawA10
  simp only [View.readAt_eq_ld, Memref.IsWhole.read_unread, View.readCov_eq_canon', zeroA]
  pointwise []

theorem rawA11_inp
 :
    (rawA11 a2 h2 a3 h3 a4 h4 a5 h5 a6 h6 a7 h7 a8 h8 a9 h9 a15 x0 x1 x2 x3 x4 x5 x6 x7).inp = inpOf x0 x1 x2 x3 x4 x5 x6 x7 (fun _ => 0) 11 := by
  unfold Raw.inp inpOf rawA11
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA11_row
 (i : Fin 64) :
    (rawA11 a2 h2 a3 h3 a4 h4 a5 h5 a6 h6 a7 h7 a8 h8 a9 h9 a15 x0 x1 x2 x3 x4 x5 x6 x7).gr (ix2 0 i) = (rawA11 a2 h2 a3 h3 a4 h4 a5 h5 a6 h6 a7 h7 a8 h8 a9 h9 a15 x0 x1 x2 x3 x4 x5 x6 x7).inp.g i := by
  rw [rawA11_inp]
  unfold inpOf rawA11
  simp only [View.readAt_eq_ld, Memref.IsWhole.read_unread, View.readCov_eq_canon', zeroA]
  pointwise []

theorem rawA12_inp
 :
    (rawA12 a2 h2 a3 h3 a4 h4 a5 h5 a6 h6 a7 h7 a8 h8 a9 h9 a15 x0 x1 x2 x3 x4 x5 x6 x7).inp = inpOf x0 x1 x2 x3 x4 x5 x6 x7 (fun _ => 0) 12 := by
  unfold Raw.inp inpOf rawA12
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA12_row
 (i : Fin 64) :
    (rawA12 a2 h2 a3 h3 a4 h4 a5 h5 a6 h6 a7 h7 a8 h8 a9 h9 a15 x0 x1 x2 x3 x4 x5 x6 x7).gr (ix2 0 i) = (rawA12 a2 h2 a3 h3 a4 h4 a5 h5 a6 h6 a7 h7 a8 h8 a9 h9 a15 x0 x1 x2 x3 x4 x5 x6 x7).inp.g i := by
  rw [rawA12_inp]
  unfold inpOf rawA12
  simp only [View.readAt_eq_ld, Memref.IsWhole.read_unread, View.readCov_eq_canon', zeroA]
  pointwise []

theorem rawA13_inp
 :
    (rawA13 a2 h2 a3 h3 a4 h4 a5 h5 a6 h6 a7 h7 a8 h8 a9 h9 a15 x0 x1 x2 x3 x4 x5 x6 x7).inp = inpOf x0 x1 x2 x3 x4 x5 x6 x7 (fun _ => 0) 13 := by
  unfold Raw.inp inpOf rawA13
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA13_row
 (i : Fin 64) :
    (rawA13 a2 h2 a3 h3 a4 h4 a5 h5 a6 h6 a7 h7 a8 h8 a9 h9 a15 x0 x1 x2 x3 x4 x5 x6 x7).gr (ix2 0 i) = (rawA13 a2 h2 a3 h3 a4 h4 a5 h5 a6 h6 a7 h7 a8 h8 a9 h9 a15 x0 x1 x2 x3 x4 x5 x6 x7).inp.g i := by
  rw [rawA13_inp]
  unfold inpOf rawA13
  simp only [View.readAt_eq_ld, Memref.IsWhole.read_unread, View.readCov_eq_canon', zeroA]
  pointwise []

theorem rawA14_inp
 :
    (rawA14 a2 h2 a3 h3 a4 h4 a5 h5 a6 h6 a7 h7 a8 h8 a9 h9 a15 x0 x1 x2 x3 x4 x5 x6 x7).inp = inpOf x0 x1 x2 x3 x4 x5 x6 x7 (fun _ => 0) 14 := by
  unfold Raw.inp inpOf rawA14
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA14_row
 (i : Fin 64) :
    (rawA14 a2 h2 a3 h3 a4 h4 a5 h5 a6 h6 a7 h7 a8 h8 a9 h9 a15 x0 x1 x2 x3 x4 x5 x6 x7).gr (ix2 0 i) = (rawA14 a2 h2 a3 h3 a4 h4 a5 h5 a6 h6 a7 h7 a8 h8 a9 h9 a15 x0 x1 x2 x3 x4 x5 x6 x7).inp.g i := by
  rw [rawA14_inp]
  unfold inpOf rawA14
  simp only [View.readAt_eq_ld, Memref.IsWhole.read_unread, View.readCov_eq_canon', zeroA]
  pointwise []

theorem rawA15_inp
 :
    (rawA15 a2 h2 a3 h3 a4 h4 a5 h5 a6 h6 a7 h7 a8 h8 a9 h9 a15 x0 x1 x2 x3 x4 x5 x6 x7).inp = inpOf x0 x1 x2 x3 x4 x5 x6 x7 (fun _ => 0) 15 := by
  unfold Raw.inp inpOf rawA15
  simp only [View.readAt_eq_ld, Memref.IsWhole.read_unread, View.readCov_eq_canon', zeroA]
  congr 1 <;> funext i <;> (try funext m) <;> pointwise []
  all_goals first | rfl | exact congrArg _ (congrArg _ (Fin.ext (by simp [narrow, wide])))

theorem rawA15_row
 (i : Fin 64) :
    (rawA15 a2 h2 a3 h3 a4 h4 a5 h5 a6 h6 a7 h7 a8 h8 a9 h9 a15 x0 x1 x2 x3 x4 x5 x6 x7).gr (ix2 0 i) = (rawA15 a2 h2 a3 h3 a4 h4 a5 h5 a6 h6 a7 h7 a8 h8 a9 h9 a15 x0 x1 x2 x3 x4 x5 x6 x7).inp.g i := by
  rw [rawA15_inp]
  unfold inpOf rawA15
  simp only [View.readAt_eq_ld, Memref.IsWhole.read_unread, View.readCov_eq_canon', zeroA]
  pointwise []

theorem rawsA_inp
 : ∀ h : Fin 16, (rawsA a2 h2 a3 h3 a4 h4 a5 h5 a6 h6 a7 h7 a8 h8 a9 h9 a15 x0 x1 x2 x3 x4 x5 x6 x7 h).inp = inpOf x0 x1 x2 x3 x4 x5 x6 x7 (fun _ => 0) h
  | ⟨0, _⟩ => rawA0_inp ..
  | ⟨1, _⟩ => rawA1_inp ..
  | ⟨2, _⟩ => rawA2_inp ..
  | ⟨3, _⟩ => rawA3_inp ..
  | ⟨4, _⟩ => rawA4_inp ..
  | ⟨5, _⟩ => rawA5_inp ..
  | ⟨6, _⟩ => rawA6_inp ..
  | ⟨7, _⟩ => rawA7_inp ..
  | ⟨8, _⟩ => rawA8_inp ..
  | ⟨9, _⟩ => rawA9_inp ..
  | ⟨10, _⟩ => rawA10_inp ..
  | ⟨11, _⟩ => rawA11_inp ..
  | ⟨12, _⟩ => rawA12_inp ..
  | ⟨13, _⟩ => rawA13_inp ..
  | ⟨14, _⟩ => rawA14_inp ..
  | ⟨15, _⟩ => rawA15_inp ..
  | ⟨n + 16, h⟩ => absurd h (by omega)

theorem rawsA_row
 : ∀ (h : Fin 16) (i : Fin 64), (rawsA a2 h2 a3 h3 a4 h4 a5 h5 a6 h6 a7 h7 a8 h8 a9 h9 a15 x0 x1 x2 x3 x4 x5 x6 x7 h).gr (ix2 0 i) = (rawsA a2 h2 a3 h3 a4 h4 a5 h5 a6 h6 a7 h7 a8 h8 a9 h9 a15 x0 x1 x2 x3 x4 x5 x6 x7 h).inp.g i
  | ⟨0, _⟩ => fun _ => rawA0_row ..
  | ⟨1, _⟩ => fun _ => rawA1_row ..
  | ⟨2, _⟩ => fun _ => rawA2_row ..
  | ⟨3, _⟩ => fun _ => rawA3_row ..
  | ⟨4, _⟩ => fun _ => rawA4_row ..
  | ⟨5, _⟩ => fun _ => rawA5_row ..
  | ⟨6, _⟩ => fun _ => rawA6_row ..
  | ⟨7, _⟩ => fun _ => rawA7_row ..
  | ⟨8, _⟩ => fun _ => rawA8_row ..
  | ⟨9, _⟩ => fun _ => rawA9_row ..
  | ⟨10, _⟩ => fun _ => rawA10_row ..
  | ⟨11, _⟩ => fun _ => rawA11_row ..
  | ⟨12, _⟩ => fun _ => rawA12_row ..
  | ⟨13, _⟩ => fun _ => rawA13_row ..
  | ⟨14, _⟩ => fun _ => rawA14_row ..
  | ⟨15, _⟩ => fun _ => rawA15_row ..
  | ⟨n + 16, h⟩ => fun _ => absurd h (by omega)

theorem out0_A_8_eq
    (hy : ∀ h, Good (inpOf x0 x1 x2 x3 x4 x5 x6 x7 (fun _ => 0) h)) :
    out0_A_8 c i a2 h2 a3 h3 a4 h4 a5 h5 a6 h6 a7 h7 a8 h8 a9 h9 a10 h10 a11 h11 a12 h12 a13 h13 a14 h14 a15 h15 hc0 x0 x1 x2 x3 x4 x5 x6 x7 = flat (fun h w => (inpOf x0 x1 x2 x3 x4 x5 x6 x7 (fun _ => 0) h).dq (w 0) (w 1)) := by
  funext y
  refine (congrFun (View.read_writes_eq_canon _ _ _ (cover0_A_8 c i a2 h2 a3 h3 a4 h4 a5 h5 a6 h6 a7 h7 a8 h8 a9 h9 a10 h10 a11 h11 a12 h12 a13 h13 a14 h14 a15 h15 hc0 x0 x1 x2 x3 x4 x5 x6 x7)) y).trans ?_
  rw [listA_8]
  refine View.canon_apply_of_pieces (flat (fun h w => (inpOf x0 x1 x2 x3 x4 x5 x6 x7 (fun _ => 0) h).dq (w 0) (w 1))) _ ?_ y (listA_8 c i a2 h2 a3 h3 a4 h4 a5 h5 a6 h6 a7 h7 a8 h8 a9 h9 a10 h10 a11 h11 a12 h12 a13 h13 a14 h14 a15 h15 hc0 x0 x1 x2 x3 x4 x5 x6 x7 ▸ cover0_A_8 c i a2 h2 a3 h3 a4 h4 a5 h5 a6 h6 a7 h7 a8 h8 a9 h9 a10 h10 a11 h11 a12 h12 a13 h13 a14 h14 a15 h15 hc0 x0 x1 x2 x3 x4 x5 x6 x7 y)
  exact List.forall_mem_cons.2 ⟨dq_piece (o := 1920) 15 (rawA15_inp ..) hy (fun _ => rawA15_row ..) rfl inb_S64x2048_S64x128_0_1920, List.forall_mem_cons.2 ⟨dq_piece (o := 1792) 14 (rawA14_inp ..) hy (fun _ => rawA14_row ..) rfl inb_S64x2048_S64x128_0_1792, List.forall_mem_cons.2 ⟨dq_piece (o := 1664) 13 (rawA13_inp ..) hy (fun _ => rawA13_row ..) rfl inb_S64x2048_S64x128_0_1664, List.forall_mem_cons.2 ⟨dq_piece (o := 1536) 12 (rawA12_inp ..) hy (fun _ => rawA12_row ..) rfl inb_S64x2048_S64x128_0_1536, List.forall_mem_cons.2 ⟨dq_piece (o := 1408) 11 (rawA11_inp ..) hy (fun _ => rawA11_row ..) rfl inb_S64x2048_S64x128_0_1408, List.forall_mem_cons.2 ⟨dq_piece (o := 1280) 10 (rawA10_inp ..) hy (fun _ => rawA10_row ..) rfl inb_S64x2048_S64x128_0_1280, List.forall_mem_cons.2 ⟨dq_piece (o := 1152) 9 (rawA9_inp ..) hy (fun _ => rawA9_row ..) rfl inb_S64x2048_S64x128_0_1152, List.forall_mem_cons.2 ⟨dq_piece (o := 1024) 8 (rawA8_inp ..) hy (fun _ => rawA8_row ..) rfl inb_S64x2048_S64x128_0_1024, List.forall_mem_cons.2 ⟨dq_piece (o := 896) 7 (rawA7_inp ..) hy (fun _ => rawA7_row ..) rfl inb_S64x2048_S64x128_0_896, List.forall_mem_cons.2 ⟨dq_piece (o := 768) 6 (rawA6_inp ..) hy (fun _ => rawA6_row ..) rfl inb_S64x2048_S64x128_0_768, List.forall_mem_cons.2 ⟨dq_piece (o := 640) 5 (rawA5_inp ..) hy (fun _ => rawA5_row ..) rfl inb_S64x2048_S64x128_0_640, List.forall_mem_cons.2 ⟨dq_piece (o := 512) 4 (rawA4_inp ..) hy (fun _ => rawA4_row ..) rfl inb_S64x2048_S64x128_0_512, List.forall_mem_cons.2 ⟨dq_piece (o := 384) 3 (rawA3_inp ..) hy (fun _ => rawA3_row ..) rfl inb_S64x2048_S64x128_0_384, List.forall_mem_cons.2 ⟨dq_piece (o := 256) 2 (rawA2_inp ..) hy (fun _ => rawA2_row ..) rfl inb_S64x2048_S64x128_0_256, List.forall_mem_cons.2 ⟨dq_piece (o := 128) 1 (rawA1_inp ..) hy (fun _ => rawA1_row ..) rfl inb_S64x2048_S64x128_0_128, List.forall_mem_cons.2 ⟨dq_piece (o := 0) 0 (rawA0_inp ..) hy (fun _ => rawA0_row ..) rfl inb_S64x2048_S64x128_0_0, List.forall_mem_nil _⟩⟩⟩⟩⟩⟩⟩⟩⟩⟩⟩⟩⟩⟩⟩⟩

theorem out0_A_9_eq
    (hy : ∀ h, Good (inpOf x0 x1 x2 x3 x4 x5 x6 x7 (fun _ => 0) h)) :
    out0_A_9 c i a2 h2 a3 h3 a4 h4 a5 h5 a6 h6 a7 h7 a8 h8 a9 h9 a10 h10 a11 h11 a12 h12 a13 h13 a14 h14 a15 h15 hc0 x0 x1 x2 x3 x4 x5 x6 x7 = flat (fun h w => (inpOf x0 x1 x2 x3 x4 x5 x6 x7 (fun _ => 0) h).dk (w 0) (w 1)) := by
  funext y
  refine (congrFun (View.read_writes_eq_canon _ _ _ (cover0_A_9 c i a2 h2 a3 h3 a4 h4 a5 h5 a6 h6 a7 h7 a8 h8 a9 h9 a10 h10 a11 h11 a12 h12 a13 h13 a14 h14 a15 h15 hc0 x0 x1 x2 x3 x4 x5 x6 x7)) y).trans ?_
  rw [listA_9]
  refine View.canon_apply_of_pieces (flat (fun h w => (inpOf x0 x1 x2 x3 x4 x5 x6 x7 (fun _ => 0) h).dk (w 0) (w 1))) _ ?_ y (listA_9 c i a2 h2 a3 h3 a4 h4 a5 h5 a6 h6 a7 h7 a8 h8 a9 h9 a10 h10 a11 h11 a12 h12 a13 h13 a14 h14 a15 h15 hc0 x0 x1 x2 x3 x4 x5 x6 x7 ▸ cover0_A_9 c i a2 h2 a3 h3 a4 h4 a5 h5 a6 h6 a7 h7 a8 h8 a9 h9 a10 h10 a11 h11 a12 h12 a13 h13 a14 h14 a15 h15 hc0 x0 x1 x2 x3 x4 x5 x6 x7 y)
  exact List.forall_mem_cons.2 ⟨dk_piece (o := 1920) 15 (rawA15_inp ..) hy (fun _ => rawA15_row ..) rfl inb_S64x2048_S64x128_0_1920, List.forall_mem_cons.2 ⟨dk_piece (o := 1792) 14 (rawA14_inp ..) hy (fun _ => rawA14_row ..) rfl inb_S64x2048_S64x128_0_1792, List.forall_mem_cons.2 ⟨dk_piece (o := 1664) 13 (rawA13_inp ..) hy (fun _ => rawA13_row ..) rfl inb_S64x2048_S64x128_0_1664, List.forall_mem_cons.2 ⟨dk_piece (o := 1536) 12 (rawA12_inp ..) hy (fun _ => rawA12_row ..) rfl inb_S64x2048_S64x128_0_1536, List.forall_mem_cons.2 ⟨dk_piece (o := 1408) 11 (rawA11_inp ..) hy (fun _ => rawA11_row ..) rfl inb_S64x2048_S64x128_0_1408, List.forall_mem_cons.2 ⟨dk_piece (o := 1280) 10 (rawA10_inp ..) hy (fun _ => rawA10_row ..) rfl inb_S64x2048_S64x128_0_1280, List.forall_mem_cons.2 ⟨dk_piece (o := 1152) 9 (rawA9_inp ..) hy (fun _ => rawA9_row ..) rfl inb_S64x2048_S64x128_0_1152, List.forall_mem_cons.2 ⟨dk_piece (o := 1024) 8 (rawA8_inp ..) hy (fun _ => rawA8_row ..) rfl inb_S64x2048_S64x128_0_1024, List.forall_mem_cons.2 ⟨dk_piece (o := 896) 7 (rawA7_inp ..) hy (fun _ => rawA7_row ..) rfl inb_S64x2048_S64x128_0_896, List.forall_mem_cons.2 ⟨dk_piece (o := 768) 6 (rawA6_inp ..) hy (fun _ => rawA6_row ..) rfl inb_S64x2048_S64x128_0_768, List.forall_mem_cons.2 ⟨dk_piece (o := 640) 5 (rawA5_inp ..) hy (fun _ => rawA5_row ..) rfl inb_S64x2048_S64x128_0_640, List.forall_mem_cons.2 ⟨dk_piece (o := 512) 4 (rawA4_inp ..) hy (fun _ => rawA4_row ..) rfl inb_S64x2048_S64x128_0_512, List.forall_mem_cons.2 ⟨dk_piece (o := 384) 3 (rawA3_inp ..) hy (fun _ => rawA3_row ..) rfl inb_S64x2048_S64x128_0_384, List.forall_mem_cons.2 ⟨dk_piece (o := 256) 2 (rawA2_inp ..) hy (fun _ => rawA2_row ..) rfl inb_S64x2048_S64x128_0_256, List.forall_mem_cons.2 ⟨dk_piece (o := 128) 1 (rawA1_inp ..) hy (fun _ => rawA1_row ..) rfl inb_S64x2048_S64x128_0_128, List.forall_mem_cons.2 ⟨dk_piece (o := 0) 0 (rawA0_inp ..) hy (fun _ => rawA0_row ..) rfl inb_S64x2048_S64x128_0_0, List.forall_mem_nil _⟩⟩⟩⟩⟩⟩⟩⟩⟩⟩⟩⟩⟩⟩⟩⟩

theorem out0_A_10_eq
    (hy : ∀ h, Good (inpOf x0 x1 x2 x3 x4 x5 x6 x7 (fun _ => 0) h)) :
    out0_A_10 c i a2 h2 a3 h3 a4 h4 a5 h5 a6 h6 a7 h7 a8 h8 a9 h9 a10 h10 a11 h11 a12 h12 a13 h13 a14 h14 a15 h15 hc0 x0 x1 x2 x3 x4 x5 x6 x7 = flat (fun h w => (inpOf x0 x1 x2 x3 x4 x5 x6 x7 (fun _ => 0) h).dv (w 0) (w 1)) := by
  funext y
  refine (congrFun (View.read_writes_eq_canon _ _ _ (cover0_A_10 c i a2 h2 a3 h3 a4 h4 a5 h5 a6 h6 a7 h7 a8 h8 a9 h9 a10 h10 a11 h11 a12 h12 a13 h13 a14 h14 a15 h15 hc0 x0 x1 x2 x3 x4 x5 x6 x7)) y).trans ?_
  rw [listA_10]
  refine View.canon_apply_of_pieces (flat (fun h w => (inpOf x0 x1 x2 x3 x4 x5 x6 x7 (fun _ => 0) h).dv (w 0) (w 1))) _ ?_ y (listA_10 c i a2 h2 a3 h3 a4 h4 a5 h5 a6 h6 a7 h7 a8 h8 a9 h9 a10 h10 a11 h11 a12 h12 a13 h13 a14 h14 a15 h15 hc0 x0 x1 x2 x3 x4 x5 x6 x7 ▸ cover0_A_10 c i a2 h2 a3 h3 a4 h4 a5 h5 a6 h6 a7 h7 a8 h8 a9 h9 a10 h10 a11 h11 a12 h12 a13 h13 a14 h14 a15 h15 hc0 x0 x1 x2 x3 x4 x5 x6 x7 y)
  exact List.forall_mem_cons.2 ⟨dv_piece (o := 1920) 15 (rawA15_inp ..) hy (fun _ => rawA15_row ..) rfl inb_S64x2048_S64x128_0_1920, List.forall_mem_cons.2 ⟨dv_piece (o := 1792) 14 (rawA14_inp ..) hy (fun _ => rawA14_row ..) rfl inb_S64x2048_S64x128_0_1792, List.forall_mem_cons.2 ⟨dv_piece (o := 1664) 13 (rawA13_inp ..) hy (fun _ => rawA13_row ..) rfl inb_S64x2048_S64x128_0_1664, List.forall_mem_cons.2 ⟨dv_piece (o := 1536) 12 (rawA12_inp ..) hy (fun _ => rawA12_row ..) rfl inb_S64x2048_S64x128_0_1536, List.forall_mem_cons.2 ⟨dv_piece (o := 1408) 11 (rawA11_inp ..) hy (fun _ => rawA11_row ..) rfl inb_S64x2048_S64x128_0_1408, List.forall_mem_cons.2 ⟨dv_piece (o := 1280) 10 (rawA10_inp ..) hy (fun _ => rawA10_row ..) rfl inb_S64x2048_S64x128_0_1280, List.forall_mem_cons.2 ⟨dv_piece (o := 1152) 9 (rawA9_inp ..) hy (fun _ => rawA9_row ..) rfl inb_S64x2048_S64x128_0_1152, List.forall_mem_cons.2 ⟨dv_piece (o := 1024) 8 (rawA8_inp ..) hy (fun _ => rawA8_row ..) rfl inb_S64x2048_S64x128_0_1024, List.forall_mem_cons.2 ⟨dv_piece (o := 896) 7 (rawA7_inp ..) hy (fun _ => rawA7_row ..) rfl inb_S64x2048_S64x128_0_896, List.forall_mem_cons.2 ⟨dv_piece (o := 768) 6 (rawA6_inp ..) hy (fun _ => rawA6_row ..) rfl inb_S64x2048_S64x128_0_768, List.forall_mem_cons.2 ⟨dv_piece (o := 640) 5 (rawA5_inp ..) hy (fun _ => rawA5_row ..) rfl inb_S64x2048_S64x128_0_640, List.forall_mem_cons.2 ⟨dv_piece (o := 512) 4 (rawA4_inp ..) hy (fun _ => rawA4_row ..) rfl inb_S64x2048_S64x128_0_512, List.forall_mem_cons.2 ⟨dv_piece (o := 384) 3 (rawA3_inp ..) hy (fun _ => rawA3_row ..) rfl inb_S64x2048_S64x128_0_384, List.forall_mem_cons.2 ⟨dv_piece (o := 256) 2 (rawA2_inp ..) hy (fun _ => rawA2_row ..) rfl inb_S64x2048_S64x128_0_256, List.forall_mem_cons.2 ⟨dv_piece (o := 128) 1 (rawA1_inp ..) hy (fun _ => rawA1_row ..) rfl inb_S64x2048_S64x128_0_128, List.forall_mem_cons.2 ⟨dv_piece (o := 0) 0 (rawA0_inp ..) hy (fun _ => rawA0_row ..) rfl inb_S64x2048_S64x128_0_0, List.forall_mem_nil _⟩⟩⟩⟩⟩⟩⟩⟩⟩⟩⟩⟩⟩⟩⟩⟩

theorem out0_A_11_eq
    (hy : ∀ h, Good (inpOf x0 x1 x2 x3 x4 x5 x6 x7 (fun _ => 0) h)) :
    out0_A_11 c i a2 h2 a3 h3 a4 h4 a5 h5 a6 h6 a7 h7 a8 h8 a9 h9 a10 h10 a11 h11 a12 h12 a13 h13 a14 h14 a15 h15 hc0 x0 x1 x2 x3 x4 x5 x6 x7 = line (fun h i => (inpOf x0 x1 x2 x3 x4 x5 x6 x7 (fun _ => 0) h).db i) := by
  funext y
  refine (congrFun (View.read_writes_eq_canon _ _ _ (cover0_A_11 c i a2 h2 a3 h3 a4 h4 a5 h5 a6 h6 a7 h7 a8 h8 a9 h9 a10 h10 a11 h11 a12 h12 a13 h13 a14 h14 a15 h15 hc0 x0 x1 x2 x3 x4 x5 x6 x7)) y).trans ?_
  rw [listA_11]
  refine View.canon_apply_of_pieces (line (fun h i => (inpOf x0 x1 x2 x3 x4 x5 x6 x7 (fun _ => 0) h).db i)) _ ?_ y (listA_11 c i a2 h2 a3 h3 a4 h4 a5 h5 a6 h6 a7 h7 a8 h8 a9 h9 a10 h10 a11 h11 a12 h12 a13 h13 a14 h14 a15 h15 hc0 x0 x1 x2 x3 x4 x5 x6 x7 ▸ cover0_A_11 c i a2 h2 a3 h3 a4 h4 a5 h5 a6 h6 a7 h7 a8 h8 a9 h9 a10 h10 a11 h11 a12 h12 a13 h13 a14 h14 a15 h15 hc0 x0 x1 x2 x3 x4 x5 x6 x7 y)
  exact List.forall_mem_cons.2 ⟨db_piece (rawsA_inp a2 h2 a3 h3 a4 h4 a5 h5 a6 h6 a7 h7 a8 h8 a9 h9 a15 x0 x1 x2 x3 x4 x5 x6 x7) hy (rawsA_row a2 h2 a3 h3 a4 h4 a5 h5 a6 h6 a7 h7 a8 h8 a9 h9 a15 x0 x1 x2 x3 x4 x5 x6 x7) inb_S16x1x1x64_S16x1x1x64_0_0_0_0, List.forall_mem_nil _⟩

theorem out0_A_12_eq
    (hy : ∀ h, Good (inpOf x0 x1 x2 x3 x4 x5 x6 x7 (fun _ => 0) h)) :
    out0_A_12 c i a2 h2 a3 h3 a4 h4 a5 h5 a6 h6 a7 h7 a8 h8 a9 h9 a10 h10 a11 h11 a12 h12 a13 h13 a14 h14 a15 h15 hc0 x0 x1 x2 x3 x4 x5 x6 x7 = line (fun h i => (inpOf x0 x1 x2 x3 x4 x5 x6 x7 (fun _ => 0) h).dg i) := by
  funext y
  refine (congrFun (View.read_writes_eq_canon _ _ _ (cover0_A_12 c i a2 h2 a3 h3 a4 h4 a5 h5 a6 h6 a7 h7 a8 h8 a9 h9 a10 h10 a11 h11 a12 h12 a13 h13 a14 h14 a15 h15 hc0 x0 x1 x2 x3 x4 x5 x6 x7)) y).trans ?_
  rw [listA_12]
  refine View.canon_apply_of_pieces (line (fun h i => (inpOf x0 x1 x2 x3 x4 x5 x6 x7 (fun _ => 0) h).dg i)) _ ?_ y (listA_12 c i a2 h2 a3 h3 a4 h4 a5 h5 a6 h6 a7 h7 a8 h8 a9 h9 a10 h10 a11 h11 a12 h12 a13 h13 a14 h14 a15 h15 hc0 x0 x1 x2 x3 x4 x5 x6 x7 ▸ cover0_A_12 c i a2 h2 a3 h3 a4 h4 a5 h5 a6 h6 a7 h7 a8 h8 a9 h9 a10 h10 a11 h11 a12 h12 a13 h13 a14 h14 a15 h15 hc0 x0 x1 x2 x3 x4 x5 x6 x7 y)
  exact List.forall_mem_cons.2 ⟨dg_piece (rawsA_inp a2 h2 a3 h3 a4 h4 a5 h5 a6 h6 a7 h7 a8 h8 a9 h9 a15 x0 x1 x2 x3 x4 x5 x6 x7) hy (rawsA_row a2 h2 a3 h3 a4 h4 a5 h5 a6 h6 a7 h7 a8 h8 a9 h9 a15 x0 x1 x2 x3 x4 x5 x6 x7) inb_S16x1x1x64_S16x1x1x64_0_0_0_0, List.forall_mem_nil _⟩

theorem sout0_A_0_eq
    (hy : ∀ h, Good (inpOf x0 x1 x2 x3 x4 x5 x6 x7 (fun _ => 0) h)) :
    sout0_A_0 c i a2 h2 a3 h3 a4 h4 a5 h5 a6 h6 a7 h7 a8 h8 a9 h9 a10 h10 a11 h11 a12 h12 a13 h13 a14 h14 a15 h15 hc0 x0 x1 x2 x3 x4 x5 x6 x7 = deep (fun h w => (inpOf x0 x1 x2 x3 x4 x5 x6 x7 (fun _ => 0) h).dS (w 0) (w 1)) := by
  funext y
  refine (congrFun (View.read_writes_eq_canon _ _ _ (scover0_A_0 c i a2 h2 a3 h3 a4 h4 a5 h5 a6 h6 a7 h7 a8 h8 a9 h9 a10 h10 a11 h11 a12 h12 a13 h13 a14 h14 a15 h15 hc0 x0 x1 x2 x3 x4 x5 x6 x7)) y).trans ?_
  rw [listA_15]
  refine canon_append (Val := Elt Ideal) (S := S16x128x128) (e := .f32) (deep (fun h w => (inpOf x0 x1 x2 x3 x4 x5 x6 x7 (fun _ => 0) h).dS (w 0) (w 1))) _ _ ?_ y (View.cover_of_tiledL (s := S16x128x128) _ S1x128x128.size (by sl_kernel_rfl) y)
  exact List.forall_mem_cons.2 ⟨dS_piece (o := 15) 15 (rawA15_inp ..) hy (fun _ => rawA15_row ..) rfl inb_S16x128x128_S1x128x128_15_0_0, List.forall_mem_cons.2 ⟨dS_piece (o := 14) 14 (rawA14_inp ..) hy (fun _ => rawA14_row ..) rfl inb_S16x128x128_S1x128x128_14_0_0, List.forall_mem_cons.2 ⟨dS_piece (o := 13) 13 (rawA13_inp ..) hy (fun _ => rawA13_row ..) rfl inb_S16x128x128_S1x128x128_13_0_0, List.forall_mem_cons.2 ⟨dS_piece (o := 12) 12 (rawA12_inp ..) hy (fun _ => rawA12_row ..) rfl inb_S16x128x128_S1x128x128_12_0_0, List.forall_mem_cons.2 ⟨dS_piece (o := 11) 11 (rawA11_inp ..) hy (fun _ => rawA11_row ..) rfl inb_S16x128x128_S1x128x128_11_0_0, List.forall_mem_cons.2 ⟨dS_piece (o := 10) 10 (rawA10_inp ..) hy (fun _ => rawA10_row ..) rfl inb_S16x128x128_S1x128x128_10_0_0, List.forall_mem_cons.2 ⟨dS_piece (o := 9) 9 (rawA9_inp ..) hy (fun _ => rawA9_row ..) rfl inb_S16x128x128_S1x128x128_9_0_0, List.forall_mem_cons.2 ⟨dS_piece (o := 8) 8 (rawA8_inp ..) hy (fun _ => rawA8_row ..) rfl inb_S16x128x128_S1x128x128_8_0_0, List.forall_mem_cons.2 ⟨dS_piece (o := 7) 7 (rawA7_inp ..) hy (fun _ => rawA7_row ..) rfl inb_S16x128x128_S1x128x128_7_0_0, List.forall_mem_cons.2 ⟨dS_piece (o := 6) 6 (rawA6_inp ..) hy (fun _ => rawA6_row ..) rfl inb_S16x128x128_S1x128x128_6_0_0, List.forall_mem_cons.2 ⟨dS_piece (o := 5) 5 (rawA5_inp ..) hy (fun _ => rawA5_row ..) rfl inb_S16x128x128_S1x128x128_5_0_0, List.forall_mem_cons.2 ⟨dS_piece (o := 4) 4 (rawA4_inp ..) hy (fun _ => rawA4_row ..) rfl inb_S16x128x128_S1x128x128_4_0_0, List.forall_mem_cons.2 ⟨dS_piece (o := 3) 3 (rawA3_inp ..) hy (fun _ => rawA3_row ..) rfl inb_S16x128x128_S1x128x128_3_0_0, List.forall_mem_cons.2 ⟨dS_piece (o := 2) 2 (rawA2_inp ..) hy (fun _ => rawA2_row ..) rfl inb_S16x128x128_S1x128x128_2_0_0, List.forall_mem_cons.2 ⟨dS_piece (o := 1) 1 (rawA1_inp ..) hy (fun _ => rawA1_row ..) rfl inb_S16x128x128_S1x128x128_1_0_0, List.forall_mem_cons.2 ⟨dS_piece (o := 0) 0 (rawA0_inp ..) hy (fun _ => rawA0_row ..) rfl inb_S16x128x128_S1x128x128_0_0_0, List.forall_mem_nil _⟩⟩⟩⟩⟩⟩⟩⟩⟩⟩⟩⟩⟩⟩⟩⟩

end Values

end Cert.Proof.Delta

end
-- ==== Proof.PointB.lean ====
/-
  A later grid point: what the kernel's stores hold, head by head.
-/
module

public import proofs.«01_k».proof.Proof.Lay

@[expose] public section

noncomputable section

open Idealize.ShloMosaic Idealize.ShloMosaic.TcCoe Cert.KernelIdeal Cert.KernelIdeal.Gen

namespace Cert.Proof.Delta

variable {F : FTy → Type} [FloatOps F]

section Stores

variable
  (c : Dev nD) (i : grid0.Coords)
  (a2 : Memref sig .tc .vmem S64x1024 .bf16) (h2 : a2.IsWhole)
  (a3 : Memref sig .tc .vmem S64x1024 .bf16) (h3 : a3.IsWhole)
  (a4 : Memref sig .tc .vmem S64x2048 .f32) (h4 : a4.IsWhole)
  (a5 : Memref sig .tc .vmem S16x1x1x64 .f32) (h5 : a5.IsWhole)
  (a6 : Memref sig .tc .vmem S16x1x1x64 .f32) (h6 : a6.IsWhole)
  (a7 : Memref sig .tc .vmem S16x1x128x128 .f32) (h7 : a7.IsWhole)
  (a8 : Memref sig .tc .vmem S16x1x64x64 .f32) (h8 : a8.IsWhole)
  (a9 : Memref sig .tc .vmem S64x2048 .f32) (h9 : a9.IsWhole)
  (a10 : Memref sig .tc .vmem S64x2048 .bf16) (h10 : a10.IsWhole)
  (a11 : Memref sig .tc .vmem S64x2048 .bf16) (h11 : a11.IsWhole)
  (a12 : Memref sig .tc .vmem S64x2048 .bf16) (h12 : a12.IsWhole)
  (a13 : Memref sig .tc .vmem S16x1x1x64 .f32) (h13 : a13.IsWhole)
  (a14 : Memref sig .tc .vmem S16x1x1x64 .f32) (h14 : a14.IsWhole)
  (a15 : Memref sig .tc .vmem S16x128x128 .f32) (h15 : a15.IsWhole)
  (hc0 : ¬ cond0_0 i)
  (x0 : Vec F S64x1024 .bf16) (x1 : Vec F S64x1024 .bf16) (x2 : Vec F S64x2048 .f32) (x3 : Vec F S16x1x1x64 .f32) (x4 : Vec F S16x1x1x64 .f32) (x5 : Vec F S16x1x128x128 .f32) (x6 : Vec F S16x1x64x64 .f32) (x7 : Vec F S64x2048 .f32) (xs0 : Vec F S16x128x128 .f32)

/-- What head 0 loads. -/
def rawB0 : Raw F where
  q := View.readAt (Elt F) a2.view (Rect.unit (s := S64x1024) ![0, 0] S64x128.size inb_S64x1024_S64x128_0_0).toLoadRect (h2.unread x0)
  k := View.readAt (Elt F) a3.view (Rect.unit (s := S64x1024) ![0, 0] S64x128.size inb_S64x1024_S64x128_0_0).toLoadRect (h3.unread x1)
  v := View.readAt (Elt F) a4.view (Rect.unit (s := S64x2048) ![0, 0] S64x128.size inb_S64x2048_S64x128_0_0).toLoadRect (h4.unread x2)
  d := View.readAt (Elt F) a9.view (Rect.unit (s := S64x2048) ![0, 0] S64x128.size inb_S64x2048_S64x128_0_0).toLoadRect (h9.unread x7)
  b := extractStridedSlice S64x1 ![0, 0] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_0_S64x1
  g := extractStridedSlice S64x1 ![0, 0] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_0_S64x1
  gr := extractStridedSlice S1x64 ![0, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o0_0_S1x64
  s := shapeCast S128x128 (View.readAt (Elt F) a7.view (Rect.unit (s := S16x1x128x128) ![0, 0, 0, 0] S1x1x128x128.size inb_S16x1x128x128_S1x1x128x128_0_0_0_0).toLoadRect (h7.unread x5)) shapeCasts_S1x1x128x128_S128x128
  t := shapeCast S64x64 (View.readAt (Elt F) a8.view (Rect.unit (s := S16x1x64x64) ![0, 0, 0, 0] S1x1x64x64.size inb_S16x1x64x64_S1x1x64x64_0_0_0_0).toLoadRect (h8.unread x6)) shapeCasts_S1x1x64x64_S64x64
  ds := View.readAt (Elt F) a15.view (Rect.unit (s := S16x128x128) ![0, 0, 0] S1x128x128.size inb_S16x128x128_S1x128x128_0_0_0).toLoadRect (h15.unread xs0)

/-- What head 1 loads. -/
def rawB1 : Raw F where
  q := View.readAt (Elt F) a2.view (Rect.unit (s := S64x1024) ![0, 0] S64x128.size inb_S64x1024_S64x128_0_0).toLoadRect (h2.unread x0)
  k := View.readAt (Elt F) a3.view (Rect.unit (s := S64x1024) ![0, 0] S64x128.size inb_S64x1024_S64x128_0_0).toLoadRect (h3.unread x1)
  v := View.readAt (Elt F) a4.view (Rect.unit (s := S64x2048) ![0, 128] S64x128.size inb_S64x2048_S64x128_0_128).toLoadRect (h4.unread x2)
  d := View.readAt (Elt F) a9.view (Rect.unit (s := S64x2048) ![0, 128] S64x128.size inb_S64x2048_S64x128_0_128).toLoadRect (h9.unread x7)
  b := extractStridedSlice S64x1 ![0, 1] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_1_S64x1
  g := extractStridedSlice S64x1 ![0, 1] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_1_S64x1
  gr := extractStridedSlice S1x64 ![1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o1_0_S1x64
  s := shapeCast S128x128 (View.readAt (Elt F) a7.view (Rect.unit (s := S16x1x128x128) ![1, 0, 0, 0] S1x1x128x128.size inb_S16x1x128x128_S1x1x128x128_1_0_0_0).toLoadRect (h7.unread x5)) shapeCasts_S1x1x128x128_S128x128
  t := shapeCast S64x64 (View.readAt (Elt F) a8.view (Rect.unit (s := S16x1x64x64) ![1, 0, 0, 0] S1x1x64x64.size inb_S16x1x64x64_S1x1x64x64_1_0_0_0).toLoadRect (h8.unread x6)) shapeCasts_S1x1x64x64_S64x64
  ds := View.readAt (Elt F) a15.view (Rect.unit (s := S16x128x128) ![1, 0, 0] S1x128x128.size inb_S16x128x128_S1x128x128_1_0_0).toLoadRect (h15.unread xs0)

/-- What head 2 loads. -/
def rawB2 : Raw F where
  q := View.readAt (Elt F) a2.view (Rect.unit (s := S64x1024) ![0, 128] S64x128.size inb_S64x1024_S64x128_0_128).toLoadRect (h2.unread x0)
  k := View.readAt (Elt F) a3.view (Rect.unit (s := S64x1024) ![0, 128] S64x128.size inb_S64x1024_S64x128_0_128).toLoadRect (h3.unread x1)
  v := View.readAt (Elt F) a4.view (Rect.unit (s := S64x2048) ![0, 256] S64x128.size inb_S64x2048_S64x128_0_256).toLoadRect (h4.unread x2)
  d := View.readAt (Elt F) a9.view (Rect.unit (s := S64x2048) ![0, 256] S64x128.size inb_S64x2048_S64x128_0_256).toLoadRect (h9.unread x7)
  b := extractStridedSlice S64x1 ![0, 2] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_2_S64x1
  g := extractStridedSlice S64x1 ![0, 2] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_2_S64x1
  gr := extractStridedSlice S1x64 ![2, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o2_0_S1x64
  s := shapeCast S128x128 (View.readAt (Elt F) a7.view (Rect.unit (s := S16x1x128x128) ![2, 0, 0, 0] S1x1x128x128.size inb_S16x1x128x128_S1x1x128x128_2_0_0_0).toLoadRect (h7.unread x5)) shapeCasts_S1x1x128x128_S128x128
  t := shapeCast S64x64 (View.readAt (Elt F) a8.view (Rect.unit (s := S16x1x64x64) ![2, 0, 0, 0] S1x1x64x64.size inb_S16x1x64x64_S1x1x64x64_2_0_0_0).toLoadRect (h8.unread x6)) shapeCasts_S1x1x64x64_S64x64
  ds := View.readAt (Elt F) a15.view (Rect.unit (s := S16x128x128) ![2, 0, 0] S1x128x128.size inb_S16x128x128_S1x128x128_2_0_0).toLoadRect (h15.unread xs0)

/-- What head 3 loads. -/
def rawB3 : Raw F where
  q := View.readAt (Elt F) a2.view (Rect.unit (s := S64x1024) ![0, 128] S64x128.size inb_S64x1024_S64x128_0_128).toLoadRect (h2.unread x0)
  k := View.readAt (Elt F) a3.view (Rect.unit (s := S64x1024) ![0, 128] S64x128.size inb_S64x1024_S64x128_0_128).toLoadRect (h3.unread x1)
  v := View.readAt (Elt F) a4.view (Rect.unit (s := S64x2048) ![0, 384] S64x128.size inb_S64x2048_S64x128_0_384).toLoadRect (h4.unread x2)
  d := View.readAt (Elt F) a9.view (Rect.unit (s := S64x2048) ![0, 384] S64x128.size inb_S64x2048_S64x128_0_384).toLoadRect (h9.unread x7)
  b := extractStridedSlice S64x1 ![0, 3] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_3_S64x1
  g := extractStridedSlice S64x1 ![0, 3] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_3_S64x1
  gr := extractStridedSlice S1x64 ![3, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o3_0_S1x64
  s := shapeCast S128x128 (View.readAt (Elt F) a7.view (Rect.unit (s := S16x1x128x128) ![3, 0, 0, 0] S1x1x128x128.size inb_S16x1x128x128_S1x1x128x128_3_0_0_0).toLoadRect (h7.unread x5)) shapeCasts_S1x1x128x128_S128x128
  t := shapeCast S64x64 (View.readAt (Elt F) a8.view (Rect.unit (s := S16x1x64x64) ![3, 0, 0, 0] S1x1x64x64.size inb_S16x1x64x64_S1x1x64x64_3_0_0_0).toLoadRect (h8.unread x6)) shapeCasts_S1x1x64x64_S64x64
  ds := View.readAt (Elt F) a15.view (Rect.unit (s := S16x128x128) ![3, 0, 0] S1x128x128.size inb_S16x128x128_S1x128x128_3_0_0).toLoadRect (h15.unread xs0)

/-- What head 4 loads. -/
def rawB4 : Raw F where
  q := View.readAt (Elt F) a2.view (Rect.unit (s := S64x1024) ![0, 256] S64x128.size inb_S64x1024_S64x128_0_256).toLoadRect (h2.unread x0)
  k := View.readAt (Elt F) a3.view (Rect.unit (s := S64x1024) ![0, 256] S64x128.size inb_S64x1024_S64x128_0_256).toLoadRect (h3.unread x1)
  v := View.readAt (Elt F) a4.view (Rect.unit (s := S64x2048) ![0, 512] S64x128.size inb_S64x2048_S64x128_0_512).toLoadRect (h4.unread x2)
  d := View.readAt (Elt F) a9.view (Rect.unit (s := S64x2048) ![0, 512] S64x128.size inb_S64x2048_S64x128_0_512).toLoadRect (h9.unread x7)
  b := extractStridedSlice S64x1 ![0, 4] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_4_S64x1
  g := extractStridedSlice S64x1 ![0, 4] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_4_S64x1
  gr := extractStridedSlice S1x64 ![4, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o4_0_S1x64
  s := shapeCast S128x128 (View.readAt (Elt F) a7.view (Rect.unit (s := S16x1x128x128) ![4, 0, 0, 0] S1x1x128x128.size inb_S16x1x128x128_S1x1x128x128_4_0_0_0).toLoadRect (h7.unread x5)) shapeCasts_S1x1x128x128_S128x128
  t := shapeCast S64x64 (View.readAt (Elt F) a8.view (Rect.unit (s := S16x1x64x64) ![4, 0, 0, 0] S1x1x64x64.size inb_S16x1x64x64_S1x1x64x64_4_0_0_0).toLoadRect (h8.unread x6)) shapeCasts_S1x1x64x64_S64x64
  ds := View.readAt (Elt F) a15.view (Rect.unit (s := S16x128x128) ![4, 0, 0] S1x128x128.size inb_S16x128x128_S1x128x128_4_0_0).toLoadRect (h15.unread xs0)

/-- What head 5 loads. -/
def rawB5 : Raw F where
  q := View.readAt (Elt F) a2.view (Rect.unit (s := S64x1024) ![0, 256] S64x128.size inb_S64x1024_S64x128_0_256).toLoadRect (h2.unread x0)
  k := View.readAt (Elt F) a3.view (Rect.unit (s := S64x1024) ![0, 256] S64x128.size inb_S64x1024_S64x128_0_256).toLoadRect (h3.unread x1)
  v := View.readAt (Elt F) a4.view (Rect.unit (s := S64x2048) ![0, 640] S64x128.size inb_S64x2048_S64x128_0_640).toLoadRect (h4.unread x2)
  d := View.readAt (Elt F) a9.view (Rect.unit (s := S64x2048) ![0, 640] S64x128.size inb_S64x2048_S64x128_0_640).toLoadRect (h9.unread x7)
  b := extractStridedSlice S64x1 ![0, 5] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_5_S64x1
  g := extractStridedSlice S64x1 ![0, 5] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_5_S64x1
  gr := extractStridedSlice S1x64 ![5, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o5_0_S1x64
  s := shapeCast S128x128 (View.readAt (Elt F) a7.view (Rect.unit (s := S16x1x128x128) ![5, 0, 0, 0] S1x1x128x128.size inb_S16x1x128x128_S1x1x128x128_5_0_0_0).toLoadRect (h7.unread x5)) shapeCasts_S1x1x128x128_S128x128
  t := shapeCast S64x64 (View.readAt (Elt F) a8.view (Rect.unit (s := S16x1x64x64) ![5, 0, 0, 0] S1x1x64x64.size inb_S16x1x64x64_S1x1x64x64_5_0_0_0).toLoadRect (h8.unread x6)) shapeCasts_S1x1x64x64_S64x64
  ds := View.readAt (Elt F) a15.view (Rect.unit (s := S16x128x128) ![5, 0, 0] S1x128x128.size inb_S16x128x128_S1x128x128_5_0_0).toLoadRect (h15.unread xs0)

/-- What head 6 loads. -/
def rawB6 : Raw F where
  q := View.readAt (Elt F) a2.view (Rect.unit (s := S64x1024) ![0, 384] S64x128.size inb_S64x1024_S64x128_0_384).toLoadRect (h2.unread x0)
  k := View.readAt (Elt F) a3.view (Rect.unit (s := S64x1024) ![0, 384] S64x128.size inb_S64x1024_S64x128_0_384).toLoadRect (h3.unread x1)
  v := View.readAt (Elt F) a4.view (Rect.unit (s := S64x2048) ![0, 768] S64x128.size inb_S64x2048_S64x128_0_768).toLoadRect (h4.unread x2)
  d := View.readAt (Elt F) a9.view (Rect.unit (s := S64x2048) ![0, 768] S64x128.size inb_S64x2048_S64x128_0_768).toLoadRect (h9.unread x7)
  b := extractStridedSlice S64x1 ![0, 6] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_6_S64x1
  g := extractStridedSlice S64x1 ![0, 6] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_6_S64x1
  gr := extractStridedSlice S1x64 ![6, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o6_0_S1x64
  s := shapeCast S128x128 (View.readAt (Elt F) a7.view (Rect.unit (s := S16x1x128x128) ![6, 0, 0, 0] S1x1x128x128.size inb_S16x1x128x128_S1x1x128x128_6_0_0_0).toLoadRect (h7.unread x5)) shapeCasts_S1x1x128x128_S128x128
  t := shapeCast S64x64 (View.readAt (Elt F) a8.view (Rect.unit (s := S16x1x64x64) ![6, 0, 0, 0] S1x1x64x64.size inb_S16x1x64x64_S1x1x64x64_6_0_0_0).toLoadRect (h8.unread x6)) shapeCasts_S1x1x64x64_S64x64
  ds := View.readAt (Elt F) a15.view (Rect.unit (s := S16x128x128) ![6, 0, 0] S1x128x128.size inb_S16x128x128_S1x128x128_6_0_0).toLoadRect (h15.unread xs0)

/-- What head 7 loads. -/
def rawB7 : Raw F where
  q := View.readAt (Elt F) a2.view (Rect.unit (s := S64x1024) ![0, 384] S64x128.size inb_S64x1024_S64x128_0_384).toLoadRect (h2.unread x0)
  k := View.readAt (Elt F) a3.view (Rect.unit (s := S64x1024) ![0, 384] S64x128.size inb_S64x1024_S64x128_0_384).toLoadRect (h3.unread x1)
  v := View.readAt (Elt F) a4.view (Rect.unit (s := S64x2048) ![0, 896] S64x128.size inb_S64x2048_S64x128_0_896).toLoadRect (h4.unread x2)
  d := View.readAt (Elt F) a9.view (Rect.unit (s := S64x2048) ![0, 896] S64x128.size inb_S64x2048_S64x128_0_896).toLoadRect (h9.unread x7)
  b := extractStridedSlice S64x1 ![0, 7] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_7_S64x1
  g := extractStridedSlice S64x1 ![0, 7] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_7_S64x1
  gr := extractStridedSlice S1x64 ![7, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o7_0_S1x64
  s := shapeCast S128x128 (View.readAt (Elt F) a7.view (Rect.unit (s := S16x1x128x128) ![7, 0, 0, 0] S1x1x128x128.size inb_S16x1x128x128_S1x1x128x128_7_0_0_0).toLoadRect (h7.unread x5)) shapeCasts_S1x1x128x128_S128x128
  t := shapeCast S64x64 (View.readAt (Elt F) a8.view (Rect.unit (s := S16x1x64x64) ![7, 0, 0, 0] S1x1x64x64.size inb_S16x1x64x64_S1x1x64x64_7_0_0_0).toLoadRect (h8.unread x6)) shapeCasts_S1x1x64x64_S64x64
  ds := View.readAt (Elt F) a15.view (Rect.unit (s := S16x128x128) ![7, 0, 0] S1x128x128.size inb_S16x128x128_S1x128x128_7_0_0).toLoadRect (h15.unread xs0)

/-- What head 8 loads. -/
def rawB8 : Raw F where
  q := View.readAt (Elt F) a2.view (Rect.unit (s := S64x1024) ![0, 512] S64x128.size inb_S64x1024_S64x128_0_512).toLoadRect (h2.unread x0)
  k := View.readAt (Elt F) a3.view (Rect.unit (s := S64x1024) ![0, 512] S64x128.size inb_S64x1024_S64x128_0_512).toLoadRect (h3.unread x1)
  v := View.readAt (Elt F) a4.view (Rect.unit (s := S64x2048) ![0, 1024] S64x128.size inb_S64x2048_S64x128_0_1024).toLoadRect (h4.unread x2)
  d := View.readAt (Elt F) a9.view (Rect.unit (s := S64x2048) ![0, 1024] S64x128.size inb_S64x2048_S64x128_0_1024).toLoadRect (h9.unread x7)
  b := extractStridedSlice S64x1 ![0, 8] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_8_S64x1
  g := extractStridedSlice S64x1 ![0, 8] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_8_S64x1
  gr := extractStridedSlice S1x64 ![8, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o8_0_S1x64
  s := shapeCast S128x128 (View.readAt (Elt F) a7.view (Rect.unit (s := S16x1x128x128) ![8, 0, 0, 0] S1x1x128x128.size inb_S16x1x128x128_S1x1x128x128_8_0_0_0).toLoadRect (h7.unread x5)) shapeCasts_S1x1x128x128_S128x128
  t := shapeCast S64x64 (View.readAt (Elt F) a8.view (Rect.unit (s := S16x1x64x64) ![8, 0, 0, 0] S1x1x64x64.size inb_S16x1x64x64_S1x1x64x64_8_0_0_0).toLoadRect (h8.unread x6)) shapeCasts_S1x1x64x64_S64x64
  ds := View.readAt (Elt F) a15.view (Rect.unit (s := S16x128x128) ![8, 0, 0] S1x128x128.size inb_S16x128x128_S1x128x128_8_0_0).toLoadRect (h15.unread xs0)

/-- What head 9 loads. -/
def rawB9 : Raw F where
  q := View.readAt (Elt F) a2.view (Rect.unit (s := S64x1024) ![0, 512] S64x128.size inb_S64x1024_S64x128_0_512).toLoadRect (h2.unread x0)
  k := View.readAt (Elt F) a3.view (Rect.unit (s := S64x1024) ![0, 512] S64x128.size inb_S64x1024_S64x128_0_512).toLoadRect (h3.unread x1)
  v := View.readAt (Elt F) a4.view (Rect.unit (s := S64x2048) ![0, 1152] S64x128.size inb_S64x2048_S64x128_0_1152).toLoadRect (h4.unread x2)
  d := View.readAt (Elt F) a9.view (Rect.unit (s := S64x2048) ![0, 1152] S64x128.size inb_S64x2048_S64x128_0_1152).toLoadRect (h9.unread x7)
  b := extractStridedSlice S64x1 ![0, 9] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_9_S64x1
  g := extractStridedSlice S64x1 ![0, 9] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_9_S64x1
  gr := extractStridedSlice S1x64 ![9, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o9_0_S1x64
  s := shapeCast S128x128 (View.readAt (Elt F) a7.view (Rect.unit (s := S16x1x128x128) ![9, 0, 0, 0] S1x1x128x128.size inb_S16x1x128x128_S1x1x128x128_9_0_0_0).toLoadRect (h7.unread x5)) shapeCasts_S1x1x128x128_S128x128
  t := shapeCast S64x64 (View.readAt (Elt F) a8.view (Rect.unit (s := S16x1x64x64) ![9, 0, 0, 0] S1x1x64x64.size inb_S16x1x64x64_S1x1x64x64_9_0_0_0).toLoadRect (h8.unread x6)) shapeCasts_S1x1x64x64_S64x64
  ds := View.readAt (Elt F) a15.view (Rect.unit (s := S16x128x128) ![9, 0, 0] S1x128x128.size inb_S16x128x128_S1x128x128_9_0_0).toLoadRect (h15.unread xs0)

/-- What head 10 loads. -/
def rawB10 : Raw F where
  q := View.readAt (Elt F) a2.view (Rect.unit (s := S64x1024) ![0, 640] S64x128.size inb_S64x1024_S64x128_0_640).toLoadRect (h2.unread x0)
  k := View.readAt (Elt F) a3.view (Rect.unit (s := S64x1024) ![0, 640] S64x128.size inb_S64x1024_S64x128_0_640).toLoadRect (h3.unread x1)
  v := View.readAt (Elt F) a4.view (Rect.unit (s := S64x2048) ![0, 1280] S64x128.size inb_S64x2048_S64x128_0_1280).toLoadRect (h4.unread x2)
  d := View.readAt (Elt F) a9.view (Rect.unit (s := S64x2048) ![0, 1280] S64x128.size inb_S64x2048_S64x128_0_1280).toLoadRect (h9.unread x7)
  b := extractStridedSlice S64x1 ![0, 10] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_10_S64x1
  g := extractStridedSlice S64x1 ![0, 10] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_10_S64x1
  gr := extractStridedSlice S1x64 ![10, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o10_0_S1x64
  s := shapeCast S128x128 (View.readAt (Elt F) a7.view (Rect.unit (s := S16x1x128x128) ![10, 0, 0, 0] S1x1x128x128.size inb_S16x1x128x128_S1x1x128x128_10_0_0_0).toLoadRect (h7.unread x5)) shapeCasts_S1x1x128x128_S128x128
  t := shapeCast S64x64 (View.readAt (Elt F) a8.view (Rect.unit (s := S16x1x64x64) ![10, 0, 0, 0] S1x1x64x64.size inb_S16x1x64x64_S1x1x64x64_10_0_0_0).toLoadRect (h8.unread x6)) shapeCasts_S1x1x64x64_S64x64
  ds := View.readAt (Elt F) a15.view (Rect.unit (s := S16x128x128) ![10, 0, 0] S1x128x128.size inb_S16x128x128_S1x128x128_10_0_0).toLoadRect (h15.unread xs0)

/-- What head 11 loads. -/
def rawB11 : Raw F where
  q := View.readAt (Elt F) a2.view (Rect.unit (s := S64x1024) ![0, 640] S64x128.size inb_S64x1024_S64x128_0_640).toLoadRect (h2.unread x0)
  k := View.readAt (Elt F) a3.view (Rect.unit (s := S64x1024) ![0, 640] S64x128.size inb_S64x1024_S64x128_0_640).toLoadRect (h3.unread x1)
  v := View.readAt (Elt F) a4.view (Rect.unit (s := S64x2048) ![0, 1408] S64x128.size inb_S64x2048_S64x128_0_1408).toLoadRect (h4.unread x2)
  d := View.readAt (Elt F) a9.view (Rect.unit (s := S64x2048) ![0, 1408] S64x128.size inb_S64x2048_S64x128_0_1408).toLoadRect (h9.unread x7)
  b := extractStridedSlice S64x1 ![0, 11] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_11_S64x1
  g := extractStridedSlice S64x1 ![0, 11] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_11_S64x1
  gr := extractStridedSlice S1x64 ![11, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o11_0_S1x64
  s := shapeCast S128x128 (View.readAt (Elt F) a7.view (Rect.unit (s := S16x1x128x128) ![11, 0, 0, 0] S1x1x128x128.size inb_S16x1x128x128_S1x1x128x128_11_0_0_0).toLoadRect (h7.unread x5)) shapeCasts_S1x1x128x128_S128x128
  t := shapeCast S64x64 (View.readAt (Elt F) a8.view (Rect.unit (s := S16x1x64x64) ![11, 0, 0, 0] S1x1x64x64.size inb_S16x1x64x64_S1x1x64x64_11_0_0_0).toLoadRect (h8.unread x6)) shapeCasts_S1x1x64x64_S64x64
  ds := View.readAt (Elt F) a15.view (Rect.unit (s := S16x128x128) ![11, 0, 0] S1x128x128.size inb_S16x128x128_S1x128x128_11_0_0).toLoadRect (h15.unread xs0)

/-- What head 12 loads. -/
def rawB12 : Raw F where
  q := View.readAt (Elt F) a2.view (Rect.unit (s := S64x1024) ![0, 768] S64x128.size inb_S64x1024_S64x128_0_768).toLoadRect (h2.unread x0)
  k := View.readAt (Elt F) a3.view (Rect.unit (s := S64x1024) ![0, 768] S64x128.size inb_S64x1024_S64x128_0_768).toLoadRect (h3.unread x1)
  v := View.readAt (Elt F) a4.view (Rect.unit (s := S64x2048) ![0, 1536] S64x128.size inb_S64x2048_S64x128_0_1536).toLoadRect (h4.unread x2)
  d := View.readAt (Elt F) a9.view (Rect.unit (s := S64x2048) ![0, 1536] S64x128.size inb_S64x2048_S64x128_0_1536).toLoadRect (h9.unread x7)
  b := extractStridedSlice S64x1 ![0, 12] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_12_S64x1
  g := extractStridedSlice S64x1 ![0, 12] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_12_S64x1
  gr := extractStridedSlice S1x64 ![12, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o12_0_S1x64
  s := shapeCast S128x128 (View.readAt (Elt F) a7.view (Rect.unit (s := S16x1x128x128) ![12, 0, 0, 0] S1x1x128x128.size inb_S16x1x128x128_S1x1x128x128_12_0_0_0).toLoadRect (h7.unread x5)) shapeCasts_S1x1x128x128_S128x128
  t := shapeCast S64x64 (View.readAt (Elt F) a8.view (Rect.unit (s := S16x1x64x64) ![12, 0, 0, 0] S1x1x64x64.size inb_S16x1x64x64_S1x1x64x64_12_0_0_0).toLoadRect (h8.unread x6)) shapeCasts_S1x1x64x64_S64x64
  ds := View.readAt (Elt F) a15.view (Rect.unit (s := S16x128x128) ![12, 0, 0] S1x128x128.size inb_S16x128x128_S1x128x128_12_0_0).toLoadRect (h15.unread xs0)

/-- What head 13 loads. -/
def rawB13 : Raw F where
  q := View.readAt (Elt F) a2.view (Rect.unit (s := S64x1024) ![0, 768] S64x128.size inb_S64x1024_S64x128_0_768).toLoadRect (h2.unread x0)
  k := View.readAt (Elt F) a3.view (Rect.unit (s := S64x1024) ![0, 768] S64x128.size inb_S64x1024_S64x128_0_768).toLoadRect (h3.unread x1)
  v := View.readAt (Elt F) a4.view (Rect.unit (s := S64x2048) ![0, 1664] S64x128.size inb_S64x2048_S64x128_0_1664).toLoadRect (h4.unread x2)
  d := View.readAt (Elt F) a9.view (Rect.unit (s := S64x2048) ![0, 1664] S64x128.size inb_S64x2048_S64x128_0_1664).toLoadRect (h9.unread x7)
  b := extractStridedSlice S64x1 ![0, 13] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_13_S64x1
  g := extractStridedSlice S64x1 ![0, 13] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_13_S64x1
  gr := extractStridedSlice S1x64 ![13, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o13_0_S1x64
  s := shapeCast S128x128 (View.readAt (Elt F) a7.view (Rect.unit (s := S16x1x128x128) ![13, 0, 0, 0] S1x1x128x128.size inb_S16x1x128x128_S1x1x128x128_13_0_0_0).toLoadRect (h7.unread x5)) shapeCasts_S1x1x128x128_S128x128
  t := shapeCast S64x64 (View.readAt (Elt F) a8.view (Rect.unit (s := S16x1x64x64) ![13, 0, 0, 0] S1x1x64x64.size inb_S16x1x64x64_S1x1x64x64_13_0_0_0).toLoadRect (h8.unread x6)) shapeCasts_S1x1x64x64_S64x64
  ds := View.readAt (Elt F) a15.view (Rect.unit (s := S16x128x128) ![13, 0, 0] S1x128x128.size inb_S16x128x128_S1x128x128_13_0_0).toLoadRect (h15.unread xs0)

/-- What head 14 loads. -/
def rawB14 : Raw F where
  q := View.readAt (Elt F) a2.view (Rect.unit (s := S64x1024) ![0, 896] S64x128.size inb_S64x1024_S64x128_0_896).toLoadRect (h2.unread x0)
  k := View.readAt (Elt F) a3.view (Rect.unit (s := S64x1024) ![0, 896] S64x128.size inb_S64x1024_S64x128_0_896).toLoadRect (h3.unread x1)
  v := View.readAt (Elt F) a4.view (Rect.unit (s := S64x2048) ![0, 1792] S64x128.size inb_S64x2048_S64x128_0_1792).toLoadRect (h4.unread x2)
  d := View.readAt (Elt F) a9.view (Rect.unit (s := S64x2048) ![0, 1792] S64x128.size inb_S64x2048_S64x128_0_1792).toLoadRect (h9.unread x7)
  b := extractStridedSlice S64x1 ![0, 14] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_14_S64x1
  g := extractStridedSlice S64x1 ![0, 14] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_14_S64x1
  gr := extractStridedSlice S1x64 ![14, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o14_0_S1x64
  s := shapeCast S128x128 (View.readAt (Elt F) a7.view (Rect.unit (s := S16x1x128x128) ![14, 0, 0, 0] S1x1x128x128.size inb_S16x1x128x128_S1x1x128x128_14_0_0_0).toLoadRect (h7.unread x5)) shapeCasts_S1x1x128x128_S128x128
  t := shapeCast S64x64 (View.readAt (Elt F) a8.view (Rect.unit (s := S16x1x64x64) ![14, 0, 0, 0] S1x1x64x64.size inb_S16x1x64x64_S1x1x64x64_14_0_0_0).toLoadRect (h8.unread x6)) shapeCasts_S1x1x64x64_S64x64
  ds := View.readAt (Elt F) a15.view (Rect.unit (s := S16x128x128) ![14, 0, 0] S1x128x128.size inb_S16x128x128_S1x128x128_14_0_0).toLoadRect (h15.unread xs0)

/-- What head 15 loads. -/
def rawB15 : Raw F where
  q := View.readAt (Elt F) a2.view (Rect.unit (s := S64x1024) ![0, 896] S64x128.size inb_S64x1024_S64x128_0_896).toLoadRect (h2.unread x0)
  k := View.readAt (Elt F) a3.view (Rect.unit (s := S64x1024) ![0, 896] S64x128.size inb_S64x1024_S64x128_0_896).toLoadRect (h3.unread x1)
  v := View.readAt (Elt F) a4.view (Rect.unit (s := S64x2048) ![0, 1920] S64x128.size inb_S64x2048_S64x128_0_1920).toLoadRect (h4.unread x2)
  d := View.readAt (Elt F) a9.view (Rect.unit (s := S64x2048) ![0, 1920] S64x128.size inb_S64x2048_S64x128_0_1920).toLoadRect (h9.unread x7)
  b := extractStridedSlice S64x1 ![0, 15] (transpose S64x16 [1, 0] (shapeCast S16x64 (View.readAt (Elt F) a5.view (Rect.unit (s := S16x1x1x64) ![0, 0, 0, 0] S16x1x1x64.size inb_S16x1x1x64_S16x1x1x64_0_0_0_0).toLoadRect (h5.unread x3)) shapeCasts_S16x1x1x64_S16x64) transposes_S16x64_p1_0_S64x16) slices_S64x16_o0_15_S64x1
  g := extractStridedSlice S64x1 ![0, 15] (transpose S64x16 [1, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) transposes_S16x64_p1_0_S64x16) slices_S64x16_o0_15_S64x1
  gr := extractStridedSlice S1x64 ![15, 0] (shapeCast S16x64 (View.readAt (Elt F) a6.view (Rect.unit (s := S16x1x1x64) ![0, 0, 0, 0] S16x1x1x64.size inb_S16x1x1x64_S16x1x1x64_0_0_0_0).toLoadRect (h6.unread x4)) shapeCasts_S16x1x1x64_S16x64) slices_S16x64_o15_0_S1x64
  s := shapeCast S128x128 (View.readAt (Elt F) a7.view (Rect.unit (s := S16x1x128x128) ![15, 0, 0, 0] S1x1x128x128.size inb_S16x1x128x128_S1x1x128x128_15_0_0_0).toLoadRect (h7.unread x5)) shapeCasts_S1x1x128x128_S128x128
  t := shapeCast S64x64 (View.readAt (Elt F) a8.view (Rect.unit (s := S16x1x64x64) ![15, 0, 0, 0] S1x1x64x64.size inb_S16x1x64x64_S1x1x64x64_15_0_0_0).toLoadRect (h8.unread x6)) shapeCasts_S1x1x64x64_S64x64
  ds := View.readAt (Elt F) a15.view (Rect.unit (s := S16x128x128) ![15, 0, 0] S1x128x128.size inb_S16x128x128_S1x128x128_15_0_0).toLoadRect (h15.unread xs0)

/-- What each head loads. -/
def rawsB
 : Fin 16 → Raw F :=
  ![rawB0 a2 h2 a3 h3 a4 h4 a5 h5 a6 h6 a7 h7 a8 h8 a9 h9 a15 h15 x0 x1 x2 x3 x4 x5 x6 x7 xs0, rawB1 a2 h2 a3 h3 a4 h4 a5 h5 a6 h6 a7 h7 a8 h8 a9 h9 a15 h15 x0 x1 x2 x3 x4 x5 x6 x7 xs0, rawB2 a2 h2 a3 h3 a4 h4 a5 h5 a6 h6 a7 h7 a8 h8 a9 h9 a15 h15 x0 x1 x2 x3 x4 x5 x6 x7 xs0, rawB3 a2 h2 a3 h3 a4 h4 a5 h5 a6 h6 a7 h7 a8 h8 a9 h9 a15 h15 x0 x1 x2 x3 x4 x5 x6 x7 xs0, rawB4 a2 h2 a3 h3 a4 h4 a5 h5 a6 h6 a7 h7 a8 h8 a9 h9 a15 h15 x0 x1 x2 x3 x4 x5 x6 x7 xs0, rawB5 a2 h2 a3 h3 a4 h4 a5 h5 a6 h6 a7 h7 a8 h8 a9 h9 a15 h15 x0 x1 x2 x3 x4 x5 x6 x7 xs0, rawB6 a2 h2 a3 h3 a4 h4 a5 h5 a6 h6 a7 h7 a8 h8 a9 h9 a15 h15 x0 x1 x2 x3 x4 x5 x6 x7 xs0, rawB7 a2 h2 a3 h3 a4 h4 a5 h5 a6 h6 a7 h7 a8 h8 a9 h9 a15 h15 x0 x1 x2 x3 x4 x5 x6 x7 xs0, rawB8 a2 h2 a3 h3 a4 h4 a5 h5 a6 h6 a7 h7 a8 h8 a9 h9 a15 h15 x0 x1 x2 x3 x4 x5 x6 x7 xs0, rawB9 a2 h2 a3 h3 a4 h4 a5 h5 a6 h6 a7 h7 a8 h8 a9 h9 a15 h15 x0 x1 x2 x3 x4 x5 x6 x7 xs0, rawB10 a2 h2 a3 h3 a4 h4 a5 h5 a6 h6 a7 h7 a8 h8 a9 h9 a15 h15 x0 x1 x2 x3 x4 x5 x6 x7 xs0, rawB11 a2 h2 a3 h3 a4 h4 a5 h5 a6 h6 a7 h7 a8 h8 a9 h9 a15 h15 x0 x1 x2 x3 x4 x5 x6 x7 xs0, rawB12 a2 h2 a3 h3 a4 h4 a5 h5 a6 h6 a7 h7 a8 h8 a9 h9 a15 h15 x0 x1 x2 x3 x4 x5 x6 x7 xs0, rawB13 a2 h2 a3 h3 a4 h4 a5 h5 a6 h6 a7 h7 a8 h8 a9 h9 a15 h15 x0 x1 x2 x3 x4 x5 x6 x7 xs0, rawB14 a2 h2 a3 h3 a4 h4 a5 h5 a6 h6 a7 h7 a8 h8 a9 h9 a15 h15 x0 x1 x2 x3 x4 x5 x6 x7 xs0, rawB15 a2 h2 a3 h3 a4 h4 a5 h5 a6 h6 a7 h7 a8 h8 a9 h9 a15 h15 x0 x1 x2 x3 x4 x5 x6 x7 xs0]

theorem listB_8
    :
    (kernelRun0_B c i a2 h2 a3 h3 a4 h4 a5 h5 a6 h6 a7 h7 a8 h8 a9 h9 a10 h10 a11 h11 a12 h12 a13 h13 a14 h14 a15 h15 hc0 x0 x1 x2 x3 x4 x5 x6 x7 xs0).1 =
      [⟨Rect.unit ![0, 1920] S64x128.size inb_S64x2048_S64x128_0_1920, (rawB15 a2 h2 a3 h3 a4 h4 a5 h5 a6 h6 a7 h7 a8 h8 a9 h9 a15 h15 x0 x1 x2 x3 x4 x5 x6 x7 xs0).dq_out⟩,
      ⟨Rect.unit ![0, 1792] S64x128.size inb_S64x2048_S64x128_0_1792, (rawB14 a2 h2 a3 h3 a4 h4 a5 h5 a6 h6 a7 h7 a8 h8 a9 h9 a15 h15 x0 x1 x2 x3 x4 x5 x6 x7 xs0).dq_out⟩,
      ⟨Rect.unit ![0, 1664] S64x128.size inb_S64x2048_S64x128_0_1664, (rawB13 a2 h2 a3 h3 a4 h4 a5 h5 a6 h6 a7 h7 a8 h8 a9 h9 a15 h15 x0 x1 x2 x3 x4 x5 x6 x7 xs0).dq_out⟩,
      ⟨Rect.unit ![0, 1536] S64x128.size inb_S64x2048_S64x128_0_1536, (rawB12 a2 h2 a3 h3 a4 h4 a5 h5 a6 h6 a7 h7 a8 h8 a9 h9 a15 h15 x0 x1 x2 x3 x4 x5 x6 x7 xs0).dq_out⟩,
      ⟨Rect.unit ![0, 1408] S64x128.size inb_S64x2048_S64x128_0_1408, (rawB11 a2 h2 a3 h3 a4 h4 a5 h5 a6 h6 a7 h7 a8 h8 a9 h9 a15 h15 x0 x1 x2 x3 x4 x5 x6 x7 xs0).dq_out⟩,
      ⟨Rect.unit ![0, 1280] S64x128.size inb_S64x2048_S64x128_0_1280, (rawB10 a2 h2 a3 h3 a4 h4 a5 h5 a6 h6 a7 h7 a8 h8 a9 h9 a15 h15 x0 x1 x2 x3 x4 x5 x6 x7 xs0).dq_out⟩,
      ⟨Rect.unit ![0, 1152] S64x128.size inb_S64x2048_S64x128_0_1152, (rawB9 a2 h2 a3 h3 a4 h4 a5 h5 a6 h6 a7 h7 a8 h8 a9 h9 a15 h15 x0 x1 x2 x3 x4 x5 x6 x7 xs0).dq_out⟩,
      ⟨Rect.unit ![0, 1024] S64x128.size inb_S64x2048_S64x128_0_1024, (rawB8 a2 h2 a3 h3 a4 h4 a5 h5 a6 h6 a7 h7 a8 h8 a9 h9 a15 h15 x0 x1 x2 x3 x4 x5 x6 x7 xs0).dq_out⟩,
      ⟨Rect.unit ![0, 896] S64x128.size inb_S64x2048_S64x128_0_896, (rawB7 a2 h2 a3 h3 a4 h4 a5 h5 a6 h6 a7 h7 a8 h8 a9 h9 a15 h15 x0 x1 x2 x3 x4 x5 x6 x7 xs0).dq_out⟩,
      ⟨Rect.unit ![0, 768] S64x128.size inb_S64x2048_S64x128_0_768, (rawB6 a2 h2 a3 h3 a4 h4 a5 h5 a6 h6 a7 h7 a8 h8 a9 h9 a15 h15 x0 x1 x2 x3 x4 x5 x6 x7 xs0).dq_out⟩,
      ⟨Rect.unit ![0, 640] S64x128.size inb_S64x2048_S64x128_0_640, (rawB5 a2 h2 a3 h3 a4 h4 a5 h5 a6 h6 a7 h7 a8 h8 a9 h9 a15 h15 x0 x1 x2 x3 x4 x5 x6 x7 xs0).dq_out⟩,
      ⟨Rect.unit ![0, 512] S64x128.size inb_S64x2048_S64x128_0_512, (rawB4 a2 h2 a3 h3 a4 h4 a5 h5 a6 h6 a7 h7 a8 h8 a9 h9 a15 h15 x0 x1 x2 x3 x4 x5 x6 x7 xs0).dq_out⟩,
      ⟨Rect.unit ![0, 384] S64x128.size inb_S64x2048_S64x128_0_384, (rawB3 a2 h2 a3 h3 a4 h4 a5 h5 a6 h6 a7 h7 a8 h8 a9 h9 a15 h15 x0 x1 x2 x3 x4 x5 x6 x7 xs0).dq_out⟩,
      ⟨Rect.unit ![0, 256] S64x128.size inb_S64x2048_S64x128_0_256, (rawB2 a2 h2 a3 h3 a4 h4 a5 h5 a6 h6 a7 h7 a8 h8 a9 h9 a15 h15 x0 x1 x2 x3 x4 x5 x6 x7 xs0).dq_out⟩,
      ⟨Rect.unit ![0, 128] S64x128.size inb_S64x2048_S64x128_0_128, (rawB1 a2 h2 a3 h3 a4 h4 a5 h5 a6 h6 a7 h7 a8 h8 a9 h9 a15 h15 x0 x1 x2 x3 x4 x5 x6 x7 xs0).dq_out⟩,
      ⟨Rect.unit ![0, 0] S64x128.size inb_S64x2048_S64x128_0_0, (rawB0 a2 h2 a3 h3 a4 h4 a5 h5 a6 h6 a7 h7 a8 h8 a9 h9 a15 h15 x0 x1 x2 x3 x4 x5 x6 x7 xs0).dq_out⟩] := by
  sl_kernel_rfl

theorem listB_9
    :
    (kernelRun0_B c i a2 h2 a3 h3 a4 h4 a5 h5 a6 h6 a7 h7 a8 h8 a9 h9 a10 h10 a11 h11 a12 h12 a13 h13 a14 h14 a15 h15 hc0 x0 x1 x2 x3 x4 x5 x6 x7 xs0).2.1 =
      [⟨Rect.unit ![0, 1920] S64x128.size inb_S64x2048_S64x128_0_1920, (rawB15 a2 h2 a3 h3 a4 h4 a5 h5 a6 h6 a7 h7 a8 h8 a9 h9 a15 h15 x0 x1 x2 x3 x4 x5 x6 x7 xs0).dk_out⟩,
      ⟨Rect.unit ![0, 1792] S64x128.size inb_S64x2048_S64x128_0_1792, (rawB14 a2 h2 a3 h3 a4 h4 a5 h5 a6 h6 a7 h7 a8 h8 a9 h9 a15 h15 x0 x1 x2 x3 x4 x5 x6 x7 xs0).dk_out⟩,
      ⟨Rect.unit ![0, 1664] S64x128.size inb_S64x2048_S64x128_0_1664, (rawB13 a2 h2 a3 h3 a4 h4 a5 h5 a6 h6 a7 h7 a8 h8 a9 h9 a15 h15 x0 x1 x2 x3 x4 x5 x6 x7 xs0).dk_out⟩,
      ⟨Rect.unit ![0, 1536] S64x128.size inb_S64x2048_S64x128_0_1536, (rawB12 a2 h2 a3 h3 a4 h4 a5 h5 a6 h6 a7 h7 a8 h8 a9 h9 a15 h15 x0 x1 x2 x3 x4 x5 x6 x7 xs0).dk_out⟩,
      ⟨Rect.unit ![0, 1408] S64x128.size inb_S64x2048_S64x128_0_1408, (rawB11 a2 h2 a3 h3 a4 h4 a5 h5 a6 h6 a7 h7 a8 h8 a9 h9 a15 h15 x0 x1 x2 x3 x4 x5 x6 x7 xs0).dk_out⟩,
      ⟨Rect.unit ![0, 1280] S64x128.size inb_S64x2048_S64x128_0_1280, (rawB10 a2 h2 a3 h3 a4 h4 a5 h5 a6 h6 a7 h7 a8 h8 a9 h9 a15 h15 x0 x1 x2 x3 x4 x5 x6 x7 xs0).dk_out⟩,
      ⟨Rect.unit ![0, 1152] S64x128.size inb_S64x2048_S64x128_0_1152, (rawB9 a2 h2 a3 h3 a4 h4 a5 h5 a6 h6 a7 h7 a8 h8 a9 h9 a15 h15 x0 x1 x2 x3 x4 x5 x6 x7 xs0).dk_out⟩,
      ⟨Rect.unit ![0, 1024] S64x128.size inb_S64x2048_S64x128_0_1024, (rawB8 a2 h2 a3 h3 a4 h4 a5 h5 a6 h6 a7 h7 a8 h8 a9 h9 a15 h15 x0 x1 x2 x3 x4 x5 x6 x7 xs0).dk_out⟩,
      ⟨Rect.unit ![0, 896] S64x128.size inb_S64x2048_S64x128_0_896, (rawB7 a2 h2 a3 h3 a4 h4 a5 h5 a6 h6 a7 h7 a8 h8 a9 h9 a15 h15 x0 x1 x2 x3 x4 x5 x6 x7 xs0).dk_out⟩,
      ⟨Rect.unit ![0, 768] S64x128.size inb_S64x2048_S64x128_0_768, (rawB6 a2 h2 a3 h3 a4 h4 a5 h5 a6 h6 a7 h7 a8 h8 a9 h9 a15 h15 x0 x1 x2 x3 x4 x5 x6 x7 xs0).dk_out⟩,
      ⟨Rect.unit ![0, 640] S64x128.size inb_S64x2048_S64x128_0_640, (rawB5 a2 h2 a3 h3 a4 h4 a5 h5 a6 h6 a7 h7 a8 h8 a9 h9 a15 h15 x0 x1 x2 x3 x4 x5 x6 x7 xs0).dk_out⟩,
      ⟨Rect.unit ![0, 512] S64x128.size inb_S64x2048_S64x128_0_512, (rawB4 a2 h2 a3 h3 a4 h4 a5 h5 a6 h6 a7 h7 a8 h8 a9 h9 a15 h15 x0 x1 x2 x3 x4 x5 x6 x7 xs0).dk_out⟩,
      ⟨Rect.unit ![0, 384] S64x128.size inb_S64x2048_S64x128_0_384, (rawB3 a2 h2 a3 h3 a4 h4 a5 h5 a6 h6 a7 h7 a8 h8 a9 h9 a15 h15 x0 x1 x2 x3 x4 x5 x6 x7 xs0).dk_out⟩,
      ⟨Rect.unit ![0, 256] S64x128.size inb_S64x2048_S64x128_0_256, (rawB2 a2 h2 a3 h3 a4 h4 a5 h5 a6 h6 a7 h7 a8 h8 a9 h9 a15 h15 x0 x1 x2 x3 x4 x5 x6 x7 xs0).dk_out⟩,
      ⟨Rect.unit ![0, 128] S64x128.size inb_S64x2048_S64x128_0_128, (rawB1 a2 h2 a3 h3 a4 h4 a5 h5 a6 h6 a7 h7 a8 h8 a9 h9 a15 h15 x0 x1 x2 x3 x4 x5 x6 x7 xs0).dk_out⟩,
      ⟨Rect.unit ![0, 0] S64x128.size inb_S64x2048_S64x128_0_0, (rawB0 a2 h2 a3 h3 a4 h4 a5 h5 a6 h6 a7 h7 a8 h8 a9 h9 a15 h15 x0 x1 x2 x3 x4 x5 x6 x7 xs0).dk_out⟩] := by
  sl_kernel_rfl

theorem listB_10
    :
    (kernelRun0_B c i a2 h2 a3 h3 a4 h4 a5 h5 a6 h6 a7 h7 a8 h8 a9 h9 a10 h10 a11 h11 a12 h12 a13 h13 a14 h14 a15 h15 hc0 x0 x1 x2 x3 x4 x5 x6 x7 xs0).2.2.1 =
      [⟨Rect.unit ![0, 1920] S64x128.size inb_S64x2048_S64x128_0_1920, (rawB15 a2 h2 a3 h3 a4 h4 a5 h5 a6 h6 a7 h7 a8 h8 a9 h9 a15 h15 x0 x1 x2 x3 x4 x5 x6 x7 xs0).dv_out⟩,
      ⟨Rect.unit ![0, 1792] S64x128.size inb_S64x2048_S64x128_0_1792, (rawB14 a2 h2 a3 h3 a4 h4 a5 h5 a6 h6 a7 h7 a8 h8 a9 h9 a15 h15 x0 x1 x2 x3 x4 x5 x6 x7 xs0).dv_out⟩,
      ⟨Rect.unit ![0, 1664] S64x128.size inb_S64x2048_S64x128_0_1664, (rawB13 a2 h2 a3 h3 a4 h4 a5 h5 a6 h6 a7 h7 a8 h8 a9 h9 a15 h15 x0 x1 x2 x3 x4 x5 x6 x7 xs0).dv_out⟩,
      ⟨Rect.unit ![0, 1536] S64x128.size inb_S64x2048_S64x128_0_1536, (rawB12 a2 h2 a3 h3 a4 h4 a5 h5 a6 h6 a7 h7 a8 h8 a9 h9 a15 h15 x0 x1 x2 x3 x4 x5 x6 x7 xs0).dv_out⟩,
      ⟨Rect.unit ![0, 1408] S64x128.size inb_S64x2048_S64x128_0_1408, (rawB11 a2 h2 a3 h3 a4 h4 a5 h5 a6 h6 a7 h7 a8 h8 a9 h9 a15 h15 x0 x1 x2 x3 x4 x5 x6 x7 xs0).dv_out⟩,
      ⟨Rect.unit ![0, 1280] S64x128.size inb_S64x2048_S64x128_0_1280, (rawB10 a2 h2 a3 h3 a4 h4 a5 h5 a6 h6 a7 h7 a8 h8 a9 h9 a15 h15 x0 x1 x2 x3 x4 x5 x6 x7 xs0).dv_out⟩,
      ⟨Rect.unit ![0, 1152] S64x128.size inb_S64x2048_S64x128_0_1152, (rawB9 a2 h2 a3 h3 a4 h4 a5 h5 a6 h6 a7 h7 a8 h8 a9 h9 a15 h15 x0 x1 x2 x3 x4 x5 x6 x7 xs0).dv_out⟩,
      ⟨Rect.unit ![0, 1024] S64x128.size inb_S64x2048_S64x128_0_1024, (rawB8 a2 h2 a3 h3 a4 h4 a5 h5 a6 h6 a7 h7 a8 h8 a9 h9 a15 h15 x0 x1 x2 x3 x4 x5 x6 x7 xs0).dv_out⟩,
      ⟨Rect.unit ![0, 896] S64x128.size inb_S64x2048_S64x128_0_896, (rawB7 a2 h2 a3 h3 a4 h4 a5 h5 a6 h6 a7 h7 a8 h8 a9 h9 a15 h15 x0 x1 x2 x3 x4 x5 x6 x7 xs0).dv_out⟩,
      ⟨Rect.unit ![0, 768] S64x128.size inb_S64x2048_S64x128_0_768, (rawB6 a2 h2 a3 h3 a4 h4 a5 h5 a6 h6 a7 h7 a8 h8 a9 h9 a15 h15 x0 x1 x2 x3 x4 x5 x6 x7 xs0).dv_out⟩,
      ⟨Rect.unit ![0, 640] S64x128.size inb_S64x2048_S64x128_0_640, (rawB5 a2 h2 a3 h3 a4 h4 a5 h5 a6 h6 a7 h7 a8 h8 a9 h9 a15 h15 x0 x1 x2 x3 x4 x5 x6 x7 xs0).dv_out⟩,
      ⟨Rect.unit ![0, 512] S64x128.size inb_S64x2048_S64x128_0_512, (rawB4 a2 h2 a3 h3 a4 h4 a5 h5 a6 h6 a7 h7 a8 h8 a9 h9 a15 h15 x0 x1 x2 x3 x4 x5 x6 x7 xs0).dv_out⟩,
      ⟨Rect.unit ![0, 384] S64x128.size inb_S64x2048_S64x128_0_384, (rawB3 a2 h2 a3 h3 a4 h4 a5 h5 a6 h6 a7 h7 a8 h8 a9 h9 a15 h15 x0 x1 x2 x3 x4 x5 x6 x7 xs0).dv_out⟩,
      ⟨Rect.unit ![0, 256] S64x128.size inb_S64x2048_S64x128_0_256, (rawB2 a2 h2 a3 h3 a4 h4 a5 h5 a6 h6 a7 h7 a8 h8 a9 h9 a15 h15 x0 x1 x2 x3 x4 x5 x6 x7 xs0).dv_out⟩,
      ⟨Rect.unit ![0, 128] S64x128.size inb_S64x2048_S64x128_0_128, (rawB1 a2 h2 a3 h3 a4 h4 a5 h5 a6 h6 a7 h7 a8 h8 a9 h9 a15 h15 x0 x1 x2 x3 x4 x5 x6 x7 xs0).dv_out⟩,
      ⟨Rect.unit ![0, 0] S64x128.size inb_S64x2048_S64x128_0_0, (rawB0 a2 h2 a3 h3 a4 h4 a5 h5 a6 h6 a7 h7 a8 h8 a9 h9 a15 h15 x0 x1 x2 x3 x4 x5 x6 x7 xs0).dv_out⟩] := by
  sl_kernel_rfl

theorem listB_11
    :
    (kernelRun0_B c i a2 h2 a3 h3 a4 h4 a5 h5 a6 h6 a7 h7 a8 h8 a9 h9 a10 h10 a11 h11 a12 h12 a13 h13 a14 h14 a15 h15 hc0 x0 x1 x2 x3 x4 x5 x6 x7 xs0).2.2.2.1 =
      [⟨Rect.unit ![0, 0, 0, 0] ![16, 1, 1, 64] inb_S16x1x1x64_S16x1x1x64_0_0_0_0, dbOut (rawsB a2 h2 a3 h3 a4 h4 a5 h5 a6 h6 a7 h7 a8 h8 a9 h9 a15 h15 x0 x1 x2 x3 x4 x5 x6 x7 xs0)⟩] := by
  sl_kernel_rfl

theorem listB_12
    :
    (kernelRun0_B c i a2 h2 a3 h3 a4 h4 a5 h5 a6 h6 a7 h7 a8 h8 a9 h9 a10 h10 a11 h11 a12 h12 a13 h13 a14 h14 a15 h15 hc0 x0 x1 x2 x3 x4 x5 x6 x7 xs0).2.2.2.2.1 =
      [⟨Rect.unit ![0, 0, 0, 0] ![16, 1, 1, 64] inb_S16x1x1x64_S16x1x1x64_0_0_0_0, dgOut (rawsB a2 h2 a3 h3 a4 h4 a5 h5 a6 h6 a7 h7 a8 h8 a9 h9 a15 h15 x0 x1 x2 x3 x4 x5 x6 x7 xs0)⟩] := by
  sl_kernel_rfl

theorem listB_15
    :
    (kernelRun0_B c i a2 h2 a3 h3 a4 h4 a5 h5 a6 h6 a7 h7 a8 h8 a9 h9 a10 h10 a11 h11 a12 h12 a13 h13 a14 h14 a15 h15 hc0 x0 x1 x2 x3 x4 x5 x6 x7 xs0).2.2.2.2.2.1 =
      [⟨Rect.unit ![15, 0, 0] S1x128x128.size inb_S16x128x128_S1x128x128_15_0_0, (rawB15 a2 h2 a3 h3 a4 h4 a5 h5 a6 h6 a7 h7 a8 h8 a9 h9 a15 h15 x0 x1 x2 x3 x4 x5 x6 x7 xs0).dS_out⟩,
      ⟨Rect.unit ![14, 0, 0] S1x128x128.size inb_S16x128x128_S1x128x128_14_0_0, (rawB14 a2 h2 a3 h3 a4 h4 a5 h5 a6 h6 a7 h7 a8 h8 a9 h9 a15 h15 x0 x1 x2 x3 x4 x5 x6 x7 xs0).dS_out⟩,
      ⟨Rect.unit ![13, 0, 0] S1x128x128.size inb_S16x128x128_S1x128x128_13_0_0, (rawB13 a2 h2 a3 h3 a4 h4 a5 h5 a6 h6 a7 h7 a8 h8 a9 h9 a15 h15 x0 x1 x2 x3 x4 x5 x6 x7 xs0).dS_out⟩,
      ⟨Rect.unit ![12, 0, 0] S1x128x128.size inb_S16x128x128_S1x128x128_12_0_0, (rawB12 a2 h2 a3 h3 a4 h4 a5 h5 a6 h6 a7 h7 a8 h8 a9 h9 a15 h15 x0 x1 x2 x3 x4 x5 x6 x7 xs0).dS_out⟩,
      ⟨Rect.unit ![11, 0, 0] S1x128x128.size inb_S16x128x128_S1x128x128_11_0_0, (rawB11 a2 h2 a3 h3 a4 h4 a5 h5 a6 h6 a7 h7 a8 h8 a9 h9 a15 h15 x0 x1 x2 x3 x4 x5 x6 x7 xs0).dS_out⟩,
      ⟨Rect.unit ![10, 0, 0] S1x128x128.size inb_S16x128x128_S1x128x128_10_0_0, (rawB10 a2 h2 a3 h3 a4 h4 a5 h5 a6 h6 a7 h7 a8 h8 a9 h9 a15 h15 x0 x1 x2 x3 x4 x5 x6 x7 xs0).dS_out⟩,
      ⟨Rect.unit ![9, 0, 0] S1x128x128.size inb_S16x128x128_S1x128x128_9_0_0, (rawB9 a2 h2 a3 h3 a4 h4 a5 h5 a6 h6 a7 h7 a8 h8 a9 h9 a15 h15 x0 x1 x2 x3 x4 x5 x6 x7 xs0).dS_out⟩,
      ⟨Rect.unit ![8, 0, 0] S1x128x128.size inb_S16x128x128_S1x128x128_8_0_0, (rawB8 a2 h2 a3 h3 a4 h4 a5 h5 a6 h6 a7 h7 a8 h8 a9 h9 a15 h15 x0 x1 x2 x3 x4 x5 x6 x7 xs0).dS_out⟩,
      ⟨Rect.unit ![7, 0, 0] S1x128x128.size inb_S16x128x128_S1x128x128_7_0_0, (rawB7 a2 h2 a3 h3 a4 h4 a5 h5 a6 h6 a7 h7 a8 h8 a9 h9 a15 h15 x0 x1 x2 x3 x4 x5 x6 x7 xs0).dS_out⟩,
      ⟨Rect.unit ![6, 0, 0] S1x128x128.size inb_S16x128x128_S1x128x128_6_0_0, (rawB6 a2 h2 a3 h3 a4 h4 a5 h5 a6 h6 a7 h7 a8 h8 a9 h9 a15 h15 x0 x1 x2 x3 x4 x5 x6 x7 xs0).dS_out⟩,
      ⟨Rect.unit ![5, 0, 0] S1x128x128.size inb_S16x128x128_S1x128x128_5_0_0, (rawB5 a2 h2 a3 h3 a4 h4 a5 h5 a6 h6 a7 h7 a8 h8 a9 h9 a15 h15 x0 x1 x2 x3 x4 x5 x6 x7 xs0).dS_out⟩,
      ⟨Rect.unit ![4, 0, 0] S1x128x128.size inb_S16x128x128_S1x128x128_4_0_0, (rawB4 a2 h2 a3 h3 a4 h4 a5 h5 a6 h6 a7 h7 a8 h8 a9 h9 a15 h15 x0 x1 x2 x3 x4 x5 x6 x7 xs0).dS_out⟩,
      ⟨Rect.unit ![3, 0, 0] S1x128x128.size inb_S16x128x128_S1x128x128_3_0_0, (rawB3 a2 h2 a3 h3 a4 h4 a5 h5 a6 h6 a7 h7 a8 h8 a9 h9 a15 h15 x0 x1 x2 x3 x4 x5 x6 x7 xs0).dS_out⟩,
      ⟨Rect.unit ![2, 0, 0] S1x128x128.size inb_S16x128x128_S1x128x128_2_0_0, (rawB2 a2 h2 a3 h3 a4 h4 a5 h5 a6 h6 a7 h7 a8 h8 a9 h9 a15 h15 x0 x1 x2 x3 x4 x5 x6 x7 xs0).dS_out⟩,
      ⟨Rect.unit ![1, 0, 0] S1x128x128.size inb_S16x128x128_S1x128x128_1_0_0, (rawB1 a2 h2 a3 h3 a4 h4 a5 h5 a6 h6 a7 h7 a8 h8 a9 h9 a15 h15 x0 x1 x2 x3 x4 x5 x6 x7 xs0).dS_out⟩,
      ⟨Rect.unit ![0, 0, 0] S1x128x128.size inb_S16x128x128_S1x128x128_0_0_0, (rawB0 a2 h2 a3 h3 a4 h4 a5 h5 a6 h6 a7 h7 a8 h8 a9 h9 a15 h15 x0 x1 x2 x3 x4 x5 x6 x7 xs0).dS_out⟩] := by
  sl_kernel_rfl

end Stores

section Values

variable
  (c : Dev nD) (i : grid0.Coords)
  (a2 : Memref sig .tc .vmem S64x1024 .bf16) (h2 : a2.IsWhole)
  (a3 : Memref sig .tc .vmem S64x1024 .bf16) (h3 : a3.IsWhole)
  (a4 : Memref sig .tc .vmem S64x2048 .f32) (h4 : a4.IsWhole)
  (a5 : Memref sig .tc .vmem S16x1x1x64 .f32) (h5 : a5.IsWhole)
  (a6 : Memref sig .tc .vmem S16x1x1x64 .f32) (h6 : a6.IsWhole)
  (a7 : Memref sig .tc .vmem S16x1x128x128 .f32) (h7 : a7.IsWhole)
  (a8 : Memref sig .tc .vmem S16x1x64x64 .f32) (h8 : a8.IsWhole)
  (a9 : Memref sig .tc .vmem S64x2048 .f32) (h9 : a9.IsWhole)
  (a10 : Memref sig .tc .vmem S64x2048 .bf16) (h10 : a10.IsWhole)
  (a11 : Memref sig .tc .vmem S64x2048 .bf16) (h11 : a11.IsWhole)
  (a12 : Memref sig .tc .vmem S64x2048 .bf16) (h12 : a12.IsWhole)
  (a13 : Memref sig .tc .vmem S16x1x1x64 .f32) (h13 : a13.IsWhole)
  (a14 : Memref sig .tc .vmem S16x1x1x64 .f32) (h14 : a14.IsWhole)
  (a15 : Memref sig .tc .vmem S16x128x128 .f32) (h15 : a15.IsWhole)
  (hc0 : ¬ cond0_0 i)
  (x0 : Vec Ideal S64x1024 .bf16) (x1 : Vec Ideal S64x1024 .bf16) (x2 : Vec Ideal S64x2048 .f32) (x3 : Vec Ideal S16x1x1x64 .f32) (x4 : Vec Ideal S16x1x1x64 .f32) (x5 : Vec Ideal S16x1x128x128 .f32) (x6 : Vec Ideal S16x1x64x64 .f32) (x7 : Vec Ideal S64x2048 .f32) (xs0 : Vec Ideal S16x128x128 .f32)

theorem rawB0_inp
 :
    (rawB0 a2 h2 a3 h3 a4 h4 a5 h5 a6 h6 a7 h7 a8 h8 a9 h9 a15 h15 x0 x1 x2 x3 x4 x5 x6 x7 xs0).inp = inpOf x0 x1 x2 x3 x4 x5 x6 x7 xs0 0 := by
  unfold Raw.inp inpOf rawB0
  simp only [View.readAt_eq_ld, Memref.IsWhole.read_unread]
  congr 1 <;> funext i <;> (try funext m) <;> pointwise []
  all_goals first | rfl | exact congrArg _ (congrArg _ (Fin.ext (by simp [narrow, wide])))

theorem rawB0_row
 (i : Fin 64) :
    (rawB0 a2 h2 a3 h3 a4 h4 a5 h5 a6 h6 a7 h7 a8 h8 a9 h9 a15 h15 x0 x1 x2 x3 x4 x5 x6 x7 xs0).gr (ix2 0 i) = (rawB0 a2 h2 a3 h3 a4 h4 a5 h5 a6 h6 a7 h7 a8 h8 a9 h9 a15 h15 x0 x1 x2 x3 x4 x5 x6 x7 xs0).inp.g i := by
  rw [rawB0_inp]
  unfold inpOf rawB0
  simp only [View.readAt_eq_ld, Memref.IsWhole.read_unread]
  pointwise []

theorem rawB1_inp
 :
    (rawB1 a2 h2 a3 h3 a4 h4 a5 h5 a6 h6 a7 h7 a8 h8 a9 h9 a15 h15 x0 x1 x2 x3 x4 x5 x6 x7 xs0).inp = inpOf x0 x1 x2 x3 x4 x5 x6 x7 xs0 1 := by
  unfold Raw.inp inpOf rawB1
  simp only [View.readAt_eq_ld, Memref.IsWhole.read_unread]
  congr 1 <;> funext i <;> (try funext m) <;> pointwise []
  all_goals first | rfl | exact congrArg _ (congrArg _ (Fin.ext (by simp [narrow, wide])))

theorem rawB1_row
 (i : Fin 64) :
    (rawB1 a2 h2 a3 h3 a4 h4 a5 h5 a6 h6 a7 h7 a8 h8 a9 h9 a15 h15 x0 x1 x2 x3 x4 x5 x6 x7 xs0).gr (ix2 0 i) = (rawB1 a2 h2 a3 h3 a4 h4 a5 h5 a6 h6 a7 h7 a8 h8 a9 h9 a15 h15 x0 x1 x2 x3 x4 x5 x6 x7 xs0).inp.g i := by
  rw [rawB1_inp]
  unfold inpOf rawB1
  simp only [View.readAt_eq_ld, Memref.IsWhole.read_unread]
  pointwise []

theorem rawB2_inp
 :
    (rawB2 a2 h2 a3 h3 a4 h4 a5 h5 a6 h6 a7 h7 a8 h8 a9 h9 a15 h15 x0 x1 x2 x3 x4 x5 x6 x7 xs0).inp = inpOf x0 x1 x2 x3 x4 x5 x6 x7 xs0 2 := by
  unfold Raw.inp inpOf rawB2
  simp only [View.readAt_eq_ld, Memref.IsWhole.read_unread]
  congr 1 <;> funext i <;> (try funext m) <;> pointwise []
  all_goals first | rfl | exact congrArg _ (congrArg _ (Fin.ext (by simp [narrow, wide])))

theorem rawB2_row
 (i : Fin 64) :
    (rawB2 a2 h2 a3 h3 a4 h4 a5 h5 a6 h6 a7 h7 a8 h8 a9 h9 a15 h15 x0 x1 x2 x3 x4 x5 x6 x7 xs0).gr (ix2 0 i) = (rawB2 a2 h2 a3 h3 a4 h4 a5 h5 a6 h6 a7 h7 a8 h8 a9 h9 a15 h15 x0 x1 x2 x3 x4 x5 x6 x7 xs0).inp.g i := by
  rw [rawB2_inp]
  unfold inpOf rawB2
  simp only [View.readAt_eq_ld, Memref.IsWhole.read_unread]
  pointwise []

theorem rawB3_inp
 :
    (rawB3 a2 h2 a3 h3 a4 h4 a5 h5 a6 h6 a7 h7 a8 h8 a9 h9 a15 h15 x0 x1 x2 x3 x4 x5 x6 x7 xs0).inp = inpOf x0 x1 x2 x3 x4 x5 x6 x7 xs0 3 := by
  unfold Raw.inp inpOf rawB3
  simp only [View.readAt_eq_ld, Memref.IsWhole.read_unread]
  congr 1 <;> funext i <;> (try funext m) <;> pointwise []
  all_goals first | rfl | exact congrArg _ (congrArg _ (Fin.ext (by simp [narrow, wide])))

theorem rawB3_row
 (i : Fin 64) :
    (rawB3 a2 h2 a3 h3 a4 h4 a5 h5 a6 h6 a7 h7 a8 h8 a9 h9 a15 h15 x0 x1 x2 x3 x4 x5 x6 x7 xs0).gr (ix2 0 i) = (rawB3 a2 h2 a3 h3 a4 h4 a5 h5 a6 h6 a7 h7 a8 h8 a9 h9 a15 h15 x0 x1 x2 x3 x4 x5 x6 x7 xs0).inp.g i := by
  rw [rawB3_inp]
  unfold inpOf rawB3
  simp only [View.readAt_eq_ld, Memref.IsWhole.read_unread]
  pointwise []

theorem rawB4_inp
 :
    (rawB4 a2 h2 a3 h3 a4 h4 a5 h5 a6 h6 a7 h7 a8 h8 a9 h9 a15 h15 x0 x1 x2 x3 x4 x5 x6 x7 xs0).inp = inpOf x0 x1 x2 x3 x4 x5 x6 x7 xs0 4 := by
  unfold Raw.inp inpOf rawB4
  simp only [View.readAt_eq_ld, Memref.IsWhole.read_unread]
  congr 1 <;> funext i <;> (try funext m) <;> pointwise []
  all_goals first | rfl | exact congrArg _ (congrArg _ (Fin.ext (by simp [narrow, wide])))

theorem rawB4_row
 (i : Fin 64) :
    (rawB4 a2 h2 a3 h3 a4 h4 a5 h5 a6 h6 a7 h7 a8 h8 a9 h9 a15 h15 x0 x1 x2 x3 x4 x5 x6 x7 xs0).gr (ix2 0 i) = (rawB4 a2 h2 a3 h3 a4 h4 a5 h5 a6 h6 a7 h7 a8 h8 a9 h9 a15 h15 x0 x1 x2 x3 x4 x5 x6 x7 xs0).inp.g i := by
  rw [rawB4_inp]
  unfold inpOf rawB4
  simp only [View.readAt_eq_ld, Memref.IsWhole.read_unread]
  pointwise []

theorem rawB5_inp
 :
    (rawB5 a2 h2 a3 h3 a4 h4 a5 h5 a6 h6 a7 h7 a8 h8 a9 h9 a15 h15 x0 x1 x2 x3 x4 x5 x6 x7 xs0).inp = inpOf x0 x1 x2 x3 x4 x5 x6 x7 xs0 5 := by
  unfold Raw.inp inpOf rawB5
  simp only [View.readAt_eq_ld, Memref.IsWhole.read_unread]
  congr 1 <;> funext i <;> (try funext m) <;> pointwise []
  all_goals first | rfl | exact congrArg _ (congrArg _ (Fin.ext (by simp [narrow, wide])))

theorem rawB5_row
 (i : Fin 64) :
    (rawB5 a2 h2 a3 h3 a4 h4 a5 h5 a6 h6 a7 h7 a8 h8 a9 h9 a15 h15 x0 x1 x2 x3 x4 x5 x6 x7 xs0).gr (ix2 0 i) = (rawB5 a2 h2 a3 h3 a4 h4 a5 h5 a6 h6 a7 h7 a8 h8 a9 h9 a15 h15 x0 x1 x2 x3 x4 x5 x6 x7 xs0).inp.g i := by
  rw [rawB5_inp]
  unfold inpOf rawB5
  simp only [View.readAt_eq_ld, Memref.IsWhole.read_unread]
  pointwise []

theorem rawB6_inp
 :
    (rawB6 a2 h2 a3 h3 a4 h4 a5 h5 a6 h6 a7 h7 a8 h8 a9 h9 a15 h15 x0 x1 x2 x3 x4 x5 x6 x7 xs0).inp = inpOf x0 x1 x2 x3 x4 x5 x6 x7 xs0 6 := by
  unfold Raw.inp inpOf rawB6
  simp only [View.readAt_eq_ld, Memref.IsWhole.read_unread]
  congr 1 <;> funext i <;> (try funext m) <;> pointwise []
  all_goals first | rfl | exact congrArg _ (congrArg _ (Fin.ext (by simp [narrow, wide])))

theorem rawB6_row
 (i : Fin 64) :
    (rawB6 a2 h2 a3 h3 a4 h4 a5 h5 a6 h6 a7 h7 a8 h8 a9 h9 a15 h15 x0 x1 x2 x3 x4 x5 x6 x7 xs0).gr (ix2 0 i) = (rawB6 a2 h2 a3 h3 a4 h4 a5 h5 a6 h6 a7 h7 a8 h8 a9 h9 a15 h15 x0 x1 x2 x3 x4 x5 x6 x7 xs0).inp.g i := by
  rw [rawB6_inp]
  unfold inpOf rawB6
  simp only [View.readAt_eq_ld, Memref.IsWhole.read_unread]
  pointwise []

theorem rawB7_inp
 :
    (rawB7 a2 h2 a3 h3 a4 h4 a5 h5 a6 h6 a7 h7 a8 h8 a9 h9 a15 h15 x0 x1 x2 x3 x4 x5 x6 x7 xs0).inp = inpOf x0 x1 x2 x3 x4 x5 x6 x7 xs0 7 := by
  unfold Raw.inp inpOf rawB7
  simp only [View.readAt_eq_ld, Memref.IsWhole.read_unread]
  congr 1 <;> funext i <;> (try funext m) <;> pointwise []
  all_goals first | rfl | exact congrArg _ (congrArg _ (Fin.ext (by simp [narrow, wide])))

theorem rawB7_row
 (i : Fin 64) :
    (rawB7 a2 h2 a3 h3 a4 h4 a5 h5 a6 h6 a7 h7 a8 h8 a9 h9 a15 h15 x0 x1 x2 x3 x4 x5 x6 x7 xs0).gr (ix2 0 i) = (rawB7 a2 h2 a3 h3 a4 h4 a5 h5 a6 h6 a7 h7 a8 h8 a9 h9 a15 h15 x0 x1 x2 x3 x4 x5 x6 x7 xs0).inp.g i := by
  rw [rawB7_inp]
  unfold inpOf rawB7
  simp only [View.readAt_eq_ld, Memref.IsWhole.read_unread]
  pointwise []

theorem rawB8_inp
 :
    (rawB8 a2 h2 a3 h3 a4 h4 a5 h5 a6 h6 a7 h7 a8 h8 a9 h9 a15 h15 x0 x1 x2 x3 x4 x5 x6 x7 xs0).inp = inpOf x0 x1 x2 x3 x4 x5 x6 x7 xs0 8 := by
  unfold Raw.inp inpOf rawB8
  simp only [View.readAt_eq_ld, Memref.IsWhole.read_unread]
  congr 1 <;> funext i <;> (try funext m) <;> pointwise []
  all_goals first | rfl | exact congrArg _ (congrArg _ (Fin.ext (by simp [narrow, wide])))

theorem rawB8_row
 (i : Fin 64) :
    (rawB8 a2 h2 a3 h3 a4 h4 a5 h5 a6 h6 a7 h7 a8 h8 a9 h9 a15 h15 x0 x1 x2 x3 x4 x5 x6 x7 xs0).gr (ix2 0 i) = (rawB8 a2 h2 a3 h3 a4 h4 a5 h5 a6 h6 a7 h7 a8 h8 a9 h9 a15 h15 x0 x1 x2 x3 x4 x5 x6 x7 xs0).inp.g i := by
  rw [rawB8_inp]
  unfold inpOf rawB8
  simp only [View.readAt_eq_ld, Memref.IsWhole.read_unread]
  pointwise []

theorem rawB9_inp
 :
    (rawB9 a2 h2 a3 h3 a4 h4 a5 h5 a6 h6 a7 h7 a8 h8 a9 h9 a15 h15 x0 x1 x2 x3 x4 x5 x6 x7 xs0).inp = inpOf x0 x1 x2 x3 x4 x5 x6 x7 xs0 9 := by
  unfold Raw.inp inpOf rawB9
  simp only [View.readAt_eq_ld, Memref.IsWhole.read_unread]
  congr 1 <;> funext i <;> (try funext m) <;> pointwise []
  all_goals first | rfl | exact congrArg _ (congrArg _ (Fin.ext (by simp [narrow, wide])))

theorem rawB9_row
 (i : Fin 64) :
    (rawB9 a2 h2 a3 h3 a4 h4 a5 h5 a6 h6 a7 h7 a8 h8 a9 h9 a15 h15 x0 x1 x2 x3 x4 x5 x6 x7 xs0).gr (ix2 0 i) = (rawB9 a2 h2 a3 h3 a4 h4 a5 h5 a6 h6 a7 h7 a8 h8 a9 h9 a15 h15 x0 x1 x2 x3 x4 x5 x6 x7 xs0).inp.g i := by
  rw [rawB9_inp]
  unfold inpOf rawB9
  simp only [View.readAt_eq_ld, Memref.IsWhole.read_unread]
  pointwise []

theorem rawB10_inp
 :
    (rawB10 a2 h2 a3 h3 a4 h4 a5 h5 a6 h6 a7 h7 a8 h8 a9 h9 a15 h15 x0 x1 x2 x3 x4 x5 x6 x7 xs0).inp = inpOf x0 x1 x2 x3 x4 x5 x6 x7 xs0 10 := by
  unfold Raw.inp inpOf rawB10
  simp only [View.readAt_eq_ld, Memref.IsWhole.read_unread]
  congr 1 <;> funext i <;> (try funext m) <;> pointwise []
  all_goals first | rfl | exact congrArg _ (congrArg _ (Fin.ext (by simp [narrow, wide])))

theorem rawB10_row
 (i : Fin 64) :
    (rawB10 a2 h2 a3 h3 a4 h4 a5 h5 a6 h6 a7 h7 a8 h8 a9 h9 a15 h15 x0 x1 x2 x3 x4 x5 x6 x7 xs0).gr (ix2 0 i) = (rawB10 a2 h2 a3 h3 a4 h4 a5 h5 a6 h6 a7 h7 a8 h8 a9 h9 a15 h15 x0 x1 x2 x3 x4 x5 x6 x7 xs0).inp.g i := by
  rw [rawB10_inp]
  unfold inpOf rawB10
  simp only [View.readAt_eq_ld, Memref.IsWhole.read_unread]
  pointwise []

theorem rawB11_inp
 :
    (rawB11 a2 h2 a3 h3 a4 h4 a5 h5 a6 h6 a7 h7 a8 h8 a9 h9 a15 h15 x0 x1 x2 x3 x4 x5 x6 x7 xs0).inp = inpOf x0 x1 x2 x3 x4 x5 x6 x7 xs0 11 := by
  unfold Raw.inp inpOf rawB11
  simp only [View.readAt_eq_ld, Memref.IsWhole.read_unread]
  congr 1 <;> funext i <;> (try funext m) <;> pointwise []
  all_goals first | rfl | exact congrArg _ (congrArg _ (Fin.ext (by simp [narrow, wide])))

theorem rawB11_row
 (i : Fin 64) :
    (rawB11 a2 h2 a3 h3 a4 h4 a5 h5 a6 h6 a7 h7 a8 h8 a9 h9 a15 h15 x0 x1 x2 x3 x4 x5 x6 x7 xs0).gr (ix2 0 i) = (rawB11 a2 h2 a3 h3 a4 h4 a5 h5 a6 h6 a7 h7 a8 h8 a9 h9 a15 h15 x0 x1 x2 x3 x4 x5 x6 x7 xs0).inp.g i := by
  rw [rawB11_inp]
  unfold inpOf rawB11
  simp only [View.readAt_eq_ld, Memref.IsWhole.read_unread]
  pointwise []

theorem rawB12_inp
 :
    (rawB12 a2 h2 a3 h3 a4 h4 a5 h5 a6 h6 a7 h7 a8 h8 a9 h9 a15 h15 x0 x1 x2 x3 x4 x5 x6 x7 xs0).inp = inpOf x0 x1 x2 x3 x4 x5 x6 x7 xs0 12 := by
  unfold Raw.inp inpOf rawB12
  simp only [View.readAt_eq_ld, Memref.IsWhole.read_unread]
  congr 1 <;> funext i <;> (try funext m) <;> pointwise []
  all_goals first | rfl | exact congrArg _ (congrArg _ (Fin.ext (by simp [narrow, wide])))

theorem rawB12_row
 (i : Fin 64) :
    (rawB12 a2 h2 a3 h3 a4 h4 a5 h5 a6 h6 a7 h7 a8 h8 a9 h9 a15 h15 x0 x1 x2 x3 x4 x5 x6 x7 xs0).gr (ix2 0 i) = (rawB12 a2 h2 a3 h3 a4 h4 a5 h5 a6 h6 a7 h7 a8 h8 a9 h9 a15 h15 x0 x1 x2 x3 x4 x5 x6 x7 xs0).inp.g i := by
  rw [rawB12_inp]
  unfold inpOf rawB12
  simp only [View.readAt_eq_ld, Memref.IsWhole.read_unread]
  pointwise []

theorem rawB13_inp
 :
    (rawB13 a2 h2 a3 h3 a4 h4 a5 h5 a6 h6 a7 h7 a8 h8 a9 h9 a15 h15 x0 x1 x2 x3 x4 x5 x6 x7 xs0).inp = inpOf x0 x1 x2 x3 x4 x5 x6 x7 xs0 13 := by
  unfold Raw.inp inpOf rawB13
  simp only [View.readAt_eq_ld, Memref.IsWhole.read_unread]
  congr 1 <;> funext i <;> (try funext m) <;> pointwise []
  all_goals first | rfl | exact congrArg _ (congrArg _ (Fin.ext (by simp [narrow, wide])))

theorem rawB13_row
 (i : Fin 64) :
    (rawB13 a2 h2 a3 h3 a4 h4 a5 h5 a6 h6 a7 h7 a8 h8 a9 h9 a15 h15 x0 x1 x2 x3 x4 x5 x6 x7 xs0).gr (ix2 0 i) = (rawB13 a2 h2 a3 h3 a4 h4 a5 h5 a6 h6 a7 h7 a8 h8 a9 h9 a15 h15 x0 x1 x2 x3 x4 x5 x6 x7 xs0).inp.g i := by
  rw [rawB13_inp]
  unfold inpOf rawB13
  simp only [View.readAt_eq_ld, Memref.IsWhole.read_unread]
  pointwise []

theorem rawB14_inp
 :
    (rawB14 a2 h2 a3 h3 a4 h4 a5 h5 a6 h6 a7 h7 a8 h8 a9 h9 a15 h15 x0 x1 x2 x3 x4 x5 x6 x7 xs0).inp = inpOf x0 x1 x2 x3 x4 x5 x6 x7 xs0 14 := by
  unfold Raw.inp inpOf rawB14
  simp only [View.readAt_eq_ld, Memref.IsWhole.read_unread]
  congr 1 <;> funext i <;> (try funext m) <;> pointwise []
  all_goals first | rfl | exact congrArg _ (congrArg _ (Fin.ext (by simp [narrow, wide])))

theorem rawB14_row
 (i : Fin 64) :
    (rawB14 a2 h2 a3 h3 a4 h4 a5 h5 a6 h6 a7 h7 a8 h8 a9 h9 a15 h15 x0 x1 x2 x3 x4 x5 x6 x7 xs0).gr (ix2 0 i) = (rawB14 a2 h2 a3 h3 a4 h4 a5 h5 a6 h6 a7 h7 a8 h8 a9 h9 a15 h15 x0 x1 x2 x3 x4 x5 x6 x7 xs0).inp.g i := by
  rw [rawB14_inp]
  unfold inpOf rawB14
  simp only [View.readAt_eq_ld, Memref.IsWhole.read_unread]
  pointwise []

theorem rawB15_inp
 :
    (rawB15 a2 h2 a3 h3 a4 h4 a5 h5 a6 h6 a7 h7 a8 h8 a9 h9 a15 h15 x0 x1 x2 x3 x4 x5 x6 x7 xs0).inp = inpOf x0 x1 x2 x3 x4 x5 x6 x7 xs0 15 := by
  unfold Raw.inp inpOf rawB15
  simp only [View.readAt_eq_ld, Memref.IsWhole.read_unread]
  congr 1 <;> funext i <;> (try funext m) <;> pointwise []
  all_goals first | rfl | exact congrArg _ (congrArg _ (Fin.ext (by simp [narrow, wide])))

theorem rawB15_row
 (i : Fin 64) :
    (rawB15 a2 h2 a3 h3 a4 h4 a5 h5 a6 h6 a7 h7 a8 h8 a9 h9 a15 h15 x0 x1 x2 x3 x4 x5 x6 x7 xs0).gr (ix2 0 i) = (rawB15 a2 h2 a3 h3 a4 h4 a5 h5 a6 h6 a7 h7 a8 h8 a9 h9 a15 h15 x0 x1 x2 x3 x4 x5 x6 x7 xs0).inp.g i := by
  rw [rawB15_inp]
  unfold inpOf rawB15
  simp only [View.readAt_eq_ld, Memref.IsWhole.read_unread]
  pointwise []

theorem rawsB_inp
 : ∀ h : Fin 16, (rawsB a2 h2 a3 h3 a4 h4 a5 h5 a6 h6 a7 h7 a8 h8 a9 h9 a15 h15 x0 x1 x2 x3 x4 x5 x6 x7 xs0 h).inp = inpOf x0 x1 x2 x3 x4 x5 x6 x7 xs0 h
  | ⟨0, _⟩ => rawB0_inp ..
  | ⟨1, _⟩ => rawB1_inp ..
  | ⟨2, _⟩ => rawB2_inp ..
  | ⟨3, _⟩ => rawB3_inp ..
  | ⟨4, _⟩ => rawB4_inp ..
  | ⟨5, _⟩ => rawB5_inp ..
  | ⟨6, _⟩ => rawB6_inp ..
  | ⟨7, _⟩ => rawB7_inp ..
  | ⟨8, _⟩ => rawB8_inp ..
  | ⟨9, _⟩ => rawB9_inp ..
  | ⟨10, _⟩ => rawB10_inp ..
  | ⟨11, _⟩ => rawB11_inp ..
  | ⟨12, _⟩ => rawB12_inp ..
  | ⟨13, _⟩ => rawB13_inp ..
  | ⟨14, _⟩ => rawB14_inp ..
  | ⟨15, _⟩ => rawB15_inp ..
  | ⟨n + 16, h⟩ => absurd h (by omega)

theorem rawsB_row
 : ∀ (h : Fin 16) (i : Fin 64), (rawsB a2 h2 a3 h3 a4 h4 a5 h5 a6 h6 a7 h7 a8 h8 a9 h9 a15 h15 x0 x1 x2 x3 x4 x5 x6 x7 xs0 h).gr (ix2 0 i) = (rawsB a2 h2 a3 h3 a4 h4 a5 h5 a6 h6 a7 h7 a8 h8 a9 h9 a15 h15 x0 x1 x2 x3 x4 x5 x6 x7 xs0 h).inp.g i
  | ⟨0, _⟩ => fun _ => rawB0_row ..
  | ⟨1, _⟩ => fun _ => rawB1_row ..
  | ⟨2, _⟩ => fun _ => rawB2_row ..
  | ⟨3, _⟩ => fun _ => rawB3_row ..
  | ⟨4, _⟩ => fun _ => rawB4_row ..
  | ⟨5, _⟩ => fun _ => rawB5_row ..
  | ⟨6, _⟩ => fun _ => rawB6_row ..
  | ⟨7, _⟩ => fun _ => rawB7_row ..
  | ⟨8, _⟩ => fun _ => rawB8_row ..
  | ⟨9, _⟩ => fun _ => rawB9_row ..
  | ⟨10, _⟩ => fun _ => rawB10_row ..
  | ⟨11, _⟩ => fun _ => rawB11_row ..
  | ⟨12, _⟩ => fun _ => rawB12_row ..
  | ⟨13, _⟩ => fun _ => rawB13_row ..
  | ⟨14, _⟩ => fun _ => rawB14_row ..
  | ⟨15, _⟩ => fun _ => rawB15_row ..
  | ⟨n + 16, h⟩ => fun _ => absurd h (by omega)

theorem out0_B_8_eq
    (hy : ∀ h, Good (inpOf x0 x1 x2 x3 x4 x5 x6 x7 xs0 h)) :
    out0_B_8 c i a2 h2 a3 h3 a4 h4 a5 h5 a6 h6 a7 h7 a8 h8 a9 h9 a10 h10 a11 h11 a12 h12 a13 h13 a14 h14 a15 h15 hc0 x0 x1 x2 x3 x4 x5 x6 x7 xs0 = flat (fun h w => (inpOf x0 x1 x2 x3 x4 x5 x6 x7 xs0 h).dq (w 0) (w 1)) := by
  funext y
  refine (congrFun (View.read_writes_eq_canon _ _ _ (cover0_B_8 c i a2 h2 a3 h3 a4 h4 a5 h5 a6 h6 a7 h7 a8 h8 a9 h9 a10 h10 a11 h11 a12 h12 a13 h13 a14 h14 a15 h15 hc0 x0 x1 x2 x3 x4 x5 x6 x7 xs0)) y).trans ?_
  rw [listB_8]
  refine View.canon_apply_of_pieces (flat (fun h w => (inpOf x0 x1 x2 x3 x4 x5 x6 x7 xs0 h).dq (w 0) (w 1))) _ ?_ y (listB_8 c i a2 h2 a3 h3 a4 h4 a5 h5 a6 h6 a7 h7 a8 h8 a9 h9 a10 h10 a11 h11 a12 h12 a13 h13 a14 h14 a15 h15 hc0 x0 x1 x2 x3 x4 x5 x6 x7 xs0 ▸ cover0_B_8 c i a2 h2 a3 h3 a4 h4 a5 h5 a6 h6 a7 h7 a8 h8 a9 h9 a10 h10 a11 h11 a12 h12 a13 h13 a14 h14 a15 h15 hc0 x0 x1 x2 x3 x4 x5 x6 x7 xs0 y)
  exact List.forall_mem_cons.2 ⟨dq_piece (o := 1920) 15 (rawB15_inp ..) hy (fun _ => rawB15_row ..) rfl inb_S64x2048_S64x128_0_1920, List.forall_mem_cons.2 ⟨dq_piece (o := 1792) 14 (rawB14_inp ..) hy (fun _ => rawB14_row ..) rfl inb_S64x2048_S64x128_0_1792, List.forall_mem_cons.2 ⟨dq_piece (o := 1664) 13 (rawB13_inp ..) hy (fun _ => rawB13_row ..) rfl inb_S64x2048_S64x128_0_1664, List.forall_mem_cons.2 ⟨dq_piece (o := 1536) 12 (rawB12_inp ..) hy (fun _ => rawB12_row ..) rfl inb_S64x2048_S64x128_0_1536, List.forall_mem_cons.2 ⟨dq_piece (o := 1408) 11 (rawB11_inp ..) hy (fun _ => rawB11_row ..) rfl inb_S64x2048_S64x128_0_1408, List.forall_mem_cons.2 ⟨dq_piece (o := 1280) 10 (rawB10_inp ..) hy (fun _ => rawB10_row ..) rfl inb_S64x2048_S64x128_0_1280, List.forall_mem_cons.2 ⟨dq_piece (o := 1152) 9 (rawB9_inp ..) hy (fun _ => rawB9_row ..) rfl inb_S64x2048_S64x128_0_1152, List.forall_mem_cons.2 ⟨dq_piece (o := 1024) 8 (rawB8_inp ..) hy (fun _ => rawB8_row ..) rfl inb_S64x2048_S64x128_0_1024, List.forall_mem_cons.2 ⟨dq_piece (o := 896) 7 (rawB7_inp ..) hy (fun _ => rawB7_row ..) rfl inb_S64x2048_S64x128_0_896, List.forall_mem_cons.2 ⟨dq_piece (o := 768) 6 (rawB6_inp ..) hy (fun _ => rawB6_row ..) rfl inb_S64x2048_S64x128_0_768, List.forall_mem_cons.2 ⟨dq_piece (o := 640) 5 (rawB5_inp ..) hy (fun _ => rawB5_row ..) rfl inb_S64x2048_S64x128_0_640, List.forall_mem_cons.2 ⟨dq_piece (o := 512) 4 (rawB4_inp ..) hy (fun _ => rawB4_row ..) rfl inb_S64x2048_S64x128_0_512, List.forall_mem_cons.2 ⟨dq_piece (o := 384) 3 (rawB3_inp ..) hy (fun _ => rawB3_row ..) rfl inb_S64x2048_S64x128_0_384, List.forall_mem_cons.2 ⟨dq_piece (o := 256) 2 (rawB2_inp ..) hy (fun _ => rawB2_row ..) rfl inb_S64x2048_S64x128_0_256, List.forall_mem_cons.2 ⟨dq_piece (o := 128) 1 (rawB1_inp ..) hy (fun _ => rawB1_row ..) rfl inb_S64x2048_S64x128_0_128, List.forall_mem_cons.2 ⟨dq_piece (o := 0) 0 (rawB0_inp ..) hy (fun _ => rawB0_row ..) rfl inb_S64x2048_S64x128_0_0, List.forall_mem_nil _⟩⟩⟩⟩⟩⟩⟩⟩⟩⟩⟩⟩⟩⟩⟩⟩

theorem out0_B_9_eq
    (hy : ∀ h, Good (inpOf x0 x1 x2 x3 x4 x5 x6 x7 xs0 h)) :
    out0_B_9 c i a2 h2 a3 h3 a4 h4 a5 h5 a6 h6 a7 h7 a8 h8 a9 h9 a10 h10 a11 h11 a12 h12 a13 h13 a14 h14 a15 h15 hc0 x0 x1 x2 x3 x4 x5 x6 x7 xs0 = flat (fun h w => (inpOf x0 x1 x2 x3 x4 x5 x6 x7 xs0 h).dk (w 0) (w 1)) := by
  funext y
  refine (congrFun (View.read_writes_eq_canon _ _ _ (cover0_B_9 c i a2 h2 a3 h3 a4 h4 a5 h5 a6 h6 a7 h7 a8 h8 a9 h9 a10 h10 a11 h11 a12 h12 a13 h13 a14 h14 a15 h15 hc0 x0 x1 x2 x3 x4 x5 x6 x7 xs0)) y).trans ?_
  rw [listB_9]
  refine View.canon_apply_of_pieces (flat (fun h w => (inpOf x0 x1 x2 x3 x4 x5 x6 x7 xs0 h).dk (w 0) (w 1))) _ ?_ y (listB_9 c i a2 h2 a3 h3 a4 h4 a5 h5 a6 h6 a7 h7 a8 h8 a9 h9 a10 h10 a11 h11 a12 h12 a13 h13 a14 h14 a15 h15 hc0 x0 x1 x2 x3 x4 x5 x6 x7 xs0 ▸ cover0_B_9 c i a2 h2 a3 h3 a4 h4 a5 h5 a6 h6 a7 h7 a8 h8 a9 h9 a10 h10 a11 h11 a12 h12 a13 h13 a14 h14 a15 h15 hc0 x0 x1 x2 x3 x4 x5 x6 x7 xs0 y)
  exact List.forall_mem_cons.2 ⟨dk_piece (o := 1920) 15 (rawB15_inp ..) hy (fun _ => rawB15_row ..) rfl inb_S64x2048_S64x128_0_1920, List.forall_mem_cons.2 ⟨dk_piece (o := 1792) 14 (rawB14_inp ..) hy (fun _ => rawB14_row ..) rfl inb_S64x2048_S64x128_0_1792, List.forall_mem_cons.2 ⟨dk_piece (o := 1664) 13 (rawB13_inp ..) hy (fun _ => rawB13_row ..) rfl inb_S64x2048_S64x128_0_1664, List.forall_mem_cons.2 ⟨dk_piece (o := 1536) 12 (rawB12_inp ..) hy (fun _ => rawB12_row ..) rfl inb_S64x2048_S64x128_0_1536, List.forall_mem_cons.2 ⟨dk_piece (o := 1408) 11 (rawB11_inp ..) hy (fun _ => rawB11_row ..) rfl inb_S64x2048_S64x128_0_1408, List.forall_mem_cons.2 ⟨dk_piece (o := 1280) 10 (rawB10_inp ..) hy (fun _ => rawB10_row ..) rfl inb_S64x2048_S64x128_0_1280, List.forall_mem_cons.2 ⟨dk_piece (o := 1152) 9 (rawB9_inp ..) hy (fun _ => rawB9_row ..) rfl inb_S64x2048_S64x128_0_1152, List.forall_mem_cons.2 ⟨dk_piece (o := 1024) 8 (rawB8_inp ..) hy (fun _ => rawB8_row ..) rfl inb_S64x2048_S64x128_0_1024, List.forall_mem_cons.2 ⟨dk_piece (o := 896) 7 (rawB7_inp ..) hy (fun _ => rawB7_row ..) rfl inb_S64x2048_S64x128_0_896, List.forall_mem_cons.2 ⟨dk_piece (o := 768) 6 (rawB6_inp ..) hy (fun _ => rawB6_row ..) rfl inb_S64x2048_S64x128_0_768, List.forall_mem_cons.2 ⟨dk_piece (o := 640) 5 (rawB5_inp ..) hy (fun _ => rawB5_row ..) rfl inb_S64x2048_S64x128_0_640, List.forall_mem_cons.2 ⟨dk_piece (o := 512) 4 (rawB4_inp ..) hy (fun _ => rawB4_row ..) rfl inb_S64x2048_S64x128_0_512, List.forall_mem_cons.2 ⟨dk_piece (o := 384) 3 (rawB3_inp ..) hy (fun _ => rawB3_row ..) rfl inb_S64x2048_S64x128_0_384, List.forall_mem_cons.2 ⟨dk_piece (o := 256) 2 (rawB2_inp ..) hy (fun _ => rawB2_row ..) rfl inb_S64x2048_S64x128_0_256, List.forall_mem_cons.2 ⟨dk_piece (o := 128) 1 (rawB1_inp ..) hy (fun _ => rawB1_row ..) rfl inb_S64x2048_S64x128_0_128, List.forall_mem_cons.2 ⟨dk_piece (o := 0) 0 (rawB0_inp ..) hy (fun _ => rawB0_row ..) rfl inb_S64x2048_S64x128_0_0, List.forall_mem_nil _⟩⟩⟩⟩⟩⟩⟩⟩⟩⟩⟩⟩⟩⟩⟩⟩

theorem out0_B_10_eq
    (hy : ∀ h, Good (inpOf x0 x1 x2 x3 x4 x5 x6 x7 xs0 h)) :
    out0_B_10 c i a2 h2 a3 h3 a4 h4 a5 h5 a6 h6 a7 h7 a8 h8 a9 h9 a10 h10 a11 h11 a12 h12 a13 h13 a14 h14 a15 h15 hc0 x0 x1 x2 x3 x4 x5 x6 x7 xs0 = flat (fun h w => (inpOf x0 x1 x2 x3 x4 x5 x6 x7 xs0 h).dv (w 0) (w 1)) := by
  funext y
  refine (congrFun (View.read_writes_eq_canon _ _ _ (cover0_B_10 c i a2 h2 a3 h3 a4 h4 a5 h5 a6 h6 a7 h7 a8 h8 a9 h9 a10 h10 a11 h11 a12 h12 a13 h13 a14 h14 a15 h15 hc0 x0 x1 x2 x3 x4 x5 x6 x7 xs0)) y).trans ?_
  rw [listB_10]
  refine View.canon_apply_of_pieces (flat (fun h w => (inpOf x0 x1 x2 x3 x4 x5 x6 x7 xs0 h).dv (w 0) (w 1))) _ ?_ y (listB_10 c i a2 h2 a3 h3 a4 h4 a5 h5 a6 h6 a7 h7 a8 h8 a9 h9 a10 h10 a11 h11 a12 h12 a13 h13 a14 h14 a15 h15 hc0 x0 x1 x2 x3 x4 x5 x6 x7 xs0 ▸ cover0_B_10 c i a2 h2 a3 h3 a4 h4 a5 h5 a6 h6 a7 h7 a8 h8 a9 h9 a10 h10 a11 h11 a12 h12 a13 h13 a14 h14 a15 h15 hc0 x0 x1 x2 x3 x4 x5 x6 x7 xs0 y)
  exact List.forall_mem_cons.2 ⟨dv_piece (o := 1920) 15 (rawB15_inp ..) hy (fun _ => rawB15_row ..) rfl inb_S64x2048_S64x128_0_1920, List.forall_mem_cons.2 ⟨dv_piece (o := 1792) 14 (rawB14_inp ..) hy (fun _ => rawB14_row ..) rfl inb_S64x2048_S64x128_0_1792, List.forall_mem_cons.2 ⟨dv_piece (o := 1664) 13 (rawB13_inp ..) hy (fun _ => rawB13_row ..) rfl inb_S64x2048_S64x128_0_1664, List.forall_mem_cons.2 ⟨dv_piece (o := 1536) 12 (rawB12_inp ..) hy (fun _ => rawB12_row ..) rfl inb_S64x2048_S64x128_0_1536, List.forall_mem_cons.2 ⟨dv_piece (o := 1408) 11 (rawB11_inp ..) hy (fun _ => rawB11_row ..) rfl inb_S64x2048_S64x128_0_1408, List.forall_mem_cons.2 ⟨dv_piece (o := 1280) 10 (rawB10_inp ..) hy (fun _ => rawB10_row ..) rfl inb_S64x2048_S64x128_0_1280, List.forall_mem_cons.2 ⟨dv_piece (o := 1152) 9 (rawB9_inp ..) hy (fun _ => rawB9_row ..) rfl inb_S64x2048_S64x128_0_1152, List.forall_mem_cons.2 ⟨dv_piece (o := 1024) 8 (rawB8_inp ..) hy (fun _ => rawB8_row ..) rfl inb_S64x2048_S64x128_0_1024, List.forall_mem_cons.2 ⟨dv_piece (o := 896) 7 (rawB7_inp ..) hy (fun _ => rawB7_row ..) rfl inb_S64x2048_S64x128_0_896, List.forall_mem_cons.2 ⟨dv_piece (o := 768) 6 (rawB6_inp ..) hy (fun _ => rawB6_row ..) rfl inb_S64x2048_S64x128_0_768, List.forall_mem_cons.2 ⟨dv_piece (o := 640) 5 (rawB5_inp ..) hy (fun _ => rawB5_row ..) rfl inb_S64x2048_S64x128_0_640, List.forall_mem_cons.2 ⟨dv_piece (o := 512) 4 (rawB4_inp ..) hy (fun _ => rawB4_row ..) rfl inb_S64x2048_S64x128_0_512, List.forall_mem_cons.2 ⟨dv_piece (o := 384) 3 (rawB3_inp ..) hy (fun _ => rawB3_row ..) rfl inb_S64x2048_S64x128_0_384, List.forall_mem_cons.2 ⟨dv_piece (o := 256) 2 (rawB2_inp ..) hy (fun _ => rawB2_row ..) rfl inb_S64x2048_S64x128_0_256, List.forall_mem_cons.2 ⟨dv_piece (o := 128) 1 (rawB1_inp ..) hy (fun _ => rawB1_row ..) rfl inb_S64x2048_S64x128_0_128, List.forall_mem_cons.2 ⟨dv_piece (o := 0) 0 (rawB0_inp ..) hy (fun _ => rawB0_row ..) rfl inb_S64x2048_S64x128_0_0, List.forall_mem_nil _⟩⟩⟩⟩⟩⟩⟩⟩⟩⟩⟩⟩⟩⟩⟩⟩

theorem out0_B_11_eq
    (hy : ∀ h, Good (inpOf x0 x1 x2 x3 x4 x5 x6 x7 xs0 h)) :
    out0_B_11 c i a2 h2 a3 h3 a4 h4 a5 h5 a6 h6 a7 h7 a8 h8 a9 h9 a10 h10 a11 h11 a12 h12 a13 h13 a14 h14 a15 h15 hc0 x0 x1 x2 x3 x4 x5 x6 x7 xs0 = line (fun h i => (inpOf x0 x1 x2 x3 x4 x5 x6 x7 xs0 h).db i) := by
  funext y
  refine (congrFun (View.read_writes_eq_canon _ _ _ (cover0_B_11 c i a2 h2 a3 h3 a4 h4 a5 h5 a6 h6 a7 h7 a8 h8 a9 h9 a10 h10 a11 h11 a12 h12 a13 h13 a14 h14 a15 h15 hc0 x0 x1 x2 x3 x4 x5 x6 x7 xs0)) y).trans ?_
  rw [listB_11]
  refine View.canon_apply_of_pieces (line (fun h i => (inpOf x0 x1 x2 x3 x4 x5 x6 x7 xs0 h).db i)) _ ?_ y (listB_11 c i a2 h2 a3 h3 a4 h4 a5 h5 a6 h6 a7 h7 a8 h8 a9 h9 a10 h10 a11 h11 a12 h12 a13 h13 a14 h14 a15 h15 hc0 x0 x1 x2 x3 x4 x5 x6 x7 xs0 ▸ cover0_B_11 c i a2 h2 a3 h3 a4 h4 a5 h5 a6 h6 a7 h7 a8 h8 a9 h9 a10 h10 a11 h11 a12 h12 a13 h13 a14 h14 a15 h15 hc0 x0 x1 x2 x3 x4 x5 x6 x7 xs0 y)
  exact List.forall_mem_cons.2 ⟨db_piece (rawsB_inp a2 h2 a3 h3 a4 h4 a5 h5 a6 h6 a7 h7 a8 h8 a9 h9 a15 h15 x0 x1 x2 x3 x4 x5 x6 x7 xs0) hy (rawsB_row a2 h2 a3 h3 a4 h4 a5 h5 a6 h6 a7 h7 a8 h8 a9 h9 a15 h15 x0 x1 x2 x3 x4 x5 x6 x7 xs0) inb_S16x1x1x64_S16x1x1x64_0_0_0_0, List.forall_mem_nil _⟩

theorem out0_B_12_eq
    (hy : ∀ h, Good (inpOf x0 x1 x2 x3 x4 x5 x6 x7 xs0 h)) :
    out0_B_12 c i a2 h2 a3 h3 a4 h4 a5 h5 a6 h6 a7 h7 a8 h8 a9 h9 a10 h10 a11 h11 a12 h12 a13 h13 a14 h14 a15 h15 hc0 x0 x1 x2 x3 x4 x5 x6 x7 xs0 = line (fun h i => (inpOf x0 x1 x2 x3 x4 x5 x6 x7 xs0 h).dg i) := by
  funext y
  refine (congrFun (View.read_writes_eq_canon _ _ _ (cover0_B_12 c i a2 h2 a3 h3 a4 h4 a5 h5 a6 h6 a7 h7 a8 h8 a9 h9 a10 h10 a11 h11 a12 h12 a13 h13 a14 h14 a15 h15 hc0 x0 x1 x2 x3 x4 x5 x6 x7 xs0)) y).trans ?_
  rw [listB_12]
  refine View.canon_apply_of_pieces (line (fun h i => (inpOf x0 x1 x2 x3 x4 x5 x6 x7 xs0 h).dg i)) _ ?_ y (listB_12 c i a2 h2 a3 h3 a4 h4 a5 h5 a6 h6 a7 h7 a8 h8 a9 h9 a10 h10 a11 h11 a12 h12 a13 h13 a14 h14 a15 h15 hc0 x0 x1 x2 x3 x4 x5 x6 x7 xs0 ▸ cover0_B_12 c i a2 h2 a3 h3 a4 h4 a5 h5 a6 h6 a7 h7 a8 h8 a9 h9 a10 h10 a11 h11 a12 h12 a13 h13 a14 h14 a15 h15 hc0 x0 x1 x2 x3 x4 x5 x6 x7 xs0 y)
  exact List.forall_mem_cons.2 ⟨dg_piece (rawsB_inp a2 h2 a3 h3 a4 h4 a5 h5 a6 h6 a7 h7 a8 h8 a9 h9 a15 h15 x0 x1 x2 x3 x4 x5 x6 x7 xs0) hy (rawsB_row a2 h2 a3 h3 a4 h4 a5 h5 a6 h6 a7 h7 a8 h8 a9 h9 a15 h15 x0 x1 x2 x3 x4 x5 x6 x7 xs0) inb_S16x1x1x64_S16x1x1x64_0_0_0_0, List.forall_mem_nil _⟩

theorem sout0_B_0_eq
    (hy : ∀ h, Good (inpOf x0 x1 x2 x3 x4 x5 x6 x7 xs0 h)) :
    sout0_B_0 c i a2 h2 a3 h3 a4 h4 a5 h5 a6 h6 a7 h7 a8 h8 a9 h9 a10 h10 a11 h11 a12 h12 a13 h13 a14 h14 a15 h15 hc0 x0 x1 x2 x3 x4 x5 x6 x7 xs0 = deep (fun h w => (inpOf x0 x1 x2 x3 x4 x5 x6 x7 xs0 h).dS (w 0) (w 1)) := by
  funext y
  refine (congrFun (View.read_writes_eq_canon _ _ _ (scover0_B_0 c i a2 h2 a3 h3 a4 h4 a5 h5 a6 h6 a7 h7 a8 h8 a9 h9 a10 h10 a11 h11 a12 h12 a13 h13 a14 h14 a15 h15 hc0 x0 x1 x2 x3 x4 x5 x6 x7 xs0)) y).trans ?_
  rw [listB_15]
  refine View.canon_apply_of_pieces (deep (fun h w => (inpOf x0 x1 x2 x3 x4 x5 x6 x7 xs0 h).dS (w 0) (w 1))) _ ?_ y (listB_15 c i a2 h2 a3 h3 a4 h4 a5 h5 a6 h6 a7 h7 a8 h8 a9 h9 a10 h10 a11 h11 a12 h12 a13 h13 a14 h14 a15 h15 hc0 x0 x1 x2 x3 x4 x5 x6 x7 xs0 ▸ scover0_B_0 c i a2 h2 a3 h3 a4 h4 a5 h5 a6 h6 a7 h7 a8 h8 a9 h9 a10 h10 a11 h11 a12 h12 a13 h13 a14 h14 a15 h15 hc0 x0 x1 x2 x3 x4 x5 x6 x7 xs0 y)
  exact List.forall_mem_cons.2 ⟨dS_piece (o := 15) 15 (rawB15_inp ..) hy (fun _ => rawB15_row ..) rfl inb_S16x128x128_S1x128x128_15_0_0, List.forall_mem_cons.2 ⟨dS_piece (o := 14) 14 (rawB14_inp ..) hy (fun _ => rawB14_row ..) rfl inb_S16x128x128_S1x128x128_14_0_0, List.forall_mem_cons.2 ⟨dS_piece (o := 13) 13 (rawB13_inp ..) hy (fun _ => rawB13_row ..) rfl inb_S16x128x128_S1x128x128_13_0_0, List.forall_mem_cons.2 ⟨dS_piece (o := 12) 12 (rawB12_inp ..) hy (fun _ => rawB12_row ..) rfl inb_S16x128x128_S1x128x128_12_0_0, List.forall_mem_cons.2 ⟨dS_piece (o := 11) 11 (rawB11_inp ..) hy (fun _ => rawB11_row ..) rfl inb_S16x128x128_S1x128x128_11_0_0, List.forall_mem_cons.2 ⟨dS_piece (o := 10) 10 (rawB10_inp ..) hy (fun _ => rawB10_row ..) rfl inb_S16x128x128_S1x128x128_10_0_0, List.forall_mem_cons.2 ⟨dS_piece (o := 9) 9 (rawB9_inp ..) hy (fun _ => rawB9_row ..) rfl inb_S16x128x128_S1x128x128_9_0_0, List.forall_mem_cons.2 ⟨dS_piece (o := 8) 8 (rawB8_inp ..) hy (fun _ => rawB8_row ..) rfl inb_S16x128x128_S1x128x128_8_0_0, List.forall_mem_cons.2 ⟨dS_piece (o := 7) 7 (rawB7_inp ..) hy (fun _ => rawB7_row ..) rfl inb_S16x128x128_S1x128x128_7_0_0, List.forall_mem_cons.2 ⟨dS_piece (o := 6) 6 (rawB6_inp ..) hy (fun _ => rawB6_row ..) rfl inb_S16x128x128_S1x128x128_6_0_0, List.forall_mem_cons.2 ⟨dS_piece (o := 5) 5 (rawB5_inp ..) hy (fun _ => rawB5_row ..) rfl inb_S16x128x128_S1x128x128_5_0_0, List.forall_mem_cons.2 ⟨dS_piece (o := 4) 4 (rawB4_inp ..) hy (fun _ => rawB4_row ..) rfl inb_S16x128x128_S1x128x128_4_0_0, List.forall_mem_cons.2 ⟨dS_piece (o := 3) 3 (rawB3_inp ..) hy (fun _ => rawB3_row ..) rfl inb_S16x128x128_S1x128x128_3_0_0, List.forall_mem_cons.2 ⟨dS_piece (o := 2) 2 (rawB2_inp ..) hy (fun _ => rawB2_row ..) rfl inb_S16x128x128_S1x128x128_2_0_0, List.forall_mem_cons.2 ⟨dS_piece (o := 1) 1 (rawB1_inp ..) hy (fun _ => rawB1_row ..) rfl inb_S16x128x128_S1x128x128_1_0_0, List.forall_mem_cons.2 ⟨dS_piece (o := 0) 0 (rawB0_inp ..) hy (fun _ => rawB0_row ..) rfl inb_S16x128x128_S1x128x128_0_0_0, List.forall_mem_nil _⟩⟩⟩⟩⟩⟩⟩⟩⟩⟩⟩⟩⟩⟩⟩⟩

end Values

end Cert.Proof.Delta

end
-- ==== Proof.Leaves.lean ====
/-
  One grid point, all of its stores at once.
-/
module

public import proofs.«01_k».proof.Proof.Spec
public import proofs.«01_k».proof.Proof.PointA
public import proofs.«01_k».proof.Proof.PointB

@[expose] public section

noncomputable section

open Idealize.ShloMosaic Idealize.ShloMosaic.TcCoe Cert.KernelIdeal Cert.KernelIdeal.Gen

namespace Cert.Proof.Delta

/-- Every output block of a point, and the cotangent it carries on, from the heads' inputs. -/
structure Leaves (X : Fin 16 → Inp) (o8 o9 o10 : Vec Ideal S64x2048 .bf16) (o11 o12 : Vec Ideal S16x1x1x64 .f32)
    (oS : Vec Ideal S16x128x128 .f32) : Prop where
  e8 : o8 = flat (fun h w => (X h).dq (w 0) (w 1))
  e9 : o9 = flat (fun h w => (X h).dk (w 0) (w 1))
  e10 : o10 = flat (fun h w => (X h).dv (w 0) (w 1))
  e11 : o11 = line (fun h i => (X h).db i)
  e12 : o12 = line (fun h i => (X h).dg i)
  eS : oS = deep (fun h w => (X h).dS (w 0) (w 1))

theorem pointA
  (c : Dev nD) (i : grid0.Coords)
  (arg2 : Memref sig .tc .vmem S64x1024 .bf16) (harg2 : arg2.IsWhole)
  (arg3 : Memref sig .tc .vmem S64x1024 .bf16) (harg3 : arg3.IsWhole)
  (arg4 : Memref sig .tc .vmem S64x2048 .f32) (harg4 : arg4.IsWhole)
  (arg5 : Memref sig .tc .vmem S16x1x1x64 .f32) (harg5 : arg5.IsWhole)
  (arg6 : Memref sig .tc .vmem S16x1x1x64 .f32) (harg6 : arg6.IsWhole)
  (arg7 : Memref sig .tc .vmem S16x1x128x128 .f32) (harg7 : arg7.IsWhole)
  (arg8 : Memref sig .tc .vmem S16x1x64x64 .f32) (harg8 : arg8.IsWhole)
  (arg9 : Memref sig .tc .vmem S64x2048 .f32) (harg9 : arg9.IsWhole)
  (arg10 : Memref sig .tc .vmem S64x2048 .bf16) (harg10 : arg10.IsWhole)
  (arg11 : Memref sig .tc .vmem S64x2048 .bf16) (harg11 : arg11.IsWhole)
  (arg12 : Memref sig .tc .vmem S64x2048 .bf16) (harg12 : arg12.IsWhole)
  (arg13 : Memref sig .tc .vmem S16x1x1x64 .f32) (harg13 : arg13.IsWhole)
  (arg14 : Memref sig .tc .vmem S16x1x1x64 .f32) (harg14 : arg14.IsWhole)
  (arg15 : Memref sig .tc .vmem S16x128x128 .f32) (harg15 : arg15.IsWhole)
  (hc0 : cond0_0 i)
  (x0 : Vec Ideal S64x1024 .bf16) (x1 : Vec Ideal S64x1024 .bf16) (x2 : Vec Ideal S64x2048 .f32) (x3 : Vec Ideal S16x1x1x64 .f32) (x4 : Vec Ideal S16x1x1x64 .f32) (x5 : Vec Ideal S16x1x128x128 .f32) (x6 : Vec Ideal S16x1x64x64 .f32) (x7 : Vec Ideal S64x2048 .f32)
    (X : Fin 16 → Inp) (hX : ∀ h, inpOf x0 x1 x2 x3 x4 x5 x6 x7 (fun _ => (0 : EReal)) h = X h) (hg : ∀ h, Good (X h)) :
    Leaves X (out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) := by
  obtain rfl : (fun h => inpOf x0 x1 x2 x3 x4 x5 x6 x7 (fun _ => (0 : EReal)) h) = X := funext hX
  exact ⟨out0_A_8_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 hg, out0_A_9_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 hg, out0_A_10_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 hg, out0_A_11_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 hg, out0_A_12_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 hg, sout0_A_0_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 hg⟩

theorem pointB
  (c : Dev nD) (i : grid0.Coords)
  (arg2 : Memref sig .tc .vmem S64x1024 .bf16) (harg2 : arg2.IsWhole)
  (arg3 : Memref sig .tc .vmem S64x1024 .bf16) (harg3 : arg3.IsWhole)
  (arg4 : Memref sig .tc .vmem S64x2048 .f32) (harg4 : arg4.IsWhole)
  (arg5 : Memref sig .tc .vmem S16x1x1x64 .f32) (harg5 : arg5.IsWhole)
  (arg6 : Memref sig .tc .vmem S16x1x1x64 .f32) (harg6 : arg6.IsWhole)
  (arg7 : Memref sig .tc .vmem S16x1x128x128 .f32) (harg7 : arg7.IsWhole)
  (arg8 : Memref sig .tc .vmem S16x1x64x64 .f32) (harg8 : arg8.IsWhole)
  (arg9 : Memref sig .tc .vmem S64x2048 .f32) (harg9 : arg9.IsWhole)
  (arg10 : Memref sig .tc .vmem S64x2048 .bf16) (harg10 : arg10.IsWhole)
  (arg11 : Memref sig .tc .vmem S64x2048 .bf16) (harg11 : arg11.IsWhole)
  (arg12 : Memref sig .tc .vmem S64x2048 .bf16) (harg12 : arg12.IsWhole)
  (arg13 : Memref sig .tc .vmem S16x1x1x64 .f32) (harg13 : arg13.IsWhole)
  (arg14 : Memref sig .tc .vmem S16x1x1x64 .f32) (harg14 : arg14.IsWhole)
  (arg15 : Memref sig .tc .vmem S16x128x128 .f32) (harg15 : arg15.IsWhole)
  (hc0 : ¬ cond0_0 i)
  (x0 : Vec Ideal S64x1024 .bf16) (x1 : Vec Ideal S64x1024 .bf16) (x2 : Vec Ideal S64x2048 .f32) (x3 : Vec Ideal S16x1x1x64 .f32) (x4 : Vec Ideal S16x1x1x64 .f32) (x5 : Vec Ideal S16x1x128x128 .f32) (x6 : Vec Ideal S16x1x64x64 .f32) (x7 : Vec Ideal S64x2048 .f32) (xs0 : Vec Ideal S16x128x128 .f32)
    (X : Fin 16 → Inp) (hX : ∀ h, inpOf x0 x1 x2 x3 x4 x5 x6 x7 xs0 h = X h) (hg : ∀ h, Good (X h)) :
    Leaves X (out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) (out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) (out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) (out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) (out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) (sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) := by
  obtain rfl : (fun h => inpOf x0 x1 x2 x3 x4 x5 x6 x7 xs0 h) = X := funext hX
  exact ⟨out0_B_8_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 hg, out0_B_9_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 hg, out0_B_10_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 hg, out0_B_11_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 hg, out0_B_12_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 hg, sout0_B_0_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 hg⟩

end Cert.Proof.Delta

end
-- ==== Proof.KernelFold.lean ====
/-
  The kernel's grid read to its end: what each point leaves, and the arrays the points' blocks make.
-/
module

public import proofs.«01_k».proof.Proof.Sheet
public import proofs.«01_k».proof.Proof.Leaves
public import proofs.«01_k».proof.Proof.Gen.KernelIdeal.Value
public import Idealize.ShloMosaic.Lib.Pipeline.ValueKit.Point

@[expose] public section

noncomputable section

open Idealize.ShloMosaic Idealize.ShloMosaic.TcCoe Idealize.SL.Sem Cert.KernelIdeal Cert.KernelIdeal.Gen

namespace Cert.Proof.Delta

variable (m : (ℓ : Loc nD τ sig) → Buf (Elt Ideal) ℓ) (c : Dev nD)

/-- The kernel's arguments, as the pass is given them. -/
def kargs : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

theorem ix : ∀ t : Fin cfg0.N, win0_0.index t = ![63 - t.val, 0] ∧ win0_1.index t = ![63 - t.val, 1] ∧ win0_2.index t = ![63 - t.val, 1]
    ∧ win0_3.index t = ![0, 63 - t.val, 0, 0] ∧ win0_4.index t = ![0, 63 - t.val, 0, 0] ∧ win0_5.index t = ![0, 63 - t.val, 0, 0]
    ∧ win0_6.index t = ![0, 63 - t.val, 0, 0] ∧ win0_7.index t = ![63 - t.val, 0] ∧ win0_8.index t = ![63 - t.val, 0]
    ∧ win0_9.index t = ![63 - t.val, 0] ∧ win0_10.index t = ![63 - t.val, 0] ∧ win0_11.index t = ![0, 63 - t.val, 0, 0]
    ∧ win0_12.index t = ![0, 63 - t.val, 0, 0] :=
  (by decide +kernel : ∀ t : Fin grid0.N, win0_0.index t = ![63 - t.val, 0] ∧ win0_1.index t = ![63 - t.val, 1] ∧ win0_2.index t = ![63 - t.val, 1]
    ∧ win0_3.index t = ![0, 63 - t.val, 0, 0] ∧ win0_4.index t = ![0, 63 - t.val, 0, 0] ∧ win0_5.index t = ![0, 63 - t.val, 0, 0]
    ∧ win0_6.index t = ![0, 63 - t.val, 0, 0] ∧ win0_7.index t = ![63 - t.val, 0] ∧ win0_8.index t = ![63 - t.val, 0]
    ∧ win0_9.index t = ![63 - t.val, 0] ∧ win0_10.index t = ![63 - t.val, 0] ∧ win0_11.index t = ![0, 63 - t.val, 0, 0]
    ∧ win0_12.index t = ![0, 63 - t.val, 0, 0])

variable (t : Fin cfg0.N)

theorem rd0 (i : Fin 64) (q : Fin 1024) :
    (iblk m c 0 t : Vec Ideal S64x1024 .bf16) (ix2 i q) = (kargs m c).qk (ix2 (row (back t.val) i) ⟨q.val, by omega⟩) := by
  show _ = m ((c : Thread nD τ).loc main_arg0) (ix2 (row (back t.val) i) ⟨q.val, by omega⟩)
  unfold row back
  blk_ext [iblk, V, ix t]

theorem rd1 (i : Fin 64) (q : Fin 1024) :
    (iblk m c 1 t : Vec Ideal S64x1024 .bf16) (ix2 i q) = (kargs m c).qk (ix2 (row (back t.val) i) ⟨1024 + q.val, by omega⟩) := by
  show _ = m ((c : Thread nD τ).loc main_arg0) (ix2 (row (back t.val) i) ⟨1024 + q.val, by omega⟩)
  unfold row back
  blk_ext [iblk, V, ix t]

theorem rd2 (i : Fin 64) (q : Fin 2048) :
    (iblk m c 2 t : Vec Ideal S64x2048 .f32) (ix2 i q) = (kargs m c).c (ix2 (row (back t.val) i) ⟨2048 + q.val, by omega⟩) := by
  show _ = m ((c : Thread nD τ).loc main_arg1) (ix2 (row (back t.val) i) ⟨2048 + q.val, by omega⟩)
  unfold row back
  blk_ext [iblk, V, ix t]

theorem rd3 (h : Fin 16) (i : Fin 64) :
    (iblk m c 3 t : Vec Ideal S16x1x1x64 .f32) (ix4 h 0 0 i) = (kargs m c).beta (ix4 h (back t.val) 0 i) := by
  show _ = m ((c : Thread nD τ).loc main_arg2) (ix4 h (back t.val) 0 i)
  unfold back
  blk_ext [iblk, V, ix t]

theorem rd4 (h : Fin 16) (i : Fin 64) :
    (iblk m c 4 t : Vec Ideal S16x1x1x64 .f32) (ix4 h 0 0 i) = (kargs m c).gam (ix4 h (back t.val) 0 i) := by
  show _ = m ((c : Thread nD τ).loc main_arg3) (ix4 h (back t.val) 0 i)
  unfold back
  blk_ext [iblk, V, ix t]

theorem rd5 (h : Fin 16) (k l : Fin 128) :
    (iblk m c 5 t : Vec Ideal S16x1x128x128 .f32) (ix4 h 0 k l) = (kargs m c).ss (ix4 h (back t.val) k l) := by
  show _ = m ((c : Thread nD τ).loc main_arg4) (ix4 h (back t.val) k l)
  unfold back
  blk_ext [iblk, V, ix t]

theorem rd6 (h : Fin 16) (k l : Fin 64) :
    (iblk m c 6 t : Vec Ideal S16x1x64x64 .f32) (ix4 h 0 k l) = (kargs m c).inv (ix4 h (back t.val) k l) := by
  show _ = m ((c : Thread nD τ).loc main_arg5) (ix4 h (back t.val) k l)
  unfold back
  blk_ext [iblk, V, ix t]

theorem rd7 (i : Fin 64) (q : Fin 2048) :
    (iblk m c 7 t : Vec Ideal S64x2048 .f32) (ix2 i q) = (kargs m c).ct (ix2 (row (back t.val) i) ⟨q.val, by omega⟩) := by
  show _ = m ((c : Thread nD τ).loc main_arg6) (ix2 (row (back t.val) i) ⟨q.val, by omega⟩)
  unfold row back
  blk_ext [iblk, V, ix t]

/-- What head `h` is given at point `t`, from the arguments. -/
theorem inpOf_blk (xs : Vec Ideal S16x128x128 .f32) (ds : Fin 16 → Fin 128 → Fin 128 → EReal)
    (hxs : ∀ h k l, xs (ix3 h k l) = ds h k l) (h : Fin 16) :
    inpOf (iblk m c 0 t) (iblk m c 1 t) (iblk m c 2 t) (iblk m c 3 t) (iblk m c 4 t) (iblk m c 5 t) (iblk m c 6 t) (iblk m c 7 t) xs h
      = (kargs m c).inp (back t.val) ds h := by
  unfold inpOf Args.inp
  congr 1
  · funext k l; exact rd5 m c t h k l
  · funext k l; exact hxs h k l
  · funext i k; exact rd0 m c t i (narrow h k)
  · funext i k; exact rd1 m c t i (narrow h k)
  · funext i k; exact rd2 m c t i (wide h k)
  · funext i k; exact rd7 m c t i (wide h k)
  · funext i; exact rd3 m c t h i
  · funext i; exact rd4 m c t h i
  · funext i l; exact rd6 m c t h i l

theorem eq_wide (q : Fin 2048) : ∃ (h : Fin 16) (k : Fin 128), q = wide h k :=
  ⟨⟨q.val / 128, by omega⟩, ⟨q.val % 128, by omega⟩, Fin.ext (by show q.val = 128 * (q.val / 128) + q.val % 128; omega)⟩

variable (hg : ∀ ch ds h, Good ((kargs m c).inp ch ds h))
include hg

theorem leavesA (h0 : t.val % 64 = 0) (hz : t.val = 0) : Leaves ((kargs m c).trip t.val) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 := by
  have hX : ∀ h, inpOf (iblk m c 0 t) (iblk m c 1 t) (iblk m c 2 t) (iblk m c 3 t) (iblk m c 4 t) (iblk m c 5 t) (iblk m c 6 t) (iblk m c 7 t) (fun _ => (0 : EReal)) h = (kargs m c).trip t.val h := fun h =>
    inpOf_blk m c t (fun _ => (0 : EReal)) ((kargs m c).carry t.val) (fun h k l => by rw [hz]; rfl) h
  have key := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) ((kargs m c).trip t.val) hX (fun h => hg _ _ _)
  rw [outsAt0_A m c t h0]
  dsimp only
  exact key

theorem leavesB (h0 : ¬ t.val % 64 = 0)
    (hxs : ∀ h k l, (outsAt0 m c (t.val - 1) (Nat.lt_of_le_of_lt (Nat.sub_le _ _) t.isLt)).2.2.2.2.2 (ix3 h k l) = (kargs m c).carry t.val h k l) :
    Leaves ((kargs m c).trip t.val) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 := by
  generalize hxe : (outsAt0 m c (t.val - 1) (Nat.lt_of_le_of_lt (Nat.sub_le _ _) t.isLt)).2.2.2.2.2 = xs at hxs
  have hX : ∀ h, inpOf (iblk m c 0 t) (iblk m c 1 t) (iblk m c 2 t) (iblk m c 3 t) (iblk m c 4 t) (iblk m c 5 t) (iblk m c 6 t) (iblk m c 7 t) xs h = (kargs m c).trip t.val h := fun h =>
    inpOf_blk m c t xs ((kargs m c).carry t.val) hxs h
  have key := pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xs ((kargs m c).trip t.val) hX (fun h => hg _ _ _)
  rw [outsAt0_B m c t h0, hxe]
  dsimp only
  exact key

theorem leaves : ∀ (n : ℕ) (hn : n < cfg0.N), Leaves ((kargs m c).trip n) (outsAt0 m c n hn).1 (outsAt0 m c n hn).2.1 (outsAt0 m c n hn).2.2.1 (outsAt0 m c n hn).2.2.2.1 (outsAt0 m c n hn).2.2.2.2.1 (outsAt0 m c n hn).2.2.2.2.2
  | 0, hn => leavesA m c ⟨0, hn⟩ hg rfl rfl
  | n + 1, hn => leavesB m c ⟨n + 1, hn⟩ hg (by have : n + 1 < 64 := hn; show ¬ (n + 1) % 64 = 0; omega)
      (fun h k l => congrFun (leaves n (Nat.lt_of_succ_lt hn)).eS (ix3 h k l))

omit hg in
theorem emb8 (G : S4096x2048.Idx → EReal) (i : Fin 64) (q : Fin 2048) :
    G (((cfg0.win 8).blk t).view.emb (ix2 i q)) = G (ix2 (row (back t.val) i) q) := by
  unfold row back
  blk_ext [ix t]

theorem arr8 : (dats m 0 c).arrAt 8 cfg0.N = (kargs m c).sheet Inp.dq := by
  refine (dats m 0 c).arrAt_eq_of_covers 8 _ (by decide +kernel) fun t hf y => ?_
  blk_simp
  rw [after0_8]
  refine (congrFun (leaves m c hg t.val t.isLt).e8 y).trans ?_
  obtain ⟨i, q, rfl⟩ : ∃ (i : Fin 64) (q : Fin 2048), y = ix2 i q := ⟨y 0, y 1, eq_ix2 y⟩
  obtain ⟨h, k, rfl⟩ := eq_wide q
  refine (flat_wide _ h i k).trans (Eq.trans ?_ (emb8 t ((kargs m c).sheet Inp.dq) i (wide h k)).symm)
  rw [Args.sheet_at (kargs m c) Inp.dq (back t.val) i h k (wide h k) rfl, Args.chunk_back _ _ t.isLt]
  rfl

omit hg in
theorem emb9 (G : S4096x2048.Idx → EReal) (i : Fin 64) (q : Fin 2048) :
    G (((cfg0.win 9).blk t).view.emb (ix2 i q)) = G (ix2 (row (back t.val) i) q) := by
  unfold row back
  blk_ext [ix t]

theorem arr9 : (dats m 0 c).arrAt 9 cfg0.N = (kargs m c).sheet Inp.dk := by
  refine (dats m 0 c).arrAt_eq_of_covers 9 _ (by decide +kernel) fun t hf y => ?_
  blk_simp
  rw [after0_9]
  refine (congrFun (leaves m c hg t.val t.isLt).e9 y).trans ?_
  obtain ⟨i, q, rfl⟩ : ∃ (i : Fin 64) (q : Fin 2048), y = ix2 i q := ⟨y 0, y 1, eq_ix2 y⟩
  obtain ⟨h, k, rfl⟩ := eq_wide q
  refine (flat_wide _ h i k).trans (Eq.trans ?_ (emb9 t ((kargs m c).sheet Inp.dk) i (wide h k)).symm)
  rw [Args.sheet_at (kargs m c) Inp.dk (back t.val) i h k (wide h k) rfl, Args.chunk_back _ _ t.isLt]
  rfl

omit hg in
theorem emb10 (G : S4096x2048.Idx → EReal) (i : Fin 64) (q : Fin 2048) :
    G (((cfg0.win 10).blk t).view.emb (ix2 i q)) = G (ix2 (row (back t.val) i) q) := by
  unfold row back
  blk_ext [ix t]

theorem arr10 : (dats m 0 c).arrAt 10 cfg0.N = (kargs m c).sheet Inp.dv := by
  refine (dats m 0 c).arrAt_eq_of_covers 10 _ (by decide +kernel) fun t hf y => ?_
  blk_simp
  rw [after0_10]
  refine (congrFun (leaves m c hg t.val t.isLt).e10 y).trans ?_
  obtain ⟨i, q, rfl⟩ : ∃ (i : Fin 64) (q : Fin 2048), y = ix2 i q := ⟨y 0, y 1, eq_ix2 y⟩
  obtain ⟨h, k, rfl⟩ := eq_wide q
  refine (flat_wide _ h i k).trans (Eq.trans ?_ (emb10 t ((kargs m c).sheet Inp.dv) i (wide h k)).symm)
  rw [Args.sheet_at (kargs m c) Inp.dv (back t.val) i h k (wide h k) rfl, Args.chunk_back _ _ t.isLt]
  rfl

omit hg in
theorem emb11 (G : S16x64x1x64.Idx → EReal) (h : Fin 16) (i : Fin 64) :
    G (((cfg0.win 11).blk t).view.emb (ix4 h 0 0 i)) = G (ix4 h (back t.val) 0 i) := by
  unfold back
  blk_ext [ix t]

theorem arr11 : (dats m 0 c).arrAt 11 cfg0.N = (kargs m c).lines Inp.db := by
  refine (dats m 0 c).arrAt_eq_of_covers 11 _ (by decide +kernel) fun t hf y => ?_
  blk_simp
  rw [after0_11]
  refine (congrFun (leaves m c hg t.val t.isLt).e11 y).trans ?_
  obtain ⟨h, a, b, i, rfl⟩ : ∃ (h : Fin 16) (a b : Fin 1) (i : Fin 64), y = ix4 h a b i := ⟨y 0, y 1, y 2, y 3, eq_ix4 y⟩
  obtain rfl : a = 0 := Subsingleton.elim _ _
  obtain rfl : b = 0 := Subsingleton.elim _ _
  refine Eq.trans ?_ (emb11 t ((kargs m c).lines Inp.db) h i).symm
  show ((kargs m c).trip t.val h).db i = ((kargs m c).chunk (back t.val) h).db i
  rw [Args.chunk_back _ _ t.isLt]

omit hg in
theorem emb12 (G : S16x64x1x64.Idx → EReal) (h : Fin 16) (i : Fin 64) :
    G (((cfg0.win 12).blk t).view.emb (ix4 h 0 0 i)) = G (ix4 h (back t.val) 0 i) := by
  unfold back
  blk_ext [ix t]

theorem arr12 : (dats m 0 c).arrAt 12 cfg0.N = (kargs m c).lines Inp.dg := by
  refine (dats m 0 c).arrAt_eq_of_covers 12 _ (by decide +kernel) fun t hf y => ?_
  blk_simp
  rw [after0_12]
  refine (congrFun (leaves m c hg t.val t.isLt).e12 y).trans ?_
  obtain ⟨h, a, b, i, rfl⟩ : ∃ (h : Fin 16) (a b : Fin 1) (i : Fin 64), y = ix4 h a b i := ⟨y 0, y 1, y 2, y 3, eq_ix4 y⟩
  obtain rfl : a = 0 := Subsingleton.elim _ _
  obtain rfl : b = 0 := Subsingleton.elim _ _
  refine Eq.trans ?_ (emb12 t ((kargs m c).lines Inp.dg) h i).symm
  show ((kargs m c).trip t.val h).dg i = ((kargs m c).chunk (back t.val) h).dg i
  rw [Args.chunk_back _ _ t.isLt]

end Cert.Proof.Delta

end
-- ==== Proof.RefStep.lean ====
/-
  One trip of the reference's loop, read at a head and an element: the functions of `Model.lean`.
-/
module

public import proofs.«01_k».proof.Proof.Model
public import proofs.«01_k».proof.Proof.Gen.ReferenceIdeal.Step

@[expose] public section

set_option maxRecDepth 4096

noncomputable section

open Idealize.ShloMosaic Idealize.ShloMosaic.TcCoe

namespace Cert.Proof.Delta.Ref

open Cert.ReferenceIdeal Cert.ReferenceIdeal.Step Cert.Proof.Delta

variable (j : ℕ) (s : State Ideal) (h : Fin 16)

/-- What trip `j` reads for head `h`. -/
def hd : Inp where
  s m n := b8 j s (ix3 h m n)
  ds m n := s.main_v27_9 (ix3 h m n)
  q i m := b13 j s (ix3 h i m)
  k i m := b18 j s (ix3 h i m)
  v i m := b23 j s (ix3 h i m)
  d i m := b43 j s (ix3 h i m)
  b i := b44 j s (ix2 h i)
  g i := b45 j s (ix2 h i)
  t i l := b38 j s (ix3 h i l)

theorem le_mask : ∀ i l : Fin 64, Scalar.select (IntOp.cmpi CmpIPredicate.sge (IntOp.addi (BitVec.ofNat 32 ↑i) 0#32) (BitVec.ofNat 32 ↑l)) 1#1 0#1
    = if l ≤ i then 1#1 else 0#1 := by decide +kernel

theorem lt_mask : ∀ i l : Fin 64, Scalar.select (IntOp.cmpi CmpIPredicate.sge (IntOp.addi (BitVec.ofNat 32 ↑i) 4294967295#32) (BitVec.ofNat 32 ↑l)) 1#1 0#1
    = if l < i then 1#1 else 0#1 := by decide +kernel

theorem incl_eq (i l : Fin 64) : b56 j s (ix2 i l) = if l ≤ i then 1#1 else 0#1 := by
  pointwise [b56, b55, b54, b53, b52, b51, b50, b49, b48, b47, b46]
  exact le_mask i l

theorem strict_eq (i l : Fin 64) : b67 j s (ix2 i l) = if l < i then 1#1 else 0#1 := by
  pointwise [b67, b66, b65, b64, b63, b62, b61, b60, b59, b58, b57]
  exact lt_mask i l

theorem sel_ite (p : Prop) [Decidable p] (a b : EReal) : Scalar.select (if p then 1#1 else 0#1) a b = if p then a else b := by
  by_cases hp : p <;> simp [hp, Scalar.select]

theorem neg_inf : Ideal.ofBits FTy.f32 4286578688#32 = ⊥ := by
  simp [Ideal.ofBits, Ideal.ieee]

theorem rs (m n : Fin 128) : b8 j s (ix3 h m n) = (hd j s h).s m n := rfl
theorem rds (m n : Fin 128) : s.main_v27_9 (ix3 h m n) = (hd j s h).ds m n := rfl
theorem rq (i : Fin 64) (m : Fin 128) : b13 j s (ix3 h i m) = (hd j s h).q i m := rfl
theorem rk (i : Fin 64) (m : Fin 128) : b18 j s (ix3 h i m) = (hd j s h).k i m := rfl
theorem rv (i : Fin 64) (m : Fin 128) : b23 j s (ix3 h i m) = (hd j s h).v i m := rfl
theorem rd (i : Fin 64) (m : Fin 128) : b43 j s (ix3 h i m) = (hd j s h).d i m := rfl
theorem rb (i : Fin 64) : b44 j s (ix2 h i) = (hd j s h).b i := rfl
theorem rg (i : Fin 64) : b45 j s (ix2 h i) = (hd j s h).g i := rfl
theorem rt (i l : Fin 64) : b38 j s (ix3 h i l) = (hd j s h).t i l := rfl

theorem r82 (i l : Fin 64) : b82 j s (ix3 h i l) = (hd j s h).dec i l := by
  pointwise [b82, b79, b78, b77, b76, b75, b74, b73, b72, b71, b70]
  rw [incl_eq, neg_inf, Inp.dec]
  split <;> rfl

theorem r85 (i : Fin 64) (m : Fin 128) : b85 j s (ix3 h i m) = (hd j s h).kb i m := by
  pointwise [b85, b84, b83]
  simp only [Fin.sum_univ_one, rs j s h, rds j s h, rq j s h, rk j s h, rv j s h, rd j s h, rb j s h, rg j s h, rt j s h, r82]
  try simp only [Inp.kb, mul_comm, add_comm]

theorem r86 (i l : Fin 64) : b86 j s (ix3 h i l) = (hd j s h).kk i l := by
  pointwise [b86]
  simp only [Fin.sum_univ_one, rs j s h, rds j s h, rq j s h, rk j s h, rv j s h, rd j s h, rb j s h, rg j s h, rt j s h, r82, r85]
  try simp only [Inp.kk, mul_comm, add_comm]

theorem r97 (i : Fin 64) (m : Fin 128) : b97 j s (ix3 h i m) = (hd j s h).vb i m := by
  pointwise [b97, b96, b95]
  simp only [Fin.sum_univ_one, rs j s h, rds j s h, rq j s h, rk j s h, rv j s h, rd j s h, rb j s h, rg j s h, rt j s h, r82, r85, r86]
  try simp only [Inp.vb, mul_comm, add_comm]

theorem r68 (i : Fin 64) : b68 j s (ix2 h i) = (hd j s h).e i := by
  pointwise [b68]
  simp only [Fin.sum_univ_one, rs j s h, rds j s h, rq j s h, rk j s h, rv j s h, rd j s h, rb j s h, rg j s h, rt j s h, r82, r85, r86, r97]
  try simp only [Inp.e, mul_comm, add_comm]

theorem r100 (i : Fin 64) (m : Fin 128) : b100 j s (ix3 h i m) = (hd j s h).kbe i m := by
  pointwise [b100, b99, b69]
  simp only [Fin.sum_univ_one, rs j s h, rds j s h, rq j s h, rk j s h, rv j s h, rd j s h, rb j s h, rg j s h, rt j s h, r82, r85, r86, r97, r68]
  try simp only [Inp.kbe, mul_comm, add_comm]

theorem r98 (i : Fin 64) (m : Fin 128) : b98 j s (ix3 h i m) = (hd j s h).u i m := by
  pointwise [b98]
  simp only [Fin.sum_univ_one, rs j s h, rds j s h, rq j s h, rk j s h, rv j s h, rd j s h, rb j s h, rg j s h, rt j s h, r82, r85, r86, r97, r68, r100]
  try simp only [Inp.u, mul_comm, add_comm]

theorem r101 (i : Fin 64) (m : Fin 128) : b101 j s (ix3 h i m) = (hd j s h).w i m := by
  pointwise [b101]
  simp only [Fin.sum_univ_one, rs j s h, rds j s h, rq j s h, rk j s h, rv j s h, rd j s h, rb j s h, rg j s h, rt j s h, r82, r85, r86, r97, r68, r100, r98]
  try simp only [Inp.w, mul_comm, add_comm]

theorem r102 (i l : Fin 64) : b102 j s (ix3 h i l) = (hd j s h).qk i l := by
  pointwise [b102]
  simp only [Fin.sum_univ_one, rs j s h, rds j s h, rq j s h, rk j s h, rv j s h, rd j s h, rb j s h, rg j s h, rt j s h, r82, r85, r86, r97, r68, r100, r98, r101]
  try simp only [Inp.qk, mul_comm, add_comm]

theorem r103 (i l : Fin 64) : b103 j s (ix3 h i l) = (hd j s h).att i l := by
  pointwise [b103]
  simp only [Fin.sum_univ_one, rs j s h, rds j s h, rq j s h, rk j s h, rv j s h, rd j s h, rb j s h, rg j s h, rt j s h, r82, r85, r86, r97, r68, r100, r98, r101, r102]
  try simp only [Inp.att, mul_comm, add_comm]

theorem r104 (i : Fin 64) (m : Fin 128) : b104 j s (ix3 h i m) = ∑ n, (hd j s h).w i n * (hd j s h).s n m := by
  pointwise [b104]
  simp only [Fin.sum_univ_one, rs j s h, rds j s h, rq j s h, rk j s h, rv j s h, rd j s h, rb j s h, rg j s h, rt j s h, r82, r85, r86, r97, r68, r100, r98, r101, r102, r103]
  try rfl

theorem r105 (i : Fin 64) (m : Fin 128) : b105 j s (ix3 h i m) = (hd j s h).vn i m := by
  pointwise [b105]
  simp only [Fin.sum_univ_one, rs j s h, rds j s h, rq j s h, rk j s h, rv j s h, rd j s h, rb j s h, rg j s h, rt j s h, r82, r85, r86, r97, r68, r100, r98, r101, r102, r103, r104]
  try simp only [Inp.vn, mul_comm, add_comm]

theorem r107 (i : Fin 64) (m : Fin 128) : b107 j s (ix3 h i m) = (hd j s h).q i m * (hd j s h).e i := by
  pointwise [b107, b106, b69]
  simp only [Fin.sum_univ_one, rs j s h, rds j s h, rq j s h, rk j s h, rv j s h, rd j s h, rb j s h, rg j s h, rt j s h, r82, r85, r86, r97, r68, r100, r98, r101, r102, r103, r104, r105]
  try rfl

theorem r116 (i : Fin 64) : b116 j s (ix2 h i) = (hd j s h).te i := by
  pointwise [b116, b115, b114, b113, b112, b111]
  simp only [Fin.sum_univ_one, rs j s h, rds j s h, rq j s h, rk j s h, rv j s h, rd j s h, rb j s h, rg j s h, rt j s h, r82, r85, r86, r97, r68, r100, r98, r101, r102, r103, r104, r105, r107]
  try simp only [Inp.te, mul_comm, add_comm]

theorem r119 (i : Fin 64) (m : Fin 128) : b119 j s (ix3 h i m) = (hd j s h).kte i m := by
  pointwise [b119, b118, b117]
  simp only [Fin.sum_univ_one, rs j s h, rds j s h, rq j s h, rk j s h, rv j s h, rd j s h, rb j s h, rg j s h, rt j s h, r82, r85, r86, r97, r68, r100, r98, r101, r102, r103, r104, r105, r107, r116]
  try simp only [Inp.kte, mul_comm, add_comm]

theorem r120  : b120 j s (ix1 h) = (hd j s h).el := by
  pointwise [b120, b112, b111]
  simp only [Fin.sum_univ_one, rs j s h, rds j s h, rq j s h, rk j s h, rv j s h, rd j s h, rb j s h, rg j s h, rt j s h, r82, r85, r86, r97, r68, r100, r98, r101, r102, r103, r104, r105, r107, r116, r119]
  try simp only [Inp.el, mul_comm, add_comm]

theorem r127 (i : Fin 64) (m : Fin 128) : b127 j s (ix3 h i m) = ∑ n, (hd j s h).kte i n * (hd j s h).ds n m := by
  pointwise [b127, b126]
  try simp only [rs j s h, rds j s h, rq j s h, rk j s h, rv j s h, rd j s h, rb j s h, rg j s h, rt j s h, r82, r85, r86, r97, r68, r100, r98, r101, r102, r103, r104, r105, r107, r116, r119, r120]
  simp only [mul_comm]

theorem r129 (i : Fin 64) (m : Fin 128) : b129 j s (ix3 h i m) = (hd j s h).p i m := by
  pointwise [b129, b128]
  try simp only [rs j s h, rds j s h, rq j s h, rk j s h, rv j s h, rd j s h, rb j s h, rg j s h, rt j s h, r82, r85, r86, r97, r68, r100, r98, r101, r102, r103, r104, r105, r107, r116, r119, r120, r127]
  simp only [Inp.p, mul_comm]

theorem r138  : b138 j s (ix1 h) = (∑ m, ∑ n, (hd j s h).s m n * (hd j s h).ds m n) * (hd j s h).el := by
  pointwise [b138, b137, b136, b133, b132, b131, b130]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129]
  try rfl

theorem r147 (i : Fin 64) : b147 j s (ix2 h i) = (hd j s h).z i := by
  pointwise [b147, b146, b145, b142, b141, b140, b139]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138]
  try simp only [Inp.z, mul_comm, add_comm]

theorem r153  : b153 j s (ix1 h) = ∑ i, (hd j s h).z i := by
  pointwise [b153, b152, b150, b149, b148]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147]
  try rfl

theorem r161 (i : Fin 64) (m : Fin 128) : b161 j s (ix3 h i m) = (hd j s h).dvn i m := by
  pointwise [b161, b160, b159]
  try simp only [rs j s h, rds j s h, rq j s h, rk j s h, rv j s h, rd j s h, rb j s h, rg j s h, rt j s h, r82, r85, r86, r97, r68, r100, r98, r101, r102, r103, r104, r105, r107, r116, r119, r120, r127, r129, r138, r147, r153]
  simp only [Inp.dvn, mul_comm]

theorem r162 (i l : Fin 64) : b162 j s (ix3 h i l) = (hd j s h).dP i l := by
  pointwise [b162]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161]
  try simp only [Inp.dP, mul_comm, add_comm]

theorem r166 (i : Fin 64) (m : Fin 128) : b166 j s (ix3 h i m) = (hd j s h).y i m := by
  pointwise [b166]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162]
  try simp only [Inp.y, mul_comm, add_comm]

theorem r179 (i l : Fin 64) : b179 j s (ix3 h i l) = (hd j s h).dQ i l := by
  pointwise [b179]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166]
  try simp only [Inp.dQ, mul_comm, add_comm]

theorem r183 (i : Fin 64) (m : Fin 128) : b183 j s (ix3 h i m) = (hd j s h).dq i m := by
  pointwise [b183, b182, b172, b171, b69]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179]
  try simp only [Inp.dq, mul_comm, add_comm]

theorem r173 (i : Fin 64) (m : Fin 128) : b173 j s (ix3 h i m) = -(hd j s h).dvn i m := by
  pointwise [b173]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183]
  try rfl

theorem r176 (m n : Fin 128) : b176 j s (ix3 h m n) = (hd j s h).dS m n := by
  pointwise [b176, b175, b174, b165, b164, b163, b135, b134, b121]
  try simp only [rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173]
  simp only [Inp.dS, mul_comm]

theorem r177 (i : Fin 64) (m : Fin 128) : b177 j s (ix3 h i m) = (hd j s h).r i m := by
  pointwise [b177]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176]
  try simp only [Inp.r, mul_comm, add_comm]

theorem r185 (i : Fin 64) (m : Fin 128) : b185 j s (ix3 h i m) = (hd j s h).dkbe i m := by
  pointwise [b185, b184]
  try simp only [rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177]
  simp only [Inp.dkbe, mul_comm]

theorem r195 (i : Fin 64) (m : Fin 128) : b195 j s (ix3 h i m) = (hd j s h).dvb i m := by
  pointwise [b195, b194]
  try simp only [rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185]
  simp only [Inp.dvb, mul_comm]

theorem r197 (i l : Fin 64) : b197 j s (ix3 h i l) = (hd j s h).dT i l := by
  pointwise [b197, b196, b186]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195]
  try simp only [Inp.dT, mul_comm, add_comm]

theorem r206 (i l : Fin 64) : b206 j s (ix3 h i l) = (hd j s h).dTt i l := by
  pointwise [b206]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197]
  try simp only [Inp.dTt, mul_comm, add_comm]

theorem r207 (i l : Fin 64) : b207 j s (ix3 h i l) = ∑ a, (hd j s h).t a i * (hd j s h).dTt a l := by
  pointwise [b207]
  try simp only [rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206]

theorem r213 (i l : Fin 64) : b213 j s (ix3 h i l) = (hd j s h).dA i l := by
  pointwise [b213, b212, b211, b208, b90]
  rw [r207, strict_eq, sel_ite, Inp.dA]

theorem mulf_ix3 {a b c : ℕ} (x y : FVec Ideal ⟨3, ![a, b, c]⟩ .f32) (i : Fin a) (l : Fin b) (m : Fin c) :
    mulf x y (ix3 i l m) = x (ix3 i l m) * y (ix3 i l m) := rfl

theorem r216 (i l : Fin 64) : b216 j s (ix3 h i l) = (hd j s h).dK i l := by
  rw [show b216 j s = mulf (b213 j s) (b82 j s) from rfl, mulf_ix3, r213, r82]
  rfl

theorem r220 (i : Fin 64) (m : Fin 128) : b220 j s (ix3 h i m) = (hd j s h).dkb i m := by
  pointwise [b220, b219, b193, b192, b69]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206, r213, r216]
  try simp only [Inp.dkb, mul_comm, add_comm]

theorem r227 (i : Fin 64) (m : Fin 128) : b227 j s (ix3 h i m) = (hd j s h).dk i m := by
  pointwise [b227, b226, b225, b83, b218, b217, b181, b180, b144, b143, b117]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206, r213, r216, r220]
  try simp only [Inp.dk, mul_comm, add_comm]

theorem r203 (i : Fin 64) (m : Fin 128) : b203 j s (ix3 h i m) = (hd j s h).dv i m := by
  pointwise [b203, b202, b95]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206, r213, r216, r220, r227]
  try simp only [Inp.dv, mul_comm, add_comm]

theorem r230 (i : Fin 64) : b230 j s (ix2 h i) = (hd j s h).db i := by
  pointwise [b230, b229, b228, b224, b223, b222, b221, b205, b204, b201, b200, b199, b198]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206, r213, r216, r220, r227, r203]
  try simp only [Inp.db, mul_comm, add_comm]

theorem r234 (i l : Fin 64) : b234 j s (ix3 h i l) = (hd j s h).mm i l := by
  pointwise [b234, b233, b232, b231, b215, b214, b178, b77]
  try simp only [rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206, r213, r216, r220, r227, r203, r230]
  rw [incl_eq, sel_ite]; simp only [Inp.mm]

theorem r250 (i : Fin 64) : b250 j s (ix2 h i) = (hd j s h).f i := by
  pointwise [b250, b249, b248, b191, b190, b189, b188, b187, b170, b169, b168, b167]
  simp only [Fin.sum_univ_one, rs j s h, rds j s h, rq j s h, rk j s h, rv j s h, rd j s h, rb j s h, rg j s h, rt j s h, r82, r85, r86, r97, r68, r100, r98, r101, r102, r103, r104, r105, r107, r116, r119, r120, r127, r129, r138, r147, r153, r161, r162, r166, r179, r183, r173, r176, r177, r185, r195, r197, r206, r213, r216, r220, r227, r203, r230, r234]
  try simp only [Inp.f, mul_comm, add_comm]

theorem last_iff (i : Fin 64) : (63 ≤ (i : ℕ) ∧ (i : ℕ) - 63 < 1) ↔ i = 63 := by
  rw [Fin.ext_iff]; show _ ↔ (i : ℕ) = 63; omega

theorem r251 (i : Fin 64) : b251 j s (ix2 h i) = (hd j s h).dg i := by
  pointwise [b251, b247, b246, b245, b244, b243, b242, b241, b240, b239, b238, b237, b236, b235, b158, b157, b156, b155, b154, b151]
  simp only [Fin.sum_univ_one, r138, r147, r153, r234, r250, dite_eq_ite, last_iff]
  simp only [Inp.dg, Inp.zl]

end Cert.Proof.Delta.Ref

end
-- ==== Proof.RefFold.lean ====
/-
  The reference's loop read to its end: the carried cotangent and the stacked gradients.
-/
module

public import proofs.«01_k».proof.Proof.Spec
public import proofs.«01_k».proof.Proof.RefStep
public import Idealize.ShloMosaic.Lib.DynamicIndex

@[expose] public section

noncomputable section

open Idealize.ShloMosaic Idealize.ShloMosaic.TcCoe

namespace Cert.Proof.Delta.Ref

open Cert.ReferenceIdeal Cert.ReferenceIdeal.Step Cert.Proof.Delta Facts₀

theorem slice4 {α : Type} {a b c : ℕ} (x : (⟨4, ![64, a, b, c]⟩ : Shape).Idx → α) (start : Fin 4 → Int)
    (h : (⟨4, ![64, a, b, c]⟩ : Shape).Slices (fun _ => 0) ⟨4, ![1, a, b, c]⟩) (ch : Fin 64)
    (h0 : start 0 = (ch.val : Int)) (h1 : start 1 = 0) (h2 : start 2 = 0) (h3 : start 3 = 0) (p : Fin a) (q : Fin b) (r : Fin c) :
    Host.dynamicSlice ⟨4, ![1, a, b, c]⟩ x start h (ix4 0 p q r) = x (ix4 ch p q r) := by
  have e0 : Host.clampedStart ⟨4, ![64, a, b, c]⟩ ⟨4, ![1, a, b, c]⟩ h.1 start 0 = ch.val :=
    Host.clampedStart_of_le _ _ _ _ h0 (by show ch.val + 1 ≤ 64; omega)
  have e1 : Host.clampedStart ⟨4, ![64, a, b, c]⟩ ⟨4, ![1, a, b, c]⟩ h.1 start 1 = 0 :=
    Host.clampedStart_of_le _ _ _ _ h1 (by show 0 + a ≤ a; omega)
  have e2 : Host.clampedStart ⟨4, ![64, a, b, c]⟩ ⟨4, ![1, a, b, c]⟩ h.1 start 2 = 0 :=
    Host.clampedStart_of_le _ _ _ _ h2 (by show 0 + b ≤ b; omega)
  have e3 : Host.clampedStart ⟨4, ![64, a, b, c]⟩ ⟨4, ![1, a, b, c]⟩ h.1 start 3 = 0 :=
    Host.clampedStart_of_le _ _ _ _ h3 (by show 0 + c ≤ c; omega)
  rw [Host.dynamicSlice_apply]
  refine congrArg x (funext fun k => ?_)
  match k with
  | ⟨0, _⟩ => exact Fin.ext (by
      show Host.clampedStart ⟨4, ![64, a, b, c]⟩ ⟨4, ![1, a, b, c]⟩ h.1 start 0 + 0 = ch.val
      rw [e0]; rfl)
  | ⟨1, _⟩ => exact Fin.ext (by
      show Host.clampedStart ⟨4, ![64, a, b, c]⟩ ⟨4, ![1, a, b, c]⟩ h.1 start 1 + p.val = p.val
      rw [e1]; omega)
  | ⟨2, _⟩ => exact Fin.ext (by
      show Host.clampedStart ⟨4, ![64, a, b, c]⟩ ⟨4, ![1, a, b, c]⟩ h.1 start 2 + q.val = q.val
      rw [e2]; omega)
  | ⟨3, _⟩ => exact Fin.ext (by
      show Host.clampedStart ⟨4, ![64, a, b, c]⟩ ⟨4, ![1, a, b, c]⟩ h.1 start 3 + r.val = r.val
      rw [e3]; omega)

theorem update4 {α : Type} {a b c : ℕ} (x : (⟨4, ![64, a, b, c]⟩ : Shape).Idx → α) (upd : (⟨4, ![1, a, b, c]⟩ : Shape).Idx → α)
    (start : Fin 4 → Int) (h : (⟨4, ![64, a, b, c]⟩ : Shape).Slices (fun _ => 0) ⟨4, ![1, a, b, c]⟩) (ch : Fin 64)
    (h0 : start 0 = (ch.val : Int)) (h1 : start 1 = 0) (h2 : start 2 = 0) (h3 : start 3 = 0) (e : Fin 64) (p : Fin a) (q : Fin b) (r : Fin c) :
    Host.dynamicUpdateSlice x upd start h (ix4 e p q r) = if e = ch then upd (ix4 0 p q r) else x (ix4 e p q r) := by
  have e0 : Host.clampedStart ⟨4, ![64, a, b, c]⟩ ⟨4, ![1, a, b, c]⟩ h.1 start 0 = ch.val :=
    Host.clampedStart_of_le _ _ _ _ h0 (by show ch.val + 1 ≤ 64; omega)
  have e1 : Host.clampedStart ⟨4, ![64, a, b, c]⟩ ⟨4, ![1, a, b, c]⟩ h.1 start 1 = 0 :=
    Host.clampedStart_of_le _ _ _ _ h1 (by show 0 + a ≤ a; omega)
  have e2 : Host.clampedStart ⟨4, ![64, a, b, c]⟩ ⟨4, ![1, a, b, c]⟩ h.1 start 2 = 0 :=
    Host.clampedStart_of_le _ _ _ _ h2 (by show 0 + b ≤ b; omega)
  have e3 : Host.clampedStart ⟨4, ![64, a, b, c]⟩ ⟨4, ![1, a, b, c]⟩ h.1 start 3 = 0 :=
    Host.clampedStart_of_le _ _ _ _ h3 (by show 0 + c ≤ c; omega)
  rw [Host.dynamicUpdateSlice_apply]
  by_cases hc : e = ch
  · subst hc
    rw [if_pos rfl, dif_pos]
    · refine congrArg upd (funext fun k => ?_)
      match k with
      | ⟨0, _⟩ => exact Fin.ext (by
          show e.val - Host.clampedStart ⟨4, ![64, a, b, c]⟩ ⟨4, ![1, a, b, c]⟩ h.1 start 0 = 0
          rw [e0]; omega)
      | ⟨1, _⟩ => exact Fin.ext (by
          show p.val - Host.clampedStart ⟨4, ![64, a, b, c]⟩ ⟨4, ![1, a, b, c]⟩ h.1 start 1 = p.val
          rw [e1]; omega)
      | ⟨2, _⟩ => exact Fin.ext (by
          show q.val - Host.clampedStart ⟨4, ![64, a, b, c]⟩ ⟨4, ![1, a, b, c]⟩ h.1 start 2 = q.val
          rw [e2]; omega)
      | ⟨3, _⟩ => exact Fin.ext (by
          show r.val - Host.clampedStart ⟨4, ![64, a, b, c]⟩ ⟨4, ![1, a, b, c]⟩ h.1 start 3 = r.val
          rw [e3]; omega)
    · intro k
      match k with
      | ⟨0, _⟩ =>
          show Host.clampedStart ⟨4, ![64, a, b, c]⟩ ⟨4, ![1, a, b, c]⟩ h.1 start 0 ≤ e.val
            ∧ e.val < Host.clampedStart ⟨4, ![64, a, b, c]⟩ ⟨4, ![1, a, b, c]⟩ h.1 start 0 + 1
          rw [e0]; omega
      | ⟨1, _⟩ =>
          show Host.clampedStart ⟨4, ![64, a, b, c]⟩ ⟨4, ![1, a, b, c]⟩ h.1 start 1 ≤ p.val
            ∧ p.val < Host.clampedStart ⟨4, ![64, a, b, c]⟩ ⟨4, ![1, a, b, c]⟩ h.1 start 1 + a
          rw [e1]; omega
      | ⟨2, _⟩ =>
          show Host.clampedStart ⟨4, ![64, a, b, c]⟩ ⟨4, ![1, a, b, c]⟩ h.1 start 2 ≤ q.val
            ∧ q.val < Host.clampedStart ⟨4, ![64, a, b, c]⟩ ⟨4, ![1, a, b, c]⟩ h.1 start 2 + b
          rw [e2]; omega
      | ⟨3, _⟩ =>
          show Host.clampedStart ⟨4, ![64, a, b, c]⟩ ⟨4, ![1, a, b, c]⟩ h.1 start 3 ≤ r.val
            ∧ r.val < Host.clampedStart ⟨4, ![64, a, b, c]⟩ ⟨4, ![1, a, b, c]⟩ h.1 start 3 + c
          rw [e3]; omega
  · rw [if_neg hc, dif_neg]
    intro hk
    have := hk 0
    have h' : Host.clampedStart ⟨4, ![64, a, b, c]⟩ ⟨4, ![1, a, b, c]⟩ h.1 start 0 ≤ e.val
        ∧ e.val < Host.clampedStart ⟨4, ![64, a, b, c]⟩ ⟨4, ![1, a, b, c]⟩ h.1 start 0 + 1 := this
    rw [e0] at h'
    exact hc (Fin.ext (by omega))

theorem ix2_eq {a b : ℕ} {p p' : Fin a} {q q' : Fin b} (h1 : p.val = p'.val) (h2 : q.val = q'.val) : ix2 p q = ix2 p' q' := by
  rw [Fin.ext h1, Fin.ext h2]

theorem ix4_eq {a b c d : ℕ} {p p' : Fin a} {q : Fin b} {r r' : Fin c} {t : Fin d} (h1 : p.val = p'.val) (h2 : r.val = r'.val) :
    ix4 p q r t = ix4 p' q r' t := by
  rw [Fin.ext h1, Fin.ext h2]

variable (j : ℕ) (s : State Ideal)

theorem start_eq : ∀ j : Fin 64, (IntOp.subi (IntOp.subi 64#32 (BitVec.ofNat 32 j.val)) 1#32).toInt = ((63 - j.val : ℕ) : Int) := by
  decide +kernel

theorem b3_eq (hj : j < 64) : (b3 j s (Shape.Idx.first h_S_)).toInt = ((back j).val : Int) := start_eq ⟨j, hj⟩

section Reads

variable (hj : j < 64) (h : Fin 16)
include hj

theorem read8 (m n : Fin 128) : b8 j s (ix3 h m n) = s.main_v27_0 (ix4 (back j) h m n) := by
  have e : b8 j s (ix3 h m n) = b7 j s (ix4 0 h m n) := by pointwise [b8]
  rw [e]
  exact slice4 _ _ _ (back j) (b3_eq j s hj) rfl rfl rfl h m n

theorem read13 (i : Fin 64) (m : Fin 128) : b13 j s (ix3 h i m) = s.main_v27_1 (ix4 (back j) h i m) := by
  have e : b13 j s (ix3 h i m) = b12 j s (ix4 0 h i m) := by pointwise [b13]
  rw [e]
  exact slice4 _ _ _ (back j) (b3_eq j s hj) rfl rfl rfl h i m

theorem read18 (i : Fin 64) (m : Fin 128) : b18 j s (ix3 h i m) = s.main_v27_2 (ix4 (back j) h i m) := by
  have e : b18 j s (ix3 h i m) = b17 j s (ix4 0 h i m) := by pointwise [b18]
  rw [e]
  exact slice4 _ _ _ (back j) (b3_eq j s hj) rfl rfl rfl h i m

theorem read23 (i : Fin 64) (m : Fin 128) : b23 j s (ix3 h i m) = s.main_v27_3 (ix4 (back j) h i m) := by
  have e : b23 j s (ix3 h i m) = b22 j s (ix4 0 h i m) := by pointwise [b23]
  rw [e]
  exact slice4 _ _ _ (back j) (b3_eq j s hj) rfl rfl rfl h i m

theorem read38 (i l : Fin 64) : b38 j s (ix3 h i l) = s.main_v27_6 (ix4 (back j) h i l) := by
  have e : b38 j s (ix3 h i l) = b37 j s (ix4 0 h i l) := by pointwise [b38]
  rw [e]
  exact slice4 _ _ _ (back j) (b3_eq j s hj) rfl rfl rfl h i l

theorem read43 (i : Fin 64) (m : Fin 128) : b43 j s (ix3 h i m) = s.main_v27_7 (ix4 (back j) h i m) := by
  have e : b43 j s (ix3 h i m) = b42 j s (ix4 0 h i m) := by pointwise [b43]
  rw [e]
  exact slice4 _ _ _ (back j) (b3_eq j s hj) rfl rfl rfl h i m

theorem read44 (i : Fin 64) : b44 j s (ix2 h i) = s.main_v27_4 (ix4 (back j) h 0 i) := by
  have e : b44 j s (ix2 h i) = b27 j s (ix4 0 h 0 i) := by pointwise [b44, b28]
  rw [e]
  exact slice4 _ _ _ (back j) (b3_eq j s hj) rfl rfl rfl h 0 i

theorem read45 (i : Fin 64) : b45 j s (ix2 h i) = s.main_v27_5 (ix4 (back j) h 0 i) := by
  have e : b45 j s (ix2 h i) = b32 j s (ix4 0 h 0 i) := by pointwise [b45, b33]
  rw [e]
  exact slice4 _ _ _ (back j) (b3_eq j s hj) rfl rfl rfl h 0 i

theorem stack258 (ch : Fin 64) (i : Fin 64) (m : Fin 128) :
    b258 j s (ix4 ch h i m) = if ch = back j then b183 j s (ix3 h i m) else s.main_v27_10 (ix4 ch h i m) := by
  have e : b254 j s (ix4 0 h i m) = b183 j s (ix3 h i m) := by pointwise [b254]
  rw [← e]
  exact update4 _ _ _ _ (back j) (b3_eq j s hj) rfl rfl rfl ch h i m

theorem stack263 (ch : Fin 64) (i : Fin 64) (m : Fin 128) :
    b263 j s (ix4 ch h i m) = if ch = back j then b227 j s (ix3 h i m) else s.main_v27_11 (ix4 ch h i m) := by
  have e : b259 j s (ix4 0 h i m) = b227 j s (ix3 h i m) := by pointwise [b259]
  rw [← e]
  exact update4 _ _ _ _ (back j) (b3_eq j s hj) rfl rfl rfl ch h i m

theorem stack268 (ch : Fin 64) (i : Fin 64) (m : Fin 128) :
    b268 j s (ix4 ch h i m) = if ch = back j then b203 j s (ix3 h i m) else s.main_v27_12 (ix4 ch h i m) := by
  have e : b264 j s (ix4 0 h i m) = b203 j s (ix3 h i m) := by pointwise [b264]
  rw [← e]
  exact update4 _ _ _ _ (back j) (b3_eq j s hj) rfl rfl rfl ch h i m

theorem stack273 (ch : Fin 64) (i : Fin 64) :
    b273 j s (ix4 ch h 0 i) = if ch = back j then b230 j s (ix2 h i) else s.main_v27_13 (ix4 ch h 0 i) := by
  have e : b269 j s (ix4 0 h 0 i) = b230 j s (ix2 h i) := by pointwise [b269, b253]
  rw [← e]
  exact update4 _ _ _ _ (back j) (b3_eq j s hj) rfl rfl rfl ch h 0 i

theorem stack278 (ch : Fin 64) (i : Fin 64) :
    b278 j s (ix4 ch h 0 i) = if ch = back j then b251 j s (ix2 h i) else s.main_v27_14 (ix4 ch h 0 i) := by
  have e : b274 j s (ix4 0 h 0 i) = b251 j s (ix2 h i) := by pointwise [b274, b252]
  rw [← e]
  exact update4 _ _ _ _ (back j) (b3_eq j s hj) rfl rfl rfl ch h 0 i

end Reads

section Arrays

variable (a0 : (⟨S4096x2048, .bf16⟩ : BufTy).Contents (Elt Ideal)) (a1 : (⟨S4096x4096, .f32⟩ : BufTy).Contents (Elt Ideal))
  (a2 a3 : (⟨S16x64x1x64, .f32⟩ : BufTy).Contents (Elt Ideal)) (a4 : (⟨S16x64x128x128, .f32⟩ : BufTy).Contents (Elt Ideal))
  (a5 : (⟨S16x64x64x64, .f32⟩ : BufTy).Contents (Elt Ideal)) (a6 : (⟨S4096x2048, .f32⟩ : BufTy).Contents (Elt Ideal))
  (ch : Fin 64) (h : Fin 16)

theorem arr0 (m n : Fin 128) : A_main_v15 a0 a1 a2 a3 a4 a5 a6 (ix4 ch h m n) = a4 (ix4 h ch m n) := by
  pointwise [A_main_v15]

theorem arr1 (i : Fin 64) (m : Fin 128) :
    A_main_v5 a0 a1 a2 a3 a4 a5 a6 (ix4 ch h i m) = a0 (ix2 (row ch i) ⟨128 * (h.val / 2) + m.val, by omega⟩) := by
  pointwise [A_main_v5, A_main_v4, A_main_v3, A_main_v2, A_main_v1, A_main_v0]
  exact congrArg a0 (ix2_eq (by show ch.val * 64 + i.val = 64 * ch.val + i.val; omega) (by show h.val / 2 * 128 + m.val = 128 * (h.val / 2) + m.val; omega))

theorem arr2 (i : Fin 64) (m : Fin 128) :
    A_main_v11 a0 a1 a2 a3 a4 a5 a6 (ix4 ch h i m) = a0 (ix2 (row ch i) ⟨1024 + (128 * (h.val / 2) + m.val), by omega⟩) := by
  pointwise [A_main_v11, A_main_v10, A_main_v9, A_main_v8, A_main_v7, A_main_v6]
  exact congrArg a0 (ix2_eq (by show ch.val * 64 + i.val = 64 * ch.val + i.val; omega) (by show 1024 + (h.val / 2 * 128 + m.val) = 1024 + (128 * (h.val / 2) + m.val); omega))

theorem arr3 (i : Fin 64) (m : Fin 128) :
    A_main_v14 a0 a1 a2 a3 a4 a5 a6 (ix4 ch h i m) = a1 (ix2 (row ch i) ⟨2048 + (128 * h.val + m.val), by omega⟩) := by
  pointwise [A_main_v14, A_main_v13, A_main_v12]
  exact congrArg a1 (ix2_eq (by show ch.val * 64 + i.val = 64 * ch.val + i.val; omega) (by show 2048 + (h.val * 128 + m.val) = 2048 + (128 * h.val + m.val); omega))

theorem arr4 (i : Fin 64) : A_main_v16 a0 a1 a2 a3 a4 a5 a6 (ix4 ch h 0 i) = a2 (ix4 h ch 0 i) := by
  pointwise [A_main_v16]

theorem arr5 (i : Fin 64) : A_main_v17 a0 a1 a2 a3 a4 a5 a6 (ix4 ch h 0 i) = a3 (ix4 h ch 0 i) := by
  pointwise [A_main_v17]

theorem arr6 (i l : Fin 64) : A_main_v18 a0 a1 a2 a3 a4 a5 a6 (ix4 ch h i l) = a5 (ix4 h ch i l) := by
  pointwise [A_main_v18]

theorem arr7 (i : Fin 64) (m : Fin 128) :
    A_main_v20 a0 a1 a2 a3 a4 a5 a6 (ix4 ch h i m) = a6 (ix2 (row ch i) ⟨128 * h.val + m.val, by omega⟩) := by
  pointwise [A_main_v20, A_main_v19]
  exact congrArg a6 (ix2_eq (by show ch.val * 64 + i.val = 64 * ch.val + i.val; omega) (by show h.val * 128 + m.val = 128 * h.val + m.val; omega))

end Arrays

section Results

variable (s : State Ideal) (ch i : Fin 64) (h : Fin 16) (m : Fin 128)

theorem res30 : R_main_v30 s (ix2 (row ch i) ⟨128 * h.val + m.val, by omega⟩) = s.main_v27_10 (ix4 ch h i m) := by
  pointwise [R_main_v30]
  exact congrArg s.main_v27_10 (ix4_eq (by show (64 * ch.val + i.val) / 64 = ch.val; omega) (by show (64 * ch.val + i.val) % 64 = i.val; omega))

theorem res33 : R_main_v33 s (ix2 (row ch i) ⟨128 * h.val + m.val, by omega⟩) = s.main_v27_11 (ix4 ch h i m) := by
  pointwise [R_main_v33]
  exact congrArg s.main_v27_11 (ix4_eq (by show (64 * ch.val + i.val) / 64 = ch.val; omega) (by show (64 * ch.val + i.val) % 64 = i.val; omega))

theorem res36 : R_main_v36 s (ix2 (row ch i) ⟨128 * h.val + m.val, by omega⟩) = s.main_v27_12 (ix4 ch h i m) := by
  pointwise [R_main_v36]
  exact congrArg s.main_v27_12 (ix4_eq (by show (64 * ch.val + i.val) / 64 = ch.val; omega) (by show (64 * ch.val + i.val) % 64 = i.val; omega))

theorem res37 : R_main_v37 s (ix4 h ch 0 i) = s.main_v27_13 (ix4 ch h 0 i) := by
  pointwise [R_main_v37]

theorem res38 : R_main_v38 s (ix4 h ch 0 i) = s.main_v27_14 (ix4 ch h 0 i) := by
  pointwise [R_main_v38]

end Results

section Fold

variable (a0 : (⟨S4096x2048, .bf16⟩ : BufTy).Contents (Elt Ideal)) (a1 : (⟨S4096x4096, .f32⟩ : BufTy).Contents (Elt Ideal))
  (a2 a3 : (⟨S16x64x1x64, .f32⟩ : BufTy).Contents (Elt Ideal)) (a4 : (⟨S16x64x128x128, .f32⟩ : BufTy).Contents (Elt Ideal))
  (a5 : (⟨S16x64x64x64, .f32⟩ : BufTy).Contents (Elt Ideal)) (a6 : (⟨S4096x2048, .f32⟩ : BufTy).Contents (Elt Ideal))

/-- The arguments, as the pass is given them. -/
def argsOf : Args := ⟨a0, a1, a2, a3, a4, a5, a6⟩

/-- What holds of the loop's state before trip `n`. -/
structure Holds (n : ℕ) (s : State Ideal) : Prop where
  f0 : s.main_v27_0 = A_main_v15 a0 a1 a2 a3 a4 a5 a6
  f1 : s.main_v27_1 = A_main_v5 a0 a1 a2 a3 a4 a5 a6
  f2 : s.main_v27_2 = A_main_v11 a0 a1 a2 a3 a4 a5 a6
  f3 : s.main_v27_3 = A_main_v14 a0 a1 a2 a3 a4 a5 a6
  f4 : s.main_v27_4 = A_main_v16 a0 a1 a2 a3 a4 a5 a6
  f5 : s.main_v27_5 = A_main_v17 a0 a1 a2 a3 a4 a5 a6
  f6 : s.main_v27_6 = A_main_v18 a0 a1 a2 a3 a4 a5 a6
  f7 : s.main_v27_7 = A_main_v20 a0 a1 a2 a3 a4 a5 a6
  f9 : ∀ h m k, s.main_v27_9 (ix3 h m k) = (argsOf a0 a1 a2 a3 a4 a5 a6).carry n h m k
  f10 : ∀ (ch : Fin 64) h i m, 64 ≤ ch.val + n → s.main_v27_10 (ix4 ch h i m) = ((argsOf a0 a1 a2 a3 a4 a5 a6).chunk ch h).dq i m
  f11 : ∀ (ch : Fin 64) h i m, 64 ≤ ch.val + n → s.main_v27_11 (ix4 ch h i m) = ((argsOf a0 a1 a2 a3 a4 a5 a6).chunk ch h).dk i m
  f12 : ∀ (ch : Fin 64) h i m, 64 ≤ ch.val + n → s.main_v27_12 (ix4 ch h i m) = ((argsOf a0 a1 a2 a3 a4 a5 a6).chunk ch h).dv i m
  f13 : ∀ (ch : Fin 64) h i, 64 ≤ ch.val + n → s.main_v27_13 (ix4 ch h 0 i) = ((argsOf a0 a1 a2 a3 a4 a5 a6).chunk ch h).db i
  f14 : ∀ (ch : Fin 64) h i, 64 ≤ ch.val + n → s.main_v27_14 (ix4 ch h 0 i) = ((argsOf a0 a1 a2 a3 a4 a5 a6).chunk ch h).dg i

theorem holds_init : Holds a0 a1 a2 a3 a4 a5 a6 0 (init a0 a1 a2 a3 a4 a5 a6) where
  f0 := rfl
  f1 := rfl
  f2 := rfl
  f3 := rfl
  f4 := rfl
  f5 := rfl
  f6 := rfl
  f7 := rfl
  f9 h m k := by
    show K_main_v21 (ix3 h m k) = 0
    pointwise [K_main_v21, K_main_cst]
  f10 ch h i m hc := absurd hc (by omega)
  f11 ch h i m hc := absurd hc (by omega)
  f12 ch h i m hc := absurd hc (by omega)
  f13 ch h i hc := absurd hc (by omega)
  f14 ch h i hc := absurd hc (by omega)

variable {a0 a1 a2 a3 a4 a5 a6}

theorem hd_eq {n : ℕ} {s : State Ideal} (hs : Holds a0 a1 a2 a3 a4 a5 a6 n s) (hn : n < 64) (h : Fin 16) :
    hd n s h = (argsOf a0 a1 a2 a3 a4 a5 a6).trip n h := by
  unfold hd Args.trip Args.inp
  congr 1
  · funext m k; rw [read8 n s hn, hs.f0, arr0]; rfl
  · funext m k; exact hs.f9 h m k
  · funext i m; rw [read13 n s hn, hs.f1, arr1]; rfl
  · funext i m; rw [read18 n s hn, hs.f2, arr2]; rfl
  · funext i m; rw [read23 n s hn, hs.f3, arr3]; rfl
  · funext i m; rw [read43 n s hn, hs.f7, arr7]; rfl
  · funext i; rw [read44 n s hn, hs.f4, arr4]; rfl
  · funext i; rw [read45 n s hn, hs.f5, arr5]; rfl
  · funext i l; rw [read38 n s hn, hs.f6, arr6]; rfl

theorem holds_step {n : ℕ} {s : State Ideal} (hs : Holds a0 a1 a2 a3 a4 a5 a6 n s) (hn : n < 64) :
    Holds a0 a1 a2 a3 a4 a5 a6 (n + 1) (step n s) where
  f0 := hs.f0
  f1 := hs.f1
  f2 := hs.f2
  f3 := hs.f3
  f4 := hs.f4
  f5 := hs.f5
  f6 := hs.f6
  f7 := hs.f7
  f9 h m k := by
    rw [step_main_v27_9, r176, hd_eq hs hn]; rfl
  f10 ch h i m hc := by
    rw [step_main_v27_10, stack258 n s hn]
    by_cases hb : ch = back n
    · rw [if_pos hb, r183, hd_eq hs hn, hb, Args.chunk_back _ _ hn]
    · rw [if_neg hb]
      refine hs.f10 ch h i m ?_
      have : ch.val ≠ 63 - n := fun e => hb (Fin.ext e)
      omega
  f11 ch h i m hc := by
    rw [step_main_v27_11, stack263 n s hn]
    by_cases hb : ch = back n
    · rw [if_pos hb, r227, hd_eq hs hn, hb, Args.chunk_back _ _ hn]
    · rw [if_neg hb]
      refine hs.f11 ch h i m ?_
      have : ch.val ≠ 63 - n := fun e => hb (Fin.ext e)
      omega
  f12 ch h i m hc := by
    rw [step_main_v27_12, stack268 n s hn]
    by_cases hb : ch = back n
    · rw [if_pos hb, r203, hd_eq hs hn, hb, Args.chunk_back _ _ hn]
    · rw [if_neg hb]
      refine hs.f12 ch h i m ?_
      have : ch.val ≠ 63 - n := fun e => hb (Fin.ext e)
      omega
  f13 ch h i hc := by
    rw [step_main_v27_13, stack273 n s hn]
    by_cases hb : ch = back n
    · rw [if_pos hb, r230, hd_eq hs hn, hb, Args.chunk_back _ _ hn]
    · rw [if_neg hb]
      refine hs.f13 ch h i ?_
      have : ch.val ≠ 63 - n := fun e => hb (Fin.ext e)
      omega
  f14 ch h i hc := by
    rw [step_main_v27_14, stack278 n s hn]
    by_cases hb : ch = back n
    · rw [if_pos hb, r251, hd_eq hs hn, hb, Args.chunk_back _ _ hn]
    · rw [if_neg hb]
      refine hs.f14 ch h i ?_
      have : ch.val ≠ 63 - n := fun e => hb (Fin.ext e)
      omega

theorem holds_iter (it : ℕ → State Ideal) (h0 : it 0 = init a0 a1 a2 a3 a4 a5 a6) (hs : ∀ n, it (n + 1) = step n (it n)) :
    ∀ n, n ≤ 64 → Holds a0 a1 a2 a3 a4 a5 a6 n (it n)
  | 0, _ => h0 ▸ holds_init a0 a1 a2 a3 a4 a5 a6
  | n + 1, hn => hs n ▸ holds_step (holds_iter it h0 hs n (by omega)) (by omega)

end Fold

end Cert.Proof.Delta.Ref

end
-- ==== Proof.RefRun.lean ====
/- The reference's run stated over its step: a valuation that holds a state keeps holding the next one through a
   trip of the loop, and the results are the fields of the last state. -/
module

public import proofs.«01_k».proof.Proof.Gen.ReferenceIdeal.Run
public import proofs.«01_k».proof.Proof.Gen.ReferenceIdeal.Step

@[expose] public section

set_option maxRecDepth 8192

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step hiding step_main_v27_9 step_main_v27_10 step_main_v27_11 step_main_v27_12 step_main_v27_13 step_main_v27_14

/-- What a value of the reference holds. -/
abbrev At (F : FTy → Type) (r : Ref sig .tc) := (Proc.devRef .tc r : DevRef τ sig).ty.Contents (Elt F)

variable {F : FTy → Type} [FloatOps F]

variable (V0 : Valuation τ sig (Elt F)) (s : State F) (j : ℕ)

/-- The valuation holds the state, the set-up values and the trip's number. -/
structure Holds : Prop where
  f_9 : V0 (Proc.devRef .tc main_v27_9) = s.main_v27_9
  f_10 : V0 (Proc.devRef .tc main_v27_10) = s.main_v27_10
  f_11 : V0 (Proc.devRef .tc main_v27_11) = s.main_v27_11
  f_12 : V0 (Proc.devRef .tc main_v27_12) = s.main_v27_12
  f_13 : V0 (Proc.devRef .tc main_v27_13) = s.main_v27_13
  f_14 : V0 (Proc.devRef .tc main_v27_14) = s.main_v27_14
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  f_4 : V0 (Proc.devRef .tc main_v27_4) = s.main_v27_4
  f_5 : V0 (Proc.devRef .tc main_v27_5) = s.main_v27_5
  f_6 : V0 (Proc.devRef .tc main_v27_6) = s.main_v27_6
  f_7 : V0 (Proc.devRef .tc main_v27_7) = s.main_v27_7
  n_8 : V0 (Proc.devRef .tc main_v27_8) = constantI S_ 32 (BitVec.ofNat 32 j)

variable {V0 s j}

section
variable (h : Holds V0 s j)
include h

theorem al_0 : (constantI S_ 32 64#32 : At F main_while0b_c_19) = b0 j s := rfl
theorem al_1 : (subi (constantI S_ 32 64#32) (V0 (Proc.devRef .tc main_v27_8)) : At F main_while0b_v39) = b1 j s := by
  unfold b1
  rw [← al_0 h, h.n_8]
  try rfl
theorem al_2 : (constantI S_ 32 1#32 : At F main_while0b_c_20) = b2 j s := rfl
theorem al_3 : (res_main_while0b_v40 V0 : At F main_while0b_v40) = b3 j s := by
  unfold res_main_while0b_v40 b3
  rw [← al_1 h, ← al_2 h]
  try rfl
theorem al_4 : (constantI S_ 32 0#32 : At F main_while0b_call0_c) = b4 j s := rfl
theorem al_5 : (constantI S_ 32 0#32 : At F main_while0b_call0_c_0) = b5 j s := rfl
theorem al_6 : (constantI S_ 32 0#32 : At F main_while0b_call0_c_1) = b6 j s := rfl
theorem al_7 : (Host.dynamicSlice S1x16x128x128 (V0 (Proc.devRef .tc main_v27_0)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x128x128_S1x16x128x128 : At F main_while0b_call0_v0) = b7 j s := by
  unfold b7
  rw [← al_3 h, ← al_4 h, ← al_5 h, ← al_6 h, h.f_0]
  try rfl
theorem al_8 : (res_main_while0b_v41 V0 : At F main_while0b_v41) = b8 j s := by
  unfold res_main_while0b_v41 b8
  rw [← al_7 h]
  try rfl
theorem al_9 : (constantI S_ 32 0#32 : At F main_while0b_call1_c) = b9 j s := rfl
theorem al_10 : (constantI S_ 32 0#32 : At F main_while0b_call1_c_0) = b10 j s := rfl
theorem al_11 : (constantI S_ 32 0#32 : At F main_while0b_call1_c_1) = b11 j s := rfl
theorem al_12 : (Host.dynamicSlice S1x16x64x128 (V0 (Proc.devRef .tc main_v27_1)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x64x128_S1x16x64x128 : At F main_while0b_call1_v0) = b12 j s := by
  unfold b12
  rw [← al_3 h, ← al_9 h, ← al_10 h, ← al_11 h, h.f_1]
  try rfl
theorem al_13 : (res_main_while0b_v42 V0 : At F main_while0b_v42) = b13 j s := by
  unfold res_main_while0b_v42 b13
  rw [← al_12 h]
  try rfl
theorem al_14 : (constantI S_ 32 0#32 : At F main_while0b_call2_c) = b14 j s := rfl
theorem al_15 : (constantI S_ 32 0#32 : At F main_while0b_call2_c_0) = b15 j s := rfl
theorem al_16 : (constantI S_ 32 0#32 : At F main_while0b_call2_c_1) = b16 j s := rfl
theorem al_17 : (Host.dynamicSlice S1x16x64x128 (V0 (Proc.devRef .tc main_v27_2)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x64x128_S1x16x64x128 : At F main_while0b_call2_v0) = b17 j s := by
  unfold b17
  rw [← al_3 h, ← al_14 h, ← al_15 h, ← al_16 h, h.f_2]
  try rfl
theorem al_18 : (res_main_while0b_v43 V0 : At F main_while0b_v43) = b18 j s := by
  unfold res_main_while0b_v43 b18
  rw [← al_17 h]
  try rfl
theorem al_19 : (constantI S_ 32 0#32 : At F main_while0b_call3_c) = b19 j s := rfl
theorem al_20 : (constantI S_ 32 0#32 : At F main_while0b_call3_c_0) = b20 j s := rfl
theorem al_21 : (constantI S_ 32 0#32 : At F main_while0b_call3_c_1) = b21 j s := rfl
theorem al_22 : (Host.dynamicSlice S1x16x64x128 (V0 (Proc.devRef .tc main_v27_3)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x64x128_S1x16x64x128 : At F main_while0b_call3_v0) = b22 j s := by
  unfold b22
  rw [← al_3 h, ← al_19 h, ← al_20 h, ← al_21 h, h.f_3]
  try rfl
theorem al_23 : (res_main_while0b_v44 V0 : At F main_while0b_v44) = b23 j s := by
  unfold res_main_while0b_v44 b23
  rw [← al_22 h]
  try rfl
theorem al_24 : (constantI S_ 32 0#32 : At F main_while0b_call4_c) = b24 j s := rfl
theorem al_25 : (constantI S_ 32 0#32 : At F main_while0b_call4_c_0) = b25 j s := rfl
theorem al_26 : (constantI S_ 32 0#32 : At F main_while0b_call4_c_1) = b26 j s := rfl
theorem al_27 : (Host.dynamicSlice S1x16x1x64 (V0 (Proc.devRef .tc main_v27_4)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x1x64_S1x16x1x64 : At F main_while0b_call4_v0) = b27 j s := by
  unfold b27
  rw [← al_3 h, ← al_24 h, ← al_25 h, ← al_26 h, h.f_4]
  try rfl
theorem al_28 : (shapeCast S16x1x64 (Host.dynamicSlice S1x16x1x64 (V0 (Proc.devRef .tc main_v27_4)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x1x64_S1x16x1x64) shapeCasts_S1x16x1x64_S16x1x64 : At F main_while0b_v45) = b28 j s := by
  unfold b28
  rw [← al_27 h]
  try rfl
theorem al_29 : (constantI S_ 32 0#32 : At F main_while0b_call5_c) = b29 j s := rfl
theorem al_30 : (constantI S_ 32 0#32 : At F main_while0b_call5_c_0) = b30 j s := rfl
theorem al_31 : (constantI S_ 32 0#32 : At F main_while0b_call5_c_1) = b31 j s := rfl
theorem al_32 : (Host.dynamicSlice S1x16x1x64 (V0 (Proc.devRef .tc main_v27_5)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x1x64_S1x16x1x64 : At F main_while0b_call5_v0) = b32 j s := by
  unfold b32
  rw [← al_3 h, ← al_29 h, ← al_30 h, ← al_31 h, h.f_5]
  try rfl
theorem al_33 : (shapeCast S16x1x64 (Host.dynamicSlice S1x16x1x64 (V0 (Proc.devRef .tc main_v27_5)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x1x64_S1x16x1x64) shapeCasts_S1x16x1x64_S16x1x64 : At F main_while0b_v46) = b33 j s := by
  unfold b33
  rw [← al_32 h]
  try rfl
theorem al_34 : (constantI S_ 32 0#32 : At F main_while0b_call6_c) = b34 j s := rfl
theorem al_35 : (constantI S_ 32 0#32 : At F main_while0b_call6_c_0) = b35 j s := rfl
theorem al_36 : (constantI S_ 32 0#32 : At F main_while0b_call6_c_1) = b36 j s := rfl
theorem al_37 : (Host.dynamicSlice S1x16x64x64 (V0 (Proc.devRef .tc main_v27_6)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x64x64_S1x16x64x64 : At F main_while0b_call6_v0) = b37 j s := by
  unfold b37
  rw [← al_3 h, ← al_34 h, ← al_35 h, ← al_36 h, h.f_6]
  try rfl
theorem al_38 : (res_main_while0b_v47 V0 : At F main_while0b_v47) = b38 j s := by
  unfold res_main_while0b_v47 b38
  rw [← al_37 h]
  try rfl
theorem al_39 : (constantI S_ 32 0#32 : At F main_while0b_call7_c) = b39 j s := rfl
theorem al_40 : (constantI S_ 32 0#32 : At F main_while0b_call7_c_0) = b40 j s := rfl
theorem al_41 : (constantI S_ 32 0#32 : At F main_while0b_call7_c_1) = b41 j s := rfl
theorem al_42 : (Host.dynamicSlice S1x16x64x128 (V0 (Proc.devRef .tc main_v27_7)) (fun k => (((![res_main_while0b_v40 V0, constantI S_ 32 0#32, constantI S_ 32 0#32, constantI S_ 32 0#32] : Fin 4 → (⟨S_, .i32⟩ : BufTy).Contents (Elt F))) k (Shape.Idx.first h_S_)).toInt) sliceFits_S64x16x64x128_S1x16x64x128 : At F main_while0b_call7_v0) = b42 j s := by
  unfold b42
  rw [← al_3 h, ← al_39 h, ← al_40 h, ← al_41 h, h.f_7]
  try rfl
theorem al_43 : (res_main_while0b_v48 V0 : At F main_while0b_v48) = b43 j s := by
  unfold res_main_while0b_v48 b43
  rw [← al_42 h]
  try rfl
theorem al_44 : (res_main_while0b_v49 V0 : At F main_while0b_v49) = b44 j s := by
  unfold res_main_while0b_v49 b44
  rw [← al_28 h]
  try rfl
theorem al_45 : (res_main_while0b_v50 V0 : At F main_while0b_v50) = b45 j s := by
  unfold res_main_while0b_v50 b45
  rw [← al_33 h]
  try rfl
theorem al_46 : (constantI S_ 1 1#1 : At F main_while0b_c_21) = b46 j s := rfl
theorem al_47 : (broadcastInDim S64x64 ![] bcast_S_S64x64 (constantI S_ 1 1#1) : At F main_while0b_v51) = b47 j s := by
  unfold b47
  rw [← al_46 h]
  try rfl
theorem al_48 : (iotaInDim S64x64 32 0 : At F main_while0b_call8_v0) = b48 j s := rfl
theorem al_49 : (constantI S_ 32 0#32 : At F main_while0b_call8_c) = b49 j s := rfl
theorem al_50 : (broadcastInDim S64x64 ![] bcast_S_S64x64 (constantI S_ 32 0#32) : At F main_while0b_call8_v1) = b50 j s := by
  unfold b50
  rw [← al_49 h]
  try rfl
theorem al_51 : (addi (iotaInDim S64x64 32 0) (broadcastInDim S64x64 ![] bcast_S_S64x64 (constantI S_ 32 0#32)) : At F main_while0b_call8_v2) = b51 j s := by
  unfold b51
  rw [← al_48 h, ← al_50 h]
  try rfl
theorem al_52 : (iotaInDim S64x64 32 1 : At F main_while0b_call8_v3) = b52 j s := rfl
theorem al_53 : (cmpi .sge (addi (iotaInDim S64x64 32 0) (broadcastInDim S64x64 ![] bcast_S_S64x64 (constantI S_ 32 0#32))) (iotaInDim S64x64 32 1) : At F main_while0b_call8_v4) = b53 j s := by
  unfold b53
  rw [← al_51 h, ← al_52 h]
  try rfl
theorem al_54 : (constantI S_ 1 0#1 : At F main_while0b_call8_c_0) = b54 j s := rfl
theorem al_55 : (broadcastInDim S64x64 ![] bcast_S_S64x64 (constantI S_ 1 0#1) : At F main_while0b_call8_v5) = b55 j s := by
  unfold b55
  rw [← al_54 h]
  try rfl
theorem al_56 : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : At F main_while0b_v52) = b56 j s := by
  unfold b56
  rw [← al_53 h, ← al_47 h, ← al_55 h]
  try rfl
theorem al_57 : (constantI S_ 1 1#1 : At F main_while0b_c_22) = b57 j s := rfl
theorem al_58 : (broadcastInDim S64x64 ![] bcast_S_S64x64 (constantI S_ 1 1#1) : At F main_while0b_v53) = b58 j s := by
  unfold b58
  rw [← al_57 h]
  try rfl
theorem al_59 : (iotaInDim S64x64 32 0 : At F main_while0b_call9_v0) = b59 j s := rfl
theorem al_60 : (constantI S_ 32 4294967295#32 : At F main_while0b_call9_c) = b60 j s := rfl
theorem al_61 : (broadcastInDim S64x64 ![] bcast_S_S64x64 (constantI S_ 32 4294967295#32) : At F main_while0b_call9_v1) = b61 j s := by
  unfold b61
  rw [← al_60 h]
  try rfl
theorem al_62 : (addi (iotaInDim S64x64 32 0) (broadcastInDim S64x64 ![] bcast_S_S64x64 (constantI S_ 32 4294967295#32)) : At F main_while0b_call9_v2) = b62 j s := by
  unfold b62
  rw [← al_59 h, ← al_61 h]
  try rfl
theorem al_63 : (iotaInDim S64x64 32 1 : At F main_while0b_call9_v3) = b63 j s := rfl
theorem al_64 : (cmpi .sge (addi (iotaInDim S64x64 32 0) (broadcastInDim S64x64 ![] bcast_S_S64x64 (constantI S_ 32 4294967295#32))) (iotaInDim S64x64 32 1) : At F main_while0b_call9_v4) = b64 j s := by
  unfold b64
  rw [← al_62 h, ← al_63 h]
  try rfl
theorem al_65 : (constantI S_ 1 0#1 : At F main_while0b_call9_c_0) = b65 j s := rfl
theorem al_66 : (broadcastInDim S64x64 ![] bcast_S_S64x64 (constantI S_ 1 0#1) : At F main_while0b_call9_v5) = b66 j s := by
  unfold b66
  rw [← al_65 h]
  try rfl
theorem al_67 : (select (cmpi .sge (addi (iotaInDim S64x64 32 0) (broadcastInDim S64x64 ![] bcast_S_S64x64 (constantI S_ 32 4294967295#32))) (iotaInDim S64x64 32 1)) (broadcastInDim S64x64 ![] bcast_S_S64x64 (constantI S_ 1 1#1)) (broadcastInDim S64x64 ![] bcast_S_S64x64 (constantI S_ 1 0#1)) : At F main_while0b_v54) = b67 j s := by
  unfold b67
  rw [← al_64 h, ← al_58 h, ← al_66 h]
  try rfl
theorem al_68 : (res_main_while0b_v55 V0 : At F main_while0b_v55) = b68 j s := by
  unfold res_main_while0b_v55 b68
  rw [← al_45 h]
  try rfl
theorem al_69 : (res_main_while0b_v56 V0 : At F main_while0b_v56) = b69 j s := by
  unfold res_main_while0b_v56 b69
  rw [← al_68 h]
  try rfl
theorem al_70 : (broadcastInDim S16x64x1 ![0, 1] bcast_S16x64_S16x64x1_0_1 (res_main_while0b_v50 V0) : At F main_while0b_v57) = b70 j s := by
  unfold b70
  rw [← al_45 h]
  try rfl
theorem al_71 : (broadcastInDim S16x1x64 ![0, 2] bcast_S16x64_S16x1x64_0_2 (res_main_while0b_v50 V0) : At F main_while0b_v58) = b71 j s := by
  unfold b71
  rw [← al_45 h]
  try rfl
theorem al_72 : (broadcastInDim S16x64x64 ![0, 1, 2] bcast_S16x64x1_S16x64x64_0_1_2 (broadcastInDim S16x64x1 ![0, 1] bcast_S16x64_S16x64x1_0_1 (res_main_while0b_v50 V0)) : At F main_while0b_v59) = b72 j s := by
  unfold b72
  rw [← al_70 h]
  try rfl
theorem al_73 : (broadcastInDim S16x64x64 ![0, 1, 2] bcast_S16x1x64_S16x64x64_0_1_2 (broadcastInDim S16x1x64 ![0, 2] bcast_S16x64_S16x1x64_0_2 (res_main_while0b_v50 V0)) : At F main_while0b_v60) = b73 j s := by
  unfold b73
  rw [← al_71 h]
  try rfl
theorem al_74 : (subf (broadcastInDim S16x64x64 ![0, 1, 2] bcast_S16x64x1_S16x64x64_0_1_2 (broadcastInDim S16x64x1 ![0, 1] bcast_S16x64_S16x64x1_0_1 (res_main_while0b_v50 V0))) (broadcastInDim S16x64x64 ![0, 1, 2] bcast_S16x1x64_S16x64x64_0_1_2 (broadcastInDim S16x1x64 ![0, 2] bcast_S16x64_S16x1x64_0_2 (res_main_while0b_v50 V0))) : At F main_while0b_v61) = b74 j s := by
  unfold b74
  rw [← al_72 h, ← al_73 h]
  try rfl
theorem al_75 : (constant S_ .f32 0xFF800000#32 : At F main_while0b_cst_23) = b75 j s := rfl
theorem al_76 : (id (constant S_ .f32 0xFF800000#32) : At F main_while0b_call10_v0) = b76 j s := by
  unfold b76
  rw [← al_75 h]
  try rfl
theorem al_77 : (res_main_while0b_v62_1 V0 : At F main_while0b_v62_1) = b77 j s := by
  unfold res_main_while0b_v62_1 b77
  rw [← al_56 h]
  try rfl
theorem al_78 : (broadcastInDim S16x64x64 ![] bcast_S_S16x64x64 (id (constant S_ .f32 0xFF800000#32)) : At F main_while0b_call10_v2) = b78 j s := by
  unfold b78
  rw [← al_76 h]
  try rfl
theorem al_79 : (select (res_main_while0b_v62_1 V0) (subf (broadcastInDim S16x64x64 ![0, 1, 2] bcast_S16x64x1_S16x64x64_0_1_2 (broadcastInDim S16x64x1 ![0, 1] bcast_S16x64_S16x64x1_0_1 (res_main_while0b_v50 V0))) (broadcastInDim S16x64x64 ![0, 1, 2] bcast_S16x1x64_S16x64x64_0_1_2 (broadcastInDim S16x1x64 ![0, 2] bcast_S16x64_S16x1x64_0_2 (res_main_while0b_v50 V0)))) (broadcastInDim S16x64x64 ![] bcast_S_S16x64x64 (id (constant S_ .f32 0xFF800000#32))) : At F main_while0b_v62_0) = b79 j s := by
  unfold b79
  rw [← al_77 h, ← al_74 h, ← al_78 h]
  try rfl
theorem al_80 : (constant S_ .f32 0x00000000#32 : At F main_while0b_call10_cst) = b80 j s := rfl
theorem al_81 : (broadcastInDim S16x64x64 ![] bcast_S_S16x64x64 (constant S_ .f32 0x00000000#32) : At F main_while0b_v62_2) = b81 j s := by
  unfold b81
  rw [← al_80 h]
  try rfl
theorem al_82 : (res_main_while0b_v63 V0 : At F main_while0b_v63) = b82 j s := by
  unfold res_main_while0b_v63 b82
  rw [← al_79 h]
  try rfl
theorem al_83 : (res_main_while0b_v64 V0 : At F main_while0b_v64) = b83 j s := by
  unfold res_main_while0b_v64 b83
  rw [← al_44 h]
  try rfl
theorem al_84 : (broadcastInDim S16x64x128 ![0, 1, 2] bcast_S16x64x1_S16x64x128_0_1_2 (res_main_while0b_v64 V0) : At F main_while0b_v65) = b84 j s := by
  unfold b84
  rw [← al_83 h]
  try rfl
theorem al_85 : (res_main_while0b_v66 V0 : At F main_while0b_v66) = b85 j s := by
  unfold res_main_while0b_v66 b85
  rw [← al_18 h, ← al_84 h]
  try rfl
theorem al_86 : (res_main_while0b_v67 V0 : At F main_while0b_v67) = b86 j s := by
  unfold res_main_while0b_v67 b86
  rw [← al_85 h, ← al_18 h]
  try rfl
theorem al_87 : (mulf (res_main_while0b_v67 V0) (res_main_while0b_v63 V0) : At F main_while0b_v68) = b87 j s := by
  unfold b87
  rw [← al_86 h, ← al_82 h]
  try rfl
theorem al_88 : (constant S_ .f32 0x00000000#32 : At F main_while0b_cst_24) = b88 j s := rfl
theorem al_89 : (id (constant S_ .f32 0x00000000#32) : At F main_while0b_call11_v0) = b89 j s := by
  unfold b89
  rw [← al_88 h]
  try rfl
theorem al_90 : (res_main_while0b_v69_1 V0 : At F main_while0b_v69_1) = b90 j s := by
  unfold res_main_while0b_v69_1 b90
  rw [← al_67 h]
  try rfl
theorem al_91 : (broadcastInDim S16x64x64 ![] bcast_S_S16x64x64 (id (constant S_ .f32 0x00000000#32)) : At F main_while0b_call11_v2) = b91 j s := by
  unfold b91
  rw [← al_89 h]
  try rfl
theorem al_92 : (select (res_main_while0b_v69_1 V0) (mulf (res_main_while0b_v67 V0) (res_main_while0b_v63 V0)) (broadcastInDim S16x64x64 ![] bcast_S_S16x64x64 (id (constant S_ .f32 0x00000000#32))) : At F main_while0b_v69_0) = b92 j s := by
  unfold b92
  rw [← al_90 h, ← al_87 h, ← al_91 h]
  try rfl
theorem al_93 : (constant S_ .f32 0x00000000#32 : At F main_while0b_call11_cst) = b93 j s := rfl
theorem al_94 : (broadcastInDim S16x64x64 ![] bcast_S_S16x64x64 (constant S_ .f32 0x00000000#32) : At F main_while0b_v69_2) = b94 j s := by
  unfold b94
  rw [← al_93 h]
  try rfl
theorem al_95 : (res_main_while0b_v70 V0 : At F main_while0b_v70) = b95 j s := by
  unfold res_main_while0b_v70 b95
  rw [← al_44 h]
  try rfl
theorem al_96 : (broadcastInDim S16x64x128 ![0, 1, 2] bcast_S16x64x1_S16x64x128_0_1_2 (res_main_while0b_v70 V0) : At F main_while0b_v71) = b96 j s := by
  unfold b96
  rw [← al_95 h]
  try rfl
theorem al_97 : (res_main_while0b_v72 V0 : At F main_while0b_v72) = b97 j s := by
  unfold res_main_while0b_v72 b97
  rw [← al_23 h, ← al_96 h]
  try rfl
theorem al_98 : (Host.dotGeneral dot_S16x64x64_S16x64x128_S16x64x128_2_1_1_2_0_0 none (res_main_while0b_v47 V0) (res_main_while0b_v72 V0) : At F main_while0b_v73) = b98 j s := by
  unfold b98
  rw [← al_38 h, ← al_97 h]
  try rfl
theorem al_99 : (broadcastInDim S16x64x128 ![0, 1, 2] bcast_S16x64x1_S16x64x128_0_1_2 (res_main_while0b_v56 V0) : At F main_while0b_v74) = b99 j s := by
  unfold b99
  rw [← al_69 h]
  try rfl
theorem al_100 : (res_main_while0b_v75 V0 : At F main_while0b_v75) = b100 j s := by
  unfold res_main_while0b_v75 b100
  rw [← al_85 h, ← al_99 h]
  try rfl
theorem al_101 : (res_main_while0b_v76 V0 : At F main_while0b_v76) = b101 j s := by
  unfold res_main_while0b_v76 b101
  rw [← al_38 h, ← al_100 h]
  try rfl
theorem al_102 : (res_main_while0b_v77 V0 : At F main_while0b_v77) = b102 j s := by
  unfold res_main_while0b_v77 b102
  rw [← al_13 h, ← al_18 h]
  try rfl
theorem al_103 : (res_main_while0b_v78 V0 : At F main_while0b_v78) = b103 j s := by
  unfold res_main_while0b_v78 b103
  rw [← al_102 h, ← al_82 h]
  try rfl
theorem al_104 : (Host.dotGeneral dot_S16x64x128_S16x128x128_S16x64x128_2_1_1_2_0_0 none (res_main_while0b_v76 V0) (res_main_while0b_v41 V0) : At F main_while0b_v79) = b104 j s := by
  unfold b104
  rw [← al_101 h, ← al_8 h]
  try rfl
theorem al_105 : (res_main_while0b_v80 V0 : At F main_while0b_v80) = b105 j s := by
  unfold res_main_while0b_v80 b105
  rw [← al_98 h, ← al_104 h]
  try rfl
theorem al_106 : (broadcastInDim S16x64x128 ![0, 1, 2] bcast_S16x64x1_S16x64x128_0_1_2 (res_main_while0b_v56 V0) : At F main_while0b_v81) = b106 j s := by
  unfold b106
  rw [← al_69 h]
  try rfl
theorem al_107 : (res_main_while0b_v82 V0 : At F main_while0b_v82) = b107 j s := by
  unfold res_main_while0b_v82 b107
  rw [← al_13 h, ← al_106 h]
  try rfl
theorem al_108 : (Host.dotGeneral dot_S16x64x128_S16x128x128_S16x64x128_2_1_1_2_0_0 none (res_main_while0b_v82 V0) (res_main_while0b_v41 V0) : At F main_while0b_v83) = b108 j s := by
  unfold b108
  rw [← al_107 h, ← al_8 h]
  try rfl
theorem al_109 : (Host.dotGeneral dot_S16x64x64_S16x64x128_S16x64x128_2_1_1_2_0_0 none (res_main_while0b_v78 V0) (res_main_while0b_v80 V0) : At F main_while0b_v84) = b109 j s := by
  unfold b109
  rw [← al_103 h, ← al_105 h]
  try rfl
theorem al_110 : (addf (Host.dotGeneral dot_S16x64x128_S16x128x128_S16x64x128_2_1_1_2_0_0 none (res_main_while0b_v82 V0) (res_main_while0b_v41 V0)) (Host.dotGeneral dot_S16x64x64_S16x64x128_S16x64x128_2_1_1_2_0_0 none (res_main_while0b_v78 V0) (res_main_while0b_v80 V0)) : At F main_while0b_v85) = b110 j s := by
  unfold b110
  rw [← al_108 h, ← al_109 h]
  try rfl
theorem al_111 : (extractStridedSlice S16x1 ![0, 63] (res_main_while0b_v50 V0) slices_S16x64_S16x1_0_63 : At F main_while0b_v86) = b111 j s := by
  unfold b111
  rw [← al_45 h]
  try rfl
theorem al_112 : (res_main_while0b_v87 V0 : At F main_while0b_v87) = b112 j s := by
  unfold res_main_while0b_v87 b112
  rw [← al_111 h]
  try rfl
theorem al_113 : (broadcastInDim S16x1 ![0] bcast_S16_S16x1_0 (res_main_while0b_v87 V0) : At F main_while0b_v88) = b113 j s := by
  unfold b113
  rw [← al_112 h]
  try rfl
theorem al_114 : (broadcastInDim S16x64 ![0, 1] bcast_S16x1_S16x64_0_1 (broadcastInDim S16x1 ![0] bcast_S16_S16x1_0 (res_main_while0b_v87 V0)) : At F main_while0b_v89) = b114 j s := by
  unfold b114
  rw [← al_113 h]
  try rfl
theorem al_115 : (subf (broadcastInDim S16x64 ![0, 1] bcast_S16x1_S16x64_0_1 (broadcastInDim S16x1 ![0] bcast_S16_S16x1_0 (res_main_while0b_v87 V0))) (res_main_while0b_v50 V0) : At F main_while0b_v90) = b115 j s := by
  unfold b115
  rw [← al_114 h, ← al_45 h]
  try rfl
theorem al_116 : (res_main_while0b_v91 V0 : At F main_while0b_v91) = b116 j s := by
  unfold res_main_while0b_v91 b116
  rw [← al_115 h]
  try rfl
theorem al_117 : (res_main_while0b_v92 V0 : At F main_while0b_v92) = b117 j s := by
  unfold res_main_while0b_v92 b117
  rw [← al_116 h]
  try rfl
theorem al_118 : (broadcastInDim S16x64x128 ![0, 1, 2] bcast_S16x64x1_S16x64x128_0_1_2 (res_main_while0b_v92 V0) : At F main_while0b_v93) = b118 j s := by
  unfold b118
  rw [← al_117 h]
  try rfl
theorem al_119 : (res_main_while0b_v94 V0 : At F main_while0b_v94) = b119 j s := by
  unfold res_main_while0b_v94 b119
  rw [← al_18 h, ← al_118 h]
  try rfl
theorem al_120 : (res_main_while0b_v95 V0 : At F main_while0b_v95) = b120 j s := by
  unfold res_main_while0b_v95 b120
  rw [← al_112 h]
  try rfl
theorem al_121 : (res_main_while0b_v96 V0 : At F main_while0b_v96) = b121 j s := by
  unfold res_main_while0b_v96 b121
  rw [← al_120 h]
  try rfl
theorem al_122 : (broadcastInDim S16x128x128 ![0, 1, 2] bcast_S16x1x1_S16x128x128_0_1_2 (res_main_while0b_v96 V0) : At F main_while0b_v97) = b122 j s := by
  unfold b122
  rw [← al_121 h]
  try rfl
theorem al_123 : (mulf (res_main_while0b_v41 V0) (broadcastInDim S16x128x128 ![0, 1, 2] bcast_S16x1x1_S16x128x128_0_1_2 (res_main_while0b_v96 V0)) : At F main_while0b_v98) = b123 j s := by
  unfold b123
  rw [← al_8 h, ← al_122 h]
  try rfl
theorem al_124 : (Host.dotGeneral dot_S16x64x128_S16x64x128_S16x128x128_1_1_2_2_0_0 none (res_main_while0b_v94 V0) (res_main_while0b_v80 V0) : At F main_while0b_v99) = b124 j s := by
  unfold b124
  rw [← al_119 h, ← al_105 h]
  try rfl
theorem al_125 : (addf (mulf (res_main_while0b_v41 V0) (broadcastInDim S16x128x128 ![0, 1, 2] bcast_S16x1x1_S16x128x128_0_1_2 (res_main_while0b_v96 V0))) (Host.dotGeneral dot_S16x64x128_S16x64x128_S16x128x128_1_1_2_2_0_0 none (res_main_while0b_v94 V0) (res_main_while0b_v80 V0)) : At F main_while0b_v100) = b125 j s := by
  unfold b125
  rw [← al_123 h, ← al_124 h]
  try rfl
theorem al_126 : (Host.dotGeneral dot_S16x128x128_S16x64x128_S16x128x64_1_2_2_1_0_0 none (V0 (Proc.devRef .tc main_v27_9)) (res_main_while0b_v94 V0) : At F main_while0b_v101) = b126 j s := by
  unfold b126
  rw [← al_119 h, h.f_9]
  try rfl
theorem al_127 : (transpose S16x64x128 [0, 2, 1] (Host.dotGeneral dot_S16x128x128_S16x64x128_S16x128x64_1_2_2_1_0_0 none (V0 (Proc.devRef .tc main_v27_9)) (res_main_while0b_v94 V0)) transposes_S16x128x64_S16x64x128_0_2_1 : At F main_while0b_v102) = b127 j s := by
  unfold b127
  rw [← al_126 h]
  try rfl
theorem al_128 : (Host.dotGeneral dot_S16x128x128_S16x64x128_S16x128x64_2_2_1_1_0_0 none (V0 (Proc.devRef .tc main_v27_9)) (res_main_while0b_v80 V0) : At F main_while0b_v103) = b128 j s := by
  unfold b128
  rw [← al_105 h, h.f_9]
  try rfl
theorem al_129 : (res_main_while0b_v104 V0 : At F main_while0b_v104) = b129 j s := by
  unfold res_main_while0b_v104 b129
  rw [← al_128 h]
  try rfl
theorem al_130 : (mulf (res_main_while0b_v41 V0) (V0 (Proc.devRef .tc main_v27_9)) : At F main_while0b_v105) = b130 j s := by
  unfold b130
  rw [← al_8 h, h.f_9]
  try rfl
theorem al_131 : (constant S_ .f32 0x00000000#32 : At F main_while0b_cst_25) = b131 j s := rfl
theorem al_132 : (Host.reduceAdd (mulf (res_main_while0b_v41 V0) (V0 (Proc.devRef .tc main_v27_9))) (constant S_ .f32 0x00000000#32) reducesTo_S16x128x128_S16_d1_2 h_S_ : At F main_while0b_v106) = b132 j s := by
  unfold b132
  rw [← al_130 h, ← al_131 h]
  try rfl
theorem al_133 : (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1 : At F main_while0b_v107) = b133 j s := by
  unfold b133
  rw [← al_132 h]
  try rfl
theorem al_134 : (broadcastInDim S16x128x128 ![0, 1, 2] bcast_S16x1x1_S16x128x128_0_1_2 (res_main_while0b_v96 V0) : At F main_while0b_v108) = b134 j s := by
  unfold b134
  rw [← al_121 h]
  try rfl
theorem al_135 : (mulf (V0 (Proc.devRef .tc main_v27_9)) (broadcastInDim S16x128x128 ![0, 1, 2] bcast_S16x1x1_S16x128x128_0_1_2 (res_main_while0b_v96 V0)) : At F main_while0b_v109) = b135 j s := by
  unfold b135
  rw [← al_134 h, h.f_9]
  try rfl
theorem al_136 : (constant S_ .f32 0x00000000#32 : At F main_while0b_cst_26) = b136 j s := rfl
theorem al_137 : (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_ : At F main_while0b_v110) = b137 j s := by
  unfold b137
  rw [← al_133 h, ← al_136 h]
  try rfl
theorem al_138 : (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0) : At F main_while0b_v111) = b138 j s := by
  unfold b138
  rw [← al_137 h, ← al_120 h]
  try rfl
theorem al_139 : (mulf (res_main_while0b_v43 V0) (res_main_while0b_v104 V0) : At F main_while0b_v112) = b139 j s := by
  unfold b139
  rw [← al_18 h, ← al_129 h]
  try rfl
theorem al_140 : (constant S_ .f32 0x00000000#32 : At F main_while0b_cst_27) = b140 j s := rfl
theorem al_141 : (Host.reduceAdd (mulf (res_main_while0b_v43 V0) (res_main_while0b_v104 V0)) (constant S_ .f32 0x00000000#32) reducesTo_S16x64x128_S16x64_d2 h_S_ : At F main_while0b_v113) = b141 j s := by
  unfold b141
  rw [← al_139 h, ← al_140 h]
  try rfl
theorem al_142 : (shapeCast S16x64x1 (Host.reduceAdd (mulf (res_main_while0b_v43 V0) (res_main_while0b_v104 V0)) (constant S_ .f32 0x00000000#32) reducesTo_S16x64x128_S16x64_d2 h_S_) shapeCasts_S16x64_S16x64x1 : At F main_while0b_v114) = b142 j s := by
  unfold b142
  rw [← al_141 h]
  try rfl
theorem al_143 : (broadcastInDim S16x64x128 ![0, 1, 2] bcast_S16x64x1_S16x64x128_0_1_2 (res_main_while0b_v92 V0) : At F main_while0b_v115) = b143 j s := by
  unfold b143
  rw [← al_117 h]
  try rfl
theorem al_144 : (mulf (res_main_while0b_v104 V0) (broadcastInDim S16x64x128 ![0, 1, 2] bcast_S16x64x1_S16x64x128_0_1_2 (res_main_while0b_v92 V0)) : At F main_while0b_v116) = b144 j s := by
  unfold b144
  rw [← al_129 h, ← al_143 h]
  try rfl
theorem al_145 : (constant S_ .f32 0x00000000#32 : At F main_while0b_cst_28) = b145 j s := rfl
theorem al_146 : (Host.reduceAdd (shapeCast S16x64x1 (Host.reduceAdd (mulf (res_main_while0b_v43 V0) (res_main_while0b_v104 V0)) (constant S_ .f32 0x00000000#32) reducesTo_S16x64x128_S16x64_d2 h_S_) shapeCasts_S16x64_S16x64x1) (constant S_ .f32 0x00000000#32) reducesTo_S16x64x1_S16x64_d2 h_S_ : At F main_while0b_v117) = b146 j s := by
  unfold b146
  rw [← al_142 h, ← al_145 h]
  try rfl
theorem al_147 : (res_main_while0b_v118 V0 : At F main_while0b_v118) = b147 j s := by
  unfold res_main_while0b_v118 b147
  rw [← al_146 h, ← al_116 h]
  try rfl
theorem al_148 : (constant S_ .f32 0x00000000#32 : At F main_while0b_cst_29) = b148 j s := rfl
theorem al_149 : (Host.reduceAdd (res_main_while0b_v118 V0) (constant S_ .f32 0x00000000#32) reducesTo_S16x64_S16_d1 h_S_ : At F main_while0b_v119) = b149 j s := by
  unfold b149
  rw [← al_147 h, ← al_148 h]
  try rfl
theorem al_150 : (shapeCast S16x1 (Host.reduceAdd (res_main_while0b_v118 V0) (constant S_ .f32 0x00000000#32) reducesTo_S16x64_S16_d1 h_S_) shapeCasts_S16_S16x1 : At F main_while0b_v120) = b150 j s := by
  unfold b150
  rw [← al_149 h]
  try rfl
theorem al_151 : (Host.negf (res_main_while0b_v118 V0) : At F main_while0b_v121) = b151 j s := by
  unfold b151
  rw [← al_147 h]
  try rfl
theorem al_152 : (constant S_ .f32 0x00000000#32 : At F main_while0b_cst_30) = b152 j s := rfl
theorem al_153 : (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_ : At F main_while0b_v122) = b153 j s := by
  unfold b153
  rw [← al_150 h, ← al_152 h]
  try rfl
theorem al_154 : (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_) : At F main_while0b_v123) = b154 j s := by
  unfold b154
  rw [← al_138 h, ← al_153 h]
  try rfl
theorem al_155 : (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_)) : At F main_while0b_v124) = b155 j s := by
  unfold b155
  rw [← al_154 h]
  try rfl
theorem al_156 : (constant S_ .f32 0x00000000#32 : At F main_while0b_cst_31) = b156 j s := rfl
theorem al_157 : (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_ : At F main_while0b_v125) = b157 j s := by
  unfold b157
  rw [← al_155 h, ← al_156 h]
  try rfl
theorem al_158 : (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_) : At F main_while0b_v126) = b158 j s := by
  unfold b158
  rw [← al_151 h, ← al_157 h]
  try rfl
theorem al_159 : (Host.dotGeneral dot_S16x64x128_S16x64x64_S16x128x64_1_1_2_2_0_0 none (res_main_while0b_v48 V0) (res_main_while0b_v78 V0) : At F main_while0b_v127) = b159 j s := by
  unfold b159
  rw [← al_43 h, ← al_103 h]
  try rfl
theorem al_160 : (transpose S16x64x128 [0, 2, 1] (Host.dotGeneral dot_S16x64x128_S16x64x64_S16x128x64_1_1_2_2_0_0 none (res_main_while0b_v48 V0) (res_main_while0b_v78 V0)) transposes_S16x128x64_S16x64x128_0_2_1 : At F main_while0b_v128) = b160 j s := by
  unfold b160
  rw [← al_159 h]
  try rfl
theorem al_161 : (res_main_while0b_v129 V0 : At F main_while0b_v129) = b161 j s := by
  unfold res_main_while0b_v129 b161
  rw [← al_127 h, ← al_160 h]
  try rfl
theorem al_162 : (res_main_while0b_v130 V0 : At F main_while0b_v130) = b162 j s := by
  unfold res_main_while0b_v130 b162
  rw [← al_43 h, ← al_105 h]
  try rfl
theorem al_163 : (Host.dotGeneral dot_S16x64x128_S16x64x128_S16x128x128_1_1_2_2_0_0 none (res_main_while0b_v48 V0) (res_main_while0b_v82 V0) : At F main_while0b_v131) = b163 j s := by
  unfold b163
  rw [← al_43 h, ← al_107 h]
  try rfl
theorem al_164 : (transpose S16x128x128 [0, 2, 1] (Host.dotGeneral dot_S16x64x128_S16x64x128_S16x128x128_1_1_2_2_0_0 none (res_main_while0b_v48 V0) (res_main_while0b_v82 V0)) transposes_S16x128x128_S16x128x128_0_2_1 : At F main_while0b_v132) = b164 j s := by
  unfold b164
  rw [← al_163 h]
  try rfl
theorem al_165 : (addf (mulf (V0 (Proc.devRef .tc main_v27_9)) (broadcastInDim S16x128x128 ![0, 1, 2] bcast_S16x1x1_S16x128x128_0_1_2 (res_main_while0b_v96 V0))) (transpose S16x128x128 [0, 2, 1] (Host.dotGeneral dot_S16x64x128_S16x64x128_S16x128x128_1_1_2_2_0_0 none (res_main_while0b_v48 V0) (res_main_while0b_v82 V0)) transposes_S16x128x128_S16x128x128_0_2_1) : At F main_while0b_v133) = b165 j s := by
  unfold b165
  rw [← al_135 h, ← al_164 h]
  try rfl
theorem al_166 : (res_main_while0b_v134 V0 : At F main_while0b_v134) = b166 j s := by
  unfold res_main_while0b_v134 b166
  rw [← al_43 h, ← al_8 h]
  try rfl
theorem al_167 : (mulf (res_main_while0b_v42 V0) (res_main_while0b_v134 V0) : At F main_while0b_v135) = b167 j s := by
  unfold b167
  rw [← al_13 h, ← al_166 h]
  try rfl
theorem al_168 : (constant S_ .f32 0x00000000#32 : At F main_while0b_cst_32) = b168 j s := rfl
theorem al_169 : (Host.reduceAdd (mulf (res_main_while0b_v42 V0) (res_main_while0b_v134 V0)) (constant S_ .f32 0x00000000#32) reducesTo_S16x64x128_S16x64_d2 h_S_ : At F main_while0b_v136) = b169 j s := by
  unfold b169
  rw [← al_167 h, ← al_168 h]
  try rfl
theorem al_170 : (shapeCast S16x64x1 (Host.reduceAdd (mulf (res_main_while0b_v42 V0) (res_main_while0b_v134 V0)) (constant S_ .f32 0x00000000#32) reducesTo_S16x64x128_S16x64_d2 h_S_) shapeCasts_S16x64_S16x64x1 : At F main_while0b_v137) = b170 j s := by
  unfold b170
  rw [← al_169 h]
  try rfl
theorem al_171 : (broadcastInDim S16x64x128 ![0, 1, 2] bcast_S16x64x1_S16x64x128_0_1_2 (res_main_while0b_v56 V0) : At F main_while0b_v138) = b171 j s := by
  unfold b171
  rw [← al_69 h]
  try rfl
theorem al_172 : (mulf (res_main_while0b_v134 V0) (broadcastInDim S16x64x128 ![0, 1, 2] bcast_S16x64x1_S16x64x128_0_1_2 (res_main_while0b_v56 V0)) : At F main_while0b_v139) = b172 j s := by
  unfold b172
  rw [← al_166 h, ← al_171 h]
  try rfl
theorem al_173 : (res_main_while0b_v140 V0 : At F main_while0b_v140) = b173 j s := by
  unfold res_main_while0b_v140 b173
  rw [← al_161 h]
  try rfl
theorem al_174 : (Host.dotGeneral dot_S16x64x128_S16x64x128_S16x128x128_1_1_2_2_0_0 none (res_main_while0b_v140 V0) (res_main_while0b_v76 V0) : At F main_while0b_v141) = b174 j s := by
  unfold b174
  rw [← al_173 h, ← al_101 h]
  try rfl
theorem al_175 : (transpose S16x128x128 [0, 2, 1] (Host.dotGeneral dot_S16x64x128_S16x64x128_S16x128x128_1_1_2_2_0_0 none (res_main_while0b_v140 V0) (res_main_while0b_v76 V0)) transposes_S16x128x128_S16x128x128_0_2_1 : At F main_while0b_v142) = b175 j s := by
  unfold b175
  rw [← al_174 h]
  try rfl
theorem al_176 : (addf (addf (mulf (V0 (Proc.devRef .tc main_v27_9)) (broadcastInDim S16x128x128 ![0, 1, 2] bcast_S16x1x1_S16x128x128_0_1_2 (res_main_while0b_v96 V0))) (transpose S16x128x128 [0, 2, 1] (Host.dotGeneral dot_S16x64x128_S16x64x128_S16x128x128_1_1_2_2_0_0 none (res_main_while0b_v48 V0) (res_main_while0b_v82 V0)) transposes_S16x128x128_S16x128x128_0_2_1)) (transpose S16x128x128 [0, 2, 1] (Host.dotGeneral dot_S16x64x128_S16x64x128_S16x128x128_1_1_2_2_0_0 none (res_main_while0b_v140 V0) (res_main_while0b_v76 V0)) transposes_S16x128x128_S16x128x128_0_2_1) : At F main_while0b_v143) = b176 j s := by
  unfold b176
  rw [← al_165 h, ← al_175 h]
  try rfl
theorem al_177 : (res_main_while0b_v144 V0 : At F main_while0b_v144) = b177 j s := by
  unfold res_main_while0b_v144 b177
  rw [← al_173 h, ← al_8 h]
  try rfl
theorem al_178 : (mulf (res_main_while0b_v77 V0) (res_main_while0b_v130 V0) : At F main_while0b_v145) = b178 j s := by
  unfold b178
  rw [← al_102 h, ← al_162 h]
  try rfl
theorem al_179 : (res_main_while0b_v146 V0 : At F main_while0b_v146) = b179 j s := by
  unfold res_main_while0b_v146 b179
  rw [← al_162 h, ← al_82 h]
  try rfl
theorem al_180 : (Host.dotGeneral dot_S16x64x64_S16x64x128_S16x64x128_1_1_2_2_0_0 none (res_main_while0b_v146 V0) (res_main_while0b_v42 V0) : At F main_while0b_v147) = b180 j s := by
  unfold b180
  rw [← al_179 h, ← al_13 h]
  try rfl
theorem al_181 : (addf (mulf (res_main_while0b_v104 V0) (broadcastInDim S16x64x128 ![0, 1, 2] bcast_S16x64x1_S16x64x128_0_1_2 (res_main_while0b_v92 V0))) (Host.dotGeneral dot_S16x64x64_S16x64x128_S16x64x128_1_1_2_2_0_0 none (res_main_while0b_v146 V0) (res_main_while0b_v42 V0)) : At F main_while0b_v148) = b181 j s := by
  unfold b181
  rw [← al_144 h, ← al_180 h]
  try rfl
theorem al_182 : (Host.dotGeneral dot_S16x64x64_S16x64x128_S16x64x128_2_1_1_2_0_0 none (res_main_while0b_v146 V0) (res_main_while0b_v43 V0) : At F main_while0b_v149) = b182 j s := by
  unfold b182
  rw [← al_179 h, ← al_18 h]
  try rfl
theorem al_183 : (addf (mulf (res_main_while0b_v134 V0) (broadcastInDim S16x64x128 ![0, 1, 2] bcast_S16x64x1_S16x64x128_0_1_2 (res_main_while0b_v56 V0))) (Host.dotGeneral dot_S16x64x64_S16x64x128_S16x64x128_2_1_1_2_0_0 none (res_main_while0b_v146 V0) (res_main_while0b_v43 V0)) : At F main_while0b_v150) = b183 j s := by
  unfold b183
  rw [← al_172 h, ← al_182 h]
  try rfl
theorem al_184 : (Host.dotGeneral dot_S16x64x128_S16x64x64_S16x128x64_1_1_2_2_0_0 none (res_main_while0b_v144 V0) (res_main_while0b_v47 V0) : At F main_while0b_v151) = b184 j s := by
  unfold b184
  rw [← al_177 h, ← al_38 h]
  try rfl
theorem al_185 : (res_main_while0b_v152 V0 : At F main_while0b_v152) = b185 j s := by
  unfold res_main_while0b_v152 b185
  rw [← al_184 h]
  try rfl
theorem al_186 : (Host.dotGeneral dot_S16x64x128_S16x64x128_S16x64x64_2_2_1_1_0_0 none (res_main_while0b_v144 V0) (res_main_while0b_v75 V0) : At F main_while0b_v153) = b186 j s := by
  unfold b186
  rw [← al_177 h, ← al_100 h]
  try rfl
theorem al_187 : (mulf (res_main_while0b_v66 V0) (res_main_while0b_v152 V0) : At F main_while0b_v154) = b187 j s := by
  unfold b187
  rw [← al_85 h, ← al_185 h]
  try rfl
theorem al_188 : (constant S_ .f32 0x00000000#32 : At F main_while0b_cst_33) = b188 j s := rfl
theorem al_189 : (Host.reduceAdd (mulf (res_main_while0b_v66 V0) (res_main_while0b_v152 V0)) (constant S_ .f32 0x00000000#32) reducesTo_S16x64x128_S16x64_d2 h_S_ : At F main_while0b_v155) = b189 j s := by
  unfold b189
  rw [← al_187 h, ← al_188 h]
  try rfl
theorem al_190 : (shapeCast S16x64x1 (Host.reduceAdd (mulf (res_main_while0b_v66 V0) (res_main_while0b_v152 V0)) (constant S_ .f32 0x00000000#32) reducesTo_S16x64x128_S16x64_d2 h_S_) shapeCasts_S16x64_S16x64x1 : At F main_while0b_v156) = b190 j s := by
  unfold b190
  rw [← al_189 h]
  try rfl
theorem al_191 : (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1) : At F main_while0b_v157) = b191 j s := by
  unfold b191
  rw [← al_170 h, ← al_190 h]
  try rfl
theorem al_192 : (broadcastInDim S16x64x128 ![0, 1, 2] bcast_S16x64x1_S16x64x128_0_1_2 (res_main_while0b_v56 V0) : At F main_while0b_v158) = b192 j s := by
  unfold b192
  rw [← al_69 h]
  try rfl
theorem al_193 : (mulf (res_main_while0b_v152 V0) (broadcastInDim S16x64x128 ![0, 1, 2] bcast_S16x64x1_S16x64x128_0_1_2 (res_main_while0b_v56 V0)) : At F main_while0b_v159) = b193 j s := by
  unfold b193
  rw [← al_185 h, ← al_192 h]
  try rfl
theorem al_194 : (Host.dotGeneral dot_S16x64x128_S16x64x64_S16x128x64_1_1_2_2_0_0 none (res_main_while0b_v129 V0) (res_main_while0b_v47 V0) : At F main_while0b_v160) = b194 j s := by
  unfold b194
  rw [← al_161 h, ← al_38 h]
  try rfl
theorem al_195 : (res_main_while0b_v161 V0 : At F main_while0b_v161) = b195 j s := by
  unfold res_main_while0b_v161 b195
  rw [← al_194 h]
  try rfl
theorem al_196 : (Host.dotGeneral dot_S16x64x128_S16x64x128_S16x64x64_2_2_1_1_0_0 none (res_main_while0b_v129 V0) (res_main_while0b_v72 V0) : At F main_while0b_v162) = b196 j s := by
  unfold b196
  rw [← al_161 h, ← al_97 h]
  try rfl
theorem al_197 : (addf (Host.dotGeneral dot_S16x64x128_S16x64x128_S16x64x64_2_2_1_1_0_0 none (res_main_while0b_v144 V0) (res_main_while0b_v75 V0)) (Host.dotGeneral dot_S16x64x128_S16x64x128_S16x64x64_2_2_1_1_0_0 none (res_main_while0b_v129 V0) (res_main_while0b_v72 V0)) : At F main_while0b_v163) = b197 j s := by
  unfold b197
  rw [← al_186 h, ← al_196 h]
  try rfl
theorem al_198 : (mulf (res_main_while0b_v44 V0) (res_main_while0b_v161 V0) : At F main_while0b_v164) = b198 j s := by
  unfold b198
  rw [← al_23 h, ← al_195 h]
  try rfl
theorem al_199 : (constant S_ .f32 0x00000000#32 : At F main_while0b_cst_34) = b199 j s := rfl
theorem al_200 : (Host.reduceAdd (mulf (res_main_while0b_v44 V0) (res_main_while0b_v161 V0)) (constant S_ .f32 0x00000000#32) reducesTo_S16x64x128_S16x64_d2 h_S_ : At F main_while0b_v165) = b200 j s := by
  unfold b200
  rw [← al_198 h, ← al_199 h]
  try rfl
theorem al_201 : (shapeCast S16x64x1 (Host.reduceAdd (mulf (res_main_while0b_v44 V0) (res_main_while0b_v161 V0)) (constant S_ .f32 0x00000000#32) reducesTo_S16x64x128_S16x64_d2 h_S_) shapeCasts_S16x64_S16x64x1 : At F main_while0b_v166) = b201 j s := by
  unfold b201
  rw [← al_200 h]
  try rfl
theorem al_202 : (broadcastInDim S16x64x128 ![0, 1, 2] bcast_S16x64x1_S16x64x128_0_1_2 (res_main_while0b_v70 V0) : At F main_while0b_v167) = b202 j s := by
  unfold b202
  rw [← al_95 h]
  try rfl
theorem al_203 : (mulf (res_main_while0b_v161 V0) (broadcastInDim S16x64x128 ![0, 1, 2] bcast_S16x64x1_S16x64x128_0_1_2 (res_main_while0b_v70 V0)) : At F main_while0b_v168) = b203 j s := by
  unfold b203
  rw [← al_195 h, ← al_202 h]
  try rfl
theorem al_204 : (constant S_ .f32 0x00000000#32 : At F main_while0b_cst_35) = b204 j s := rfl
theorem al_205 : (Host.reduceAdd (shapeCast S16x64x1 (Host.reduceAdd (mulf (res_main_while0b_v44 V0) (res_main_while0b_v161 V0)) (constant S_ .f32 0x00000000#32) reducesTo_S16x64x128_S16x64_d2 h_S_) shapeCasts_S16x64_S16x64x1) (constant S_ .f32 0x00000000#32) reducesTo_S16x64x1_S16x64_d2 h_S_ : At F main_while0b_v169) = b205 j s := by
  unfold b205
  rw [← al_201 h, ← al_204 h]
  try rfl
theorem al_206 : (Host.dotGeneral dot_S16x64x64_S16x64x64_S16x64x64_2_2_1_1_0_0 none (addf (Host.dotGeneral dot_S16x64x128_S16x64x128_S16x64x64_2_2_1_1_0_0 none (res_main_while0b_v144 V0) (res_main_while0b_v75 V0)) (Host.dotGeneral dot_S16x64x128_S16x64x128_S16x64x64_2_2_1_1_0_0 none (res_main_while0b_v129 V0) (res_main_while0b_v72 V0))) (res_main_while0b_v47 V0) : At F main_while0b_v170) = b206 j s := by
  unfold b206
  rw [← al_197 h, ← al_38 h]
  try rfl
theorem al_207 : (Host.dotGeneral dot_S16x64x64_S16x64x64_S16x64x64_1_1_2_2_0_0 none (res_main_while0b_v47 V0) (Host.dotGeneral dot_S16x64x64_S16x64x64_S16x64x64_2_2_1_1_0_0 none (addf (Host.dotGeneral dot_S16x64x128_S16x64x128_S16x64x64_2_2_1_1_0_0 none (res_main_while0b_v144 V0) (res_main_while0b_v75 V0)) (Host.dotGeneral dot_S16x64x128_S16x64x128_S16x64x64_2_2_1_1_0_0 none (res_main_while0b_v129 V0) (res_main_while0b_v72 V0))) (res_main_while0b_v47 V0)) : At F main_while0b_v171) = b207 j s := by
  unfold b207
  rw [← al_38 h, ← al_206 h]
  try rfl
theorem al_208 : (Host.negf (Host.dotGeneral dot_S16x64x64_S16x64x64_S16x64x64_1_1_2_2_0_0 none (res_main_while0b_v47 V0) (Host.dotGeneral dot_S16x64x64_S16x64x64_S16x64x64_2_2_1_1_0_0 none (addf (Host.dotGeneral dot_S16x64x128_S16x64x128_S16x64x64_2_2_1_1_0_0 none (res_main_while0b_v144 V0) (res_main_while0b_v75 V0)) (Host.dotGeneral dot_S16x64x128_S16x64x128_S16x64x64_2_2_1_1_0_0 none (res_main_while0b_v129 V0) (res_main_while0b_v72 V0))) (res_main_while0b_v47 V0))) : At F main_while0b_v172) = b208 j s := by
  unfold b208
  rw [← al_207 h]
  try rfl
theorem al_209 : (constant S_ .f32 0x00000000#32 : At F main_while0b_cst_36) = b209 j s := rfl
theorem al_210 : (broadcastInDim S16x64x64 ![] bcast_S_S16x64x64 (constant S_ .f32 0x00000000#32) : At F main_while0b_v173) = b210 j s := by
  unfold b210
  rw [← al_209 h]
  try rfl
theorem al_211 : (constant S_ .f32 0x00000000#32 : At F main_while0b_call12_cst) = b211 j s := rfl
theorem al_212 : (broadcastInDim S16x64x64 ![] bcast_S_S16x64x64 (constant S_ .f32 0x00000000#32) : At F main_while0b_call12_v0) = b212 j s := by
  unfold b212
  rw [← al_211 h]
  try rfl
theorem al_213 : (res_main_while0b_v174 V0 : At F main_while0b_v174) = b213 j s := by
  unfold res_main_while0b_v174 b213
  rw [← al_90 h, ← al_208 h, ← al_212 h]
  try rfl
theorem al_214 : (mulf (res_main_while0b_v67 V0) (res_main_while0b_v174 V0) : At F main_while0b_v175) = b214 j s := by
  unfold b214
  rw [← al_86 h, ← al_213 h]
  try rfl
theorem al_215 : (addf (mulf (res_main_while0b_v77 V0) (res_main_while0b_v130 V0)) (mulf (res_main_while0b_v67 V0) (res_main_while0b_v174 V0)) : At F main_while0b_v176) = b215 j s := by
  unfold b215
  rw [← al_178 h, ← al_214 h]
  try rfl
theorem al_216 : (res_main_while0b_v177 V0 : At F main_while0b_v177) = b216 j s := by
  unfold res_main_while0b_v177 b216
  rw [← al_213 h, ← al_82 h]
  try rfl
theorem al_217 : (Host.dotGeneral dot_S16x64x64_S16x64x128_S16x64x128_1_1_2_2_0_0 none (res_main_while0b_v177 V0) (res_main_while0b_v66 V0) : At F main_while0b_v178) = b217 j s := by
  unfold b217
  rw [← al_216 h, ← al_85 h]
  try rfl
theorem al_218 : (addf (addf (mulf (res_main_while0b_v104 V0) (broadcastInDim S16x64x128 ![0, 1, 2] bcast_S16x64x1_S16x64x128_0_1_2 (res_main_while0b_v92 V0))) (Host.dotGeneral dot_S16x64x64_S16x64x128_S16x64x128_1_1_2_2_0_0 none (res_main_while0b_v146 V0) (res_main_while0b_v42 V0))) (Host.dotGeneral dot_S16x64x64_S16x64x128_S16x64x128_1_1_2_2_0_0 none (res_main_while0b_v177 V0) (res_main_while0b_v66 V0)) : At F main_while0b_v179) = b218 j s := by
  unfold b218
  rw [← al_181 h, ← al_217 h]
  try rfl
theorem al_219 : (Host.dotGeneral dot_S16x64x64_S16x64x128_S16x64x128_2_1_1_2_0_0 none (res_main_while0b_v177 V0) (res_main_while0b_v43 V0) : At F main_while0b_v180) = b219 j s := by
  unfold b219
  rw [← al_216 h, ← al_18 h]
  try rfl
theorem al_220 : (res_main_while0b_v181 V0 : At F main_while0b_v181) = b220 j s := by
  unfold res_main_while0b_v181 b220
  rw [← al_193 h, ← al_219 h]
  try rfl
theorem al_221 : (mulf (res_main_while0b_v43 V0) (res_main_while0b_v181 V0) : At F main_while0b_v182) = b221 j s := by
  unfold b221
  rw [← al_18 h, ← al_220 h]
  try rfl
theorem al_222 : (constant S_ .f32 0x00000000#32 : At F main_while0b_cst_37) = b222 j s := rfl
theorem al_223 : (Host.reduceAdd (mulf (res_main_while0b_v43 V0) (res_main_while0b_v181 V0)) (constant S_ .f32 0x00000000#32) reducesTo_S16x64x128_S16x64_d2 h_S_ : At F main_while0b_v183) = b223 j s := by
  unfold b223
  rw [← al_221 h, ← al_222 h]
  try rfl
theorem al_224 : (shapeCast S16x64x1 (Host.reduceAdd (mulf (res_main_while0b_v43 V0) (res_main_while0b_v181 V0)) (constant S_ .f32 0x00000000#32) reducesTo_S16x64x128_S16x64_d2 h_S_) shapeCasts_S16x64_S16x64x1 : At F main_while0b_v184) = b224 j s := by
  unfold b224
  rw [← al_223 h]
  try rfl
theorem al_225 : (broadcastInDim S16x64x128 ![0, 1, 2] bcast_S16x64x1_S16x64x128_0_1_2 (res_main_while0b_v64 V0) : At F main_while0b_v185) = b225 j s := by
  unfold b225
  rw [← al_83 h]
  try rfl
theorem al_226 : (mulf (res_main_while0b_v181 V0) (broadcastInDim S16x64x128 ![0, 1, 2] bcast_S16x64x1_S16x64x128_0_1_2 (res_main_while0b_v64 V0)) : At F main_while0b_v186) = b226 j s := by
  unfold b226
  rw [← al_220 h, ← al_225 h]
  try rfl
theorem al_227 : (addf (addf (addf (mulf (res_main_while0b_v104 V0) (broadcastInDim S16x64x128 ![0, 1, 2] bcast_S16x64x1_S16x64x128_0_1_2 (res_main_while0b_v92 V0))) (Host.dotGeneral dot_S16x64x64_S16x64x128_S16x64x128_1_1_2_2_0_0 none (res_main_while0b_v146 V0) (res_main_while0b_v42 V0))) (Host.dotGeneral dot_S16x64x64_S16x64x128_S16x64x128_1_1_2_2_0_0 none (res_main_while0b_v177 V0) (res_main_while0b_v66 V0))) (mulf (res_main_while0b_v181 V0) (broadcastInDim S16x64x128 ![0, 1, 2] bcast_S16x64x1_S16x64x128_0_1_2 (res_main_while0b_v64 V0))) : At F main_while0b_v187) = b227 j s := by
  unfold b227
  rw [← al_218 h, ← al_226 h]
  try rfl
theorem al_228 : (constant S_ .f32 0x00000000#32 : At F main_while0b_cst_38) = b228 j s := rfl
theorem al_229 : (Host.reduceAdd (shapeCast S16x64x1 (Host.reduceAdd (mulf (res_main_while0b_v43 V0) (res_main_while0b_v181 V0)) (constant S_ .f32 0x00000000#32) reducesTo_S16x64x128_S16x64_d2 h_S_) shapeCasts_S16x64_S16x64x1) (constant S_ .f32 0x00000000#32) reducesTo_S16x64x1_S16x64_d2 h_S_ : At F main_while0b_v188) = b229 j s := by
  unfold b229
  rw [← al_224 h, ← al_228 h]
  try rfl
theorem al_230 : (addf (Host.reduceAdd (shapeCast S16x64x1 (Host.reduceAdd (mulf (res_main_while0b_v44 V0) (res_main_while0b_v161 V0)) (constant S_ .f32 0x00000000#32) reducesTo_S16x64x128_S16x64_d2 h_S_) shapeCasts_S16x64_S16x64x1) (constant S_ .f32 0x00000000#32) reducesTo_S16x64x1_S16x64_d2 h_S_) (Host.reduceAdd (shapeCast S16x64x1 (Host.reduceAdd (mulf (res_main_while0b_v43 V0) (res_main_while0b_v181 V0)) (constant S_ .f32 0x00000000#32) reducesTo_S16x64x128_S16x64_d2 h_S_) shapeCasts_S16x64_S16x64x1) (constant S_ .f32 0x00000000#32) reducesTo_S16x64x1_S16x64_d2 h_S_) : At F main_while0b_v189) = b230 j s := by
  unfold b230
  rw [← al_205 h, ← al_229 h]
  try rfl
theorem al_231 : (mulf (addf (mulf (res_main_while0b_v77 V0) (res_main_while0b_v130 V0)) (mulf (res_main_while0b_v67 V0) (res_main_while0b_v174 V0))) (res_main_while0b_v63 V0) : At F main_while0b_v190) = b231 j s := by
  unfold b231
  rw [← al_215 h, ← al_82 h]
  try rfl
theorem al_232 : (constant S_ .f32 0x00000000#32 : At F main_while0b_call13_cst) = b232 j s := rfl
theorem al_233 : (broadcastInDim S16x64x64 ![] bcast_S_S16x64x64 (constant S_ .f32 0x00000000#32) : At F main_while0b_call13_v0) = b233 j s := by
  unfold b233
  rw [← al_232 h]
  try rfl
theorem al_234 : (res_main_while0b_v191 V0 : At F main_while0b_v191) = b234 j s := by
  unfold res_main_while0b_v191 b234
  rw [← al_77 h, ← al_231 h, ← al_233 h]
  try rfl
theorem al_235 : (constant S_ .f32 0x00000000#32 : At F main_while0b_cst_39) = b235 j s := rfl
theorem al_236 : (Host.reduceAdd (res_main_while0b_v191 V0) (constant S_ .f32 0x00000000#32) reducesTo_S16x64x64_S16x64_d2 h_S_ : At F main_while0b_v192) = b236 j s := by
  unfold b236
  rw [← al_234 h, ← al_235 h]
  try rfl
theorem al_237 : (shapeCast S16x64x1 (Host.reduceAdd (res_main_while0b_v191 V0) (constant S_ .f32 0x00000000#32) reducesTo_S16x64x64_S16x64_d2 h_S_) shapeCasts_S16x64_S16x64x1 : At F main_while0b_v193) = b237 j s := by
  unfold b237
  rw [← al_236 h]
  try rfl
theorem al_238 : (Host.negf (res_main_while0b_v191 V0) : At F main_while0b_v194) = b238 j s := by
  unfold b238
  rw [← al_234 h]
  try rfl
theorem al_239 : (constant S_ .f32 0x00000000#32 : At F main_while0b_cst_40) = b239 j s := rfl
theorem al_240 : (Host.reduceAdd (Host.negf (res_main_while0b_v191 V0)) (constant S_ .f32 0x00000000#32) reducesTo_S16x64x64_S16x64_d1 h_S_ : At F main_while0b_v195) = b240 j s := by
  unfold b240
  rw [← al_238 h, ← al_239 h]
  try rfl
theorem al_241 : (shapeCast S16x1x64 (Host.reduceAdd (Host.negf (res_main_while0b_v191 V0)) (constant S_ .f32 0x00000000#32) reducesTo_S16x64x64_S16x64_d1 h_S_) shapeCasts_S16x64_S16x1x64 : At F main_while0b_v196) = b241 j s := by
  unfold b241
  rw [← al_240 h]
  try rfl
theorem al_242 : (constant S_ .f32 0x00000000#32 : At F main_while0b_cst_41) = b242 j s := rfl
theorem al_243 : (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_ : At F main_while0b_v197) = b243 j s := by
  unfold b243
  rw [← al_241 h, ← al_242 h]
  try rfl
theorem al_244 : (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_) : At F main_while0b_v198) = b244 j s := by
  unfold b244
  rw [← al_158 h, ← al_243 h]
  try rfl
theorem al_245 : (constant S_ .f32 0x00000000#32 : At F main_while0b_cst_42) = b245 j s := rfl
theorem al_246 : (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_ : At F main_while0b_v199) = b246 j s := by
  unfold b246
  rw [← al_237 h, ← al_245 h]
  try rfl
theorem al_247 : (addf (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_)) (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_) : At F main_while0b_v200) = b247 j s := by
  unfold b247
  rw [← al_244 h, ← al_246 h]
  try rfl
theorem al_248 : (constant S_ .f32 0x00000000#32 : At F main_while0b_cst_43) = b248 j s := rfl
theorem al_249 : (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_ : At F main_while0b_v201) = b249 j s := by
  unfold b249
  rw [← al_191 h, ← al_248 h]
  try rfl
theorem al_250 : (mulf (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_) (res_main_while0b_v55 V0) : At F main_while0b_v202) = b250 j s := by
  unfold b250
  rw [← al_249 h, ← al_68 h]
  try rfl
theorem al_251 : (addf (addf (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_)) (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_)) (mulf (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_) (res_main_while0b_v55 V0)) : At F main_while0b_v203) = b251 j s := by
  unfold b251
  rw [← al_247 h, ← al_250 h]
  try rfl
theorem al_252 : (broadcastInDim S16x1x64 ![0, 2] bcast_S16x64_S16x1x64_0_2 (addf (addf (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_)) (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_)) (mulf (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_) (res_main_while0b_v55 V0))) : At F main_while0b_v204) = b252 j s := by
  unfold b252
  rw [← al_251 h]
  try rfl
theorem al_253 : (broadcastInDim S16x1x64 ![0, 2] bcast_S16x64_S16x1x64_0_2 (addf (Host.reduceAdd (shapeCast S16x64x1 (Host.reduceAdd (mulf (res_main_while0b_v44 V0) (res_main_while0b_v161 V0)) (constant S_ .f32 0x00000000#32) reducesTo_S16x64x128_S16x64_d2 h_S_) shapeCasts_S16x64_S16x64x1) (constant S_ .f32 0x00000000#32) reducesTo_S16x64x1_S16x64_d2 h_S_) (Host.reduceAdd (shapeCast S16x64x1 (Host.reduceAdd (mulf (res_main_while0b_v43 V0) (res_main_while0b_v181 V0)) (constant S_ .f32 0x00000000#32) reducesTo_S16x64x128_S16x64_d2 h_S_) shapeCasts_S16x64_S16x64x1) (constant S_ .f32 0x00000000#32) reducesTo_S16x64x1_S16x64_d2 h_S_)) : At F main_while0b_v205) = b253 j s := by
  unfold b253
  rw [← al_230 h]
  try rfl
theorem al_254 : (broadcastInDim S1x16x64x128 ![1, 2, 3] bcast_S16x64x128_S1x16x64x128_1_2_3 (addf (mulf (res_main_while0b_v134 V0) (broadcastInDim S16x64x128 ![0, 1, 2] bcast_S16x64x1_S16x64x128_0_1_2 (res_main_while0b_v56 V0))) (Host.dotGeneral dot_S16x64x64_S16x64x128_S16x64x128_2_1_1_2_0_0 none (res_main_while0b_v146 V0) (res_main_while0b_v43 V0))) : At F main_while0b_call14_v0) = b254 j s := by
  unfold b254
  rw [← al_183 h]
  try rfl
theorem al_255 : (constantI S_ 32 0#32 : At F main_while0b_call14_c) = b255 j s := rfl
theorem al_256 : (constantI S_ 32 0#32 : At F main_while0b_call14_c_0) = b256 j s := rfl
theorem al_257 : (constantI S_ 32 0#32 : At F main_while0b_call14_c_1) = b257 j s := rfl
theorem al_258 : (Host.dynamicUpdateSlice (V0 (Proc.devRef .tc main_v27_10)) (broadcastInDim S1x16x64x128 ![1, 2, 3] bcast_S16x64x128_S1x16x64x128_1_2_3 (addf (mulf (res_main_while0b_v134 V0) (broadcastInDim S16x64x128 ![0, 1, 2] bcast_S16x64x1_S16x64x128_0_1_2 (res_main_while0b_v56 V0))) (Host.dotGeneral dot_S16x64x64_S16x64x128_S16x64x128_2_1_1_2_0_0 none (res_main_while0b_v146 V0) (res_main_while0b_v43 V0)))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x64x128_S1x16x64x128 : At F main_while0b_v206) = b258 j s := by
  unfold b258
  rw [← al_254 h, ← al_3 h, ← al_255 h, ← al_256 h, ← al_257 h, h.f_10]
  try rfl
theorem al_259 : (broadcastInDim S1x16x64x128 ![1, 2, 3] bcast_S16x64x128_S1x16x64x128_1_2_3 (addf (addf (addf (mulf (res_main_while0b_v104 V0) (broadcastInDim S16x64x128 ![0, 1, 2] bcast_S16x64x1_S16x64x128_0_1_2 (res_main_while0b_v92 V0))) (Host.dotGeneral dot_S16x64x64_S16x64x128_S16x64x128_1_1_2_2_0_0 none (res_main_while0b_v146 V0) (res_main_while0b_v42 V0))) (Host.dotGeneral dot_S16x64x64_S16x64x128_S16x64x128_1_1_2_2_0_0 none (res_main_while0b_v177 V0) (res_main_while0b_v66 V0))) (mulf (res_main_while0b_v181 V0) (broadcastInDim S16x64x128 ![0, 1, 2] bcast_S16x64x1_S16x64x128_0_1_2 (res_main_while0b_v64 V0)))) : At F main_while0b_call15_v0) = b259 j s := by
  unfold b259
  rw [← al_227 h]
  try rfl
theorem al_260 : (constantI S_ 32 0#32 : At F main_while0b_call15_c) = b260 j s := rfl
theorem al_261 : (constantI S_ 32 0#32 : At F main_while0b_call15_c_0) = b261 j s := rfl
theorem al_262 : (constantI S_ 32 0#32 : At F main_while0b_call15_c_1) = b262 j s := rfl
theorem al_263 : (Host.dynamicUpdateSlice (V0 (Proc.devRef .tc main_v27_11)) (broadcastInDim S1x16x64x128 ![1, 2, 3] bcast_S16x64x128_S1x16x64x128_1_2_3 (addf (addf (addf (mulf (res_main_while0b_v104 V0) (broadcastInDim S16x64x128 ![0, 1, 2] bcast_S16x64x1_S16x64x128_0_1_2 (res_main_while0b_v92 V0))) (Host.dotGeneral dot_S16x64x64_S16x64x128_S16x64x128_1_1_2_2_0_0 none (res_main_while0b_v146 V0) (res_main_while0b_v42 V0))) (Host.dotGeneral dot_S16x64x64_S16x64x128_S16x64x128_1_1_2_2_0_0 none (res_main_while0b_v177 V0) (res_main_while0b_v66 V0))) (mulf (res_main_while0b_v181 V0) (broadcastInDim S16x64x128 ![0, 1, 2] bcast_S16x64x1_S16x64x128_0_1_2 (res_main_while0b_v64 V0))))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x64x128_S1x16x64x128 : At F main_while0b_v207) = b263 j s := by
  unfold b263
  rw [← al_259 h, ← al_3 h, ← al_260 h, ← al_261 h, ← al_262 h, h.f_11]
  try rfl
theorem al_264 : (broadcastInDim S1x16x64x128 ![1, 2, 3] bcast_S16x64x128_S1x16x64x128_1_2_3 (mulf (res_main_while0b_v161 V0) (broadcastInDim S16x64x128 ![0, 1, 2] bcast_S16x64x1_S16x64x128_0_1_2 (res_main_while0b_v70 V0))) : At F main_while0b_call16_v0) = b264 j s := by
  unfold b264
  rw [← al_203 h]
  try rfl
theorem al_265 : (constantI S_ 32 0#32 : At F main_while0b_call16_c) = b265 j s := rfl
theorem al_266 : (constantI S_ 32 0#32 : At F main_while0b_call16_c_0) = b266 j s := rfl
theorem al_267 : (constantI S_ 32 0#32 : At F main_while0b_call16_c_1) = b267 j s := rfl
theorem al_268 : (Host.dynamicUpdateSlice (V0 (Proc.devRef .tc main_v27_12)) (broadcastInDim S1x16x64x128 ![1, 2, 3] bcast_S16x64x128_S1x16x64x128_1_2_3 (mulf (res_main_while0b_v161 V0) (broadcastInDim S16x64x128 ![0, 1, 2] bcast_S16x64x1_S16x64x128_0_1_2 (res_main_while0b_v70 V0)))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x64x128_S1x16x64x128 : At F main_while0b_v208) = b268 j s := by
  unfold b268
  rw [← al_264 h, ← al_3 h, ← al_265 h, ← al_266 h, ← al_267 h, h.f_12]
  try rfl
theorem al_269 : (broadcastInDim S1x16x1x64 ![1, 2, 3] bcast_S16x1x64_S1x16x1x64_1_2_3 (broadcastInDim S16x1x64 ![0, 2] bcast_S16x64_S16x1x64_0_2 (addf (Host.reduceAdd (shapeCast S16x64x1 (Host.reduceAdd (mulf (res_main_while0b_v44 V0) (res_main_while0b_v161 V0)) (constant S_ .f32 0x00000000#32) reducesTo_S16x64x128_S16x64_d2 h_S_) shapeCasts_S16x64_S16x64x1) (constant S_ .f32 0x00000000#32) reducesTo_S16x64x1_S16x64_d2 h_S_) (Host.reduceAdd (shapeCast S16x64x1 (Host.reduceAdd (mulf (res_main_while0b_v43 V0) (res_main_while0b_v181 V0)) (constant S_ .f32 0x00000000#32) reducesTo_S16x64x128_S16x64_d2 h_S_) shapeCasts_S16x64_S16x64x1) (constant S_ .f32 0x00000000#32) reducesTo_S16x64x1_S16x64_d2 h_S_))) : At F main_while0b_call17_v0) = b269 j s := by
  unfold b269
  rw [← al_253 h]
  try rfl
theorem al_270 : (constantI S_ 32 0#32 : At F main_while0b_call17_c) = b270 j s := rfl
theorem al_271 : (constantI S_ 32 0#32 : At F main_while0b_call17_c_0) = b271 j s := rfl
theorem al_272 : (constantI S_ 32 0#32 : At F main_while0b_call17_c_1) = b272 j s := rfl
theorem al_273 : (Host.dynamicUpdateSlice (V0 (Proc.devRef .tc main_v27_13)) (broadcastInDim S1x16x1x64 ![1, 2, 3] bcast_S16x1x64_S1x16x1x64_1_2_3 (broadcastInDim S16x1x64 ![0, 2] bcast_S16x64_S16x1x64_0_2 (addf (Host.reduceAdd (shapeCast S16x64x1 (Host.reduceAdd (mulf (res_main_while0b_v44 V0) (res_main_while0b_v161 V0)) (constant S_ .f32 0x00000000#32) reducesTo_S16x64x128_S16x64_d2 h_S_) shapeCasts_S16x64_S16x64x1) (constant S_ .f32 0x00000000#32) reducesTo_S16x64x1_S16x64_d2 h_S_) (Host.reduceAdd (shapeCast S16x64x1 (Host.reduceAdd (mulf (res_main_while0b_v43 V0) (res_main_while0b_v181 V0)) (constant S_ .f32 0x00000000#32) reducesTo_S16x64x128_S16x64_d2 h_S_) shapeCasts_S16x64_S16x64x1) (constant S_ .f32 0x00000000#32) reducesTo_S16x64x1_S16x64_d2 h_S_)))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x1x64_S1x16x1x64 : At F main_while0b_v209) = b273 j s := by
  unfold b273
  rw [← al_269 h, ← al_3 h, ← al_270 h, ← al_271 h, ← al_272 h, h.f_13]
  try rfl
theorem al_274 : (broadcastInDim S1x16x1x64 ![1, 2, 3] bcast_S16x1x64_S1x16x1x64_1_2_3 (broadcastInDim S16x1x64 ![0, 2] bcast_S16x64_S16x1x64_0_2 (addf (addf (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_)) (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_)) (mulf (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_) (res_main_while0b_v55 V0)))) : At F main_while0b_call18_v0) = b274 j s := by
  unfold b274
  rw [← al_252 h]
  try rfl
theorem al_275 : (constantI S_ 32 0#32 : At F main_while0b_call18_c) = b275 j s := rfl
theorem al_276 : (constantI S_ 32 0#32 : At F main_while0b_call18_c_0) = b276 j s := rfl
theorem al_277 : (constantI S_ 32 0#32 : At F main_while0b_call18_c_1) = b277 j s := rfl
theorem al_278 : (Host.dynamicUpdateSlice (V0 (Proc.devRef .tc main_v27_14)) (broadcastInDim S1x16x1x64 ![1, 2, 3] bcast_S16x1x64_S1x16x1x64_1_2_3 (broadcastInDim S16x1x64 ![0, 2] bcast_S16x64_S16x1x64_0_2 (addf (addf (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_)) (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_)) (mulf (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_) (res_main_while0b_v55 V0))))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x1x64_S1x16x1x64 : At F main_while0b_v210) = b278 j s := by
  unfold b278
  rw [← al_274 h, ← al_3 h, ← al_275 h, ← al_276 h, ← al_277 h, h.f_14]
  try rfl

/-! One trip's step of the carried values is `step`, field by field; a counter steps to the next number. -/

theorem step_9 : step_main_v27_9 V0 = (step j s).main_v27_9 := by
  unfold step_main_v27_9 step
  show id (addf (addf (mulf (V0 (Proc.devRef .tc main_v27_9)) (broadcastInDim S16x128x128 ![0, 1, 2] bcast_S16x1x1_S16x128x128_0_1_2 (res_main_while0b_v96 V0))) (transpose S16x128x128 [0, 2, 1] (Host.dotGeneral dot_S16x64x128_S16x64x128_S16x128x128_1_1_2_2_0_0 none (res_main_while0b_v48 V0) (res_main_while0b_v82 V0)) transposes_S16x128x128_S16x128x128_0_2_1)) (transpose S16x128x128 [0, 2, 1] (Host.dotGeneral dot_S16x64x128_S16x64x128_S16x128x128_1_1_2_2_0_0 none (res_main_while0b_v140 V0) (res_main_while0b_v76 V0)) transposes_S16x128x128_S16x128x128_0_2_1)) = _
  rw [al_176 h]
  try rfl
theorem step_10 : step_main_v27_10 V0 = (step j s).main_v27_10 := by
  unfold step_main_v27_10 step
  show id (Host.dynamicUpdateSlice (V0 (Proc.devRef .tc main_v27_10)) (broadcastInDim S1x16x64x128 ![1, 2, 3] bcast_S16x64x128_S1x16x64x128_1_2_3 (addf (mulf (res_main_while0b_v134 V0) (broadcastInDim S16x64x128 ![0, 1, 2] bcast_S16x64x1_S16x64x128_0_1_2 (res_main_while0b_v56 V0))) (Host.dotGeneral dot_S16x64x64_S16x64x128_S16x64x128_2_1_1_2_0_0 none (res_main_while0b_v146 V0) (res_main_while0b_v43 V0)))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x64x128_S1x16x64x128) = _
  exact congrArg id (al_258 h)
theorem step_11 : step_main_v27_11 V0 = (step j s).main_v27_11 := by
  unfold step_main_v27_11 step
  show id (Host.dynamicUpdateSlice (V0 (Proc.devRef .tc main_v27_11)) (broadcastInDim S1x16x64x128 ![1, 2, 3] bcast_S16x64x128_S1x16x64x128_1_2_3 (addf (addf (addf (mulf (res_main_while0b_v104 V0) (broadcastInDim S16x64x128 ![0, 1, 2] bcast_S16x64x1_S16x64x128_0_1_2 (res_main_while0b_v92 V0))) (Host.dotGeneral dot_S16x64x64_S16x64x128_S16x64x128_1_1_2_2_0_0 none (res_main_while0b_v146 V0) (res_main_while0b_v42 V0))) (Host.dotGeneral dot_S16x64x64_S16x64x128_S16x64x128_1_1_2_2_0_0 none (res_main_while0b_v177 V0) (res_main_while0b_v66 V0))) (mulf (res_main_while0b_v181 V0) (broadcastInDim S16x64x128 ![0, 1, 2] bcast_S16x64x1_S16x64x128_0_1_2 (res_main_while0b_v64 V0))))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x64x128_S1x16x64x128) = _
  exact congrArg id (al_263 h)
theorem step_12 : step_main_v27_12 V0 = (step j s).main_v27_12 := by
  unfold step_main_v27_12 step
  show id (Host.dynamicUpdateSlice (V0 (Proc.devRef .tc main_v27_12)) (broadcastInDim S1x16x64x128 ![1, 2, 3] bcast_S16x64x128_S1x16x64x128_1_2_3 (mulf (res_main_while0b_v161 V0) (broadcastInDim S16x64x128 ![0, 1, 2] bcast_S16x64x1_S16x64x128_0_1_2 (res_main_while0b_v70 V0)))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x64x128_S1x16x64x128) = _
  exact congrArg id (al_268 h)
theorem step_13 : step_main_v27_13 V0 = (step j s).main_v27_13 := by
  unfold step_main_v27_13 step
  show id (Host.dynamicUpdateSlice (V0 (Proc.devRef .tc main_v27_13)) (broadcastInDim S1x16x1x64 ![1, 2, 3] bcast_S16x1x64_S1x16x1x64_1_2_3 (broadcastInDim S16x1x64 ![0, 2] bcast_S16x64_S16x1x64_0_2 (addf (Host.reduceAdd (shapeCast S16x64x1 (Host.reduceAdd (mulf (res_main_while0b_v44 V0) (res_main_while0b_v161 V0)) (constant S_ .f32 0x00000000#32) reducesTo_S16x64x128_S16x64_d2 h_S_) shapeCasts_S16x64_S16x64x1) (constant S_ .f32 0x00000000#32) reducesTo_S16x64x1_S16x64_d2 h_S_) (Host.reduceAdd (shapeCast S16x64x1 (Host.reduceAdd (mulf (res_main_while0b_v43 V0) (res_main_while0b_v181 V0)) (constant S_ .f32 0x00000000#32) reducesTo_S16x64x128_S16x64_d2 h_S_) shapeCasts_S16x64_S16x64x1) (constant S_ .f32 0x00000000#32) reducesTo_S16x64x1_S16x64_d2 h_S_)))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x1x64_S1x16x1x64) = _
  exact congrArg id (al_273 h)
theorem step_14 : step_main_v27_14 V0 = (step j s).main_v27_14 := by
  unfold step_main_v27_14 step
  show id (Host.dynamicUpdateSlice (V0 (Proc.devRef .tc main_v27_14)) (broadcastInDim S1x16x1x64 ![1, 2, 3] bcast_S16x1x64_S1x16x1x64_1_2_3 (broadcastInDim S16x1x64 ![0, 2] bcast_S16x64_S16x1x64_0_2 (addf (addf (addf (addf (Host.negf (res_main_while0b_v118 V0)) (pad S16x64 ![0, 63] ![0, 0] ![0, 0] (broadcastInDim S16x1 ![0] bcast_S16_S16x1_0 (addf (mulf (Host.reduceAdd (shapeCast S16x1x1 (Host.reduceAdd (mulf (res_main_while0b_v41 V0) (V0 (Proc.devRef .tc main_v27_9))) (constant S_ .f32 0x00000000#32) reducesTo_S16x128x128_S16_d1_2 h_S_) shapeCasts_S16_S16x1x1) (constant S_ .f32 0x00000000#32) reducesTo_S16x1x1_S16_d1_2 h_S_) (res_main_while0b_v95 V0)) (Host.reduceAdd (shapeCast S16x1 (Host.reduceAdd (res_main_while0b_v118 V0) (constant S_ .f32 0x00000000#32) reducesTo_S16x64_S16_d1 h_S_) shapeCasts_S16_S16x1) (constant S_ .f32 0x00000000#32) reducesTo_S16x1_S16_d1 h_S_))) (constant S_ .f32 0x00000000#32) pads_S16x1_S16x64_000_6300 h_S_)) (Host.reduceAdd (shapeCast S16x1x64 (Host.reduceAdd (Host.negf (res_main_while0b_v191 V0)) (constant S_ .f32 0x00000000#32) reducesTo_S16x64x64_S16x64_d1 h_S_) shapeCasts_S16x64_S16x1x64) (constant S_ .f32 0x00000000#32) reducesTo_S16x1x64_S16x64_d1 h_S_)) (Host.reduceAdd (shapeCast S16x64x1 (Host.reduceAdd (res_main_while0b_v191 V0) (constant S_ .f32 0x00000000#32) reducesTo_S16x64x64_S16x64_d2 h_S_) shapeCasts_S16x64_S16x64x1) (constant S_ .f32 0x00000000#32) reducesTo_S16x64x1_S16x64_d2 h_S_)) (mulf (Host.reduceAdd (addf (shapeCast S16x64x1 (Host.reduceAdd (mulf (res_main_while0b_v42 V0) (res_main_while0b_v134 V0)) (constant S_ .f32 0x00000000#32) reducesTo_S16x64x128_S16x64_d2 h_S_) shapeCasts_S16x64_S16x64x1) (shapeCast S16x64x1 (Host.reduceAdd (mulf (res_main_while0b_v66 V0) (res_main_while0b_v152 V0)) (constant S_ .f32 0x00000000#32) reducesTo_S16x64x128_S16x64_d2 h_S_) shapeCasts_S16x64_S16x64x1)) (constant S_ .f32 0x00000000#32) reducesTo_S16x64x1_S16x64_d2 h_S_) (res_main_while0b_v55 V0))))) (fun k => (((![res_main_while0b_v40 V0, constantI S_ 32 0#32, constantI S_ 32 0#32, constantI S_ 32 0#32] : Fin 4 → (⟨S_, .i32⟩ : BufTy).Contents (Elt F))) k (Shape.Idx.first h_S_)).toInt) updateFits_S64x16x1x64_S1x16x1x64) = _
  exact congrArg id (al_278 h)
theorem step_8 : step_main_v27_8 V0 = constantI S_ 32 (BitVec.ofNat 32 (j + 1)) := by
  unfold step_main_v27_8
  rw [h.n_8]
  funext i
  show BitVec.ofNat 32 j + 1#32 = BitVec.ofNat 32 (j + 1)
  simp only [BitVec.ofNat_add]

theorem out_main_v30_holds : out_main_v30 V0 = R_main_v30 s := by
  unfold out_main_v30 R_main_v30
  rw [h.f_10]
  try rfl

theorem out_main_v33_holds : out_main_v33 V0 = R_main_v33 s := by
  unfold out_main_v33 R_main_v33
  rw [h.f_11]
  try rfl

theorem out_main_v36_holds : out_main_v36 V0 = R_main_v36 s := by
  unfold out_main_v36 R_main_v36
  rw [h.f_12]
  try rfl

theorem out_main_v37_holds : out_main_v37 V0 = R_main_v37 s := by
  unfold out_main_v37 R_main_v37
  rw [h.f_13]
  try rfl

theorem out_main_v38_holds : out_main_v38 V0 = R_main_v38 s := by
  unfold out_main_v38 R_main_v38
  rw [h.f_14]
  try rfl

/-- One trip keeps the valuation holding: `step` of the state, the same set-up values, the next number. -/
theorem holds_step : Holds (STEP V0) (step j s) (j + 1) where
  f_9 := (STEP_main_v27_9 V0).trans (step_9 h)
  f_10 := (STEP_main_v27_10 V0).trans (step_10 h)
  f_11 := (STEP_main_v27_11 V0).trans (step_11 h)
  f_12 := (STEP_main_v27_12 V0).trans (step_12 h)
  f_13 := (STEP_main_v27_13 V0).trans (step_13 h)
  f_14 := (STEP_main_v27_14 V0).trans (step_14 h)
  n_8 := (STEP_main_v27_8 V0).trans (step_8 h)
  f_0 := (STEP_main_v27_0 V0).trans h.f_0
  f_1 := (STEP_main_v27_1 V0).trans h.f_1
  f_2 := (STEP_main_v27_2 V0).trans h.f_2
  f_3 := (STEP_main_v27_3 V0).trans h.f_3
  f_4 := (STEP_main_v27_4 V0).trans h.f_4
  f_5 := (STEP_main_v27_5 V0).trans h.f_5
  f_6 := (STEP_main_v27_6 V0).trans h.f_6
  f_7 := (STEP_main_v27_7 V0).trans h.f_7

end

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v30) = R_main_v30 (it c 64)
      ∧ r.2.mem ((c.tc : Thread nD τ).loc main_v33) = R_main_v33 (it c 64)
      ∧ r.2.mem ((c.tc : Thread nD τ).loc main_v36) = R_main_v36 (it c 64)
      ∧ r.2.mem ((c.tc : Thread nD τ).loc main_v37) = R_main_v37 (it c 64)
      ∧ r.2.mem ((c.tc : Thread nD τ).loc main_v38) = R_main_v38 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 64
    ⟨(h c).1.trans (out_main_v30_holds hk), (h c).2.1.trans (out_main_v33_holds hk), (h c).2.2.1.trans (out_main_v36_holds hk), (h c).2.2.2.1.trans (out_main_v37_holds hk), (h c).2.2.2.2.1.trans (out_main_v38_holds hk), (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.StepRun

end
-- ==== Proof.RefValue.lean ====
/-
  The reference's five results, and what the machine holds when it ends.
-/
module

public import proofs.«01_k».proof.Proof.Sheet
public import proofs.«01_k».proof.Proof.RefFold
public import proofs.«01_k».proof.Proof.RefRun

@[expose] public section

noncomputable section

open Idealize.ShloMosaic Idealize.ShloMosaic.TcCoe Idealize.SL.Sem

namespace Cert.Proof.Delta.Ref

open Cert.ReferenceIdeal Cert.ReferenceIdeal.Step Cert.Proof.Delta

variable (m : (ℓ : Loc nD τ sig) → Buf (Elt Ideal) ℓ) (ρ : Dev nD → PrngReg)

/-- The reference's arguments, as the pass is given them. -/
def rargs (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The loop's states. -/
def states (c : Dev nD) : ℕ → State Ideal
  | 0 => Cert.ReferenceIdeal.StepRun.initState m c
  | n + 1 => step n (states c n)

theorem last (c : Dev nD) : Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) 64 (states m c 64) :=
  holds_iter (states m c) rfl (fun _ => rfl) 64 le_rfl

theorem v30 (c : Dev nD) : R_main_v30 (states m c 64) = (rargs m c).sheet Inp.dq :=
  Args.sheet_ext _ _ fun ch i h k => (res30 _ ch i h k).trans ((last m c).f10 _ _ _ _ (by omega))
theorem v33 (c : Dev nD) : R_main_v33 (states m c 64) = (rargs m c).sheet Inp.dk :=
  Args.sheet_ext _ _ fun ch i h k => (res33 _ ch i h k).trans ((last m c).f11 _ _ _ _ (by omega))
theorem v36 (c : Dev nD) : R_main_v36 (states m c 64) = (rargs m c).sheet Inp.dv :=
  Args.sheet_ext _ _ fun ch i h k => (res36 _ ch i h k).trans ((last m c).f12 _ _ _ _ (by omega))
theorem v37 (c : Dev nD) : R_main_v37 (states m c 64) = (rargs m c).lines Inp.db :=
  Args.lines_ext _ _ fun ch i h => (res37 _ ch i h).trans ((last m c).f13 _ _ _ (by omega))
theorem v38 (c : Dev nD) : R_main_v38 (states m c 64) = (rargs m c).lines Inp.dg :=
  Args.lines_ext _ _ fun ch i h => (res38 _ ch i h).trans ((last m c).f14 _ _ _ (by omega))

theorem run_value : θ_run (defs (F := Ideal)) (onTc (τ := τ) (main (F := Ideal))) ⟨m, fun _ => 0, ρ⟩ fun r => ∀ c : Dev nD,
      r.2.mem ((c.tc : Thread nD τ).loc main_v30) = (rargs m c).sheet Inp.dq
      ∧ r.2.mem ((c.tc : Thread nD τ).loc main_v33) = (rargs m c).sheet Inp.dk
      ∧ r.2.mem ((c.tc : Thread nD τ).loc main_v36) = (rargs m c).sheet Inp.dv
      ∧ r.2.mem ((c.tc : Thread nD τ).loc main_v37) = (rargs m c).lines Inp.db
      ∧ r.2.mem ((c.tc : Thread nD τ).loc main_v38) = (rargs m c).lines Inp.dg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c =>
      ⟨(h c).1.trans (v30 m c), (h c).2.1.trans (v33 m c), (h c).2.2.1.trans (v36 m c), (h c).2.2.2.1.trans (v37 m c), (h c).2.2.2.2.1.trans (v38 m c),
        (h c).2.2.2.2.2⟩)
    (Cert.ReferenceIdeal.StepRun.run_iter m ρ (states m) (fun _ => rfl) (fun _ _ => rfl))

end Cert.Proof.Delta.Ref

end
-- ==== Proof.Tame.lean ====
/-
  What the precondition gives: every entry real, the decays falling along a chunk, and with them the chunks' inputs good.
-/
module

public import proofs.«01_k».proof.Proof.Spec
public import proofs.«01_k».proof.Proof.Blocks
public import proofs.«01_k».proof.Proof.Gen.Pre_tame
public import Idealize.ShloMosaic.Lib.Pointwise
public import Idealize.ShloMosaic.Lib.WordArith

@[expose] public section

noncomputable section

open Idealize.ShloMosaic

namespace Cert.Proof.Delta

/-- A real number among the extended reals. -/
def Rl (a : EReal) : Prop := ∃ r : ℝ, a = (r : EReal)

theorem Rl.zero : Rl 0 := ⟨0, rfl⟩
theorem Rl.add {a b : EReal} : Rl a → Rl b → Rl (a + b)
  | ⟨x, hx⟩, ⟨y, hy⟩ => ⟨x + y, by rw [hx, hy, EReal.coe_add]⟩
theorem Rl.sub {a b : EReal} : Rl a → Rl b → Rl (a - b)
  | ⟨x, hx⟩, ⟨y, hy⟩ => ⟨x - y, by rw [hx, hy, EReal.coe_sub]⟩
theorem Rl.mul {a b : EReal} : Rl a → Rl b → Rl (a * b)
  | ⟨x, hx⟩, ⟨y, hy⟩ => ⟨x * y, by rw [hx, hy, EReal.coe_mul]⟩
theorem Rl.exp {a : EReal} : Rl a → Rl (Ideal.exp a)
  | ⟨x, hx⟩ => ⟨Real.exp x, by rw [hx]; rfl⟩
theorem Rl.sum {n : ℕ} {f : Fin n → EReal} (h : ∀ i, Rl (f i)) : Rl (∑ i, f i) :=
  Finset.sum_induction f Rl (fun _ _ => Rl.add) Rl.zero fun i _ => h i

/-- A magnitude below infinity is a real number's. -/
theorem Rl.of_abs {a : EReal} (h : BitVec.ofBool (decide (max a (-a) < Ideal.ofBits .f32 0x7F800000#32)) = 1#1) : Rl a := by
  have hi : Ideal.ofBits .f32 0x7F800000#32 = (⊤ : EReal) := by simp [Ideal.ofBits, Ideal.ieee]
  rw [hi] at h
  have hlt : max a (-a) < ⊤ := by
    by_contra hc
    simp [hc] at h
  induction a with
  | bot => simp at hlt
  | top => simp at hlt
  | coe r => exact ⟨r, rfl⟩

theorem mm_diag (x : Inp) (hs : ∀ i l, Rl (x.s i l)) (hq : ∀ i l, Rl (x.q i l)) (hk : ∀ i l, Rl (x.k i l)) (hv : ∀ i l, Rl (x.v i l))
    (hd : ∀ i l, Rl (x.d i l)) (hb : ∀ i, Rl (x.b i)) (hg : ∀ i, Rl (x.g i)) (ht : ∀ i l, Rl (x.t i l)) (i : Fin 64) : Rl (x.mm i i) := by
  have hA : x.dA i i = 0 := by simp [Inp.dA]
  have hu : ∀ a m, Rl (x.u a m) := fun a m => Rl.sum fun j => (ht a j).mul ((hv j m).mul (hb j))
  have hw : ∀ a m, Rl (x.w a m) := fun a m => Rl.sum fun j => (ht a j).mul (((hk j m).mul (hb j)).mul (hg j).exp)
  have hvn : ∀ a m, Rl (x.vn a m) := fun a m => (hu a m).sub (Rl.sum fun n => (hw a n).mul (hs n m))
  unfold Inp.mm
  rw [if_pos le_rfl, hA, mul_zero, add_zero]
  unfold Inp.dec
  rw [if_pos le_rfl]
  exact ((Rl.sum fun m => (hq i m).mul (hk i m)).mul (Rl.sum fun n => (hd i n).mul (hvn i n))).mul ((hg i).sub (hg i)).exp

/-- Falling from each position to the next is falling. -/
theorem falls (g : Fin 64 → EReal) (hg : ∀ i : Fin 63, g ⟨i.val + 1, by omega⟩ < g ⟨i.val, by omega⟩) (i l : Fin 64) (h : l < i) : g i < g l := by
  have key : ∀ (n : ℕ) (hn : n < 64), l.val < n → g ⟨n, hn⟩ < g l := by
    intro n
    induction n with
    | zero => intro _ h; omega
    | succ n ih =>
      intro hi h
      have hn : g ⟨n + 1, hi⟩ < g ⟨n, by omega⟩ := hg ⟨n, by omega⟩
      rcases Nat.lt_succ_iff_lt_or_eq.1 h with h' | h'
      · exact lt_trans hn (ih (by omega) h')
      · have e : (⟨n, by omega⟩ : Fin 64) = l := Fin.ext h'.symm
        exact e ▸ hn
  exact key i.val i.isLt h

/-- A one-bit word that is one says its proposition. -/
theorem of_bit {p : Prop} [Decidable p] (h : BitVec.ofBool (decide p) = 1#1) : p := by
  by_contra hc
  simp [hc] at h

variable (A : Args)

/-- The precondition, of the seven arrays. -/
def Tame [Cert.Pre_tame.Facts] : Prop :=
  let r := Cert.Pre_tame.fn (F := Ideal) A.qk A.c A.beta A.gam A.ss A.inv A.ct
  r.1 = (fun _ => 1#1) ∧ r.2.1 = (fun _ => 1#1) ∧ r.2.2.1 = (fun _ => 1#1) ∧ r.2.2.2.1 = (fun _ => 1#1) ∧ r.2.2.2.2.1 = (fun _ => 1#1)
    ∧ r.2.2.2.2.2.1 = (fun _ => 1#1) ∧ r.2.2.2.2.2.2.1 = (fun _ => 1#1) ∧ r.2.2.2.2.2.2.2 = (fun _ => 1#1)

theorem good [Cert.Pre_tame.Facts] (hA : Tame A) (ch : Fin 64) (ds : Fin 16 → Fin 128 → Fin 128 → EReal) (h : Fin 16) : Good (A.inp ch ds h) := by
  obtain ⟨h0, h1, h2, h3, h4, h5, h6, h7⟩ := hA
  have r0 : ∀ y z, Rl (A.qk (ix2 y z)) := fun y z => Rl.of_abs (congrFun h0 (ix2 y z))
  have r1 : ∀ y z, Rl (A.c (ix2 y z)) := fun y z => Rl.of_abs (congrFun h1 (ix2 y z))
  have r2 : ∀ a b e f, Rl (A.beta (ix4 a b e f)) := fun a b e f => Rl.of_abs (congrFun h2 (ix4 a b e f))
  have r3 : ∀ a b e f, Rl (A.gam (ix4 a b e f)) := fun a b e f => Rl.of_abs (congrFun h3 (ix4 a b e f))
  have r4 : ∀ a b e f, Rl (A.ss (ix4 a b e f)) := fun a b e f => Rl.of_abs (congrFun h4 (ix4 a b e f))
  have r5 : ∀ a b e f, Rl (A.inv (ix4 a b e f)) := fun a b e f => Rl.of_abs (congrFun h5 (ix4 a b e f))
  have r6 : ∀ y z, Rl (A.ct (ix2 y z)) := fun y z => Rl.of_abs (congrFun h6 (ix2 y z))
  refine ⟨fun i => r3 _ _ _ _, falls _ fun i => ?_, mm_diag _ (fun _ _ => r4 _ _ _ _) (fun _ _ => r0 _ _) (fun _ _ => r0 _ _) (fun _ _ => r1 _ _)
    (fun _ _ => r6 _ _) (fun _ => r2 _ _ _ _) (fun _ => r3 _ _ _ _) (fun _ _ => r5 _ _ _ _)⟩
  have hc := congrFun h7 (ix4 h ch 0 i)
  simp only [Cert.Pre_tame.fn, Cert.Pre_tame.fn_part1] at hc
  pointwise [] at hc
  have hlt := of_bit hc
  have e1 : (⟨1 + i.val, by omega⟩ : Fin 64) = ⟨i.val + 1, by omega⟩ := Fin.ext (Nat.add_comm _ _)
  exact e1 ▸ hlt

end Cert.Proof.Delta

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import Idealize.ShloMosaic.Adequacy
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.K2
public import proofs.«01_k».proof.Proof.K3
public import proofs.«01_k».proof.Proof.K4
public import proofs.«01_k».proof.Proof.K5
public import proofs.«01_k».proof.Proof.K6
public import proofs.«01_k».proof.Proof.K7
public import proofs.«01_k».proof.Proof.K8
public import proofs.«01_k».proof.Proof.K9
public import proofs.«01_k».proof.Proof.K10
public import proofs.«01_k».proof.Proof.K11
public import proofs.«01_k».proof.Proof.K12
public import proofs.«01_k».proof.Proof.K13
public import proofs.«01_k».proof.Proof.K14
public import proofs.«01_k».proof.Proof.K15
public import proofs.«01_k».proof.Proof.K16
public import proofs.«01_k».proof.Proof.K17
public import proofs.«01_k».proof.Proof.K18
public import proofs.«01_k».proof.Proof.K19
public import proofs.«01_k».proof.Proof.K20
public import proofs.«01_k».proof.Proof.K21
public import proofs.«01_k».proof.Proof.K22
public import proofs.«01_k».proof.Proof.K23
public import proofs.«01_k».proof.Proof.K24
public import proofs.«01_k».proof.Proof.K25
public import proofs.«01_k».proof.Proof.K26
public import proofs.«01_k».proof.Proof.K27
public import proofs.«01_k».proof.Proof.K28
public import proofs.«01_k».proof.Proof.K29
public import proofs.«01_k».proof.Proof.K30
public import proofs.«01_k».proof.Proof.K31
public import proofs.«01_k».proof.Proof.K32
public import proofs.«01_k».proof.Proof.K33
public import proofs.«01_k».proof.Proof.KernelFold
public import proofs.«01_k».proof.Proof.RefValue
public import proofs.«01_k».proof.Proof.Tame
public import Idealize.ShloMosaic.Init

@[expose] public section

noncomputable section

namespace Cert.Proof

open Idealize.ShloMosaic Idealize.SL.Sem Cert.Kernel

/-- The kernel's end values, under the precondition. -/
theorem kernel_value [Cert.Pre_tame.Facts] (m : (ℓ : Loc Cert.KernelIdeal.nD Cert.KernelIdeal.τ Cert.KernelIdeal.sig) → Buf (Elt Ideal) ℓ)
    (hp : Cert.Pre_KernelIdeal_tame m) (c : Dev Cert.KernelIdeal.nD) :
    (KernelIdeal.Gen.dats m 0 c).arrAt 8 Cert.KernelIdeal.cfg0.N = (Delta.kargs m c).sheet Delta.Inp.dq
    ∧ (KernelIdeal.Gen.dats m 0 c).arrAt 9 Cert.KernelIdeal.cfg0.N = (Delta.kargs m c).sheet Delta.Inp.dk
    ∧ (KernelIdeal.Gen.dats m 0 c).arrAt 10 Cert.KernelIdeal.cfg0.N = (Delta.kargs m c).sheet Delta.Inp.dv
    ∧ (KernelIdeal.Gen.dats m 0 c).arrAt 11 Cert.KernelIdeal.cfg0.N = (Delta.kargs m c).lines Delta.Inp.db
    ∧ (KernelIdeal.Gen.dats m 0 c).arrAt 12 Cert.KernelIdeal.cfg0.N = (Delta.kargs m c).lines Delta.Inp.dg :=
  have hg := Delta.good (Delta.kargs m c) (hp c)
  ⟨Delta.arr8 m c hg, Delta.arr9 m c hg, Delta.arr10 m c hg, Delta.arr11 m c hg, Delta.arr12 m c hg⟩

/-- The reference ends with its arguments unchanged and, declaring no semaphore, with every counter at zero. -/
theorem frame_r : Cert.quiescent_ReferenceIdeal (hReferenceIdeal := ReferenceIdeal.Gen.facts) := by
  intro m ρ _
  exact (θ_run Cert.ReferenceIdeal.defs _ _).mono (fun r h => ⟨fun c => (h c).2.2.2.2.2, Idealize.ShloMosaic.sem_eq_zero_of_no_sems (by decide) r.2⟩)
    (Delta.Ref.run_value m ρ)

/-- The kernel and the reference end with the same five gradients. -/
theorem equal : Cert.algebraic_KernelIdeal_ReferenceIdeal_pre_tame (hKernelIdeal := KernelIdeal.Gen.facts)
    (hReferenceIdeal := ReferenceIdeal.Gen.facts) (hPre_tame := Cert.Pre_tame.Gen.facts) := by
  intro m g m' g' hp hagree
  have hargs : ∀ c, Delta.Ref.rargs m' c = Delta.kargs m c := fun c => by
    obtain ⟨e0, e1, e2, e3, e4, e5, e6⟩ := hagree c
    show Delta.Ref.argsOf _ _ _ _ _ _ _ = _
    rw [e0, e1, e2, e3, e4, e5, e6]
    rfl
  have hk := kernel_value m hp
  refine ⟨fun c => (Delta.kargs m c).sheet Delta.Inp.dq, fun c => (Delta.kargs m c).sheet Delta.Inp.dk, fun c => (Delta.kargs m c).sheet Delta.Inp.dv,
    fun c => (Delta.kargs m c).lines Delta.Inp.db, fun c => (Delta.kargs m c).lines Delta.Inp.dg, ?_, ?_⟩
  · refine (θ_run _ _ _).mono (fun r h c => ?_) (Cert.KernelIdeal.Value.run_blocks m g)
    obtain ⟨h0, h1, h2, h3, h4, h5⟩ := h c
    obtain ⟨k0, k1, k2, k3, k4⟩ := hk c
    exact ⟨h0.trans k0, h1.trans k1, h2.trans k2, h3.trans k3, h4.trans k4, h5⟩
  · refine (θ_run _ _ _).mono (fun r h c => ?_) (Delta.Ref.run_value m' g')
    have hc := h c
    rw [hargs c] at hc
    exact hc

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  Kernel33.Gen.facts, Kernel33Ideal.Gen.facts, Reference33Ideal.Gen.facts,
  Cert.Pre_tame.Gen.facts,
  fun m ρ _ => Kernel.Gen.frame m ρ, fun m ρ _ => KernelIdeal.Gen.frame m ρ, fun m ρ _ => KernelIdeal.Gen.frame m ρ,
  frame_r, fun m ρ _ => frame_r m ρ trivial,
  fun m ρ _ => Kernel2.Gen.frame m ρ, fun m ρ _ => Kernel2Ideal.Gen.frame m ρ, K2.frame_r,
  fun m ρ _ => Kernel3.Gen.frame m ρ, fun m ρ _ => Kernel3Ideal.Gen.frame m ρ, K3.frame_r,
  fun m ρ _ => Kernel4.Gen.frame m ρ, fun m ρ _ => Kernel4Ideal.Gen.frame m ρ, K4.frame_r,
  fun m ρ _ => Kernel5.Gen.frame m ρ, fun m ρ _ => Kernel5Ideal.Gen.frame m ρ, K5.frame_r,
  fun m ρ _ => Kernel6.Gen.frame m ρ, fun m ρ _ => Kernel6Ideal.Gen.frame m ρ, K6.frame_r,
  fun m ρ _ => Kernel7.Gen.frame m ρ, fun m ρ _ => Kernel7Ideal.Gen.frame m ρ, K7.frame_r,
  fun m ρ _ => Kernel8.Gen.frame m ρ, fun m ρ _ => Kernel8Ideal.Gen.frame m ρ, K8.frame_r,
  fun m ρ _ => Kernel9.Gen.frame m ρ, fun m ρ _ => Kernel9Ideal.Gen.frame m ρ, K9.frame_r,
  fun m ρ _ => Kernel10.Gen.frame m ρ, fun m ρ _ => Kernel10Ideal.Gen.frame m ρ, K10.frame_r,
  fun m ρ _ => Kernel11.Gen.frame m ρ, fun m ρ _ => Kernel11Ideal.Gen.frame m ρ, K11.frame_r,
  fun m ρ _ => Kernel12.Gen.frame m ρ, fun m ρ _ => Kernel12Ideal.Gen.frame m ρ, K12.frame_r,
  fun m ρ _ => Kernel13.Gen.frame m ρ, fun m ρ _ => Kernel13Ideal.Gen.frame m ρ, K13.frame_r,
  fun m ρ _ => Kernel14.Gen.frame m ρ, fun m ρ _ => Kernel14Ideal.Gen.frame m ρ, K14.frame_r,
  fun m ρ _ => Kernel15.Gen.frame m ρ, fun m ρ _ => Kernel15Ideal.Gen.frame m ρ, K15.frame_r,
  fun m ρ _ => Kernel16.Gen.frame m ρ, fun m ρ _ => Kernel16Ideal.Gen.frame m ρ, K16.frame_r,
  fun m ρ _ => Kernel17.Gen.frame m ρ, fun m ρ _ => Kernel17Ideal.Gen.frame m ρ, K17.frame_r,
  fun m ρ _ => Kernel18.Gen.frame m ρ, fun m ρ _ => Kernel18Ideal.Gen.frame m ρ, K18.frame_r,
  fun m ρ _ => Kernel19.Gen.frame m ρ, fun m ρ _ => Kernel19Ideal.Gen.frame m ρ, K19.frame_r,
  fun m ρ _ => Kernel20.Gen.frame m ρ, fun m ρ _ => Kernel20Ideal.Gen.frame m ρ, K20.frame_r,
  fun m ρ _ => Kernel21.Gen.frame m ρ, fun m ρ _ => Kernel21Ideal.Gen.frame m ρ, K21.frame_r,
  fun m ρ _ => Kernel22.Gen.frame m ρ, fun m ρ _ => Kernel22Ideal.Gen.frame m ρ, K22.frame_r,
  fun m ρ _ => Kernel23.Gen.frame m ρ, fun m ρ _ => Kernel23Ideal.Gen.frame m ρ, K23.frame_r,
  fun m ρ _ => Kernel24.Gen.frame m ρ, fun m ρ _ => Kernel24Ideal.Gen.frame m ρ, K24.frame_r,
  fun m ρ _ => Kernel25.Gen.frame m ρ, fun m ρ _ => Kernel25Ideal.Gen.frame m ρ, K25.frame_r,
  fun m ρ _ => Kernel26.Gen.frame m ρ, fun m ρ _ => Kernel26Ideal.Gen.frame m ρ, K26.frame_r,
  fun m ρ _ => Kernel27.Gen.frame m ρ, fun m ρ _ => Kernel27Ideal.Gen.frame m ρ, K27.frame_r,
  fun m ρ _ => Kernel28.Gen.frame m ρ, fun m ρ _ => Kernel28Ideal.Gen.frame m ρ, K28.frame_r,
  fun m ρ _ => Kernel29.Gen.frame m ρ, fun m ρ _ => Kernel29Ideal.Gen.frame m ρ, K29.frame_r,
  fun m ρ _ => Kernel30.Gen.frame m ρ, fun m ρ _ => Kernel30Ideal.Gen.frame m ρ, K30.frame_r,
  fun m ρ _ => Kernel31.Gen.frame m ρ, fun m ρ _ => Kernel31Ideal.Gen.frame m ρ, K31.frame_r,
  fun m ρ _ => Kernel32.Gen.frame m ρ, fun m ρ _ => Kernel32Ideal.Gen.frame m ρ, K32.frame_r,
  fun m ρ _ => Kernel33.Gen.frame m ρ, fun m ρ _ => Kernel33Ideal.Gen.frame m ρ, K33.frame_r,
  trivial, equal,
  trivial, K2.equal,
  trivial, K3.equal,
  trivial, K4.equal,
  trivial, K5.equal,
  trivial, K6.equal,
  trivial, K7.equal,
  trivial, K8.equal,
  trivial, K9.equal,
  trivial, K10.equal,
  trivial, K11.equal,
  trivial, K12.equal,
  trivial, K13.equal,
  trivial, K14.equal,
  trivial, K15.equal,
  trivial, K16.equal,
  trivial, K17.equal,
  trivial, K18.equal,
  trivial, K19.equal,
  trivial, K20.equal,
  trivial, K21.equal,
  trivial, K22.equal,
  trivial, K23.equal,
  trivial, K24.equal,
  trivial, K25.equal,
  trivial, K26.equal,
  trivial, K27.equal,
  trivial, K28.equal,
  trivial, K29.equal,
  trivial, K30.equal,
  trivial, K31.equal,
  trivial, K32.equal,
  trivial, K33.equal⟩

end Cert.Proof

end
